-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleReferenceIdeal (m : (ℓ : Loc Cert.ProjSampleReferenceIdeal.nD Cert.ProjSampleReferenceIdeal.τ Cert.ProjSampleReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_keys [hPre_finite_keys : Cert.Pre_finite_keys.Facts] (m : (ℓ : Loc Cert.MidIdeal.nD Cert.MidIdeal.τ Cert.MidIdeal.sig) → Buf (Elt Ideal) ℓ) : Prop :=
  ∀ c : Dev Cert.MidIdeal.nD,
    (Cert.Pre_finite_keys.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).1 = (fun _ => 1#1)
    ∧ (Cert.Pre_finite_keys.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2 = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_finite_keys [hPre_finite_keys : Cert.Pre_finite_keys.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_finite_keys.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9))).1 = (fun _ => 1#1)
    ∧ (Cert.Pre_finite_keys.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9))).2 = (fun _ => 1#1)

def Pre_MidSample (m : (ℓ : Loc Cert.MidSample.nD Cert.MidSample.τ Cert.MidSample.sig) → Buf (Elt Bits) ℓ) : Prop :=
  True

def Pre_MidSampleIdeal (m : (ℓ : Loc Cert.MidSampleIdeal.nD Cert.MidSampleIdeal.τ Cert.MidSampleIdeal.sig) → Buf (Elt Ideal) ℓ) : Prop :=
  True

def Pre_MidSampleIdeal_finite_cache_keys [hPre_finite_cache_keys : Cert.Pre_finite_cache_keys.Facts] (m : (ℓ : Loc Cert.MidSampleIdeal.nD Cert.MidSampleIdeal.τ Cert.MidSampleIdeal.sig) → Buf (Elt Ideal) ℓ) : Prop :=
  ∀ c : Dev Cert.MidSampleIdeal.nD,
    (Cert.Pre_finite_cache_keys.fn (F := Ideal) (m ((c.tc : Thread Cert.MidSampleIdeal.nD Cert.MidSampleIdeal.τ).loc Cert.MidSampleIdeal.main_arg0)) (m ((c.tc : Thread Cert.MidSampleIdeal.nD Cert.MidSampleIdeal.τ).loc Cert.MidSampleIdeal.main_arg1)) (m ((c.tc : Thread Cert.MidSampleIdeal.nD Cert.MidSampleIdeal.τ).loc Cert.MidSampleIdeal.main_arg2)) (m ((c.tc : Thread Cert.MidSampleIdeal.nD Cert.MidSampleIdeal.τ).loc Cert.MidSampleIdeal.main_arg3)) (m ((c.tc : Thread Cert.MidSampleIdeal.nD Cert.MidSampleIdeal.τ).loc Cert.MidSampleIdeal.main_arg4)) (m ((c.tc : Thread Cert.MidSampleIdeal.nD Cert.MidSampleIdeal.τ).loc Cert.MidSampleIdeal.main_arg5)) (m ((c.tc : Thread Cert.MidSampleIdeal.nD Cert.MidSampleIdeal.τ).loc Cert.MidSampleIdeal.main_arg6)) (m ((c.tc : Thread Cert.MidSampleIdeal.nD Cert.MidSampleIdeal.τ).loc Cert.MidSampleIdeal.main_arg7)) (m ((c.tc : Thread Cert.MidSampleIdeal.nD Cert.MidSampleIdeal.τ).loc Cert.MidSampleIdeal.main_arg8)) (m ((c.tc : Thread Cert.MidSampleIdeal.nD Cert.MidSampleIdeal.τ).loc Cert.MidSampleIdeal.main_arg9))).1 = (fun _ => 1#1)
    ∧ (Cert.Pre_finite_cache_keys.fn (F := Ideal) (m ((c.tc : Thread Cert.MidSampleIdeal.nD Cert.MidSampleIdeal.τ).loc Cert.MidSampleIdeal.main_arg0)) (m ((c.tc : Thread Cert.MidSampleIdeal.nD Cert.MidSampleIdeal.τ).loc Cert.MidSampleIdeal.main_arg1)) (m ((c.tc : Thread Cert.MidSampleIdeal.nD Cert.MidSampleIdeal.τ).loc Cert.MidSampleIdeal.main_arg2)) (m ((c.tc : Thread Cert.MidSampleIdeal.nD Cert.MidSampleIdeal.τ).loc Cert.MidSampleIdeal.main_arg3)) (m ((c.tc : Thread Cert.MidSampleIdeal.nD Cert.MidSampleIdeal.τ).loc Cert.MidSampleIdeal.main_arg4)) (m ((c.tc : Thread Cert.MidSampleIdeal.nD Cert.MidSampleIdeal.τ).loc Cert.MidSampleIdeal.main_arg5)) (m ((c.tc : Thread Cert.MidSampleIdeal.nD Cert.MidSampleIdeal.τ).loc Cert.MidSampleIdeal.main_arg6)) (m ((c.tc : Thread Cert.MidSampleIdeal.nD Cert.MidSampleIdeal.τ).loc Cert.MidSampleIdeal.main_arg7)) (m ((c.tc : Thread Cert.MidSampleIdeal.nD Cert.MidSampleIdeal.τ).loc Cert.MidSampleIdeal.main_arg8)) (m ((c.tc : Thread Cert.MidSampleIdeal.nD Cert.MidSampleIdeal.τ).loc Cert.MidSampleIdeal.main_arg9))).2 = (fun _ => 1#1)

def Pre_MidSampleReferenceIdeal (m : (ℓ : Loc Cert.MidSampleReferenceIdeal.nD Cert.MidSampleReferenceIdeal.τ Cert.MidSampleReferenceIdeal.sig) → Buf (Elt Ideal) ℓ) : Prop :=
  True

def Pre_MidSampleReferenceIdeal_finite_cache_keys [hPre_finite_cache_keys : Cert.Pre_finite_cache_keys.Facts] (m : (ℓ : Loc Cert.MidSampleReferenceIdeal.nD Cert.MidSampleReferenceIdeal.τ Cert.MidSampleReferenceIdeal.sig) → Buf (Elt Ideal) ℓ) : Prop :=
  ∀ c : Dev Cert.MidSampleReferenceIdeal.nD,
    (Cert.Pre_finite_cache_keys.fn (F := Ideal) (m ((c.tc : Thread Cert.MidSampleReferenceIdeal.nD Cert.MidSampleReferenceIdeal.τ).loc Cert.MidSampleReferenceIdeal.main_arg0)) (m ((c.tc : Thread Cert.MidSampleReferenceIdeal.nD Cert.MidSampleReferenceIdeal.τ).loc Cert.MidSampleReferenceIdeal.main_arg1)) (m ((c.tc : Thread Cert.MidSampleReferenceIdeal.nD Cert.MidSampleReferenceIdeal.τ).loc Cert.MidSampleReferenceIdeal.main_arg2)) (m ((c.tc : Thread Cert.MidSampleReferenceIdeal.nD Cert.MidSampleReferenceIdeal.τ).loc Cert.MidSampleReferenceIdeal.main_arg3)) (m ((c.tc : Thread Cert.MidSampleReferenceIdeal.nD Cert.MidSampleReferenceIdeal.τ).loc Cert.MidSampleReferenceIdeal.main_arg4)) (m ((c.tc : Thread Cert.MidSampleReferenceIdeal.nD Cert.MidSampleReferenceIdeal.τ).loc Cert.MidSampleReferenceIdeal.main_arg5)) (m ((c.tc : Thread Cert.MidSampleReferenceIdeal.nD Cert.MidSampleReferenceIdeal.τ).loc Cert.MidSampleReferenceIdeal.main_arg6)) (m ((c.tc : Thread Cert.MidSampleReferenceIdeal.nD Cert.MidSampleReferenceIdeal.τ).loc Cert.MidSampleReferenceIdeal.main_arg7)) (m ((c.tc : Thread Cert.MidSampleReferenceIdeal.nD Cert.MidSampleReferenceIdeal.τ).loc Cert.MidSampleReferenceIdeal.main_arg8)) (m ((c.tc : Thread Cert.MidSampleReferenceIdeal.nD Cert.MidSampleReferenceIdeal.τ).loc Cert.MidSampleReferenceIdeal.main_arg9))).1 = (fun _ => 1#1)
    ∧ (Cert.Pre_finite_cache_keys.fn (F := Ideal) (m ((c.tc : Thread Cert.MidSampleReferenceIdeal.nD Cert.MidSampleReferenceIdeal.τ).loc Cert.MidSampleReferenceIdeal.main_arg0)) (m ((c.tc : Thread Cert.MidSampleReferenceIdeal.nD Cert.MidSampleReferenceIdeal.τ).loc Cert.MidSampleReferenceIdeal.main_arg1)) (m ((c.tc : Thread Cert.MidSampleReferenceIdeal.nD Cert.MidSampleReferenceIdeal.τ).loc Cert.MidSampleReferenceIdeal.main_arg2)) (m ((c.tc : Thread Cert.MidSampleReferenceIdeal.nD Cert.MidSampleReferenceIdeal.τ).loc Cert.MidSampleReferenceIdeal.main_arg3)) (m ((c.tc : Thread Cert.MidSampleReferenceIdeal.nD Cert.MidSampleReferenceIdeal.τ).loc Cert.MidSampleReferenceIdeal.main_arg4)) (m ((c.tc : Thread Cert.MidSampleReferenceIdeal.nD Cert.MidSampleReferenceIdeal.τ).loc Cert.MidSampleReferenceIdeal.main_arg5)) (m ((c.tc : Thread Cert.MidSampleReferenceIdeal.nD Cert.MidSampleReferenceIdeal.τ).loc Cert.MidSampleReferenceIdeal.main_arg6)) (m ((c.tc : Thread Cert.MidSampleReferenceIdeal.nD Cert.MidSampleReferenceIdeal.τ).loc Cert.MidSampleReferenceIdeal.main_arg7)) (m ((c.tc : Thread Cert.MidSampleReferenceIdeal.nD Cert.MidSampleReferenceIdeal.τ).loc Cert.MidSampleReferenceIdeal.main_arg8)) (m ((c.tc : Thread Cert.MidSampleReferenceIdeal.nD Cert.MidSampleReferenceIdeal.τ).loc Cert.MidSampleReferenceIdeal.main_arg9))).2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2)
      ∧ r.2.mem ((c.tc : Thread Cert.MemKvReferenceIdeal.nD Cert.MemKvReferenceIdeal.τ).loc Cert.MemKvReferenceIdeal.main_arg3) = m ((c.tc : Thread Cert.MemKvReferenceIdeal.nD Cert.MemKvReferenceIdeal.τ).loc Cert.MemKvReferenceIdeal.main_arg3))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3)
      ∧ r.2.mem ((c.tc : Thread Cert.ProjSample.nD Cert.ProjSample.τ).loc Cert.ProjSample.main_arg4) = m ((c.tc : Thread Cert.ProjSample.nD Cert.ProjSample.τ).loc Cert.ProjSample.main_arg4)
      ∧ r.2.mem ((c.tc : Thread Cert.ProjSample.nD Cert.ProjSample.τ).loc Cert.ProjSample.main_arg5) = m ((c.tc : Thread Cert.ProjSample.nD Cert.ProjSample.τ).loc Cert.ProjSample.main_arg5)
      ∧ r.2.mem ((c.tc : Thread Cert.ProjSample.nD Cert.ProjSample.τ).loc Cert.ProjSample.main_arg6) = m ((c.tc : Thread Cert.ProjSample.nD Cert.ProjSample.τ).loc Cert.ProjSample.main_arg6))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
      ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
      ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6))
      ∧ r.2.sem = fun _ => 0)

def quiescent_ProjSampleReferenceIdeal [hProjSampleReferenceIdeal : Cert.ProjSampleReferenceIdeal.Facts] : Prop :=
  ∀ (m : (ℓ : Loc Cert.ProjSampleReferenceIdeal.nD Cert.ProjSampleReferenceIdeal.τ Cert.ProjSampleReferenceIdeal.sig) → Buf (Elt Ideal) ℓ) (g : Dev Cert.ProjSampleReferenceIdeal.nD → PrngReg), Pre_ProjSampleReferenceIdeal m →
    θ_run (Cert.ProjSampleReferenceIdeal.defs (F := Ideal)) (onTc (τ := Cert.ProjSampleReferenceIdeal.τ) (Cert.ProjSampleReferenceIdeal.main (F := Ideal))) ⟨m, fun _ => 0, g⟩ (fun r => (∀ c : Dev Cert.ProjSampleReferenceIdeal.nD,
      r.2.mem ((c.tc : Thread Cert.ProjSampleReferenceIdeal.nD Cert.ProjSampleReferenceIdeal.τ).loc Cert.ProjSampleReferenceIdeal.main_arg0) = m ((c.tc : Thread Cert.ProjSampleReferenceIdeal.nD Cert.ProjSampleReferenceIdeal.τ).loc Cert.ProjSampleReferenceIdeal.main_arg0)
      ∧ r.2.mem ((c.tc : Thread Cert.ProjSampleReferenceIdeal.nD Cert.ProjSampleReferenceIdeal.τ).loc Cert.ProjSampleReferenceIdeal.main_arg1) = m ((c.tc : Thread Cert.ProjSampleReferenceIdeal.nD Cert.ProjSampleReferenceIdeal.τ).loc Cert.ProjSampleReferenceIdeal.main_arg1)
      ∧ r.2.mem ((c.tc : Thread Cert.ProjSampleReferenceIdeal.nD Cert.ProjSampleReferenceIdeal.τ).loc Cert.ProjSampleReferenceIdeal.main_arg2) = m ((c.tc : Thread Cert.ProjSampleReferenceIdeal.nD Cert.ProjSampleReferenceIdeal.τ).loc Cert.ProjSampleReferenceIdeal.main_arg2)
      ∧ r.2.mem ((c.tc : Thread Cert.ProjSampleReferenceIdeal.nD Cert.ProjSampleReferenceIdeal.τ).loc Cert.ProjSampleReferenceIdeal.main_arg3) = m ((c.tc : Thread Cert.ProjSampleReferenceIdeal.nD Cert.ProjSampleReferenceIdeal.τ).loc Cert.ProjSampleReferenceIdeal.main_arg3)
      ∧ r.2.mem ((c.tc : Thread Cert.ProjSampleReferenceIdeal.nD Cert.ProjSampleReferenceIdeal.τ).loc Cert.ProjSampleReferenceIdeal.main_arg4) = m ((c.tc : Thread Cert.ProjSampleReferenceIdeal.nD Cert.ProjSampleReferenceIdeal.τ).loc Cert.ProjSampleReferenceIdeal.main_arg4)
      ∧ r.2.mem ((c.tc : Thread Cert.ProjSampleReferenceIdeal.nD Cert.ProjSampleReferenceIdeal.τ).loc Cert.ProjSampleReferenceIdeal.main_arg5) = m ((c.tc : Thread Cert.ProjSampleReferenceIdeal.nD Cert.ProjSampleReferenceIdeal.τ).loc Cert.ProjSampleReferenceIdeal.main_arg5)
      ∧ r.2.mem ((c.tc : Thread Cert.ProjSampleReferenceIdeal.nD Cert.ProjSampleReferenceIdeal.τ).loc Cert.ProjSampleReferenceIdeal.main_arg6) = m ((c.tc : Thread Cert.ProjSampleReferenceIdeal.nD Cert.ProjSampleReferenceIdeal.τ).loc Cert.ProjSampleReferenceIdeal.main_arg6))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6)
      ∧ r.2.mem ((c.tc : Thread Cert.FfnSampleReferenceIdeal.nD Cert.FfnSampleReferenceIdeal.τ).loc Cert.FfnSampleReferenceIdeal.main_arg7) = m ((c.tc : Thread Cert.FfnSampleReferenceIdeal.nD Cert.FfnSampleReferenceIdeal.τ).loc Cert.FfnSampleReferenceIdeal.main_arg7))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ r.2.sem = fun _ => 0)

def quiescent_MidIdeal_pre_finite_keys [hMidIdeal : Cert.MidIdeal.Facts] [hPre_finite_keys : Cert.Pre_finite_keys.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_keys m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9))
      ∧ r.2.sem = fun _ => 0)

def quiescent_MidReferenceIdeal_pre_finite_keys [hMidReferenceIdeal : Cert.MidReferenceIdeal.Facts] [hPre_finite_keys : Cert.Pre_finite_keys.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_finite_keys m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9))
      ∧ r.2.sem = fun _ => 0)

def quiescent_MidSample [hMidSample : Cert.MidSample.Facts] : Prop :=
  ∀ (m : (ℓ : Loc Cert.MidSample.nD Cert.MidSample.τ Cert.MidSample.sig) → Buf (Elt Bits) ℓ) (g : Dev Cert.MidSample.nD → PrngReg), Pre_MidSample m →
    θ_run (Cert.MidSample.defs (F := Bits)) (onTc (τ := Cert.MidSample.τ) (Cert.MidSample.main (F := Bits))) ⟨m, fun _ => 0, g⟩ (fun r => (∀ c : Dev Cert.MidSample.nD,
      r.2.mem ((c.tc : Thread Cert.MidSample.nD Cert.MidSample.τ).loc Cert.MidSample.main_arg0) = m ((c.tc : Thread Cert.MidSample.nD Cert.MidSample.τ).loc Cert.MidSample.main_arg0)
      ∧ r.2.mem ((c.tc : Thread Cert.MidSample.nD Cert.MidSample.τ).loc Cert.MidSample.main_arg1) = m ((c.tc : Thread Cert.MidSample.nD Cert.MidSample.τ).loc Cert.MidSample.main_arg1)
      ∧ r.2.mem ((c.tc : Thread Cert.MidSample.nD Cert.MidSample.τ).loc Cert.MidSample.main_arg2) = m ((c.tc : Thread Cert.MidSample.nD Cert.MidSample.τ).loc Cert.MidSample.main_arg2)
      ∧ r.2.mem ((c.tc : Thread Cert.MidSample.nD Cert.MidSample.τ).loc Cert.MidSample.main_arg3) = m ((c.tc : Thread Cert.MidSample.nD Cert.MidSample.τ).loc Cert.MidSample.main_arg3)
      ∧ r.2.mem ((c.tc : Thread Cert.MidSample.nD Cert.MidSample.τ).loc Cert.MidSample.main_arg4) = m ((c.tc : Thread Cert.MidSample.nD Cert.MidSample.τ).loc Cert.MidSample.main_arg4)
      ∧ r.2.mem ((c.tc : Thread Cert.MidSample.nD Cert.MidSample.τ).loc Cert.MidSample.main_arg5) = m ((c.tc : Thread Cert.MidSample.nD Cert.MidSample.τ).loc Cert.MidSample.main_arg5)
      ∧ r.2.mem ((c.tc : Thread Cert.MidSample.nD Cert.MidSample.τ).loc Cert.MidSample.main_arg6) = m ((c.tc : Thread Cert.MidSample.nD Cert.MidSample.τ).loc Cert.MidSample.main_arg6)
      ∧ r.2.mem ((c.tc : Thread Cert.MidSample.nD Cert.MidSample.τ).loc Cert.MidSample.main_arg7) = m ((c.tc : Thread Cert.MidSample.nD Cert.MidSample.τ).loc Cert.MidSample.main_arg7)
      ∧ r.2.mem ((c.tc : Thread Cert.MidSample.nD Cert.MidSample.τ).loc Cert.MidSample.main_arg8) = m ((c.tc : Thread Cert.MidSample.nD Cert.MidSample.τ).loc Cert.MidSample.main_arg8)
      ∧ r.2.mem ((c.tc : Thread Cert.MidSample.nD Cert.MidSample.τ).loc Cert.MidSample.main_arg9) = m ((c.tc : Thread Cert.MidSample.nD Cert.MidSample.τ).loc Cert.MidSample.main_arg9))
      ∧ r.2.sem = fun _ => 0)

def quiescent_MidSampleIdeal [hMidSampleIdeal : Cert.MidSampleIdeal.Facts] : Prop :=
  ∀ (m : (ℓ : Loc Cert.MidSampleIdeal.nD Cert.MidSampleIdeal.τ Cert.MidSampleIdeal.sig) → Buf (Elt Ideal) ℓ) (g : Dev Cert.MidSampleIdeal.nD → PrngReg), Pre_MidSampleIdeal m →
    θ_run (Cert.MidSampleIdeal.defs (F := Ideal)) (onTc (τ := Cert.MidSampleIdeal.τ) (Cert.MidSampleIdeal.main (F := Ideal))) ⟨m, fun _ => 0, g⟩ (fun r => (∀ c : Dev Cert.MidSampleIdeal.nD,
      r.2.mem ((c.tc : Thread Cert.MidSampleIdeal.nD Cert.MidSampleIdeal.τ).loc Cert.MidSampleIdeal.main_arg0) = m ((c.tc : Thread Cert.MidSampleIdeal.nD Cert.MidSampleIdeal.τ).loc Cert.MidSampleIdeal.main_arg0)
      ∧ r.2.mem ((c.tc : Thread Cert.MidSampleIdeal.nD Cert.MidSampleIdeal.τ).loc Cert.MidSampleIdeal.main_arg1) = m ((c.tc : Thread Cert.MidSampleIdeal.nD Cert.MidSampleIdeal.τ).loc Cert.MidSampleIdeal.main_arg1)
      ∧ r.2.mem ((c.tc : Thread Cert.MidSampleIdeal.nD Cert.MidSampleIdeal.τ).loc Cert.MidSampleIdeal.main_arg2) = m ((c.tc : Thread Cert.MidSampleIdeal.nD Cert.MidSampleIdeal.τ).loc Cert.MidSampleIdeal.main_arg2)
      ∧ r.2.mem ((c.tc : Thread Cert.MidSampleIdeal.nD Cert.MidSampleIdeal.τ).loc Cert.MidSampleIdeal.main_arg3) = m ((c.tc : Thread Cert.MidSampleIdeal.nD Cert.MidSampleIdeal.τ).loc Cert.MidSampleIdeal.main_arg3)
      ∧ r.2.mem ((c.tc : Thread Cert.MidSampleIdeal.nD Cert.MidSampleIdeal.τ).loc Cert.MidSampleIdeal.main_arg4) = m ((c.tc : Thread Cert.MidSampleIdeal.nD Cert.MidSampleIdeal.τ).loc Cert.MidSampleIdeal.main_arg4)
      ∧ r.2.mem ((c.tc : Thread Cert.MidSampleIdeal.nD Cert.MidSampleIdeal.τ).loc Cert.MidSampleIdeal.main_arg5) = m ((c.tc : Thread Cert.MidSampleIdeal.nD Cert.MidSampleIdeal.τ).loc Cert.MidSampleIdeal.main_arg5)
      ∧ r.2.mem ((c.tc : Thread Cert.MidSampleIdeal.nD Cert.MidSampleIdeal.τ).loc Cert.MidSampleIdeal.main_arg6) = m ((c.tc : Thread Cert.MidSampleIdeal.nD Cert.MidSampleIdeal.τ).loc Cert.MidSampleIdeal.main_arg6)
      ∧ r.2.mem ((c.tc : Thread Cert.MidSampleIdeal.nD Cert.MidSampleIdeal.τ).loc Cert.MidSampleIdeal.main_arg7) = m ((c.tc : Thread Cert.MidSampleIdeal.nD Cert.MidSampleIdeal.τ).loc Cert.MidSampleIdeal.main_arg7)
      ∧ r.2.mem ((c.tc : Thread Cert.MidSampleIdeal.nD Cert.MidSampleIdeal.τ).loc Cert.MidSampleIdeal.main_arg8) = m ((c.tc : Thread Cert.MidSampleIdeal.nD Cert.MidSampleIdeal.τ).loc Cert.MidSampleIdeal.main_arg8)
      ∧ r.2.mem ((c.tc : Thread Cert.MidSampleIdeal.nD Cert.MidSampleIdeal.τ).loc Cert.MidSampleIdeal.main_arg9) = m ((c.tc : Thread Cert.MidSampleIdeal.nD Cert.MidSampleIdeal.τ).loc Cert.MidSampleIdeal.main_arg9))
      ∧ r.2.sem = fun _ => 0)

def quiescent_MidSampleIdeal_pre_finite_cache_keys [hMidSampleIdeal : Cert.MidSampleIdeal.Facts] [hPre_finite_cache_keys : Cert.Pre_finite_cache_keys.Facts] : Prop :=
  ∀ (m : (ℓ : Loc Cert.MidSampleIdeal.nD Cert.MidSampleIdeal.τ Cert.MidSampleIdeal.sig) → Buf (Elt Ideal) ℓ) (g : Dev Cert.MidSampleIdeal.nD → PrngReg), Pre_MidSampleIdeal_finite_cache_keys m →
    θ_run (Cert.MidSampleIdeal.defs (F := Ideal)) (onTc (τ := Cert.MidSampleIdeal.τ) (Cert.MidSampleIdeal.main (F := Ideal))) ⟨m, fun _ => 0, g⟩ (fun r => (∀ c : Dev Cert.MidSampleIdeal.nD,
      r.2.mem ((c.tc : Thread Cert.MidSampleIdeal.nD Cert.MidSampleIdeal.τ).loc Cert.MidSampleIdeal.main_arg0) = m ((c.tc : Thread Cert.MidSampleIdeal.nD Cert.MidSampleIdeal.τ).loc Cert.MidSampleIdeal.main_arg0)
      ∧ r.2.mem ((c.tc : Thread Cert.MidSampleIdeal.nD Cert.MidSampleIdeal.τ).loc Cert.MidSampleIdeal.main_arg1) = m ((c.tc : Thread Cert.MidSampleIdeal.nD Cert.MidSampleIdeal.τ).loc Cert.MidSampleIdeal.main_arg1)
      ∧ r.2.mem ((c.tc : Thread Cert.MidSampleIdeal.nD Cert.MidSampleIdeal.τ).loc Cert.MidSampleIdeal.main_arg2) = m ((c.tc : Thread Cert.MidSampleIdeal.nD Cert.MidSampleIdeal.τ).loc Cert.MidSampleIdeal.main_arg2)
      ∧ r.2.mem ((c.tc : Thread Cert.MidSampleIdeal.nD Cert.MidSampleIdeal.τ).loc Cert.MidSampleIdeal.main_arg3) = m ((c.tc : Thread Cert.MidSampleIdeal.nD Cert.MidSampleIdeal.τ).loc Cert.MidSampleIdeal.main_arg3)
      ∧ r.2.mem ((c.tc : Thread Cert.MidSampleIdeal.nD Cert.MidSampleIdeal.τ).loc Cert.MidSampleIdeal.main_arg4) = m ((c.tc : Thread Cert.MidSampleIdeal.nD Cert.MidSampleIdeal.τ).loc Cert.MidSampleIdeal.main_arg4)
      ∧ r.2.mem ((c.tc : Thread Cert.MidSampleIdeal.nD Cert.MidSampleIdeal.τ).loc Cert.MidSampleIdeal.main_arg5) = m ((c.tc : Thread Cert.MidSampleIdeal.nD Cert.MidSampleIdeal.τ).loc Cert.MidSampleIdeal.main_arg5)
      ∧ r.2.mem ((c.tc : Thread Cert.MidSampleIdeal.nD Cert.MidSampleIdeal.τ).loc Cert.MidSampleIdeal.main_arg6) = m ((c.tc : Thread Cert.MidSampleIdeal.nD Cert.MidSampleIdeal.τ).loc Cert.MidSampleIdeal.main_arg6)
      ∧ r.2.mem ((c.tc : Thread Cert.MidSampleIdeal.nD Cert.MidSampleIdeal.τ).loc Cert.MidSampleIdeal.main_arg7) = m ((c.tc : Thread Cert.MidSampleIdeal.nD Cert.MidSampleIdeal.τ).loc Cert.MidSampleIdeal.main_arg7)
      ∧ r.2.mem ((c.tc : Thread Cert.MidSampleIdeal.nD Cert.MidSampleIdeal.τ).loc Cert.MidSampleIdeal.main_arg8) = m ((c.tc : Thread Cert.MidSampleIdeal.nD Cert.MidSampleIdeal.τ).loc Cert.MidSampleIdeal.main_arg8)
      ∧ r.2.mem ((c.tc : Thread Cert.MidSampleIdeal.nD Cert.MidSampleIdeal.τ).loc Cert.MidSampleIdeal.main_arg9) = m ((c.tc : Thread Cert.MidSampleIdeal.nD Cert.MidSampleIdeal.τ).loc Cert.MidSampleIdeal.main_arg9))
      ∧ r.2.sem = fun _ => 0)

def quiescent_MidSampleReferenceIdeal [hMidSampleReferenceIdeal : Cert.MidSampleReferenceIdeal.Facts] : Prop :=
  ∀ (m : (ℓ : Loc Cert.MidSampleReferenceIdeal.nD Cert.MidSampleReferenceIdeal.τ Cert.MidSampleReferenceIdeal.sig) → Buf (Elt Ideal) ℓ) (g : Dev Cert.MidSampleReferenceIdeal.nD → PrngReg), Pre_MidSampleReferenceIdeal m →
    θ_run (Cert.MidSampleReferenceIdeal.defs (F := Ideal)) (onTc (τ := Cert.MidSampleReferenceIdeal.τ) (Cert.MidSampleReferenceIdeal.main (F := Ideal))) ⟨m, fun _ => 0, g⟩ (fun r => (∀ c : Dev Cert.MidSampleReferenceIdeal.nD,
      r.2.mem ((c.tc : Thread Cert.MidSampleReferenceIdeal.nD Cert.MidSampleReferenceIdeal.τ).loc Cert.MidSampleReferenceIdeal.main_arg0) = m ((c.tc : Thread Cert.MidSampleReferenceIdeal.nD Cert.MidSampleReferenceIdeal.τ).loc Cert.MidSampleReferenceIdeal.main_arg0)
      ∧ r.2.mem ((c.tc : Thread Cert.MidSampleReferenceIdeal.nD Cert.MidSampleReferenceIdeal.τ).loc Cert.MidSampleReferenceIdeal.main_arg1) = m ((c.tc : Thread Cert.MidSampleReferenceIdeal.nD Cert.MidSampleReferenceIdeal.τ).loc Cert.MidSampleReferenceIdeal.main_arg1)
      ∧ r.2.mem ((c.tc : Thread Cert.MidSampleReferenceIdeal.nD Cert.MidSampleReferenceIdeal.τ).loc Cert.MidSampleReferenceIdeal.main_arg2) = m ((c.tc : Thread Cert.MidSampleReferenceIdeal.nD Cert.MidSampleReferenceIdeal.τ).loc Cert.MidSampleReferenceIdeal.main_arg2)
      ∧ r.2.mem ((c.tc : Thread Cert.MidSampleReferenceIdeal.nD Cert.MidSampleReferenceIdeal.τ).loc Cert.MidSampleReferenceIdeal.main_arg3) = m ((c.tc : Thread Cert.MidSampleReferenceIdeal.nD Cert.MidSampleReferenceIdeal.τ).loc Cert.MidSampleReferenceIdeal.main_arg3)
      ∧ r.2.mem ((c.tc : Thread Cert.MidSampleReferenceIdeal.nD Cert.MidSampleReferenceIdeal.τ).loc Cert.MidSampleReferenceIdeal.main_arg4) = m ((c.tc : Thread Cert.MidSampleReferenceIdeal.nD Cert.MidSampleReferenceIdeal.τ).loc Cert.MidSampleReferenceIdeal.main_arg4)
      ∧ r.2.mem ((c.tc : Thread Cert.MidSampleReferenceIdeal.nD Cert.MidSampleReferenceIdeal.τ).loc Cert.MidSampleReferenceIdeal.main_arg5) = m ((c.tc : Thread Cert.MidSampleReferenceIdeal.nD Cert.MidSampleReferenceIdeal.τ).loc Cert.MidSampleReferenceIdeal.main_arg5)
      ∧ r.2.mem ((c.tc : Thread Cert.MidSampleReferenceIdeal.nD Cert.MidSampleReferenceIdeal.τ).loc Cert.MidSampleReferenceIdeal.main_arg6) = m ((c.tc : Thread Cert.MidSampleReferenceIdeal.nD Cert.MidSampleReferenceIdeal.τ).loc Cert.MidSampleReferenceIdeal.main_arg6)
      ∧ r.2.mem ((c.tc : Thread Cert.MidSampleReferenceIdeal.nD Cert.MidSampleReferenceIdeal.τ).loc Cert.MidSampleReferenceIdeal.main_arg7) = m ((c.tc : Thread Cert.MidSampleReferenceIdeal.nD Cert.MidSampleReferenceIdeal.τ).loc Cert.MidSampleReferenceIdeal.main_arg7)
      ∧ r.2.mem ((c.tc : Thread Cert.MidSampleReferenceIdeal.nD Cert.MidSampleReferenceIdeal.τ).loc Cert.MidSampleReferenceIdeal.main_arg8) = m ((c.tc : Thread Cert.MidSampleReferenceIdeal.nD Cert.MidSampleReferenceIdeal.τ).loc Cert.MidSampleReferenceIdeal.main_arg8)
      ∧ r.2.mem ((c.tc : Thread Cert.MidSampleReferenceIdeal.nD Cert.MidSampleReferenceIdeal.τ).loc Cert.MidSampleReferenceIdeal.main_arg9) = m ((c.tc : Thread Cert.MidSampleReferenceIdeal.nD Cert.MidSampleReferenceIdeal.τ).loc Cert.MidSampleReferenceIdeal.main_arg9))
      ∧ r.2.sem = fun _ => 0)

def quiescent_MidSampleReferenceIdeal_pre_finite_cache_keys [hMidSampleReferenceIdeal : Cert.MidSampleReferenceIdeal.Facts] [hPre_finite_cache_keys : Cert.Pre_finite_cache_keys.Facts] : Prop :=
  ∀ (m : (ℓ : Loc Cert.MidSampleReferenceIdeal.nD Cert.MidSampleReferenceIdeal.τ Cert.MidSampleReferenceIdeal.sig) → Buf (Elt Ideal) ℓ) (g : Dev Cert.MidSampleReferenceIdeal.nD → PrngReg), Pre_MidSampleReferenceIdeal_finite_cache_keys m →
    θ_run (Cert.MidSampleReferenceIdeal.defs (F := Ideal)) (onTc (τ := Cert.MidSampleReferenceIdeal.τ) (Cert.MidSampleReferenceIdeal.main (F := Ideal))) ⟨m, fun _ => 0, g⟩ (fun r => (∀ c : Dev Cert.MidSampleReferenceIdeal.nD,
      r.2.mem ((c.tc : Thread Cert.MidSampleReferenceIdeal.nD Cert.MidSampleReferenceIdeal.τ).loc Cert.MidSampleReferenceIdeal.main_arg0) = m ((c.tc : Thread Cert.MidSampleReferenceIdeal.nD Cert.MidSampleReferenceIdeal.τ).loc Cert.MidSampleReferenceIdeal.main_arg0)
      ∧ r.2.mem ((c.tc : Thread Cert.MidSampleReferenceIdeal.nD Cert.MidSampleReferenceIdeal.τ).loc Cert.MidSampleReferenceIdeal.main_arg1) = m ((c.tc : Thread Cert.MidSampleReferenceIdeal.nD Cert.MidSampleReferenceIdeal.τ).loc Cert.MidSampleReferenceIdeal.main_arg1)
      ∧ r.2.mem ((c.tc : Thread Cert.MidSampleReferenceIdeal.nD Cert.MidSampleReferenceIdeal.τ).loc Cert.MidSampleReferenceIdeal.main_arg2) = m ((c.tc : Thread Cert.MidSampleReferenceIdeal.nD Cert.MidSampleReferenceIdeal.τ).loc Cert.MidSampleReferenceIdeal.main_arg2)
      ∧ r.2.mem ((c.tc : Thread Cert.MidSampleReferenceIdeal.nD Cert.MidSampleReferenceIdeal.τ).loc Cert.MidSampleReferenceIdeal.main_arg3) = m ((c.tc : Thread Cert.MidSampleReferenceIdeal.nD Cert.MidSampleReferenceIdeal.τ).loc Cert.MidSampleReferenceIdeal.main_arg3)
      ∧ r.2.mem ((c.tc : Thread Cert.MidSampleReferenceIdeal.nD Cert.MidSampleReferenceIdeal.τ).loc Cert.MidSampleReferenceIdeal.main_arg4) = m ((c.tc : Thread Cert.MidSampleReferenceIdeal.nD Cert.MidSampleReferenceIdeal.τ).loc Cert.MidSampleReferenceIdeal.main_arg4)
      ∧ r.2.mem ((c.tc : Thread Cert.MidSampleReferenceIdeal.nD Cert.MidSampleReferenceIdeal.τ).loc Cert.MidSampleReferenceIdeal.main_arg5) = m ((c.tc : Thread Cert.MidSampleReferenceIdeal.nD Cert.MidSampleReferenceIdeal.τ).loc Cert.MidSampleReferenceIdeal.main_arg5)
      ∧ r.2.mem ((c.tc : Thread Cert.MidSampleReferenceIdeal.nD Cert.MidSampleReferenceIdeal.τ).loc Cert.MidSampleReferenceIdeal.main_arg6) = m ((c.tc : Thread Cert.MidSampleReferenceIdeal.nD Cert.MidSampleReferenceIdeal.τ).loc Cert.MidSampleReferenceIdeal.main_arg6)
      ∧ r.2.mem ((c.tc : Thread Cert.MidSampleReferenceIdeal.nD Cert.MidSampleReferenceIdeal.τ).loc Cert.MidSampleReferenceIdeal.main_arg7) = m ((c.tc : Thread Cert.MidSampleReferenceIdeal.nD Cert.MidSampleReferenceIdeal.τ).loc Cert.MidSampleReferenceIdeal.main_arg7)
      ∧ r.2.mem ((c.tc : Thread Cert.MidSampleReferenceIdeal.nD Cert.MidSampleReferenceIdeal.τ).loc Cert.MidSampleReferenceIdeal.main_arg8) = m ((c.tc : Thread Cert.MidSampleReferenceIdeal.nD Cert.MidSampleReferenceIdeal.τ).loc Cert.MidSampleReferenceIdeal.main_arg8)
      ∧ r.2.mem ((c.tc : Thread Cert.MidSampleReferenceIdeal.nD Cert.MidSampleReferenceIdeal.τ).loc Cert.MidSampleReferenceIdeal.main_arg9) = m ((c.tc : Thread Cert.MidSampleReferenceIdeal.nD Cert.MidSampleReferenceIdeal.τ).loc Cert.MidSampleReferenceIdeal.main_arg9))
      ∧ r.2.sem = fun _ => 0)

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v11_0)) (v1 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11_0) = v0 c
          ∧ r.2.mem ((c.tc : Thread Cert.FfnIdeal.nD Cert.FfnIdeal.τ).loc Cert.FfnIdeal.main_v13) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v52) = v0 c
          ∧ r.2.mem ((c.tc : Thread Cert.FfnReferenceIdeal.nD Cert.FfnReferenceIdeal.τ).loc Cert.FfnReferenceIdeal.main_v53) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v41)) (v1 : (c : Dev Cert.ProjIdeal.nD) → Buf (Elt Ideal) ((c.tc : Thread Cert.ProjIdeal.nD Cert.ProjIdeal.τ).loc Cert.ProjIdeal.main_v44)) (v2 : (c : Dev Cert.ProjIdeal.nD) → Buf (Elt Ideal) ((c.tc : Thread Cert.ProjIdeal.nD Cert.ProjIdeal.τ).loc Cert.ProjIdeal.main_v46)) (v3 : (c : Dev Cert.ProjIdeal.nD) → Buf (Elt Ideal) ((c.tc : Thread Cert.ProjIdeal.nD Cert.ProjIdeal.τ).loc Cert.ProjIdeal.main_v49)) (v4 : (c : Dev Cert.ProjIdeal.nD) → Buf (Elt Ideal) ((c.tc : Thread Cert.ProjIdeal.nD Cert.ProjIdeal.τ).loc Cert.ProjIdeal.main_v50)) (v5 : (c : Dev Cert.ProjIdeal.nD) → Buf (Elt Ideal) ((c.tc : Thread Cert.ProjIdeal.nD Cert.ProjIdeal.τ).loc Cert.ProjIdeal.main_v51)) (v6 : (c : Dev Cert.ProjIdeal.nD) → Buf (Elt Ideal) ((c.tc : Thread Cert.ProjIdeal.nD Cert.ProjIdeal.τ).loc Cert.ProjIdeal.main_v52)) (v7 : (c : Dev Cert.ProjIdeal.nD) → Buf (Elt Ideal) ((c.tc : Thread Cert.ProjIdeal.nD Cert.ProjIdeal.τ).loc Cert.ProjIdeal.main_v54)) (v8 : (c : Dev Cert.ProjIdeal.nD) → Buf (Elt Ideal) ((c.tc : Thread Cert.ProjIdeal.nD Cert.ProjIdeal.τ).loc Cert.ProjIdeal.main_v55)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v41) = v0 c
          ∧ r.2.mem ((c.tc : Thread Cert.ProjIdeal.nD Cert.ProjIdeal.τ).loc Cert.ProjIdeal.main_v44) = v1 c
          ∧ r.2.mem ((c.tc : Thread Cert.ProjIdeal.nD Cert.ProjIdeal.τ).loc Cert.ProjIdeal.main_v46) = v2 c
          ∧ r.2.mem ((c.tc : Thread Cert.ProjIdeal.nD Cert.ProjIdeal.τ).loc Cert.ProjIdeal.main_v49) = v3 c
          ∧ r.2.mem ((c.tc : Thread Cert.ProjIdeal.nD Cert.ProjIdeal.τ).loc Cert.ProjIdeal.main_v50) = v4 c
          ∧ r.2.mem ((c.tc : Thread Cert.ProjIdeal.nD Cert.ProjIdeal.τ).loc Cert.ProjIdeal.main_v51) = v5 c
          ∧ r.2.mem ((c.tc : Thread Cert.ProjIdeal.nD Cert.ProjIdeal.τ).loc Cert.ProjIdeal.main_v52) = v6 c
          ∧ r.2.mem ((c.tc : Thread Cert.ProjIdeal.nD Cert.ProjIdeal.τ).loc Cert.ProjIdeal.main_v54) = v7 c
          ∧ r.2.mem ((c.tc : Thread Cert.ProjIdeal.nD Cert.ProjIdeal.τ).loc Cert.ProjIdeal.main_v55) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v88) = v0 c
          ∧ r.2.mem ((c.tc : Thread Cert.ProjReferenceIdeal.nD Cert.ProjReferenceIdeal.τ).loc Cert.ProjReferenceIdeal.main_v89) = v1 c
          ∧ r.2.mem ((c.tc : Thread Cert.ProjReferenceIdeal.nD Cert.ProjReferenceIdeal.τ).loc Cert.ProjReferenceIdeal.main_v90) = v2 c
          ∧ r.2.mem ((c.tc : Thread Cert.ProjReferenceIdeal.nD Cert.ProjReferenceIdeal.τ).loc Cert.ProjReferenceIdeal.main_v91) = v3 c
          ∧ r.2.mem ((c.tc : Thread Cert.ProjReferenceIdeal.nD Cert.ProjReferenceIdeal.τ).loc Cert.ProjReferenceIdeal.main_v92) = v4 c
          ∧ r.2.mem ((c.tc : Thread Cert.ProjReferenceIdeal.nD Cert.ProjReferenceIdeal.τ).loc Cert.ProjReferenceIdeal.main_v42) = v5 c
          ∧ r.2.mem ((c.tc : Thread Cert.ProjReferenceIdeal.nD Cert.ProjReferenceIdeal.τ).loc Cert.ProjReferenceIdeal.main_v58) = v6 c
          ∧ r.2.mem ((c.tc : Thread Cert.ProjReferenceIdeal.nD Cert.ProjReferenceIdeal.τ).loc Cert.ProjReferenceIdeal.main_v25) = v7 c
          ∧ r.2.mem ((c.tc : Thread Cert.ProjReferenceIdeal.nD Cert.ProjReferenceIdeal.τ).loc Cert.ProjReferenceIdeal.main_v72) = v8 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)
      ∧ m' ((c.tc : Thread Cert.MemKvReferenceIdeal.nD Cert.MemKvReferenceIdeal.τ).loc Cert.MemKvReferenceIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v22)) (v1 : (c : Dev Cert.MemKvIdeal.nD) → Buf (Elt Ideal) ((c.tc : Thread Cert.MemKvIdeal.nD Cert.MemKvIdeal.τ).loc Cert.MemKvIdeal.main_v23)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v22) = v0 c
          ∧ r.2.mem ((c.tc : Thread Cert.MemKvIdeal.nD Cert.MemKvIdeal.τ).loc Cert.MemKvIdeal.main_v23) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v34) = v0 c
          ∧ r.2.mem ((c.tc : Thread Cert.MemKvReferenceIdeal.nD Cert.MemKvReferenceIdeal.τ).loc Cert.MemKvReferenceIdeal.main_v35) = v1 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2)
          ∧ r.2.mem ((c.tc : Thread Cert.MemKvReferenceIdeal.nD Cert.MemKvReferenceIdeal.τ).loc Cert.MemKvReferenceIdeal.main_arg3) = m' ((c.tc : Thread Cert.MemKvReferenceIdeal.nD Cert.MemKvReferenceIdeal.τ).loc Cert.MemKvReferenceIdeal.main_arg3))

def preserves_ProjSample_ProjSampleIdeal : Prop :=
  True

def algebraic_ProjSampleIdeal_ProjSampleReferenceIdeal [hProjSampleIdeal : Cert.ProjSampleIdeal.Facts] [hProjSampleReferenceIdeal : Cert.ProjSampleReferenceIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleReferenceIdeal.nD Cert.ProjSampleReferenceIdeal.τ Cert.ProjSampleReferenceIdeal.sig) → Buf (Elt Ideal) ℓ) (g' : Dev Cert.ProjSampleReferenceIdeal.nD → PrngReg), Pre_ProjSampleIdeal m →
    (∀ c : Dev Cert.ProjSampleIdeal.nD,
      m' ((c.tc : Thread Cert.ProjSampleReferenceIdeal.nD Cert.ProjSampleReferenceIdeal.τ).loc Cert.ProjSampleReferenceIdeal.main_arg0) = m ((c.tc : Thread Cert.ProjSampleIdeal.nD Cert.ProjSampleIdeal.τ).loc Cert.ProjSampleIdeal.main_arg0)
      ∧ m' ((c.tc : Thread Cert.ProjSampleReferenceIdeal.nD Cert.ProjSampleReferenceIdeal.τ).loc Cert.ProjSampleReferenceIdeal.main_arg1) = m ((c.tc : Thread Cert.ProjSampleIdeal.nD Cert.ProjSampleIdeal.τ).loc Cert.ProjSampleIdeal.main_arg1)
      ∧ m' ((c.tc : Thread Cert.ProjSampleReferenceIdeal.nD Cert.ProjSampleReferenceIdeal.τ).loc Cert.ProjSampleReferenceIdeal.main_arg2) = m ((c.tc : Thread Cert.ProjSampleIdeal.nD Cert.ProjSampleIdeal.τ).loc Cert.ProjSampleIdeal.main_arg2)
      ∧ m' ((c.tc : Thread Cert.ProjSampleReferenceIdeal.nD Cert.ProjSampleReferenceIdeal.τ).loc Cert.ProjSampleReferenceIdeal.main_arg3) = m ((c.tc : Thread Cert.ProjSampleIdeal.nD Cert.ProjSampleIdeal.τ).loc Cert.ProjSampleIdeal.main_arg3)
      ∧ m' ((c.tc : Thread Cert.ProjSampleReferenceIdeal.nD Cert.ProjSampleReferenceIdeal.τ).loc Cert.ProjSampleReferenceIdeal.main_arg4) = m ((c.tc : Thread Cert.ProjSampleIdeal.nD Cert.ProjSampleIdeal.τ).loc Cert.ProjSampleIdeal.main_arg4)
      ∧ m' ((c.tc : Thread Cert.ProjSampleReferenceIdeal.nD Cert.ProjSampleReferenceIdeal.τ).loc Cert.ProjSampleReferenceIdeal.main_arg5) = m ((c.tc : Thread Cert.ProjSampleIdeal.nD Cert.ProjSampleIdeal.τ).loc Cert.ProjSampleIdeal.main_arg5)
      ∧ m' ((c.tc : Thread Cert.ProjSampleReferenceIdeal.nD Cert.ProjSampleReferenceIdeal.τ).loc Cert.ProjSampleReferenceIdeal.main_arg6) = m ((c.tc : Thread Cert.ProjSampleIdeal.nD Cert.ProjSampleIdeal.τ).loc Cert.ProjSampleIdeal.main_arg6)) →
    ∃ (v0 : (c : Dev Cert.ProjSampleIdeal.nD) → Buf (Elt Ideal) ((c.tc : Thread Cert.ProjSampleIdeal.nD Cert.ProjSampleIdeal.τ).loc Cert.ProjSampleIdeal.main_v42)) (v1 : (c : Dev Cert.ProjSampleIdeal.nD) → Buf (Elt Ideal) ((c.tc : Thread Cert.ProjSampleIdeal.nD Cert.ProjSampleIdeal.τ).loc Cert.ProjSampleIdeal.main_v45)) (v2 : (c : Dev Cert.ProjSampleIdeal.nD) → Buf (Elt Ideal) ((c.tc : Thread Cert.ProjSampleIdeal.nD Cert.ProjSampleIdeal.τ).loc Cert.ProjSampleIdeal.main_v48)) (v3 : (c : Dev Cert.ProjSampleIdeal.nD) → Buf (Elt Ideal) ((c.tc : Thread Cert.ProjSampleIdeal.nD Cert.ProjSampleIdeal.τ).loc Cert.ProjSampleIdeal.main_v51)) (v4 : (c : Dev Cert.ProjSampleIdeal.nD) → Buf (Elt Ideal) ((c.tc : Thread Cert.ProjSampleIdeal.nD Cert.ProjSampleIdeal.τ).loc Cert.ProjSampleIdeal.main_v54)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v42) = v0 c
          ∧ r.2.mem ((c.tc : Thread Cert.ProjSampleIdeal.nD Cert.ProjSampleIdeal.τ).loc Cert.ProjSampleIdeal.main_v45) = v1 c
          ∧ r.2.mem ((c.tc : Thread Cert.ProjSampleIdeal.nD Cert.ProjSampleIdeal.τ).loc Cert.ProjSampleIdeal.main_v48) = v2 c
          ∧ r.2.mem ((c.tc : Thread Cert.ProjSampleIdeal.nD Cert.ProjSampleIdeal.τ).loc Cert.ProjSampleIdeal.main_v51) = v3 c
          ∧ r.2.mem ((c.tc : Thread Cert.ProjSampleIdeal.nD Cert.ProjSampleIdeal.τ).loc Cert.ProjSampleIdeal.main_v54) = v4 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
          ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
          ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
          ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6))
      ∧ θ_run (Cert.ProjSampleReferenceIdeal.defs (F := Ideal)) (onTc (τ := Cert.ProjSampleReferenceIdeal.τ) (Cert.ProjSampleReferenceIdeal.main (F := Ideal))) ⟨m', fun _ => 0, g'⟩ (fun r => ∀ c : Dev Cert.ProjSampleReferenceIdeal.nD,
          r.2.mem ((c.tc : Thread Cert.ProjSampleReferenceIdeal.nD Cert.ProjSampleReferenceIdeal.τ).loc Cert.ProjSampleReferenceIdeal.main_v88) = v0 c
          ∧ r.2.mem ((c.tc : Thread Cert.ProjSampleReferenceIdeal.nD Cert.ProjSampleReferenceIdeal.τ).loc Cert.ProjSampleReferenceIdeal.main_v89) = v1 c
          ∧ r.2.mem ((c.tc : Thread Cert.ProjSampleReferenceIdeal.nD Cert.ProjSampleReferenceIdeal.τ).loc Cert.ProjSampleReferenceIdeal.main_v90) = v2 c
          ∧ r.2.mem ((c.tc : Thread Cert.ProjSampleReferenceIdeal.nD Cert.ProjSampleReferenceIdeal.τ).loc Cert.ProjSampleReferenceIdeal.main_v91) = v3 c
          ∧ r.2.mem ((c.tc : Thread Cert.ProjSampleReferenceIdeal.nD Cert.ProjSampleReferenceIdeal.τ).loc Cert.ProjSampleReferenceIdeal.main_v92) = v4 c
          ∧ r.2.mem ((c.tc : Thread Cert.ProjSampleReferenceIdeal.nD Cert.ProjSampleReferenceIdeal.τ).loc Cert.ProjSampleReferenceIdeal.main_arg0) = m' ((c.tc : Thread Cert.ProjSampleReferenceIdeal.nD Cert.ProjSampleReferenceIdeal.τ).loc Cert.ProjSampleReferenceIdeal.main_arg0)
          ∧ r.2.mem ((c.tc : Thread Cert.ProjSampleReferenceIdeal.nD Cert.ProjSampleReferenceIdeal.τ).loc Cert.ProjSampleReferenceIdeal.main_arg1) = m' ((c.tc : Thread Cert.ProjSampleReferenceIdeal.nD Cert.ProjSampleReferenceIdeal.τ).loc Cert.ProjSampleReferenceIdeal.main_arg1)
          ∧ r.2.mem ((c.tc : Thread Cert.ProjSampleReferenceIdeal.nD Cert.ProjSampleReferenceIdeal.τ).loc Cert.ProjSampleReferenceIdeal.main_arg2) = m' ((c.tc : Thread Cert.ProjSampleReferenceIdeal.nD Cert.ProjSampleReferenceIdeal.τ).loc Cert.ProjSampleReferenceIdeal.main_arg2)
          ∧ r.2.mem ((c.tc : Thread Cert.ProjSampleReferenceIdeal.nD Cert.ProjSampleReferenceIdeal.τ).loc Cert.ProjSampleReferenceIdeal.main_arg3) = m' ((c.tc : Thread Cert.ProjSampleReferenceIdeal.nD Cert.ProjSampleReferenceIdeal.τ).loc Cert.ProjSampleReferenceIdeal.main_arg3)
          ∧ r.2.mem ((c.tc : Thread Cert.ProjSampleReferenceIdeal.nD Cert.ProjSampleReferenceIdeal.τ).loc Cert.ProjSampleReferenceIdeal.main_arg4) = m' ((c.tc : Thread Cert.ProjSampleReferenceIdeal.nD Cert.ProjSampleReferenceIdeal.τ).loc Cert.ProjSampleReferenceIdeal.main_arg4)
          ∧ r.2.mem ((c.tc : Thread Cert.ProjSampleReferenceIdeal.nD Cert.ProjSampleReferenceIdeal.τ).loc Cert.ProjSampleReferenceIdeal.main_arg5) = m' ((c.tc : Thread Cert.ProjSampleReferenceIdeal.nD Cert.ProjSampleReferenceIdeal.τ).loc Cert.ProjSampleReferenceIdeal.main_arg5)
          ∧ r.2.mem ((c.tc : Thread Cert.ProjSampleReferenceIdeal.nD Cert.ProjSampleReferenceIdeal.τ).loc Cert.ProjSampleReferenceIdeal.main_arg6) = m' ((c.tc : Thread Cert.ProjSampleReferenceIdeal.nD Cert.ProjSampleReferenceIdeal.τ).loc Cert.ProjSampleReferenceIdeal.main_arg6))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)) →
    ∃ (v0 : (c : Dev Cert.FfnSampleIdeal.nD) → Buf (Elt Ideal) ((c.tc : Thread Cert.FfnSampleIdeal.nD Cert.FfnSampleIdeal.τ).loc Cert.FfnSampleIdeal.main_v21)) (v1 : (c : Dev Cert.FfnSampleIdeal.nD) → Buf (Elt Ideal) ((c.tc : Thread Cert.FfnSampleIdeal.nD Cert.FfnSampleIdeal.τ).loc Cert.FfnSampleIdeal.main_v24)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v21) = v0 c
          ∧ r.2.mem ((c.tc : Thread Cert.FfnSampleIdeal.nD Cert.FfnSampleIdeal.τ).loc Cert.FfnSampleIdeal.main_v24) = v1 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v52) = v0 c
          ∧ r.2.mem ((c.tc : Thread Cert.FfnSampleReferenceIdeal.nD Cert.FfnSampleReferenceIdeal.τ).loc Cert.FfnSampleReferenceIdeal.main_v53) = v1 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6)
          ∧ r.2.mem ((c.tc : Thread Cert.FfnSampleReferenceIdeal.nD Cert.FfnSampleReferenceIdeal.τ).loc Cert.FfnSampleReferenceIdeal.main_arg7) = m' ((c.tc : Thread Cert.FfnSampleReferenceIdeal.nD Cert.FfnSampleReferenceIdeal.τ).loc Cert.FfnSampleReferenceIdeal.main_arg7))

def preserves_Mid_MidIdeal : Prop :=
  True

def algebraic_MidIdeal_MidReferenceIdeal_pre_finite_keys [hMidIdeal : Cert.MidIdeal.Facts] [hMidReferenceIdeal : Cert.MidReferenceIdeal.Facts] [hPre_finite_keys : Cert.Pre_finite_keys.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal_finite_keys m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)
      ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7)
      ∧ m' ((c.tc : Thread Cert.MidReferenceIdeal.nD Cert.MidReferenceIdeal.τ).loc Cert.MidReferenceIdeal.main_arg8) = m ((c.tc : Thread Cert.MidIdeal.nD Cert.MidIdeal.τ).loc Cert.MidIdeal.main_arg8)
      ∧ m' ((c.tc : Thread Cert.MidReferenceIdeal.nD Cert.MidReferenceIdeal.τ).loc Cert.MidReferenceIdeal.main_arg9) = m ((c.tc : Thread Cert.MidIdeal.nD Cert.MidIdeal.τ).loc Cert.MidIdeal.main_arg9)) →
    ∃ (v0 : (c : Dev Cert.MidIdeal.nD) → Buf (Elt Ideal) ((c.tc : Thread Cert.MidIdeal.nD Cert.MidIdeal.τ).loc Cert.MidIdeal.main_v24)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v24) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v54) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9))

def preserves_MidSample_MidSampleIdeal : Prop :=
  True

def algebraic_MidSampleIdeal_MidSampleReferenceIdeal_pre_finite_cache_keys [hMidSampleIdeal : Cert.MidSampleIdeal.Facts] [hMidSampleReferenceIdeal : Cert.MidSampleReferenceIdeal.Facts] [hPre_finite_cache_keys : Cert.Pre_finite_cache_keys.Facts] : Prop :=
  ∀ (m : (ℓ : Loc Cert.MidSampleIdeal.nD Cert.MidSampleIdeal.τ Cert.MidSampleIdeal.sig) → Buf (Elt Ideal) ℓ) (g : Dev Cert.MidSampleIdeal.nD → PrngReg)
    (m' : (ℓ : Loc Cert.MidSampleReferenceIdeal.nD Cert.MidSampleReferenceIdeal.τ Cert.MidSampleReferenceIdeal.sig) → Buf (Elt Ideal) ℓ) (g' : Dev Cert.MidSampleReferenceIdeal.nD → PrngReg), Pre_MidSampleIdeal_finite_cache_keys m →
    (∀ c : Dev Cert.MidSampleIdeal.nD,
      m' ((c.tc : Thread Cert.MidSampleReferenceIdeal.nD Cert.MidSampleReferenceIdeal.τ).loc Cert.MidSampleReferenceIdeal.main_arg0) = m ((c.tc : Thread Cert.MidSampleIdeal.nD Cert.MidSampleIdeal.τ).loc Cert.MidSampleIdeal.main_arg0)
      ∧ m' ((c.tc : Thread Cert.MidSampleReferenceIdeal.nD Cert.MidSampleReferenceIdeal.τ).loc Cert.MidSampleReferenceIdeal.main_arg1) = m ((c.tc : Thread Cert.MidSampleIdeal.nD Cert.MidSampleIdeal.τ).loc Cert.MidSampleIdeal.main_arg1)
      ∧ m' ((c.tc : Thread Cert.MidSampleReferenceIdeal.nD Cert.MidSampleReferenceIdeal.τ).loc Cert.MidSampleReferenceIdeal.main_arg2) = m ((c.tc : Thread Cert.MidSampleIdeal.nD Cert.MidSampleIdeal.τ).loc Cert.MidSampleIdeal.main_arg2)
      ∧ m' ((c.tc : Thread Cert.MidSampleReferenceIdeal.nD Cert.MidSampleReferenceIdeal.τ).loc Cert.MidSampleReferenceIdeal.main_arg3) = m ((c.tc : Thread Cert.MidSampleIdeal.nD Cert.MidSampleIdeal.τ).loc Cert.MidSampleIdeal.main_arg3)
      ∧ m' ((c.tc : Thread Cert.MidSampleReferenceIdeal.nD Cert.MidSampleReferenceIdeal.τ).loc Cert.MidSampleReferenceIdeal.main_arg4) = m ((c.tc : Thread Cert.MidSampleIdeal.nD Cert.MidSampleIdeal.τ).loc Cert.MidSampleIdeal.main_arg4)
      ∧ m' ((c.tc : Thread Cert.MidSampleReferenceIdeal.nD Cert.MidSampleReferenceIdeal.τ).loc Cert.MidSampleReferenceIdeal.main_arg5) = m ((c.tc : Thread Cert.MidSampleIdeal.nD Cert.MidSampleIdeal.τ).loc Cert.MidSampleIdeal.main_arg5)
      ∧ m' ((c.tc : Thread Cert.MidSampleReferenceIdeal.nD Cert.MidSampleReferenceIdeal.τ).loc Cert.MidSampleReferenceIdeal.main_arg6) = m ((c.tc : Thread Cert.MidSampleIdeal.nD Cert.MidSampleIdeal.τ).loc Cert.MidSampleIdeal.main_arg6)
      ∧ m' ((c.tc : Thread Cert.MidSampleReferenceIdeal.nD Cert.MidSampleReferenceIdeal.τ).loc Cert.MidSampleReferenceIdeal.main_arg7) = m ((c.tc : Thread Cert.MidSampleIdeal.nD Cert.MidSampleIdeal.τ).loc Cert.MidSampleIdeal.main_arg7)
      ∧ m' ((c.tc : Thread Cert.MidSampleReferenceIdeal.nD Cert.MidSampleReferenceIdeal.τ).loc Cert.MidSampleReferenceIdeal.main_arg8) = m ((c.tc : Thread Cert.MidSampleIdeal.nD Cert.MidSampleIdeal.τ).loc Cert.MidSampleIdeal.main_arg8)
      ∧ m' ((c.tc : Thread Cert.MidSampleReferenceIdeal.nD Cert.MidSampleReferenceIdeal.τ).loc Cert.MidSampleReferenceIdeal.main_arg9) = m ((c.tc : Thread Cert.MidSampleIdeal.nD Cert.MidSampleIdeal.τ).loc Cert.MidSampleIdeal.main_arg9)) →
    ∃ (v0 : (c : Dev Cert.MidSampleIdeal.nD) → Buf (Elt Ideal) ((c.tc : Thread Cert.MidSampleIdeal.nD Cert.MidSampleIdeal.τ).loc Cert.MidSampleIdeal.main_v30)),
      θ_run (Cert.MidSampleIdeal.defs (F := Ideal)) (onTc (τ := Cert.MidSampleIdeal.τ) (Cert.MidSampleIdeal.main (F := Ideal))) ⟨m, fun _ => 0, g⟩ (fun r => ∀ c : Dev Cert.MidSampleIdeal.nD,
          r.2.mem ((c.tc : Thread Cert.MidSampleIdeal.nD Cert.MidSampleIdeal.τ).loc Cert.MidSampleIdeal.main_v30) = v0 c
          ∧ r.2.mem ((c.tc : Thread Cert.MidSampleIdeal.nD Cert.MidSampleIdeal.τ).loc Cert.MidSampleIdeal.main_arg0) = m ((c.tc : Thread Cert.MidSampleIdeal.nD Cert.MidSampleIdeal.τ).loc Cert.MidSampleIdeal.main_arg0)
          ∧ r.2.mem ((c.tc : Thread Cert.MidSampleIdeal.nD Cert.MidSampleIdeal.τ).loc Cert.MidSampleIdeal.main_arg1) = m ((c.tc : Thread Cert.MidSampleIdeal.nD Cert.MidSampleIdeal.τ).loc Cert.MidSampleIdeal.main_arg1)
          ∧ r.2.mem ((c.tc : Thread Cert.MidSampleIdeal.nD Cert.MidSampleIdeal.τ).loc Cert.MidSampleIdeal.main_arg2) = m ((c.tc : Thread Cert.MidSampleIdeal.nD Cert.MidSampleIdeal.τ).loc Cert.MidSampleIdeal.main_arg2)
          ∧ r.2.mem ((c.tc : Thread Cert.MidSampleIdeal.nD Cert.MidSampleIdeal.τ).loc Cert.MidSampleIdeal.main_arg3) = m ((c.tc : Thread Cert.MidSampleIdeal.nD Cert.MidSampleIdeal.τ).loc Cert.MidSampleIdeal.main_arg3)
          ∧ r.2.mem ((c.tc : Thread Cert.MidSampleIdeal.nD Cert.MidSampleIdeal.τ).loc Cert.MidSampleIdeal.main_arg4) = m ((c.tc : Thread Cert.MidSampleIdeal.nD Cert.MidSampleIdeal.τ).loc Cert.MidSampleIdeal.main_arg4)
          ∧ r.2.mem ((c.tc : Thread Cert.MidSampleIdeal.nD Cert.MidSampleIdeal.τ).loc Cert.MidSampleIdeal.main_arg5) = m ((c.tc : Thread Cert.MidSampleIdeal.nD Cert.MidSampleIdeal.τ).loc Cert.MidSampleIdeal.main_arg5)
          ∧ r.2.mem ((c.tc : Thread Cert.MidSampleIdeal.nD Cert.MidSampleIdeal.τ).loc Cert.MidSampleIdeal.main_arg6) = m ((c.tc : Thread Cert.MidSampleIdeal.nD Cert.MidSampleIdeal.τ).loc Cert.MidSampleIdeal.main_arg6)
          ∧ r.2.mem ((c.tc : Thread Cert.MidSampleIdeal.nD Cert.MidSampleIdeal.τ).loc Cert.MidSampleIdeal.main_arg7) = m ((c.tc : Thread Cert.MidSampleIdeal.nD Cert.MidSampleIdeal.τ).loc Cert.MidSampleIdeal.main_arg7)
          ∧ r.2.mem ((c.tc : Thread Cert.MidSampleIdeal.nD Cert.MidSampleIdeal.τ).loc Cert.MidSampleIdeal.main_arg8) = m ((c.tc : Thread Cert.MidSampleIdeal.nD Cert.MidSampleIdeal.τ).loc Cert.MidSampleIdeal.main_arg8)
          ∧ r.2.mem ((c.tc : Thread Cert.MidSampleIdeal.nD Cert.MidSampleIdeal.τ).loc Cert.MidSampleIdeal.main_arg9) = m ((c.tc : Thread Cert.MidSampleIdeal.nD Cert.MidSampleIdeal.τ).loc Cert.MidSampleIdeal.main_arg9))
      ∧ θ_run (Cert.MidSampleReferenceIdeal.defs (F := Ideal)) (onTc (τ := Cert.MidSampleReferenceIdeal.τ) (Cert.MidSampleReferenceIdeal.main (F := Ideal))) ⟨m', fun _ => 0, g'⟩ (fun r => ∀ c : Dev Cert.MidSampleReferenceIdeal.nD,
          r.2.mem ((c.tc : Thread Cert.MidSampleReferenceIdeal.nD Cert.MidSampleReferenceIdeal.τ).loc Cert.MidSampleReferenceIdeal.main_v56) = v0 c
          ∧ r.2.mem ((c.tc : Thread Cert.MidSampleReferenceIdeal.nD Cert.MidSampleReferenceIdeal.τ).loc Cert.MidSampleReferenceIdeal.main_arg0) = m' ((c.tc : Thread Cert.MidSampleReferenceIdeal.nD Cert.MidSampleReferenceIdeal.τ).loc Cert.MidSampleReferenceIdeal.main_arg0)
          ∧ r.2.mem ((c.tc : Thread Cert.MidSampleReferenceIdeal.nD Cert.MidSampleReferenceIdeal.τ).loc Cert.MidSampleReferenceIdeal.main_arg1) = m' ((c.tc : Thread Cert.MidSampleReferenceIdeal.nD Cert.MidSampleReferenceIdeal.τ).loc Cert.MidSampleReferenceIdeal.main_arg1)
          ∧ r.2.mem ((c.tc : Thread Cert.MidSampleReferenceIdeal.nD Cert.MidSampleReferenceIdeal.τ).loc Cert.MidSampleReferenceIdeal.main_arg2) = m' ((c.tc : Thread Cert.MidSampleReferenceIdeal.nD Cert.MidSampleReferenceIdeal.τ).loc Cert.MidSampleReferenceIdeal.main_arg2)
          ∧ r.2.mem ((c.tc : Thread Cert.MidSampleReferenceIdeal.nD Cert.MidSampleReferenceIdeal.τ).loc Cert.MidSampleReferenceIdeal.main_arg3) = m' ((c.tc : Thread Cert.MidSampleReferenceIdeal.nD Cert.MidSampleReferenceIdeal.τ).loc Cert.MidSampleReferenceIdeal.main_arg3)
          ∧ r.2.mem ((c.tc : Thread Cert.MidSampleReferenceIdeal.nD Cert.MidSampleReferenceIdeal.τ).loc Cert.MidSampleReferenceIdeal.main_arg4) = m' ((c.tc : Thread Cert.MidSampleReferenceIdeal.nD Cert.MidSampleReferenceIdeal.τ).loc Cert.MidSampleReferenceIdeal.main_arg4)
          ∧ r.2.mem ((c.tc : Thread Cert.MidSampleReferenceIdeal.nD Cert.MidSampleReferenceIdeal.τ).loc Cert.MidSampleReferenceIdeal.main_arg5) = m' ((c.tc : Thread Cert.MidSampleReferenceIdeal.nD Cert.MidSampleReferenceIdeal.τ).loc Cert.MidSampleReferenceIdeal.main_arg5)
          ∧ r.2.mem ((c.tc : Thread Cert.MidSampleReferenceIdeal.nD Cert.MidSampleReferenceIdeal.τ).loc Cert.MidSampleReferenceIdeal.main_arg6) = m' ((c.tc : Thread Cert.MidSampleReferenceIdeal.nD Cert.MidSampleReferenceIdeal.τ).loc Cert.MidSampleReferenceIdeal.main_arg6)
          ∧ r.2.mem ((c.tc : Thread Cert.MidSampleReferenceIdeal.nD Cert.MidSampleReferenceIdeal.τ).loc Cert.MidSampleReferenceIdeal.main_arg7) = m' ((c.tc : Thread Cert.MidSampleReferenceIdeal.nD Cert.MidSampleReferenceIdeal.τ).loc Cert.MidSampleReferenceIdeal.main_arg7)
          ∧ r.2.mem ((c.tc : Thread Cert.MidSampleReferenceIdeal.nD Cert.MidSampleReferenceIdeal.τ).loc Cert.MidSampleReferenceIdeal.main_arg8) = m' ((c.tc : Thread Cert.MidSampleReferenceIdeal.nD Cert.MidSampleReferenceIdeal.τ).loc Cert.MidSampleReferenceIdeal.main_arg8)
          ∧ r.2.mem ((c.tc : Thread Cert.MidSampleReferenceIdeal.nD Cert.MidSampleReferenceIdeal.τ).loc Cert.MidSampleReferenceIdeal.main_arg9) = m' ((c.tc : Thread Cert.MidSampleReferenceIdeal.nD Cert.MidSampleReferenceIdeal.τ).loc Cert.MidSampleReferenceIdeal.main_arg9))

def Claim : Prop :=
  ∃ (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts) (hMemKv : Cert.MemKv.Facts) (hMemKvIdeal : Cert.MemKvIdeal.Facts) (hMemKvReferenceIdeal : Cert.MemKvReferenceIdeal.Facts) (hProjSample : Cert.ProjSample.Facts) (hProjSampleIdeal : Cert.ProjSampleIdeal.Facts) (hProjSampleReferenceIdeal : Cert.ProjSampleReferenceIdeal.Facts) (hFfnSample : Cert.FfnSample.Facts) (hFfnSampleIdeal : Cert.FfnSampleIdeal.Facts) (hFfnSampleReferenceIdeal : Cert.FfnSampleReferenceIdeal.Facts) (hMid : Cert.Mid.Facts) (hMidIdeal : Cert.MidIdeal.Facts) (hMidReferenceIdeal : Cert.MidReferenceIdeal.Facts) (hMidSample : Cert.MidSample.Facts) (hMidSampleIdeal : Cert.MidSampleIdeal.Facts) (hMidSampleReferenceIdeal : Cert.MidSampleReferenceIdeal.Facts) (hPre_finite_keys : Cert.Pre_finite_keys.Facts) (hPre_finite_cache_keys : Cert.Pre_finite_cache_keys.Facts),
    quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_ProjSample (hProjSample := hProjSample)
    ∧ quiescent_ProjSampleIdeal (hProjSampleIdeal := hProjSampleIdeal)
    ∧ quiescent_ProjSampleReferenceIdeal (hProjSampleReferenceIdeal := hProjSampleReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ quiescent_Mid (hMid := hMid)
    ∧ quiescent_MidIdeal (hMidIdeal := hMidIdeal)
    ∧ quiescent_MidIdeal_pre_finite_keys (hMidIdeal := hMidIdeal) (hPre_finite_keys := hPre_finite_keys)
    ∧ quiescent_MidReferenceIdeal (hMidReferenceIdeal := hMidReferenceIdeal)
    ∧ quiescent_MidReferenceIdeal_pre_finite_keys (hMidReferenceIdeal := hMidReferenceIdeal) (hPre_finite_keys := hPre_finite_keys)
    ∧ quiescent_MidSample (hMidSample := hMidSample)
    ∧ quiescent_MidSampleIdeal (hMidSampleIdeal := hMidSampleIdeal)
    ∧ quiescent_MidSampleIdeal_pre_finite_cache_keys (hMidSampleIdeal := hMidSampleIdeal) (hPre_finite_cache_keys := hPre_finite_cache_keys)
    ∧ quiescent_MidSampleReferenceIdeal (hMidSampleReferenceIdeal := hMidSampleReferenceIdeal)
    ∧ quiescent_MidSampleReferenceIdeal_pre_finite_cache_keys (hMidSampleReferenceIdeal := hMidSampleReferenceIdeal) (hPre_finite_cache_keys := hPre_finite_cache_keys)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal (hProjIdeal := hProjIdeal) (hProjReferenceIdeal := hProjReferenceIdeal)
    ∧ preserves_MemKv_MemKvIdeal
    ∧ algebraic_MemKvIdeal_MemKvReferenceIdeal (hMemKvIdeal := hMemKvIdeal) (hMemKvReferenceIdeal := hMemKvReferenceIdeal)
    ∧ preserves_ProjSample_ProjSampleIdeal
    ∧ algebraic_ProjSampleIdeal_ProjSampleReferenceIdeal (hProjSampleIdeal := hProjSampleIdeal) (hProjSampleReferenceIdeal := hProjSampleReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
    ∧ preserves_Mid_MidIdeal
    ∧ algebraic_MidIdeal_MidReferenceIdeal_pre_finite_keys (hMidIdeal := hMidIdeal) (hMidReferenceIdeal := hMidReferenceIdeal) (hPre_finite_keys := hPre_finite_keys)
    ∧ preserves_MidSample_MidSampleIdeal
    ∧ algebraic_MidSampleIdeal_MidSampleReferenceIdeal_pre_finite_cache_keys (hMidSampleIdeal := hMidSampleIdeal) (hMidSampleReferenceIdeal := hMidSampleReferenceIdeal) (hPre_finite_cache_keys := hPre_finite_cache_keys)
-- ==== Pre_finite_cache_keys.lean ====
abbrev S32x4x1024 : Shape := ⟨3, ![32, 4, 1024]⟩
abbrev S32x4x512 : Shape := ⟨3, ![32, 4, 512]⟩
abbrev S1x32x256x4x128 : Shape := ⟨5, ![1, 32, 256, 4, 128]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1x512x1024 : Shape := ⟨3, ![1, 512, 1024]⟩
abbrev S_ : Shape := ⟨0, ![]⟩

class Facts : Prop where
  bcast_S_S1x32x256x4x128 : S_.BroadcastsInDim S1x32x256x4x128 (![] : Fin 0 → Fin S1x32x256x4x128.rank)
  bcast_S_S1x128 : S_.BroadcastsInDim S1x128 (![] : Fin 0 → Fin S1x128.rank)

variable [Facts]

def fn {F : FTy → Type} [FloatOps F] (main_arg0 : FVec F S32x4x1024 .f32) (main_arg1 : FVec F S32x4x512 .f32) (main_arg2 : FVec F S32x4x512 .f32) (main_arg3 : FVec F S1x32x256x4x128 .f32) (main_arg4 : FVec F S1x32x256x4x128 .f32) (main_arg5 : FVec F S1x1024x1024 .f32) (main_arg6 : FVec F S1x1024 .f32) (main_arg7 : FVec F S1x1024x512 .f32) (main_arg8 : FVec F S1x128 .f32) (main_arg9 : FVec F S1x512x1024 .f32) : IVec S1x32x256x4x128 1 × IVec S1x128 1 :=
  let main_v0 : FVec F S1x32x256x4x128 .f32 := Host.absf main_arg3
  let main_cst : FVec F S_ .f32 := constant S_ .f32 0x7F800000#32
  let main_v1 : FVec F S1x32x256x4x128 .f32 := broadcastInDim S1x32x256x4x128 ![] bcast_S_S1x32x256x4x128 main_cst
  let main_v2 : IVec S1x32x256x4x128 1 := cmpf .olt main_v0 main_v1
  let main_v3 : FVec F S1x128 .f32 := Host.absf main_arg8
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  (main_v2, main_v5)
-- ==== Pre_finite_keys.lean ====
abbrev S8x2048x1024 : Shape := ⟨3, ![8, 2048, 1024]⟩
abbrev S8x2048x512 : Shape := ⟨3, ![8, 2048, 512]⟩
abbrev S8x256x4x128 : Shape := ⟨4, ![8, 256, 4, 128]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1x512x1024 : Shape := ⟨3, ![1, 512, 1024]⟩
abbrev S_ : Shape := ⟨0, ![]⟩

class Facts : Prop where
  bcast_S_S8x256x4x128 : S_.BroadcastsInDim S8x256x4x128 (![] : Fin 0 → Fin S8x256x4x128.rank)
  bcast_S_S1x128 : S_.BroadcastsInDim S1x128 (![] : Fin 0 → Fin S1x128.rank)

variable [Facts]

def fn {F : FTy → Type} [FloatOps F] (main_arg0 : FVec F S8x2048x1024 .f32) (main_arg1 : FVec F S8x2048x512 .f32) (main_arg2 : FVec F S8x2048x512 .f32) (main_arg3 : FVec F S8x256x4x128 .f32) (main_arg4 : FVec F S8x256x4x128 .f32) (main_arg5 : FVec F S1x1024x1024 .f32) (main_arg6 : FVec F S1x1024 .f32) (main_arg7 : FVec F S1x1024x512 .f32) (main_arg8 : FVec F S1x128 .f32) (main_arg9 : FVec F S1x512x1024 .f32) : IVec S8x256x4x128 1 × IVec S1x128 1 :=
  let main_v0 : FVec F S8x256x4x128 .f32 := Host.absf main_arg3
  let main_cst : FVec F S_ .f32 := constant S_ .f32 0x7F800000#32
  let main_v1 : FVec F S8x256x4x128 .f32 := broadcastInDim S8x256x4x128 ![] bcast_S_S8x256x4x128 main_cst
  let main_v2 : IVec S8x256x4x128 1 := cmpf .olt main_v0 main_v1
  let main_v3 : FVec F S1x128 .f32 := Host.absf main_arg8
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  (main_v2, main_v5)
-- ==== Ffn.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024x2816 : Shape := ⟨2, ![1024, 2816]⟩
abbrev S2816x1024 : Shape := ⟨2, ![2816, 1024]⟩
abbrev S1024 : Shape := ⟨1, ![1024]⟩
abbrev S3x2816 : Shape := ⟨2, ![3, 2816]⟩
abbrev S2816 : Shape := ⟨1, ![2816]⟩
abbrev S8x8x2816 : Shape := ⟨3, ![8, 8, 2816]⟩
abbrev S1x512x1024 : Shape := ⟨3, ![1, 512, 1024]⟩
abbrev S1x8x2816 : Shape := ⟨3, ![1, 8, 2816]⟩
abbrev S8x2816 : Shape := ⟨2, ![8, 2816]⟩
abbrev S512x1 : Shape := ⟨2, ![512, 1]⟩
abbrev S512x1024 : Shape := ⟨2, ![512, 1024]⟩
abbrev S512 : Shape := ⟨1, ![512]⟩
abbrev S512x2816 : Shape := ⟨2, ![512, 2816]⟩
abbrev S8x2x2816 : Shape := ⟨3, ![8, 2, 2816]⟩
abbrev S1x8x2x2816 : Shape := ⟨4, ![1, 8, 2, 2816]⟩

abbrev nBuf : Space → Nat
  | .hbm => 22
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S3x2816, .f32⟩
  | .hbm, ⟨16, _⟩ => ⟨S2816, .f32⟩
  | .hbm, ⟨17, _⟩ => ⟨S1x2816, .f32⟩
  | .hbm, ⟨18, _⟩ => ⟨S8x2048x1024, .f32⟩
  | .hbm, ⟨19, _⟩ => ⟨S8x8x2816, .f32⟩
  | .hbm, ⟨20, _⟩ => ⟨S8x2x2816, .f32⟩
  | .hbm, ⟨21, _⟩ => ⟨S1x8x2x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x8x2816, .f32⟩
  | .local _ .vmem, ⟨11, _⟩ => ⟨S1x8x2816, .f32⟩
  | .local _ .vmem, ⟨12, _⟩ => ⟨S8x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnReferenceIdeal.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S_ : Shape := ⟨0, ![]⟩
abbrev S8x2x2816 : Shape := ⟨3, ![8, 2, 2816]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S8x2048x2816 : Shape := ⟨3, ![8, 2048, 2816]⟩
abbrev S8x2050x2816 : Shape := ⟨3, ![8, 2050, 2816]⟩
abbrev S1x1x2816 : Shape := ⟨3, ![1, 1, 2816]⟩
abbrev S1x8x2x2816 : Shape := ⟨4, ![1, 8, 2, 2816]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S_, .f32⟩
  | .hbm, ⟨8, _⟩ => ⟨S8x2x2816, .f32⟩
  | .hbm, ⟨9, _⟩ => ⟨S1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S1024x2816, .f32⟩
  | .hbm, ⟨27, _⟩ => ⟨S1024x2816, .f32⟩
  | .hbm, ⟨28, _⟩ => ⟨S3x2816, .f32⟩
  | .hbm, ⟨29, _⟩ => ⟨S2816, .f32⟩
  | .hbm, ⟨30, _⟩ => ⟨S2816x1024, .f32⟩
  | .hbm, ⟨31, _⟩ => ⟨S8x2048x2816, .f32⟩
  | .hbm, ⟨32, _⟩ => ⟨S8x2050x2816, .f32⟩
  | .hbm, ⟨33, _⟩ => ⟨S1x2816, .f32⟩
  | .hbm, ⟨34, _⟩ => ⟨S2816, .f32⟩
  | .hbm, ⟨35, _⟩ => ⟨S8x2048x2816, .f32⟩
  | .hbm, ⟨36, _⟩ => ⟨S1x1x2816, .f32⟩
  | .hbm, ⟨37, _⟩ => ⟨S8x2048x2816, .f32⟩
  | .hbm, ⟨38, _⟩ => ⟨S8x2048x2816, .f32⟩
  | .hbm, ⟨39, _⟩ => ⟨S_, .f32⟩
  | .hbm, ⟨40, _⟩ => ⟨S8x2048x2816, .f32⟩
  | .hbm, ⟨41, _⟩ => ⟨S8x2048x2816, .f32⟩
  | .hbm, ⟨42, _⟩ => ⟨S1x2816, .f32⟩
  | .hbm, ⟨43, _⟩ => ⟨S2816, .f32⟩
  | .hbm, ⟨44, _⟩ => ⟨S8x2048x2816, .f32⟩
  | .hbm, ⟨45, _⟩ => ⟨S1x1x2816, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S1x2816, .f32⟩
  | .hbm, ⟨50, _⟩ => ⟨S2816, .f32⟩
  | .hbm, ⟨51, _⟩ => ⟨S8x2048x2816, .f32⟩
  | .hbm, ⟨52, _⟩ => ⟨S1x1x2816, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S1x1x2816, .f32⟩
  | .hbm, ⟨57, _⟩ => ⟨S8x2048x2816, .f32⟩
  | .hbm, ⟨58, _⟩ => ⟨S8x2048x2816, .f32⟩
  | .hbm, ⟨59, _⟩ => ⟨S8x2048x2816, .f32⟩
  | .hbm, ⟨60, _⟩ => ⟨S8x2048x2816, .f32⟩
  | .hbm, ⟨61, _⟩ => ⟨S_, .f32⟩
  | .hbm, ⟨62, _⟩ => ⟨S8x2048x2816, .f32⟩
  | .hbm, ⟨63, _⟩ => ⟨S8x2048x2816, .f32⟩
  | .hbm, ⟨64, _⟩ => ⟨S_, .f32⟩
  | .hbm, ⟨65, _⟩ => ⟨S8x2048x2816, .f32⟩
  | .hbm, ⟨66, _⟩ => ⟨S8x2048x2816, .f32⟩
  | .hbm, ⟨67, _⟩ => ⟨S8x2048x2816, .f32⟩
  | .hbm, ⟨68, _⟩ => ⟨S8x2048x2816, .f32⟩
  | .hbm, ⟨69, _⟩ => ⟨S8x2048x2816, .f32⟩
  | .hbm, ⟨70, _⟩ => ⟨S8x2048x1024, .f32⟩
  | .hbm, ⟨71, _⟩ => ⟨S8x2x2816, .f32⟩
  | .hbm, ⟨72, _⟩ => ⟨S8x2048x1024, .f32⟩
  | .hbm, ⟨73, _⟩ => ⟨S1x8x2x2816, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proj.lean ====
abbrev S8x2048x1024 : Shape := ⟨3, ![8, 2048, 1024]⟩
abbrev S1x1024 : Shape := ⟨2, ![1, 1024]⟩
abbrev S1x1024x2628 : Shape := ⟨3, ![1, 1024, 2628]⟩
abbrev S1x64 : Shape := ⟨2, ![1, 64]⟩
abbrev S1024x2628 : Shape := ⟨2, ![1024, 2628]⟩
abbrev S64 : Shape := ⟨1, ![64]⟩
abbrev S1024x1092 : Shape := ⟨2, ![1024, 1092]⟩
abbrev S_ : Shape := ⟨0, ![]⟩
abbrev S1024x60 : Shape := ⟨2, ![1024, 60]⟩
abbrev S1024x1536 : Shape := ⟨2, ![1024, 1536]⟩
abbrev S1024x2688 : Shape := ⟨2, ![1024, 2688]⟩
abbrev S8x64 : Shape := ⟨2, ![8, 64]⟩
abbrev S512 : Shape := ⟨1, ![512]⟩
abbrev S2x64 : Shape := ⟨2, ![2, 64]⟩
abbrev S128 : Shape := ⟨1, ![128]⟩
abbrev S2688 : Shape := ⟨1, ![2688]⟩
abbrev S1x2688 : Shape := ⟨2, ![1, 2688]⟩
abbrev S512x1 : Shape := ⟨2, ![512, 1]⟩
abbrev S1x512 : Shape := ⟨2, ![1, 512]⟩
abbrev S512x512 : Shape := ⟨2, ![512, 512]⟩
abbrev S1024 : Shape := ⟨1, ![1024]⟩
abbrev S16384x1024 : Shape := ⟨2, ![16384, 1024]⟩
abbrev S16384x512 : Shape := ⟨2, ![16384, 512]⟩
abbrev S16384x128 : Shape := ⟨2, ![16384, 128]⟩
abbrev S16384x256 : Shape := ⟨2, ![16384, 256]⟩
abbrev S8x4x128x512 : Shape := ⟨4, ![8, 4, 128, 512]⟩
abbrev S8x4x512x512 : Shape := ⟨4, ![8, 4, 512, 512]⟩
abbrev S8x128x2048 : Shape := ⟨3, ![8, 128, 2048]⟩
abbrev S8x64x2048 : Shape := ⟨3, ![8, 64, 2048]⟩
abbrev S8x512x2048 : Shape := ⟨3, ![8, 512, 2048]⟩
abbrev S65536x128 : Shape := ⟨2, ![65536, 128]⟩
abbrev S512x1024 : Shape := ⟨2, ![512, 1024]⟩
abbrev S512x128 : Shape := ⟨2, ![512, 128]⟩
abbrev S512x256 : Shape := ⟨2, ![512, 256]⟩
abbrev S1x1x128x512 : Shape := ⟨4, ![1, 1, 128, 512]⟩
abbrev S1x1x512x512 : Shape := ⟨4, ![1, 1, 512, 512]⟩
abbrev S1x128x512 : Shape := ⟨3, ![1, 128, 512]⟩
abbrev S1x64x512 : Shape := ⟨3, ![1, 64, 512]⟩
abbrev S1x512x512 : Shape := ⟨3, ![1, 512, 512]⟩
abbrev S2048x128 : Shape := ⟨2, ![2048, 128]⟩
abbrev S512x2688 : Shape := ⟨2, ![512, 2688]⟩
abbrev S128x128 : Shape := ⟨2, ![128, 128]⟩
abbrev S1x128 : Shape := ⟨2, ![1, 128]⟩
abbrev S128x512 : Shape := ⟨2, ![128, 512]⟩
abbrev S64x512 : Shape := ⟨2, ![64, 512]⟩
abbrev S8x2x64x2048 : Shape := ⟨4, ![8, 2, 64, 2048]⟩
abbrev S8x2048x2x64 : Shape := ⟨4, ![8, 2048, 2, 64]⟩
abbrev S1x8x2048x2x64 : Shape := ⟨5, ![1, 8, 2048, 2, 64]⟩
abbrev S8x2048x64 : Shape := ⟨3, ![8, 2048, 64]⟩
abbrev S1x8x2048x64 : Shape := ⟨4, ![1, 8, 2048, 64]⟩
abbrev S8x4x2x64x2048 : Shape := ⟨5, ![8, 4, 2, 64, 2048]⟩
abbrev S8x2048x4x2x64 : Shape := ⟨5, ![8, 2048, 4, 2, 64]⟩
abbrev S1x8x2048x4x2x64 : Shape := ⟨6, ![1, 8, 2048, 4, 2, 64]⟩
abbrev S1x8x2048x4x128 : Shape := ⟨5, ![1, 8, 2048, 4, 128]⟩
abbrev S8x2048x8x64 : Shape := ⟨4, ![8, 2048, 8, 64]⟩
abbrev S8x2048x4x64 : Shape := ⟨4, ![8, 2048, 4, 64]⟩
abbrev S8x2048x128 : Shape := ⟨3, ![8, 2048, 128]⟩
abbrev S8x2048x4 : Shape := ⟨3, ![8, 2048, 4]⟩

abbrev nBuf : Space → Nat
  | .hbm => 99
  | .vmem => 32
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2628, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1024x2628, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1024x1092, .f32⟩
  | .hbm, ⟨13, _⟩ => ⟨S_, .f32⟩
  | .hbm, ⟨14, _⟩ => ⟨S1024x60, .f32⟩
  | .hbm, ⟨15, _⟩ => ⟨S1024x1536, .f32⟩
  | .hbm, ⟨16, _⟩ => ⟨S1024x2688, .f32⟩
  | .hbm, ⟨17, _⟩ => ⟨S1024x2688, .bf16⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x64, .f32⟩
  | .hbm, ⟨22, _⟩ => ⟨S2x64, .f32⟩
  | .hbm, ⟨23, _⟩ => ⟨S128, .f32⟩
  | .hbm, ⟨24, _⟩ => ⟨S_, .f32⟩
  | .hbm, ⟨25, _⟩ => ⟨S512, .f32⟩
  | .hbm, ⟨26, _⟩ => ⟨S1x64, .f32⟩
  | .hbm, ⟨27, _⟩ => ⟨S8x64, .f32⟩
  | .hbm, ⟨28, _⟩ => ⟨S512, .f32⟩
  | .hbm, ⟨29, _⟩ => ⟨S1x64, .f32⟩
  | .hbm, ⟨30, _⟩ => ⟨S8x64, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S2688, .f32⟩
  | .hbm, ⟨35, _⟩ => ⟨S1x2688, .f32⟩
  | .hbm, ⟨36, _⟩ => ⟨S512, .i32⟩
  | .hbm, ⟨37, _⟩ => ⟨S_, .i32⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S512, .i32⟩
  | .hbm, ⟨46, _⟩ => ⟨S512, .i32⟩
  | .hbm, ⟨47, _⟩ => ⟨S_, .i32⟩
  | .hbm, ⟨48, _⟩ => ⟨S512, .i32⟩
  | .hbm, ⟨49, _⟩ => ⟨S512, .i1⟩
  | .hbm, ⟨50, _⟩ => ⟨S512, .i1⟩
  | .hbm, ⟨51, _⟩ => ⟨S_, .i32⟩
  | .hbm, ⟨52, _⟩ => ⟨S512, .i32⟩
  | .hbm, ⟨53, _⟩ => ⟨S512, .i32⟩
  | .hbm, ⟨54, _⟩ => ⟨S512, .i32⟩
  | .hbm, ⟨55, _⟩ => ⟨S512x1, .i32⟩
  | .hbm, ⟨56, _⟩ => ⟨S1x512, .i32⟩
  | .hbm, ⟨57, _⟩ => ⟨S512x512, .i32⟩
  | .hbm, ⟨58, _⟩ => ⟨S512x512, .i32⟩
  | .hbm, ⟨59, _⟩ => ⟨S512x512, .i1⟩
  | .hbm, ⟨60, _⟩ => ⟨S_, .f32⟩
  | .hbm, ⟨61, _⟩ => ⟨S_, .f32⟩
  | .hbm, ⟨62, _⟩ => ⟨S512x512, .f32⟩
  | .hbm, ⟨63, _⟩ => ⟨S512x512, .f32⟩
  | .hbm, ⟨64, _⟩ => ⟨S512x512, .f32⟩
  | .hbm, ⟨65, _⟩ => ⟨S512x512, .bf16⟩
  | .hbm, ⟨66, _⟩ => ⟨S1024, .f32⟩
  | .hbm, ⟨67, _⟩ => ⟨S1x1024, .f32⟩
  | .hbm, ⟨68, _⟩ => ⟨S16384x1024, .f32⟩
  | .hbm, ⟨69, _⟩ => ⟨S16384x512, .f32⟩
  | .hbm, ⟨70, _⟩ => ⟨S16384x128, .f32⟩
  | .hbm, ⟨71, _⟩ => ⟨S16384x256, .f32⟩
  | .hbm, ⟨72, _⟩ => ⟨S16384x128, .f32⟩
  | .hbm, ⟨73, _⟩ => ⟨S16384x512, .f32⟩
  | .hbm, ⟨74, _⟩ => ⟨S16384x512, .f32⟩
  | .hbm, ⟨75, _⟩ => ⟨S8x4x128x512, .f32⟩
  | .hbm, ⟨76, _⟩ => ⟨S8x4x512x512, .f32⟩
  | .hbm, ⟨77, _⟩ => ⟨S8x128x2048, .f32⟩
  | .hbm, ⟨78, _⟩ => ⟨S8x128x2048, .f32⟩
  | .hbm, ⟨79, _⟩ => ⟨S8x64x2048, .f32⟩
  | .hbm, ⟨80, _⟩ => ⟨S8x512x2048, .f32⟩
  | .hbm, ⟨81, _⟩ => ⟨S65536x128, .f32⟩
  | .hbm, ⟨82, _⟩ => ⟨S8x2x64x2048, .f32⟩
  | .hbm, ⟨83, _⟩ => ⟨S8x2048x2x64, .f32⟩
  | .hbm, ⟨84, _⟩ => ⟨S1x8x2048x2x64, .f32⟩
  | .hbm, ⟨85, _⟩ => ⟨S8x2x64x2048, .f32⟩
  | .hbm, ⟨86, _⟩ => ⟨S8x2048x2x64, .f32⟩
  | .hbm, ⟨87, _⟩ => ⟨S1x8x2048x2x64, .f32⟩
  | .hbm, ⟨88, _⟩ => ⟨S8x2048x64, .f32⟩
  | .hbm, ⟨89, _⟩ => ⟨S1x8x2048x64, .f32⟩
  | .hbm, ⟨90, _⟩ => ⟨S8x4x2x64x2048, .f32⟩
  | .hbm, ⟨91, _⟩ => ⟨S8x2048x4x2x64, .f32⟩
  | .hbm, ⟨92, _⟩ => ⟨S1x8x2048x4x2x64, .f32⟩
  | .hbm, ⟨93, _⟩ => ⟨S1x8x2048x4x128, .f32⟩
  | .hbm, ⟨94, _⟩ => ⟨S8x2048x8x64, .f32⟩
  | .hbm, ⟨95, _⟩ => ⟨S8x2048x4x64, .f32⟩
  | .hbm, ⟨96, _⟩ => ⟨S8x2048x128, .f32⟩
  | .hbm, ⟨97, _⟩ => ⟨S8x2048x4, .f32⟩
  | .hbm, ⟨98, _⟩ => ⟨S8x2048x4x2x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S512x512, .bf16⟩
  | .local _ .vmem, ⟨5, _⟩ => ⟨S1x2688, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x256, .f32⟩
  | .local _ .vmem, ⟨11, _⟩ => ⟨S512x256, .f32⟩
  | .local _ .vmem, ⟨12, _⟩ => ⟨S512x128, .f32⟩
  | .local _ .vmem, ⟨13, _⟩ => ⟨S512x128, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S1x1x128x512, .f32⟩
  | .local _ .vmem, ⟨19, _⟩ => ⟨S1x1x128x512, .f32⟩
  | .local _ .vmem, ⟨20, _⟩ => ⟨S1x1x512x512, .f32⟩
  | .local _ .vmem, ⟨21, _⟩ => ⟨S1x1x512x512, .f32⟩
  | .local _ .vmem, ⟨22, _⟩ => ⟨S1x128x512, .f32⟩
  | .local _ .vmem, ⟨23, _⟩ => ⟨S1x128x512, .f32⟩
  | .local _ .vmem, ⟨24, _⟩ => ⟨S1x128x512, .f32⟩
  | .local _ .vmem, ⟨25, _⟩ => ⟨S1x128x512, .f32⟩
  | .local _ .vmem, ⟨26, _⟩ => ⟨S1x64x512, .f32⟩
  | .local _ .vmem, ⟨27, _⟩ => ⟨S1x64x512, .f32⟩
  | .local _ .vmem, ⟨28, _⟩ => ⟨S1x512x512, .f32⟩
  | .local _ .vmem, ⟨29, _⟩ => ⟨S1x512x512, .f32⟩
  | .local _ .vmem, ⟨30, _⟩ => ⟨S2048x128, .f32⟩
  | .local _ .vmem, ⟨31, _⟩ => ⟨S2048x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38_0 : Ref sig .tc := ⟨.hbm, 69, rfl⟩
abbrev main_v38_1 : Ref sig .tc := ⟨.hbm, 70, rfl⟩
abbrev main_v38_2 : Ref sig .tc := ⟨.hbm, 71, rfl⟩
abbrev main_v38_3 : Ref sig .tc := ⟨.hbm, 72, rfl⟩
abbrev main_v38_4 : Ref sig .tc := ⟨.hbm, 73, rfl⟩
abbrev main_v38_5 : Ref sig .tc := ⟨.hbm, 74, rfl⟩
abbrev main_v38_6 : Ref sig .tc := ⟨.hbm, 75, rfl⟩
abbrev main_v38_7 : Ref sig .tc := ⟨.hbm, 76, rfl⟩
abbrev main_v38_8 : Ref sig .tc := ⟨.hbm, 77, rfl⟩
abbrev main_v38_9 : Ref sig .tc := ⟨.hbm, 78, rfl⟩
abbrev main_v38_10 : Ref sig .tc := ⟨.hbm, 79, rfl⟩
abbrev main_v38_11 : Ref sig .tc := ⟨.hbm, 80, rfl⟩
abbrev main_v38_12 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjReferenceIdeal.lean ====
abbrev S8x2048x1024 : Shape := ⟨3, ![8, 2048, 1024]⟩
abbrev S1x1024 : Shape := ⟨2, ![1, 1024]⟩
abbrev S1x1024x2628 : Shape := ⟨3, ![1, 1024, 2628]⟩
abbrev S1x64 : Shape := ⟨2, ![1, 64]⟩
abbrev S64 : Shape := ⟨1, ![64]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2628 : Shape := ⟨2, ![1024, 2628]⟩
abbrev S8x2048x2628 : Shape := ⟨3, ![8, 2048, 2628]⟩
abbrev S8x2048x512 : Shape := ⟨3, ![8, 2048, 512]⟩
abbrev S8x2048x128 : Shape := ⟨3, ![8, 2048, 128]⟩
abbrev S8x2048x256 : Shape := ⟨3, ![8, 2048, 256]⟩
abbrev S8x2048x64 : Shape := ⟨3, ![8, 2048, 64]⟩
abbrev S8x2048x4 : Shape := ⟨3, ![8, 2048, 4]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2048x4x64 : Shape := ⟨4, ![8, 2048, 4, 64]⟩
abbrev S8x2048x4x2x64 : Shape := ⟨5, ![8, 2048, 4, 2, 64]⟩
abbrev S8x2048x4x2 : Shape := ⟨4, ![8, 2048, 4, 2]⟩
abbrev S8x2048x4x2x1 : Shape := ⟨5, ![8, 2048, 4, 2, 1]⟩
abbrev S1x1x1x1x64 : Shape := ⟨5, ![1, 1, 1, 1, 64]⟩
abbrev S8x2048x4x128 : Shape := ⟨4, ![8, 2048, 4, 128]⟩
abbrev S1x8x2048x2x64 : Shape := ⟨5, ![1, 8, 2048, 2, 64]⟩
abbrev S1x8x2048x64 : Shape := ⟨4, ![1, 8, 2048, 64]⟩
abbrev S1x8x2048x4x2x64 : Shape := ⟨6, ![1, 8, 2048, 4, 2, 64]⟩
abbrev S1x8x2048x4x128 : Shape := ⟨5, ![1, 8, 2048, 4, 128]⟩

abbrev nBuf : Space → Nat
  | .hbm => 115
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2628, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S1024x2628, .f32⟩
  | .hbm, ⟨29, _⟩ => ⟨S8x2048x2628, .f32⟩
  | .hbm, ⟨30, _⟩ => ⟨S8x2048x512, .f32⟩
  | .hbm, ⟨31, _⟩ => ⟨S8x2048x128, .f32⟩
  | .hbm, ⟨32, _⟩ => ⟨S8x2048x128, .f32⟩
  | .hbm, ⟨33, _⟩ => ⟨S8x2048x256, .f32⟩
  | .hbm, ⟨34, _⟩ => ⟨S8x2048x64, .f32⟩
  | .hbm, ⟨35, _⟩ => ⟨S8x2048x4, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S8x2048x8x64, .f32⟩
  | .hbm, ⟨40, _⟩ => ⟨S8x2048x8x64, .f32⟩
  | .hbm, ⟨41, _⟩ => ⟨S_, .f32⟩
  | .hbm, ⟨42, _⟩ => ⟨S8x2048x8, .f32⟩
  | .hbm, ⟨43, _⟩ => ⟨S8x2048x8x1, .f32⟩
  | .hbm, ⟨44, _⟩ => ⟨S_, .f32⟩
  | .hbm, ⟨45, _⟩ => ⟨S8x2048x8x1, .f32⟩
  | .hbm, ⟨46, _⟩ => ⟨S8x2048x8x1, .f32⟩
  | .hbm, ⟨47, _⟩ => ⟨S_, .f32⟩
  | .hbm, ⟨48, _⟩ => ⟨S8x2048x8x1, .f32⟩
  | .hbm, ⟨49, _⟩ => ⟨S8x2048x8x1, .f32⟩
  | .hbm, ⟨50, _⟩ => ⟨S8x2048x8x1, .f32⟩
  | .hbm, ⟨51, _⟩ => ⟨S8x2048x8x64, .f32⟩
  | .hbm, ⟨52, _⟩ => ⟨S8x2048x8x64, .f32⟩
  | .hbm, ⟨53, _⟩ => ⟨S1x1x1x64, .f32⟩
  | .hbm, ⟨54, _⟩ => ⟨S8x2048x8x64, .f32⟩
  | .hbm, ⟨55, _⟩ => ⟨S8x2048x8x64, .f32⟩
  | .hbm, ⟨56, _⟩ => ⟨S8x2048x2x64, .f32⟩
  | .hbm, ⟨57, _⟩ => ⟨S8x2048x2x64, .f32⟩
  | .hbm, ⟨58, _⟩ => ⟨S_, .f32⟩
  | .hbm, ⟨59, _⟩ => ⟨S8x2048x2, .f32⟩
  | .hbm, ⟨60, _⟩ => ⟨S8x2048x2x1, .f32⟩
  | .hbm, ⟨61, _⟩ => ⟨S_, .f32⟩
  | .hbm, ⟨62, _⟩ => ⟨S8x2048x2x1, .f32⟩
  | .hbm, ⟨63, _⟩ => ⟨S8x2048x2x1, .f32⟩
  | .hbm, ⟨64, _⟩ => ⟨S_, .f32⟩
  | .hbm, ⟨65, _⟩ => ⟨S8x2048x2x1, .f32⟩
  | .hbm, ⟨66, _⟩ => ⟨S8x2048x2x1, .f32⟩
  | .hbm, ⟨67, _⟩ => ⟨S8x2048x2x1, .f32⟩
  | .hbm, ⟨68, _⟩ => ⟨S8x2048x2x64, .f32⟩
  | .hbm, ⟨69, _⟩ => ⟨S8x2048x2x64, .f32⟩
  | .hbm, ⟨70, _⟩ => ⟨S1x1x1x64, .f32⟩
  | .hbm, ⟨71, _⟩ => ⟨S8x2048x2x64, .f32⟩
  | .hbm, ⟨72, _⟩ => ⟨S8x2048x2x64, .f32⟩
  | .hbm, ⟨73, _⟩ => ⟨S8x2048x2x64, .f32⟩
  | .hbm, ⟨74, _⟩ => ⟨S8x2048x4x64, .f32⟩
  | .hbm, ⟨75, _⟩ => ⟨S8x2048x4x2x64, .f32⟩
  | .hbm, ⟨76, _⟩ => ⟨S8x2048x4x2x64, .f32⟩
  | .hbm, ⟨77, _⟩ => ⟨S_, .f32⟩
  | .hbm, ⟨78, _⟩ => ⟨S8x2048x4x2, .f32⟩
  | .hbm, ⟨79, _⟩ => ⟨S8x2048x4x2x1, .f32⟩
  | .hbm, ⟨80, _⟩ => ⟨S_, .f32⟩
  | .hbm, ⟨81, _⟩ => ⟨S8x2048x4x2x1, .f32⟩
  | .hbm, ⟨82, _⟩ => ⟨S8x2048x4x2x1, .f32⟩
  | .hbm, ⟨83, _⟩ => ⟨S_, .f32⟩
  | .hbm, ⟨84, _⟩ => ⟨S8x2048x4x2x1, .f32⟩
  | .hbm, ⟨85, _⟩ => ⟨S8x2048x4x2x1, .f32⟩
  | .hbm, ⟨86, _⟩ => ⟨S8x2048x4x2x1, .f32⟩
  | .hbm, ⟨87, _⟩ => ⟨S8x2048x4x2x64, .f32⟩
  | .hbm, ⟨88, _⟩ => ⟨S8x2048x4x2x64, .f32⟩
  | .hbm, ⟨89, _⟩ => ⟨S1x1x1x1x64, .f32⟩
  | .hbm, ⟨90, _⟩ => ⟨S8x2048x4x2x64, .f32⟩
  | .hbm, ⟨91, _⟩ => ⟨S8x2048x4x2x64, .f32⟩
  | .hbm, ⟨92, _⟩ => ⟨S8x2048x4x2x64, .f32⟩
  | .hbm, ⟨93, _⟩ => ⟨S8x2048x4x2x64, .f32⟩
  | .hbm, ⟨94, _⟩ => ⟨S_, .f32⟩
  | .hbm, ⟨95, _⟩ => ⟨S8x2048x4x2, .f32⟩
  | .hbm, ⟨96, _⟩ => ⟨S8x2048x4x2x1, .f32⟩
  | .hbm, ⟨97, _⟩ => ⟨S_, .f32⟩
  | .hbm, ⟨98, _⟩ => ⟨S8x2048x4x2x1, .f32⟩
  | .hbm, ⟨99, _⟩ => ⟨S8x2048x4x2x1, .f32⟩
  | .hbm, ⟨100, _⟩ => ⟨S_, .f32⟩
  | .hbm, ⟨101, _⟩ => ⟨S8x2048x4x2x1, .f32⟩
  | .hbm, ⟨102, _⟩ => ⟨S8x2048x4x2x1, .f32⟩
  | .hbm, ⟨103, _⟩ => ⟨S8x2048x4x2x1, .f32⟩
  | .hbm, ⟨104, _⟩ => ⟨S8x2048x4x2x64, .f32⟩
  | .hbm, ⟨105, _⟩ => ⟨S8x2048x4x2x64, .f32⟩
  | .hbm, ⟨106, _⟩ => ⟨S1x1x1x1x64, .f32⟩
  | .hbm, ⟨107, _⟩ => ⟨S8x2048x4x2x64, .f32⟩
  | .hbm, ⟨108, _⟩ => ⟨S8x2048x4x2x64, .f32⟩
  | .hbm, ⟨109, _⟩ => ⟨S8x2048x4x128, .f32⟩
  | .hbm, ⟨110, _⟩ => ⟨S1x8x2048x2x64, .f32⟩
  | .hbm, ⟨111, _⟩ => ⟨S1x8x2048x2x64, .f32⟩
  | .hbm, ⟨112, _⟩ => ⟨S1x8x2048x64, .f32⟩
  | .hbm, ⟨113, _⟩ => ⟨S1x8x2048x4x2x64, .f32⟩
  | .hbm, ⟨114, _⟩ => ⟨S1x8x2048x4x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_cst_12 : Ref sig .tc := ⟨.hbm, 97, rfl⟩
abbrev main_v77 : Ref sig .tc := ⟨.hbm, 98, rfl⟩
abbrev main_v78 : Ref sig .tc := ⟨.hbm, 99, rfl⟩
abbrev main_cst_13 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩

abbrev nD : Nat := 1
abbrev τ : Topo := Topo.v7x

variable {F : FTy → Type} [FloatOps F]
-- ==== MemKv.lean ====
abbrev S8x256x1024 : Shape := ⟨3, ![8, 256, 1024]⟩
abbrev S1x1024 : Shape := ⟨2, ![1, 1024]⟩
abbrev S1x1024x1024 : Shape := ⟨3, ![1, 1024, 1024]⟩
abbrev S1x128 : Shape := ⟨2, ![1, 128]⟩
abbrev S1024x1024 : Shape := ⟨2, ![1024, 1024]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S128 : Shape := ⟨1, ![128]⟩
abbrev S4x128 : Shape := ⟨2, ![4, 128]⟩
abbrev S1024 : Shape := ⟨1, ![1024]⟩
abbrev S2048x1024 : Shape := ⟨2, ![2048, 1024]⟩
abbrev S8192x128 : Shape := ⟨2, ![8192, 128]⟩
abbrev S256x1024 : Shape := ⟨2, ![256, 1024]⟩
abbrev S1024x128 : Shape := ⟨2, ![1024, 128]⟩
abbrev S256 : Shape := ⟨1, ![256]⟩
abbrev S256x1 : Shape := ⟨2, ![256, 1]⟩
abbrev S256x512 : Shape := ⟨2, ![256, 512]⟩
abbrev S128x128 : Shape := ⟨2, ![128, 128]⟩
abbrev S256x128 : Shape := ⟨2, ![256, 128]⟩
abbrev S1x8x256x4x128 : Shape := ⟨5, ![1, 8, 256, 4, 128]⟩

abbrev nBuf : Space → Nat
  | .hbm => 51
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024x1024, .f32⟩
  | .hbm, ⟨5, _⟩ => ⟨S1024x1024, .bf16⟩
  | .hbm, ⟨6, _⟩ => ⟨S512, .i32⟩
  | .hbm, ⟨7, _⟩ => ⟨S_, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S1x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S_, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .bf16⟩
  | .hbm, ⟨36, _⟩ => ⟨S128, .f32⟩
  | .hbm, ⟨37, _⟩ => ⟨S1x128, .f32⟩
  | .hbm, ⟨38, _⟩ => ⟨S4x128, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S1024, .f32⟩
  | .hbm, ⟨46, _⟩ => ⟨S1x1024, .f32⟩
  | .hbm, ⟨47, _⟩ => ⟨S8192x128, .f32⟩
  | .hbm, ⟨48, _⟩ => ⟨S8192x128, .f32⟩
  | .hbm, ⟨49, _⟩ => ⟨S1x8x256x4x128, .f32⟩
  | .hbm, ⟨50, _⟩ => ⟨S1x8x256x4x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .bf16⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21_0 : Ref sig .tc := ⟨.hbm, 47, rfl⟩
abbrev main_v21_1 : Ref sig .tc := ⟨.hbm, 48, rfl⟩
abbrev main_v22 : Ref sig .tc := ⟨.hbm, 49, rfl⟩
abbrev main_v23 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemKvReferenceIdeal.lean ====
abbrev S8x256x1024 : Shape := ⟨3, ![8, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S1024x1024 : Shape := ⟨2, ![1024, 1024]⟩
abbrev S128 : Shape := ⟨1, ![128]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S1x1x1x128 : Shape := ⟨4, ![1, 1, 1, 128]⟩
abbrev S1x8x256x4x128 : Shape := ⟨5, ![1, 8, 256, 4, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024, .f32⟩
  | .hbm, ⟨5, _⟩ => ⟨S1024x1024, .f32⟩
  | .hbm, ⟨6, _⟩ => ⟨S128, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S1x1x1024, .f32⟩
  | .hbm, ⟨21, _⟩ => ⟨S8x256x1024, .f32⟩
  | .hbm, ⟨22, _⟩ => ⟨S8x256x1024, .f32⟩
  | .hbm, ⟨23, _⟩ => ⟨S8x256x1024, .f32⟩
  | .hbm, ⟨24, _⟩ => ⟨S8x256x512, .f32⟩
  | .hbm, ⟨25, _⟩ => ⟨S8x256x512, .f32⟩
  | .hbm, ⟨26, _⟩ => ⟨S8x256x4x128, .f32⟩
  | .hbm, ⟨27, _⟩ => ⟨S8x256x4x128, .f32⟩
  | .hbm, ⟨28, _⟩ => ⟨S_, .f32⟩
  | .hbm, ⟨29, _⟩ => ⟨S8x256x4, .f32⟩
  | .hbm, ⟨30, _⟩ => ⟨S8x256x4x1, .f32⟩
  | .hbm, ⟨31, _⟩ => ⟨S_, .f32⟩
  | .hbm, ⟨32, _⟩ => ⟨S8x256x4x1, .f32⟩
  | .hbm, ⟨33, _⟩ => ⟨S8x256x4x1, .f32⟩
  | .hbm, ⟨34, _⟩ => ⟨S_, .f32⟩
  | .hbm, ⟨35, _⟩ => ⟨S8x256x4x1, .f32⟩
  | .hbm, ⟨36, _⟩ => ⟨S8x256x4x1, .f32⟩
  | .hbm, ⟨37, _⟩ => ⟨S8x256x4x1, .f32⟩
  | .hbm, ⟨38, _⟩ => ⟨S8x256x4x128, .f32⟩
  | .hbm, ⟨39, _⟩ => ⟨S8x256x4x128, .f32⟩
  | .hbm, ⟨40, _⟩ => ⟨S1x1x1x128, .f32⟩
  | .hbm, ⟨41, _⟩ => ⟨S8x256x4x128, .f32⟩
  | .hbm, ⟨42, _⟩ => ⟨S8x256x4x128, .f32⟩
  | .hbm, ⟨43, _⟩ => ⟨S8x256x4x128, .f32⟩
  | .hbm, ⟨44, _⟩ => ⟨S1x8x256x4x128, .f32⟩
  | .hbm, ⟨45, _⟩ => ⟨S1x8x256x4x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== ProjSample.lean ====
abbrev S32x4x1024 : Shape := ⟨3, ![32, 4, 1024]⟩
abbrev S1x1024 : Shape := ⟨2, ![1, 1024]⟩
abbrev S1x1024x2628 : Shape := ⟨3, ![1, 1024, 2628]⟩
abbrev S1x64 : Shape := ⟨2, ![1, 64]⟩
abbrev S1024x2628 : Shape := ⟨2, ![1024, 2628]⟩
abbrev S64 : Shape := ⟨1, ![64]⟩
abbrev S1024x1092 : Shape := ⟨2, ![1024, 1092]⟩
abbrev S_ : Shape := ⟨0, ![]⟩
abbrev S1024x60 : Shape := ⟨2, ![1024, 60]⟩
abbrev S1024x1536 : Shape := ⟨2, ![1024, 1536]⟩
abbrev S1024x2688 : Shape := ⟨2, ![1024, 2688]⟩
abbrev S8x64 : Shape := ⟨2, ![8, 64]⟩
abbrev S512 : Shape := ⟨1, ![512]⟩
abbrev S2x64 : Shape := ⟨2, ![2, 64]⟩
abbrev S128 : Shape := ⟨1, ![128]⟩
abbrev S2688 : Shape := ⟨1, ![2688]⟩
abbrev S1x2688 : Shape := ⟨2, ![1, 2688]⟩
abbrev S512x1 : Shape := ⟨2, ![512, 1]⟩
abbrev S1x512 : Shape := ⟨2, ![1, 512]⟩
abbrev S512x512 : Shape := ⟨2, ![512, 512]⟩
abbrev S1024 : Shape := ⟨1, ![1024]⟩
abbrev S32x8x1024 : Shape := ⟨3, ![32, 8, 1024]⟩
abbrev S256x1024 : Shape := ⟨2, ![256, 1024]⟩
abbrev S256x512 : Shape := ⟨2, ![256, 512]⟩
abbrev S256x128 : Shape := ⟨2, ![256, 128]⟩
abbrev S256x256 : Shape := ⟨2, ![256, 256]⟩
abbrev S256x64 : Shape := ⟨2, ![256, 64]⟩
abbrev S256 : Shape := ⟨1, ![256]⟩
abbrev S256x1 : Shape := ⟨2, ![256, 1]⟩
abbrev S256x2688 : Shape := ⟨2, ![256, 2688]⟩
abbrev S128x128 : Shape := ⟨2, ![128, 128]⟩
abbrev S1x128 : Shape := ⟨2, ![1, 128]⟩
abbrev S32x8x128 : Shape := ⟨3, ![32, 8, 128]⟩
abbrev S32x4x128 : Shape := ⟨3, ![32, 4, 128]⟩
abbrev S1x32x4x2x64 : Shape := ⟨5, ![1, 32, 4, 2, 64]⟩
abbrev S32x8x64 : Shape := ⟨3, ![32, 8, 64]⟩
abbrev S32x4x64 : Shape := ⟨3, ![32, 4, 64]⟩
abbrev S1x32x4x64 : Shape := ⟨4, ![1, 32, 4, 64]⟩
abbrev S32x8x512 : Shape := ⟨3, ![32, 8, 512]⟩
abbrev S32x4x512 : Shape := ⟨3, ![32, 4, 512]⟩
abbrev S1x32x4x4x2x64 : Shape := ⟨6, ![1, 32, 4, 4, 2, 64]⟩
abbrev S1x32x4x4x128 : Shape := ⟨5, ![1, 32, 4, 4, 128]⟩

abbrev nBuf : Space → Nat
  | .hbm => 96
  | .vmem => 14
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x2628, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1024x2628, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1024x1092, .f32⟩
  | .hbm, ⟨13, _⟩ => ⟨S_, .f32⟩
  | .hbm, ⟨14, _⟩ => ⟨S1024x60, .f32⟩
  | .hbm, ⟨15, _⟩ => ⟨S1024x1536, .f32⟩
  | .hbm, ⟨16, _⟩ => ⟨S1024x2688, .f32⟩
  | .hbm, ⟨17, _⟩ => ⟨S1024x2688, .bf16⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x64, .f32⟩
  | .hbm, ⟨22, _⟩ => ⟨S2x64, .f32⟩
  | .hbm, ⟨23, _⟩ => ⟨S128, .f32⟩
  | .hbm, ⟨24, _⟩ => ⟨S_, .f32⟩
  | .hbm, ⟨25, _⟩ => ⟨S512, .f32⟩
  | .hbm, ⟨26, _⟩ => ⟨S1x64, .f32⟩
  | .hbm, ⟨27, _⟩ => ⟨S8x64, .f32⟩
  | .hbm, ⟨28, _⟩ => ⟨S512, .f32⟩
  | .hbm, ⟨29, _⟩ => ⟨S1x64, .f32⟩
  | .hbm, ⟨30, _⟩ => ⟨S8x64, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S2688, .f32⟩
  | .hbm, ⟨35, _⟩ => ⟨S1x2688, .f32⟩
  | .hbm, ⟨36, _⟩ => ⟨S512, .i32⟩
  | .hbm, ⟨37, _⟩ => ⟨S_, .i32⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S512, .i32⟩
  | .hbm, ⟨46, _⟩ => ⟨S512, .i32⟩
  | .hbm, ⟨47, _⟩ => ⟨S_, .i32⟩
  | .hbm, ⟨48, _⟩ => ⟨S512, .i32⟩
  | .hbm, ⟨49, _⟩ => ⟨S512, .i1⟩
  | .hbm, ⟨50, _⟩ => ⟨S512, .i1⟩
  | .hbm, ⟨51, _⟩ => ⟨S_, .i32⟩
  | .hbm, ⟨52, _⟩ => ⟨S512, .i32⟩
  | .hbm, ⟨53, _⟩ => ⟨S512, .i32⟩
  | .hbm, ⟨54, _⟩ => ⟨S512, .i32⟩
  | .hbm, ⟨55, _⟩ => ⟨S512x1, .i32⟩
  | .hbm, ⟨56, _⟩ => ⟨S1x512, .i32⟩
  | .hbm, ⟨57, _⟩ => ⟨S512x512, .i32⟩
  | .hbm, ⟨58, _⟩ => ⟨S512x512, .i32⟩
  | .hbm, ⟨59, _⟩ => ⟨S512x512, .i1⟩
  | .hbm, ⟨60, _⟩ => ⟨S_, .f32⟩
  | .hbm, ⟨61, _⟩ => ⟨S_, .f32⟩
  | .hbm, ⟨62, _⟩ => ⟨S512x512, .f32⟩
  | .hbm, ⟨63, _⟩ => ⟨S512x512, .f32⟩
  | .hbm, ⟨64, _⟩ => ⟨S512x512, .f32⟩
  | .hbm, ⟨65, _⟩ => ⟨S512x512, .bf16⟩
  | .hbm, ⟨66, _⟩ => ⟨S1024, .f32⟩
  | .hbm, ⟨67, _⟩ => ⟨S1x1024, .f32⟩
  | .hbm, ⟨68, _⟩ => ⟨S_, .i32⟩
  | .hbm, ⟨69, _⟩ => ⟨S_, .f32⟩
  | .hbm, ⟨70, _⟩ => ⟨S32x8x1024, .f32⟩
  | .hbm, ⟨71, _⟩ => ⟨S256x1024, .f32⟩
  | .hbm, ⟨72, _⟩ => ⟨S256x512, .f32⟩
  | .hbm, ⟨73, _⟩ => ⟨S256x128, .f32⟩
  | .hbm, ⟨74, _⟩ => ⟨S256x128, .f32⟩
  | .hbm, ⟨75, _⟩ => ⟨S256x256, .f32⟩
  | .hbm, ⟨76, _⟩ => ⟨S256x128, .f32⟩
  | .hbm, ⟨77, _⟩ => ⟨S256x64, .f32⟩
  | .hbm, ⟨78, _⟩ => ⟨S256x512, .f32⟩
  | .hbm, ⟨79, _⟩ => ⟨S256x512, .f32⟩
  | .hbm, ⟨80, _⟩ => ⟨S256x512, .f32⟩
  | .hbm, ⟨81, _⟩ => ⟨S32x8x128, .f32⟩
  | .hbm, ⟨82, _⟩ => ⟨S32x4x128, .f32⟩
  | .hbm, ⟨83, _⟩ => ⟨S1x32x4x2x64, .f32⟩
  | .hbm, ⟨84, _⟩ => ⟨S32x8x128, .f32⟩
  | .hbm, ⟨85, _⟩ => ⟨S32x4x128, .f32⟩
  | .hbm, ⟨86, _⟩ => ⟨S1x32x4x2x64, .f32⟩
  | .hbm, ⟨87, _⟩ => ⟨S32x8x64, .f32⟩
  | .hbm, ⟨88, _⟩ => ⟨S32x4x64, .f32⟩
  | .hbm, ⟨89, _⟩ => ⟨S1x32x4x64, .f32⟩
  | .hbm, ⟨90, _⟩ => ⟨S32x8x512, .f32⟩
  | .hbm, ⟨91, _⟩ => ⟨S32x4x512, .f32⟩
  | .hbm, ⟨92, _⟩ => ⟨S1x32x4x4x2x64, .f32⟩
  | .hbm, ⟨93, _⟩ => ⟨S32x8x512, .f32⟩
  | .hbm, ⟨94, _⟩ => ⟨S32x4x512, .f32⟩
  | .hbm, ⟨95, _⟩ => ⟨S1x32x4x4x128, .f32⟩
  | .local _ .vmem, ⟨0, _⟩ => ⟨S256x1024, .f32⟩
  | .local _ .vmem, ⟨1, _⟩ => ⟨S1x1024, .f32⟩
  | .local _ .vmem, ⟨2, _⟩ => ⟨S1024x2688, .bf16⟩
  | .local _ .vmem, ⟨3, _⟩ => ⟨S512x512, .bf16⟩
  | .local _ .vmem, ⟨4, _⟩ => ⟨S1x2688, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S256x256, .f32⟩
  | .local _ .vmem, ⟨9, _⟩ => ⟨S256x128, .f32⟩
  | .local _ .vmem, ⟨10, _⟩ => ⟨S256x64, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_4 : Ref sig .tc := ⟨.hbm, 68, rfl⟩
abbrev main_call2_v0 : Ref sig .tc := ⟨.hbm, 69, rfl⟩
abbrev main_v37 : Ref sig .tc := ⟨.hbm, 70, rfl⟩
abbrev main_v38 : Ref sig .tc := ⟨.hbm, 71, rfl⟩
abbrev main_v39_0 : Ref sig .tc := ⟨.hbm, 72, rfl⟩
abbrev main_v39_1 : Ref sig .tc := ⟨.hbm, 73, rfl⟩
abbrev main_v39_2 : Ref sig .tc := ⟨.hbm, 74, rfl⟩
abbrev main_v39_3 : Ref sig .tc := ⟨.hbm, 75, rfl⟩
abbrev main_v39_4 : Ref sig .tc := ⟨.hbm, 76, rfl⟩
abbrev main_v39_5 : Ref sig .tc := ⟨.hbm, 77, rfl⟩
abbrev main_v39_6 : Ref sig .tc := ⟨.hbm, 78, rfl⟩
abbrev main_v39_7 : Ref sig .tc := ⟨.hbm, 79, rfl⟩
abbrev main_v39_8 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== ProjSampleReferenceIdeal.lean ====
abbrev S32x4x1024 : Shape := ⟨3, ![32, 4, 1024]⟩
abbrev S1x1024 : Shape := ⟨2, ![1, 1024]⟩
abbrev S1x1024x2628 : Shape := ⟨3, ![1, 1024, 2628]⟩
abbrev S1x64 : Shape := ⟨2, ![1, 64]⟩
abbrev S64 : Shape := ⟨1, ![64]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x2628 : Shape := ⟨2, ![1024, 2628]⟩
abbrev S32x4x2628 : Shape := ⟨3, ![32, 4, 2628]⟩
abbrev S32x4x512 : Shape := ⟨3, ![32, 4, 512]⟩
abbrev S32x4x128 : Shape := ⟨3, ![32, 4, 128]⟩
abbrev S32x4x256 : Shape := ⟨3, ![32, 4, 256]⟩
abbrev S32x4x64 : Shape := ⟨3, ![32, 4, 64]⟩
abbrev S32x4x4 : Shape := ⟨3, ![32, 4, 4]⟩
abbrev S32x4x8x64 : Shape := ⟨4, ![32, 4, 8, 64]⟩
abbrev S32x4x8 : Shape := ⟨3, ![32, 4, 8]⟩
abbrev S32x4x8x1 : Shape := ⟨4, ![32, 4, 8, 1]⟩
abbrev S1x1x1x64 : Shape := ⟨4, ![1, 1, 1, 64]⟩
abbrev S32x4x2x64 : Shape := ⟨4, ![32, 4, 2, 64]⟩
abbrev S32x4x2 : Shape := ⟨3, ![32, 4, 2]⟩
abbrev S32x4x2x1 : Shape := ⟨4, ![32, 4, 2, 1]⟩
abbrev S32x4x4x64 : Shape := ⟨4, ![32, 4, 4, 64]⟩
abbrev S32x4x4x2x64 : Shape := ⟨5, ![32, 4, 4, 2, 64]⟩
abbrev S32x4x4x2 : Shape := ⟨4, ![32, 4, 4, 2]⟩
abbrev S32x4x4x2x1 : Shape := ⟨5, ![32, 4, 4, 2, 1]⟩
abbrev S1x1x1x1x64 : Shape := ⟨5, ![1, 1, 1, 1, 64]⟩
abbrev S32x4x4x128 : Shape := ⟨4, ![32, 4, 4, 128]⟩
abbrev S1x32x4x2x64 : Shape := ⟨5, ![1, 32, 4, 2, 64]⟩
abbrev S1x32x4x64 : Shape := ⟨4, ![1, 32, 4, 64]⟩
abbrev S1x32x4x4x2x64 : Shape := ⟨6, ![1, 32, 4, 4, 2, 64]⟩
abbrev S1x32x4x4x128 : Shape := ⟨5, ![1, 32, 4, 4, 128]⟩

abbrev nBuf : Space → Nat
  | .hbm => 115
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x2628, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1024, .f32⟩
  | .hbm, ⟨12, _⟩ => ⟨S32x4x1024, .f32⟩
  | .hbm, ⟨13, _⟩ => ⟨S_, .f32⟩
  | .hbm, ⟨14, _⟩ => ⟨S32x4, .f32⟩
  | .hbm, ⟨15, _⟩ => ⟨S32x4x1, .f32⟩
  | .hbm, ⟨16, _⟩ => ⟨S_, .f32⟩
  | .hbm, ⟨17, _⟩ => ⟨S32x4x1, .f32⟩
  | .hbm, ⟨18, _⟩ => ⟨S32x4x1, .f32⟩
  | .hbm, ⟨19, _⟩ => ⟨S_, .f32⟩
  | .hbm, ⟨20, _⟩ => ⟨S32x4x1, .f32⟩
  | .hbm, ⟨21, _⟩ => ⟨S32x4x1, .f32⟩
  | .hbm, ⟨22, _⟩ => ⟨S32x4x1, .f32⟩
  | .hbm, ⟨23, _⟩ => ⟨S32x4x1024, .f32⟩
  | .hbm, ⟨24, _⟩ => ⟨S32x4x1024, .f32⟩
  | .hbm, ⟨25, _⟩ => ⟨S1x1x1024, .f32⟩
  | .hbm, ⟨26, _⟩ => ⟨S32x4x1024, .f32⟩
  | .hbm, ⟨27, _⟩ => ⟨S32x4x1024, .f32⟩
  | .hbm, ⟨28, _⟩ => ⟨S1024x2628, .f32⟩
  | .hbm, ⟨29, _⟩ => ⟨S32x4x2628, .f32⟩
  | .hbm, ⟨30, _⟩ => ⟨S32x4x512, .f32⟩
  | .hbm, ⟨31, _⟩ => ⟨S32x4x128, .f32⟩
  | .hbm, ⟨32, _⟩ => ⟨S32x4x128, .f32⟩
  | .hbm, ⟨33, _⟩ => ⟨S32x4x256, .f32⟩
  | .hbm, ⟨34, _⟩ => ⟨S32x4x64, .f32⟩
  | .hbm, ⟨35, _⟩ => ⟨S32x4x4, .f32⟩
  | .hbm, ⟨36, _⟩ => ⟨S32x4x512, .f32⟩
  | .hbm, ⟨37, _⟩ => ⟨S32x4x512, .f32⟩
  | .hbm, ⟨38, _⟩ => ⟨S32x4x512, .f32⟩
  | .hbm, ⟨39, _⟩ => ⟨S32x4x8x64, .f32⟩
  | .hbm, ⟨40, _⟩ => ⟨S32x4x8x64, .f32⟩
  | .hbm, ⟨41, _⟩ => ⟨S_, .f32⟩
  | .hbm, ⟨42, _⟩ => ⟨S32x4x8, .f32⟩
  | .hbm, ⟨43, _⟩ => ⟨S32x4x8x1, .f32⟩
  | .hbm, ⟨44, _⟩ => ⟨S_, .f32⟩
  | .hbm, ⟨45, _⟩ => ⟨S32x4x8x1, .f32⟩
  | .hbm, ⟨46, _⟩ => ⟨S32x4x8x1, .f32⟩
  | .hbm, ⟨47, _⟩ => ⟨S_, .f32⟩
  | .hbm, ⟨48, _⟩ => ⟨S32x4x8x1, .f32⟩
  | .hbm, ⟨49, _⟩ => ⟨S32x4x8x1, .f32⟩
  | .hbm, ⟨50, _⟩ => ⟨S32x4x8x1, .f32⟩
  | .hbm, ⟨51, _⟩ => ⟨S32x4x8x64, .f32⟩
  | .hbm, ⟨52, _⟩ => ⟨S32x4x8x64, .f32⟩
  | .hbm, ⟨53, _⟩ => ⟨S1x1x1x64, .f32⟩
  | .hbm, ⟨54, _⟩ => ⟨S32x4x8x64, .f32⟩
  | .hbm, ⟨55, _⟩ => ⟨S32x4x8x64, .f32⟩
  | .hbm, ⟨56, _⟩ => ⟨S32x4x2x64, .f32⟩
  | .hbm, ⟨57, _⟩ => ⟨S32x4x2x64, .f32⟩
  | .hbm, ⟨58, _⟩ => ⟨S_, .f32⟩
  | .hbm, ⟨59, _⟩ => ⟨S32x4x2, .f32⟩
  | .hbm, ⟨60, _⟩ => ⟨S32x4x2x1, .f32⟩
  | .hbm, ⟨61, _⟩ => ⟨S_, .f32⟩
  | .hbm, ⟨62, _⟩ => ⟨S32x4x2x1, .f32⟩
  | .hbm, ⟨63, _⟩ => ⟨S32x4x2x1, .f32⟩
  | .hbm, ⟨64, _⟩ => ⟨S_, .f32⟩
  | .hbm, ⟨65, _⟩ => ⟨S32x4x2x1, .f32⟩
  | .hbm, ⟨66, _⟩ => ⟨S32x4x2x1, .f32⟩
  | .hbm, ⟨67, _⟩ => ⟨S32x4x2x1, .f32⟩
  | .hbm, ⟨68, _⟩ => ⟨S32x4x2x64, .f32⟩
  | .hbm, ⟨69, _⟩ => ⟨S32x4x2x64, .f32⟩
  | .hbm, ⟨70, _⟩ => ⟨S1x1x1x64, .f32⟩
  | .hbm, ⟨71, _⟩ => ⟨S32x4x2x64, .f32⟩
  | .hbm, ⟨72, _⟩ => ⟨S32x4x2x64, .f32⟩
  | .hbm, ⟨73, _⟩ => ⟨S32x4x2x64, .f32⟩
  | .hbm, ⟨74, _⟩ => ⟨S32x4x4x64, .f32⟩
  | .hbm, ⟨75, _⟩ => ⟨S32x4x4x2x64, .f32⟩
  | .hbm, ⟨76, _⟩ => ⟨S32x4x4x2x64, .f32⟩
  | .hbm, ⟨77, _⟩ => ⟨S_, .f32⟩
  | .hbm, ⟨78, _⟩ => ⟨S32x4x4x2, .f32⟩
  | .hbm, ⟨79, _⟩ => ⟨S32x4x4x2x1, .f32⟩
  | .hbm, ⟨80, _⟩ => ⟨S_, .f32⟩
  | .hbm, ⟨81, _⟩ => ⟨S32x4x4x2x1, .f32⟩
  | .hbm, ⟨82, _⟩ => ⟨S32x4x4x2x1, .f32⟩
  | .hbm, ⟨83, _⟩ => ⟨S_, .f32⟩
  | .hbm, ⟨84, _⟩ => ⟨S32x4x4x2x1, .f32⟩
  | .hbm, ⟨85, _⟩ => ⟨S32x4x4x2x1, .f32⟩
  | .hbm, ⟨86, _⟩ => ⟨S32x4x4x2x1, .f32⟩
  | .hbm, ⟨87, _⟩ => ⟨S32x4x4x2x64, .f32⟩
  | .hbm, ⟨88, _⟩ => ⟨S32x4x4x2x64, .f32⟩
  | .hbm, ⟨89, _⟩ => ⟨S1x1x1x1x64, .f32⟩
  | .hbm, ⟨90, _⟩ => ⟨S32x4x4x2x64, .f32⟩
  | .hbm, ⟨91, _⟩ => ⟨S32x4x4x2x64, .f32⟩
  | .hbm, ⟨92, _⟩ => ⟨S32x4x4x2x64, .f32⟩
  | .hbm, ⟨93, _⟩ => ⟨S32x4x4x2x64, .f32⟩
  | .hbm, ⟨94, _⟩ => ⟨S_, .f32⟩
  | .hbm, ⟨95, _⟩ => ⟨S32x4x4x2, .f32⟩
  | .hbm, ⟨96, _⟩ => ⟨S32x4x4x2x1, .f32⟩
  | .hbm, ⟨97, _⟩ => ⟨S_, .f32⟩
  | .hbm, ⟨98, _⟩ => ⟨S32x4x4x2x1, .f32⟩
  | .hbm, ⟨99, _⟩ => ⟨S32x4x4x2x1, .f32⟩
  | .hbm, ⟨100, _⟩ => ⟨S_, .f32⟩
  | .hbm, ⟨101, _⟩ => ⟨S32x4x4x2x1, .f32⟩
  | .hbm, ⟨102, _⟩ => ⟨S32x4x4x2x1, .f32⟩
  | .hbm, ⟨103, _⟩ => ⟨S32x4x4x2x1, .f32⟩
  | .hbm, ⟨104, _⟩ => ⟨S32x4x4x2x64, .f32⟩
  | .hbm, ⟨105, _⟩ => ⟨S32x4x4x2x64, .f32⟩
  | .hbm, ⟨106, _⟩ => ⟨S1x1x1x1x64, .f32⟩
  | .hbm, ⟨107, _⟩ => ⟨S32x4x4x2x64, .f32⟩
  | .hbm, ⟨108, _⟩ => ⟨S32x4x4x2x64, .f32⟩
  | .hbm, ⟨109, _⟩ => ⟨S32x4x4x128, .f32⟩
  | .hbm, ⟨110, _⟩ => ⟨S1x32x4x2x64, .f32⟩
  | .hbm, ⟨111, _⟩ => ⟨S1x32x4x2x64, .f32⟩
  | .hbm, ⟨112, _⟩ => ⟨S1x32x4x64, .f32⟩
  | .hbm, ⟨113, _⟩ => ⟨S1x32x4x4x2x64, .f32⟩
  | .hbm, ⟨114, _⟩ => ⟨S1x32x4x4x128, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_cst_12 : Ref sig .tc := ⟨.hbm, 97, rfl⟩
abbrev main_v77 : Ref sig .tc := ⟨.hbm, 98, rfl⟩
abbrev main_v78 : Ref sig .tc := ⟨.hbm, 99, rfl⟩
abbrev main_cst_13 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩

abbrev nD : Nat := 1
abbrev τ : Topo := Topo.v7x

variable {F : FTy → Type} [FloatOps F]
-- ==== FfnSample.lean ====
abbrev S32x4x1024 : Shape := ⟨3, ![32, 4, 1024]⟩
abbrev S1x32x2x2816 : Shape := ⟨4, ![1, 32, 2, 2816]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S_ : Shape := ⟨0, ![]⟩
abbrev S32x8x1024 : Shape := ⟨3, ![32, 8, 1024]⟩
abbrev S1024x2816 : Shape := ⟨2, ![1024, 2816]⟩
abbrev S2816x1024 : Shape := ⟨2, ![2816, 1024]⟩
abbrev S1024 : Shape := ⟨1, ![1024]⟩
abbrev S3x2816 : Shape := ⟨2, ![3, 2816]⟩
abbrev S2816 : Shape := ⟨1, ![2816]⟩
abbrev S32x2x2816 : Shape := ⟨3, ![32, 2, 2816]⟩
abbrev S32x1x2816 : Shape := ⟨3, ![32, 1, 2816]⟩
abbrev S32x8x2816 : Shape := ⟨3, ![32, 8, 2816]⟩
abbrev S256x2816 : Shape := ⟨2, ![256, 2816]⟩
abbrev S256x1024 : Shape := ⟨2, ![256, 1024]⟩
abbrev S256x1 : Shape := ⟨2, ![256, 1]⟩
abbrev S256 : Shape := ⟨1, ![256]⟩

abbrev nBuf : Space → Nat
  | .hbm => 40
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S1x32x2x2816, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S_, .i32⟩
  | .hbm, ⟨9, _⟩ => ⟨S_, .f32⟩
  | .hbm, ⟨10, _⟩ => ⟨S32x8x1024, .f32⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .f32⟩
  | .hbm, ⟨16, _⟩ => ⟨S2816x1024, .bf16⟩
  | .hbm, ⟨17, _⟩ => ⟨S1024, .f32⟩
  | .hbm, ⟨18, _⟩ => ⟨S1x1024, .f32⟩
  | .hbm, ⟨19, _⟩ => ⟨S3x2816, .f32⟩
  | .hbm, ⟨20, _⟩ => ⟨S2816, .f32⟩
  | .hbm, ⟨21, _⟩ => ⟨S1x2816, .f32⟩
  | .hbm, ⟨22, _⟩ => ⟨S32x2x2816, .f32⟩
  | .hbm, ⟨23, _⟩ => ⟨S32x1x2816, .f32⟩
  | .hbm, ⟨24, _⟩ => ⟨S_, .i32⟩
  | .hbm, ⟨25, _⟩ => ⟨S_, .f32⟩
  | .hbm, ⟨26, _⟩ => ⟨S32x8x2816, .f32⟩
  | .hbm, ⟨27, _⟩ => ⟨S256x2816, .f32⟩
  | .hbm, ⟨28, _⟩ => ⟨S_, .i32⟩
  | .hbm, ⟨29, _⟩ => ⟨S_, .f32⟩
  | .hbm, ⟨30, _⟩ => ⟨S32x8x2816, .f32⟩
  | .hbm, ⟨31, _⟩ => ⟨S256x2816, .f32⟩
  | .hbm, ⟨32, _⟩ => ⟨S256x1024, .f32⟩
  | .hbm, ⟨33, _⟩ => ⟨S256x1024, .f32⟩
  | .hbm, ⟨34, _⟩ => ⟨S256x2816, .f32⟩
  | .hbm, ⟨35, _⟩ => ⟨S32x8x1024, .f32⟩
  | .hbm, ⟨36, _⟩ => ⟨S32x4x1024, .f32⟩
  | .hbm, ⟨37, _⟩ => ⟨S32x8x2816, .f32⟩
  | .hbm, ⟨38, _⟩ => ⟨S32x2x2816, .f32⟩
  | .hbm, ⟨39, _⟩ => ⟨S1x32x2x2816, .f32⟩
  | .local _ .vmem, ⟨0, _⟩ => ⟨S256x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S256x2816, .f32⟩
  | .local _ .vmem, ⟨8, _⟩ => ⟨S256x2816, .f32⟩
  | .local _ .vmem, ⟨9, _⟩ => ⟨S256x1024, .f32⟩
  | .local _ .vmem, ⟨10, _⟩ => ⟨S256x2816, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_call2_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnSampleReferenceIdeal.lean ====
abbrev S32x4x1024 : Shape := ⟨3, ![32, 4, 1024]⟩
abbrev S1x32x2x2816 : Shape := ⟨4, ![1, 32, 2, 2816]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x2x2816 : Shape := ⟨3, ![32, 2, 2816]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S32x4x2816 : Shape := ⟨3, ![32, 4, 2816]⟩
abbrev S32x6x2816 : Shape := ⟨3, ![32, 6, 2816]⟩
abbrev S1x1x2816 : Shape := ⟨3, ![1, 1, 2816]⟩

abbrev nBuf : Space → Nat
  | .hbm => 74
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x32x2x2816, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S1024, .f32⟩
  | .hbm, ⟨9, _⟩ => ⟨S32x4x1024, .f32⟩
  | .hbm, ⟨10, _⟩ => ⟨S_, .f32⟩
  | .hbm, ⟨11, _⟩ => ⟨S32x4, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S_, .f32⟩
  | .hbm, ⟨17, _⟩ => ⟨S32x4x1, .f32⟩
  | .hbm, ⟨18, _⟩ => ⟨S32x4x1, .f32⟩
  | .hbm, ⟨19, _⟩ => ⟨S32x4x1, .f32⟩
  | .hbm, ⟨20, _⟩ => ⟨S32x4x1024, .f32⟩
  | .hbm, ⟨21, _⟩ => ⟨S32x4x1024, .f32⟩
  | .hbm, ⟨22, _⟩ => ⟨S1x1x1024, .f32⟩
  | .hbm, ⟨23, _⟩ => ⟨S32x4x1024, .f32⟩
  | .hbm, ⟨24, _⟩ => ⟨S32x4x1024, .f32⟩
  | .hbm, ⟨25, _⟩ => ⟨S32x2x2816, .f32⟩
  | .hbm, ⟨26, _⟩ => ⟨S1024x2816, .f32⟩
  | .hbm, ⟨27, _⟩ => ⟨S1024x2816, .f32⟩
  | .hbm, ⟨28, _⟩ => ⟨S3x2816, .f32⟩
  | .hbm, ⟨29, _⟩ => ⟨S2816, .f32⟩
  | .hbm, ⟨30, _⟩ => ⟨S2816x1024, .f32⟩
  | .hbm, ⟨31, _⟩ => ⟨S32x4x2816, .f32⟩
  | .hbm, ⟨32, _⟩ => ⟨S32x6x2816, .f32⟩
  | .hbm, ⟨33, _⟩ => ⟨S1x2816, .f32⟩
  | .hbm, ⟨34, _⟩ => ⟨S2816, .f32⟩
  | .hbm, ⟨35, _⟩ => ⟨S32x4x2816, .f32⟩
  | .hbm, ⟨36, _⟩ => ⟨S1x1x2816, .f32⟩
  | .hbm, ⟨37, _⟩ => ⟨S32x4x2816, .f32⟩
  | .hbm, ⟨38, _⟩ => ⟨S32x4x2816, .f32⟩
  | .hbm, ⟨39, _⟩ => ⟨S_, .f32⟩
  | .hbm, ⟨40, _⟩ => ⟨S32x4x2816, .f32⟩
  | .hbm, ⟨41, _⟩ => ⟨S32x4x2816, .f32⟩
  | .hbm, ⟨42, _⟩ => ⟨S1x2816, .f32⟩
  | .hbm, ⟨43, _⟩ => ⟨S2816, .f32⟩
  | .hbm, ⟨44, _⟩ => ⟨S32x4x2816, .f32⟩
  | .hbm, ⟨45, _⟩ => ⟨S1x1x2816, .f32⟩
  | .hbm, ⟨46, _⟩ => ⟨S32x4x2816, .f32⟩
  | .hbm, ⟨47, _⟩ => ⟨S32x4x2816, .f32⟩
  | .hbm, ⟨48, _⟩ => ⟨S32x4x2816, .f32⟩
  | .hbm, ⟨49, _⟩ => ⟨S1x2816, .f32⟩
  | .hbm, ⟨50, _⟩ => ⟨S2816, .f32⟩
  | .hbm, ⟨51, _⟩ => ⟨S32x4x2816, .f32⟩
  | .hbm, ⟨52, _⟩ => ⟨S1x1x2816, .f32⟩
  | .hbm, ⟨53, _⟩ => ⟨S32x4x2816, .f32⟩
  | .hbm, ⟨54, _⟩ => ⟨S32x4x2816, .f32⟩
  | .hbm, ⟨55, _⟩ => ⟨S32x4x2816, .f32⟩
  | .hbm, ⟨56, _⟩ => ⟨S1x1x2816, .f32⟩
  | .hbm, ⟨57, _⟩ => ⟨S32x4x2816, .f32⟩
  | .hbm, ⟨58, _⟩ => ⟨S32x4x2816, .f32⟩
  | .hbm, ⟨59, _⟩ => ⟨S32x4x2816, .f32⟩
  | .hbm, ⟨60, _⟩ => ⟨S32x4x2816, .f32⟩
  | .hbm, ⟨61, _⟩ => ⟨S_, .f32⟩
  | .hbm, ⟨62, _⟩ => ⟨S32x4x2816, .f32⟩
  | .hbm, ⟨63, _⟩ => ⟨S32x4x2816, .f32⟩
  | .hbm, ⟨64, _⟩ => ⟨S_, .f32⟩
  | .hbm, ⟨65, _⟩ => ⟨S32x4x2816, .f32⟩
  | .hbm, ⟨66, _⟩ => ⟨S32x4x2816, .f32⟩
  | .hbm, ⟨67, _⟩ => ⟨S32x4x2816, .f32⟩
  | .hbm, ⟨68, _⟩ => ⟨S32x4x2816, .f32⟩
  | .hbm, ⟨69, _⟩ => ⟨S32x4x2816, .f32⟩
  | .hbm, ⟨70, _⟩ => ⟨S32x4x1024, .f32⟩
  | .hbm, ⟨71, _⟩ => ⟨S32x2x2816, .f32⟩
  | .hbm, ⟨72, _⟩ => ⟨S32x4x1024, .f32⟩
  | .hbm, ⟨73, _⟩ => ⟨S1x32x2x2816, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Mid.lean ====
abbrev S8x2048x1024 : Shape := ⟨3, ![8, 2048, 1024]⟩
abbrev S8x2048x512 : Shape := ⟨3, ![8, 2048, 512]⟩
abbrev S8x256x4x128 : Shape := ⟨4, ![8, 256, 4, 128]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩
abbrev S1024 : Shape := ⟨1, ![1024]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S128 : Shape := ⟨1, ![128]⟩
abbrev S4x128 : Shape := ⟨2, ![4, 128]⟩
abbrev S8x1024x128 : Shape := ⟨3, ![8, 1024, 128]⟩
abbrev S1x512x512 : Shape := ⟨3, ![1, 512, 512]⟩
abbrev S1x1024x128 : Shape := ⟨3, ![1, 1024, 128]⟩
abbrev S128x128 : Shape := ⟨2, ![128, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 56
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x256x4x128, .f32⟩
  | .hbm, ⟨4, _⟩ => ⟨S8x256x4x128, .f32⟩
  | .hbm, ⟨5, _⟩ => ⟨S1x1024x1024, .f32⟩
  | .hbm, ⟨6, _⟩ => ⟨S1x1024, .f32⟩
  | .hbm, ⟨7, _⟩ => ⟨S1x1024x512, .f32⟩
  | .hbm, ⟨8, _⟩ => ⟨S1x128, .f32⟩
  | .hbm, ⟨9, _⟩ => ⟨S1x512x1024, .f32⟩
  | .hbm, ⟨10, _⟩ => ⟨S1024x1024, .f32⟩
  | .hbm, ⟨11, _⟩ => ⟨S1024x1024, .bf16⟩
  | .hbm, ⟨12, _⟩ => ⟨S1024x512, .f32⟩
  | .hbm, ⟨13, _⟩ => ⟨S1024x512, .bf16⟩
  | .hbm, ⟨14, _⟩ => ⟨S512x1024, .f32⟩
  | .hbm, ⟨15, _⟩ => ⟨S512x1024, .bf16⟩
  | .hbm, ⟨16, _⟩ => ⟨S1024, .f32⟩
  | .hbm, ⟨17, _⟩ => ⟨S1x1024, .f32⟩
  | .hbm, ⟨18, _⟩ => ⟨S512, .i32⟩
  | .hbm, ⟨19, _⟩ => ⟨S_, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S1x512, .i32⟩
  | .hbm, ⟨39, _⟩ => ⟨S512x512, .i32⟩
  | .hbm, ⟨40, _⟩ => ⟨S512x512, .i32⟩
  | .hbm, ⟨41, _⟩ => ⟨S512x512, .i1⟩
  | .hbm, ⟨42, _⟩ => ⟨S_, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x512, .bf16⟩
  | .hbm, ⟨48, _⟩ => ⟨S128, .f32⟩
  | .hbm, ⟨49, _⟩ => ⟨S1x128, .f32⟩
  | .hbm, ⟨50, _⟩ => ⟨S4x128, .f32⟩
  | .hbm, ⟨51, _⟩ => ⟨S512, .f32⟩
  | .hbm, ⟨52, _⟩ => ⟨S1x512, .f32⟩
  | .hbm, ⟨53, _⟩ => ⟨S8x1024x128, .f32⟩
  | .hbm, ⟨54, _⟩ => ⟨S8x1024x128, .f32⟩
  | .hbm, ⟨55, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x1024, .bf16⟩
  | .local _ .vmem, ⟨11, _⟩ => ⟨S1x1024, .f32⟩
  | .local _ .vmem, ⟨12, _⟩ => ⟨S1024x512, .bf16⟩
  | .local _ .vmem, ⟨13, _⟩ => ⟨S512x512, .bf16⟩
  | .local _ .vmem, ⟨14, _⟩ => ⟨S1x512, .f32⟩
  | .local _ .vmem, ⟨15, _⟩ => ⟨S512x1024, .bf16⟩
  | .local _ .vmem, ⟨16, _⟩ => ⟨S1x512x1024, .f32⟩
  | .local _ .vmem, ⟨17, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MidReferenceIdeal.lean ====
abbrev S8x2048x1024 : Shape := ⟨3, ![8, 2048, 1024]⟩
abbrev S8x2048x512 : Shape := ⟨3, ![8, 2048, 512]⟩
abbrev S8x256x4x128 : Shape := ⟨4, ![8, 256, 4, 128]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1x512x1024 : Shape := ⟨3, ![1, 512, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x512 : Shape := ⟨2, ![1024, 512]⟩
abbrev S128 : Shape := ⟨1, ![128]⟩
abbrev S512x1024 : Shape := ⟨2, ![512, 1024]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x256x4x128, .f32⟩
  | .hbm, ⟨4, _⟩ => ⟨S8x256x4x128, .f32⟩
  | .hbm, ⟨5, _⟩ => ⟨S1x1024x1024, .f32⟩
  | .hbm, ⟨6, _⟩ => ⟨S1x1024, .f32⟩
  | .hbm, ⟨7, _⟩ => ⟨S1x1024x512, .f32⟩
  | .hbm, ⟨8, _⟩ => ⟨S1x128, .f32⟩
  | .hbm, ⟨9, _⟩ => ⟨S1x512x1024, .f32⟩
  | .hbm, ⟨10, _⟩ => ⟨S8x2048x1024, .f32⟩
  | .hbm, ⟨11, _⟩ => ⟨S1024x1024, .f32⟩
  | .hbm, ⟨12, _⟩ => ⟨S8x2048x1024, .f32⟩
  | .hbm, ⟨13, _⟩ => ⟨S8x2048x1024, .f32⟩
  | .hbm, ⟨14, _⟩ => ⟨S1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S1024x512, .f32⟩
  | .hbm, ⟨32, _⟩ => ⟨S128, .f32⟩
  | .hbm, ⟨33, _⟩ => ⟨S512x1024, .f32⟩
  | .hbm, ⟨34, _⟩ => ⟨S8x2048x512, .f32⟩
  | .hbm, ⟨35, _⟩ => ⟨S8x2048x4x128, .f32⟩
  | .hbm, ⟨36, _⟩ => ⟨S8x2048x4x128, .f32⟩
  | .hbm, ⟨37, _⟩ => ⟨S_, .f32⟩
  | .hbm, ⟨38, _⟩ => ⟨S8x2048x4, .f32⟩
  | .hbm, ⟨39, _⟩ => ⟨S8x2048x4x1, .f32⟩
  | .hbm, ⟨40, _⟩ => ⟨S_, .f32⟩
  | .hbm, ⟨41, _⟩ => ⟨S8x2048x4x1, .f32⟩
  | .hbm, ⟨42, _⟩ => ⟨S8x2048x4x1, .f32⟩
  | .hbm, ⟨43, _⟩ => ⟨S_, .f32⟩
  | .hbm, ⟨44, _⟩ => ⟨S8x2048x4x1, .f32⟩
  | .hbm, ⟨45, _⟩ => ⟨S8x2048x4x1, .f32⟩
  | .hbm, ⟨46, _⟩ => ⟨S8x2048x4x1, .f32⟩
  | .hbm, ⟨47, _⟩ => ⟨S8x2048x4x128, .f32⟩
  | .hbm, ⟨48, _⟩ => ⟨S8x2048x4x128, .f32⟩
  | .hbm, ⟨49, _⟩ => ⟨S1x1x1x128, .f32⟩
  | .hbm, ⟨50, _⟩ => ⟨S8x2048x4x128, .f32⟩
  | .hbm, ⟨51, _⟩ => ⟨S8x2048x4x128, .f32⟩
  | .hbm, ⟨52, _⟩ => ⟨S8x4x2048x256, .f32⟩
  | .hbm, ⟨53, _⟩ => ⟨S_, .f32⟩
  | .hbm, ⟨54, _⟩ => ⟨S8x4x2048x256, .f32⟩
  | .hbm, ⟨55, _⟩ => ⟨S8x4x2048x256, .f32⟩
  | .hbm, ⟨56, _⟩ => ⟨S_, .f32⟩
  | .hbm, ⟨57, _⟩ => ⟨S8x4x2048, .f32⟩
  | .hbm, ⟨58, _⟩ => ⟨S_, .f32⟩
  | .hbm, ⟨59, _⟩ => ⟨S8x4x2048, .f32⟩
  | .hbm, ⟨60, _⟩ => ⟨S8x4x2048, .f32⟩
  | .hbm, ⟨61, _⟩ => ⟨S8x4x2048x1, .f32⟩
  | .hbm, ⟨62, _⟩ => ⟨S8x4x2048x256, .f32⟩
  | .hbm, ⟨63, _⟩ => ⟨S8x4x2048x256, .f32⟩
  | .hbm, ⟨64, _⟩ => ⟨S8x4x2048x256, .f32⟩
  | .hbm, ⟨65, _⟩ => ⟨S_, .f32⟩
  | .hbm, ⟨66, _⟩ => ⟨S8x4x2048, .f32⟩
  | .hbm, ⟨67, _⟩ => ⟨S8x4x2048x1, .f32⟩
  | .hbm, ⟨68, _⟩ => ⟨S8x4x2048x256, .f32⟩
  | .hbm, ⟨69, _⟩ => ⟨S8x4x2048x256, .f32⟩
  | .hbm, ⟨70, _⟩ => ⟨S8x4x128x2048, .f32⟩
  | .hbm, ⟨71, _⟩ => ⟨S8x2048x4x128, .f32⟩
  | .hbm, ⟨72, _⟩ => ⟨S8x2048x512, .f32⟩
  | .hbm, ⟨73, _⟩ => ⟨S8x2048x1024, .f32⟩
  | .hbm, ⟨74, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== MidSample.lean ====
abbrev S32x4x1024 : Shape := ⟨3, ![32, 4, 1024]⟩
abbrev S32x4x512 : Shape := ⟨3, ![32, 4, 512]⟩
abbrev S1x32x256x4x128 : Shape := ⟨5, ![1, 32, 256, 4, 128]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1x512x1024 : Shape := ⟨3, ![1, 512, 1024]⟩
abbrev S_ : Shape := ⟨0, ![]⟩
abbrev S32x8x1024 : Shape := ⟨3, ![32, 8, 1024]⟩
abbrev S1024x1024 : Shape := ⟨2, ![1024, 1024]⟩
abbrev S1024x512 : Shape := ⟨2, ![1024, 512]⟩
abbrev S512x1024 : Shape := ⟨2, ![512, 1024]⟩
abbrev S1024 : Shape := ⟨1, ![1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128 : Shape := ⟨1, ![128]⟩
abbrev S4x128 : Shape := ⟨2, ![4, 128]⟩
abbrev S32x8x512 : Shape := ⟨3, ![32, 8, 512]⟩
abbrev S32x256x4x128 : Shape := ⟨4, ![32, 256, 4, 128]⟩
abbrev S32x1024x128 : Shape := ⟨3, ![32, 1024, 128]⟩
abbrev S8x8x1024 : Shape := ⟨3, ![8, 8, 1024]⟩
abbrev S8x8x512 : Shape := ⟨3, ![8, 8, 512]⟩
abbrev S8x1024x128 : Shape := ⟨3, ![8, 1024, 128]⟩
abbrev S64x1024 : Shape := ⟨2, ![64, 1024]⟩
abbrev S64x512 : Shape := ⟨2, ![64, 512]⟩
abbrev S64 : Shape := ⟨1, ![64]⟩
abbrev S64x1 : Shape := ⟨2, ![64, 1]⟩
abbrev S128x128 : Shape := ⟨2, ![128, 128]⟩
abbrev S64x128 : Shape := ⟨2, ![64, 128]⟩
abbrev S1x256x128 : Shape := ⟨3, ![1, 256, 128]⟩
abbrev S256x128 : Shape := ⟨2, ![256, 128]⟩
abbrev S8x128 : Shape := ⟨2, ![8, 128]⟩
abbrev S8x256 : Shape := ⟨2, ![8, 256]⟩
abbrev S8 : Shape := ⟨1, ![8]⟩
abbrev S8x1 : Shape := ⟨2, ![8, 1]⟩
abbrev S8x512 : Shape := ⟨2, ![8, 512]⟩

abbrev nBuf : Space → Nat
  | .hbm => 68
  | .vmem => 18
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S32x4x512, .f32⟩
  | .hbm, ⟨3, _⟩ => ⟨S1x32x256x4x128, .f32⟩
  | .hbm, ⟨4, _⟩ => ⟨S1x32x256x4x128, .f32⟩
  | .hbm, ⟨5, _⟩ => ⟨S1x1024x1024, .f32⟩
  | .hbm, ⟨6, _⟩ => ⟨S1x1024, .f32⟩
  | .hbm, ⟨7, _⟩ => ⟨S1x1024x512, .f32⟩
  | .hbm, ⟨8, _⟩ => ⟨S1x128, .f32⟩
  | .hbm, ⟨9, _⟩ => ⟨S1x512x1024, .f32⟩
  | .hbm, ⟨10, _⟩ => ⟨S_, .i32⟩
  | .hbm, ⟨11, _⟩ => ⟨S_, .f32⟩
  | .hbm, ⟨12, _⟩ => ⟨S32x8x1024, .f32⟩
  | .hbm, ⟨13, _⟩ => ⟨S1024x1024, .f32⟩
  | .hbm, ⟨14, _⟩ => ⟨S1024x1024, .bf16⟩
  | .hbm, ⟨15, _⟩ => ⟨S1024x512, .f32⟩
  | .hbm, ⟨16, _⟩ => ⟨S1024x512, .bf16⟩
  | .hbm, ⟨17, _⟩ => ⟨S512x1024, .f32⟩
  | .hbm, ⟨18, _⟩ => ⟨S512x1024, .bf16⟩
  | .hbm, ⟨19, _⟩ => ⟨S1024, .f32⟩
  | .hbm, ⟨20, _⟩ => ⟨S1x1024, .f32⟩
  | .hbm, ⟨21, _⟩ => ⟨S512, .i32⟩
  | .hbm, ⟨22, _⟩ => ⟨S_, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i32⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S512x1, .i32⟩
  | .hbm, ⟨41, _⟩ => ⟨S1x512, .i32⟩
  | .hbm, ⟨42, _⟩ => ⟨S512x512, .i32⟩
  | .hbm, ⟨43, _⟩ => ⟨S512x512, .i32⟩
  | .hbm, ⟨44, _⟩ => ⟨S512x512, .i1⟩
  | .hbm, ⟨45, _⟩ => ⟨S_, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S512x512, .bf16⟩
  | .hbm, ⟨51, _⟩ => ⟨S128, .f32⟩
  | .hbm, ⟨52, _⟩ => ⟨S1x128, .f32⟩
  | .hbm, ⟨53, _⟩ => ⟨S4x128, .f32⟩
  | .hbm, ⟨54, _⟩ => ⟨S512, .f32⟩
  | .hbm, ⟨55, _⟩ => ⟨S1x512, .f32⟩
  | .hbm, ⟨56, _⟩ => ⟨S_, .i32⟩
  | .hbm, ⟨57, _⟩ => ⟨S_, .f32⟩
  | .hbm, ⟨58, _⟩ => ⟨S32x8x512, .f32⟩
  | .hbm, ⟨59, _⟩ => ⟨S_, .i32⟩
  | .hbm, ⟨60, _⟩ => ⟨S_, .f32⟩
  | .hbm, ⟨61, _⟩ => ⟨S32x8x512, .f32⟩
  | .hbm, ⟨62, _⟩ => ⟨S32x256x4x128, .f32⟩
  | .hbm, ⟨63, _⟩ => ⟨S32x1024x128, .f32⟩
  | .hbm, ⟨64, _⟩ => ⟨S32x256x4x128, .f32⟩
  | .hbm, ⟨65, _⟩ => ⟨S32x1024x128, .f32⟩
  | .hbm, ⟨66, _⟩ => ⟨S32x8x1024, .f32⟩
  | .hbm, ⟨67, _⟩ => ⟨S32x4x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x8x512, .f32⟩
  | .local _ .vmem, ⟨3, _⟩ => ⟨S8x8x512, .f32⟩
  | .local _ .vmem, ⟨4, _⟩ => ⟨S8x8x512, .f32⟩
  | .local _ .vmem, ⟨5, _⟩ => ⟨S8x8x512, .f32⟩
  | .local _ .vmem, ⟨6, _⟩ => ⟨S8x1024x128, .f32⟩
  | .local _ .vmem, ⟨7, _⟩ => ⟨S8x1024x128, .f32⟩
  | .local _ .vmem, ⟨8, _⟩ => ⟨S8x1024x128, .f32⟩
  | .local _ .vmem, ⟨9, _⟩ => ⟨S8x1024x128, .f32⟩
  | .local _ .vmem, ⟨10, _⟩ => ⟨S1024x1024, .bf16⟩
  | .local _ .vmem, ⟨11, _⟩ => ⟨S1x1024, .f32⟩
  | .local _ .vmem, ⟨12, _⟩ => ⟨S1024x512, .bf16⟩
  | .local _ .vmem, ⟨13, _⟩ => ⟨S512x512, .bf16⟩
  | .local _ .vmem, ⟨14, _⟩ => ⟨S1x512, .f32⟩
  | .local _ .vmem, ⟨15, _⟩ => ⟨S512x1024, .bf16⟩
  | .local _ .vmem, ⟨16, _⟩ => ⟨S8x8x1024, .f32⟩
  | .local _ .vmem, ⟨17, _⟩ => ⟨S8x8x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst : Ref sig .tc := ⟨.hbm, 45, rfl⟩
abbrev main_cst_1 : Ref sig .tc := ⟨.hbm, 46, rfl⟩
abbrev main_call2_v0 : Ref sig .tc := ⟨.hbm, 47, rfl⟩
abbrev main_call2_v1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_c_2 : Ref sig .tc := ⟨.hbm, 56, rfl⟩
abbrev main_call3_v0 : Ref sig .tc := ⟨.hbm, 57, rfl⟩
abbrev main_v23 : Ref sig .tc := ⟨.hbm, 58, rfl⟩
abbrev main_c_3 : Ref sig .tc := ⟨.hbm, 59, rfl⟩
abbrev main_call4_v0 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MidSampleReferenceIdeal.lean ====
abbrev S32x4x1024 : Shape := ⟨3, ![32, 4, 1024]⟩
abbrev S32x4x512 : Shape := ⟨3, ![32, 4, 512]⟩
abbrev S1x32x256x4x128 : Shape := ⟨5, ![1, 32, 256, 4, 128]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1x512x1024 : Shape := ⟨3, ![1, 512, 1024]⟩
abbrev S1024x1024 : Shape := ⟨2, ![1024, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x512 : Shape := ⟨2, ![1024, 512]⟩
abbrev S128 : Shape := ⟨1, ![128]⟩
abbrev S32x256x4x128 : Shape := ⟨4, ![32, 256, 4, 128]⟩
abbrev S512x1024 : Shape := ⟨2, ![512, 1024]⟩
abbrev S32x4x4x128 : Shape := ⟨4, ![32, 4, 4, 128]⟩
abbrev S32x4x4 : Shape := ⟨3, ![32, 4, 4]⟩
abbrev S32x4x4x1 : Shape := ⟨4, ![32, 4, 4, 1]⟩
abbrev S1x1x1x128 : Shape := ⟨4, ![1, 1, 1, 128]⟩
abbrev S32x4x4x256 : Shape := ⟨4, ![32, 4, 4, 256]⟩
abbrev S32x4x128x4 : Shape := ⟨4, ![32, 4, 128, 4]⟩

abbrev nBuf : Space → Nat
  | .hbm => 77
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S32x4x512, .f32⟩
  | .hbm, ⟨3, _⟩ => ⟨S1x32x256x4x128, .f32⟩
  | .hbm, ⟨4, _⟩ => ⟨S1x32x256x4x128, .f32⟩
  | .hbm, ⟨5, _⟩ => ⟨S1x1024x1024, .f32⟩
  | .hbm, ⟨6, _⟩ => ⟨S1x1024, .f32⟩
  | .hbm, ⟨7, _⟩ => ⟨S1x1024x512, .f32⟩
  | .hbm, ⟨8, _⟩ => ⟨S1x128, .f32⟩
  | .hbm, ⟨9, _⟩ => ⟨S1x512x1024, .f32⟩
  | .hbm, ⟨10, _⟩ => ⟨S32x4x1024, .f32⟩
  | .hbm, ⟨11, _⟩ => ⟨S1024x1024, .f32⟩
  | .hbm, ⟨12, _⟩ => ⟨S32x4x1024, .f32⟩
  | .hbm, ⟨13, _⟩ => ⟨S32x4x1024, .f32⟩
  | .hbm, ⟨14, _⟩ => ⟨S1024, .f32⟩
  | .hbm, ⟨15, _⟩ => ⟨S32x4x1024, .f32⟩
  | .hbm, ⟨16, _⟩ => ⟨S_, .f32⟩
  | .hbm, ⟨17, _⟩ => ⟨S32x4, .f32⟩
  | .hbm, ⟨18, _⟩ => ⟨S32x4x1, .f32⟩
  | .hbm, ⟨19, _⟩ => ⟨S_, .f32⟩
  | .hbm, ⟨20, _⟩ => ⟨S32x4x1, .f32⟩
  | .hbm, ⟨21, _⟩ => ⟨S32x4x1, .f32⟩
  | .hbm, ⟨22, _⟩ => ⟨S_, .f32⟩
  | .hbm, ⟨23, _⟩ => ⟨S32x4x1, .f32⟩
  | .hbm, ⟨24, _⟩ => ⟨S32x4x1, .f32⟩
  | .hbm, ⟨25, _⟩ => ⟨S32x4x1, .f32⟩
  | .hbm, ⟨26, _⟩ => ⟨S32x4x1024, .f32⟩
  | .hbm, ⟨27, _⟩ => ⟨S32x4x1024, .f32⟩
  | .hbm, ⟨28, _⟩ => ⟨S1x1x1024, .f32⟩
  | .hbm, ⟨29, _⟩ => ⟨S32x4x1024, .f32⟩
  | .hbm, ⟨30, _⟩ => ⟨S32x4x1024, .f32⟩
  | .hbm, ⟨31, _⟩ => ⟨S1024x512, .f32⟩
  | .hbm, ⟨32, _⟩ => ⟨S128, .f32⟩
  | .hbm, ⟨33, _⟩ => ⟨S32x256x4x128, .f32⟩
  | .hbm, ⟨34, _⟩ => ⟨S32x256x4x128, .f32⟩
  | .hbm, ⟨35, _⟩ => ⟨S512x1024, .f32⟩
  | .hbm, ⟨36, _⟩ => ⟨S32x4x512, .f32⟩
  | .hbm, ⟨37, _⟩ => ⟨S32x4x4x128, .f32⟩
  | .hbm, ⟨38, _⟩ => ⟨S32x4x4x128, .f32⟩
  | .hbm, ⟨39, _⟩ => ⟨S_, .f32⟩
  | .hbm, ⟨40, _⟩ => ⟨S32x4x4, .f32⟩
  | .hbm, ⟨41, _⟩ => ⟨S32x4x4x1, .f32⟩
  | .hbm, ⟨42, _⟩ => ⟨S_, .f32⟩
  | .hbm, ⟨43, _⟩ => ⟨S32x4x4x1, .f32⟩
  | .hbm, ⟨44, _⟩ => ⟨S32x4x4x1, .f32⟩
  | .hbm, ⟨45, _⟩ => ⟨S_, .f32⟩
  | .hbm, ⟨46, _⟩ => ⟨S32x4x4x1, .f32⟩
  | .hbm, ⟨47, _⟩ => ⟨S32x4x4x1, .f32⟩
  | .hbm, ⟨48, _⟩ => ⟨S32x4x4x1, .f32⟩
  | .hbm, ⟨49, _⟩ => ⟨S32x4x4x128, .f32⟩
  | .hbm, ⟨50, _⟩ => ⟨S32x4x4x128, .f32⟩
  | .hbm, ⟨51, _⟩ => ⟨S1x1x1x128, .f32⟩
  | .hbm, ⟨52, _⟩ => ⟨S32x4x4x128, .f32⟩
  | .hbm, ⟨53, _⟩ => ⟨S32x4x4x128, .f32⟩
  | .hbm, ⟨54, _⟩ => ⟨S32x4x4x256, .f32⟩
  | .hbm, ⟨55, _⟩ => ⟨S_, .f32⟩
  | .hbm, ⟨56, _⟩ => ⟨S32x4x4x256, .f32⟩
  | .hbm, ⟨57, _⟩ => ⟨S32x4x4x256, .f32⟩
  | .hbm, ⟨58, _⟩ => ⟨S_, .f32⟩
  | .hbm, ⟨59, _⟩ => ⟨S32x4x4, .f32⟩
  | .hbm, ⟨60, _⟩ => ⟨S_, .f32⟩
  | .hbm, ⟨61, _⟩ => ⟨S32x4x4, .f32⟩
  | .hbm, ⟨62, _⟩ => ⟨S32x4x4, .f32⟩
  | .hbm, ⟨63, _⟩ => ⟨S32x4x4x1, .f32⟩
  | .hbm, ⟨64, _⟩ => ⟨S32x4x4x256, .f32⟩
  | .hbm, ⟨65, _⟩ => ⟨S32x4x4x256, .f32⟩
  | .hbm, ⟨66, _⟩ => ⟨S32x4x4x256, .f32⟩
  | .hbm, ⟨67, _⟩ => ⟨S_, .f32⟩
  | .hbm, ⟨68, _⟩ => ⟨S32x4x4, .f32⟩
  | .hbm, ⟨69, _⟩ => ⟨S32x4x4x1, .f32⟩
  | .hbm, ⟨70, _⟩ => ⟨S32x4x4x256, .f32⟩
  | .hbm, ⟨71, _⟩ => ⟨S32x4x4x256, .f32⟩
  | .hbm, ⟨72, _⟩ => ⟨S32x4x128x4, .f32⟩
  | .hbm, ⟨73, _⟩ => ⟨S32x4x4x128, .f32⟩
  | .hbm, ⟨74, _⟩ => ⟨S32x4x512, .f32⟩
  | .hbm, ⟨75, _⟩ => ⟨S32x4x1024, .f32⟩
  | .hbm, ⟨76, _⟩ => ⟨S32x4x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Proof.FfnGate.lean ====
module

public import proofs.«01_k».proof.Proof.Gen.FfnIdeal.Frame
public import proofs.«01_k».proof.Proof.Gen.FfnReferenceIdeal.Read
public import Idealize.ShloMosaic.Lib.Pipeline.ValueKit
set_option maxRecDepth 16384
@[expose] public section

noncomputable section
open Idealize.ShloMosaic Idealize.ShloMosaic.TcCoe Idealize.SL.Sem
open Idealize.ShloMosaic.Pipeline (Dat)
namespace Cert.FfnIdeal.Value
open Cert.FfnIdeal Cert.FfnIdeal.Gen
open Cert.FfnReferenceIdeal.Read
variable (m : (ℓ : Loc nD τ sig) → Buf (Elt Ideal) ℓ)

/-- Every window's block index at a grid point: the token blocks move with the point, everything else stays. -/
theorem idx : ∀ t : Fin cfg0.N, win0_0.index t = ![t.val / 4, t.val % 4, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![t.val / 4, t.val % 4, 0] ∧ win0_8.index t = ![t.val / 4, 0, 0]
    ∧ t.val < 32 :=
  (by decide +kernel : ∀ t : Fin grid0.N, _)

/-- The weights and gains as the region finds them: the arguments' values, their casts being the identity. -/
theorem V_gain (c : Dev nD) (i : S1x1024.Idx) : V m c main_v7 i = m ((c : Thread nD τ).loc main_arg1) (ix2 0 (i 1)) := by
  show StableHlo.after hostOps0 _ (Proc.devRef .tc main_v7) i = _
  after_results
  pointwise

theorem V_wgate (c : Dev nD) (i : S1024x2816.Idx) : V m c main_v1 i = m ((c : Thread nD τ).loc main_arg3) (ix3 0 (i 0) (i 1)) := by
  show StableHlo.after hostOps0 _ (Proc.devRef .tc main_v1) i = _
  after_results
  pointwise

theorem V_wup (c : Dev nD) (i : S1024x2816.Idx) : V m c main_v3 i = m ((c : Thread nD τ).loc main_arg2) (ix3 0 (i 0) (i 1)) := by
  show StableHlo.after hostOps0 _ (Proc.devRef .tc main_v3) i = _
  after_results
  pointwise

theorem V_wdown (c : Dev nD) (i : S2816x1024.Idx) : V m c main_v5 i = m ((c : Thread nD τ).loc main_arg6) (ix3 0 (i 0) (i 1)) := by
  show StableHlo.after hostOps0 _ (Proc.devRef .tc main_v5) i = _
  after_results
  pointwise

theorem V_conv_w (c : Dev nD) (i : S3x2816.Idx) : V m c main_v8 i = m ((c : Thread nD τ).loc main_arg4) (ix3 0 (i 0) (i 1)) := by
  show StableHlo.after hostOps0 _ (Proc.devRef .tc main_v8) i = _
  after_results
  pointwise

theorem V_conv_b (c : Dev nD) (i : S1x2816.Idx) : V m c main_v10 i = m ((c : Thread nD τ).loc main_arg5) (ix2 0 (i 1)) := by
  show StableHlo.after hostOps0 _ (Proc.devRef .tc main_v10) i = _
  after_results
  pointwise

/-- The gate projection of the normalized tokens, as the reference computes it. -/
abbrev G (c : Dev nD) : FVec Ideal Cert.FfnReferenceIdeal.S8x2048x2816 .f32 :=
  val_main_v20 (F := Ideal) (m ((c : Thread nD τ).loc main_arg0)) (m ((c : Thread nD τ).loc main_arg1)) (m ((c : Thread nD τ).loc main_arg3))

theorem gate (c : Dev nD) (t : Fin cfg0.N) (r : Fin 512) (f : Fin 2816) (b : Fin 8) (q : Fin 2048)
    (hb : b.val = t.val / 4) (hq : q.val = 512 * (t.val % 4) + r.val) :
    k0_pay8 (iblk m c 0 t) (iblk m c 1 t) (iblk m c 2 t) (ix2 r f) = G m c (ix3 b q f) := by
  pointwise [k0_pay8, k0_pay7, k0_pay6, G, val_main_v20, val_main_v14, val_main_v16, val_main_v13, val_main_v12, val_main_v11, val_main_v10,
    val_main_v9, val_main_v8, val_main_v7, val_main_v6, val_main_v5, val_main_v4, val_main_v3, val_main_v2, val_main_v1, val_main_cst, val_main_cst_0, val_main_cst_1, val_main_cst_2]

  blk_point [iblk, idx t]
  · rw [V_gain]; blk_ext [idx t]
  · rw [V_wgate]; blk_ext [idx t]

/-- The up projection of the normalized tokens, as the reference computes it. -/
abbrev U (c : Dev nD) : FVec Ideal Cert.FfnReferenceIdeal.S8x2048x2816 .f32 :=
  val_main_v48 (F := Ideal) (m ((c : Thread nD τ).loc main_arg0)) (m ((c : Thread nD τ).loc main_arg1)) (m ((c : Thread nD τ).loc main_arg2))

theorem up (c : Dev nD) (t : Fin cfg0.N) (r : Fin 512) (f : Fin 2816) (b : Fin 8) (q : Fin 2048)
    (hb : b.val = t.val / 4) (hq : q.val = 512 * (t.val % 4) + r.val) :
    k0_pay9 (iblk m c 0 t) (iblk m c 1 t) (iblk m c 3 t) (ix2 r f) = U m c (ix3 b q f) := by
  pointwise [k0_pay9, k0_pay7, k0_pay6, U, val_main_v48, val_main_v14, val_main_v15, val_main_v13, val_main_v12, val_main_v11, val_main_v10,
    val_main_v9, val_main_v8, val_main_v7, val_main_v6, val_main_v5, val_main_v4, val_main_v3, val_main_v2, val_main_v1, val_main_cst, val_main_cst_0, val_main_cst_1, val_main_cst_2]
  blk_point [iblk, idx t]
  · rw [V_gain]; blk_ext [idx t]
  · rw [V_wup]; blk_ext [idx t]

end Cert.FfnIdeal.Value
-- ==== Proof.FfnAct.lean ====
module

public import proofs.«01_k».proof.Proof.FfnGate
public import Idealize.ShloMosaic.Lib.Pipeline.ValueKit
public import Idealize.ShloMosaic.Lib.IdealHost
set_option maxRecDepth 16384
@[expose] public section

noncomputable section
open Idealize.ShloMosaic Idealize.ShloMosaic.TcCoe Idealize.SL.Sem
open Idealize.ShloMosaic.Pipeline (Dat)
namespace Cert.FfnIdeal.Value
open Cert.FfnIdeal Cert.FfnIdeal.Gen
open Cert.FfnReferenceIdeal.Read

/-- One plus an exponential is never zero. -/
theorem one_add_exp_ne_zero (x : EReal) : 1 + Ideal.exp x ≠ 0 := by
  have h : 0 ≤ Ideal.exp x := by
    induction x with
    | bot => exact le_rfl
    | top => exact le_top
    | coe r => exact EReal.coe_nonneg.mpr (Real.exp_pos r).le
  exact (lt_of_lt_of_le zero_lt_one (by simpa using add_le_add_right h (1 : EReal))).ne'

/-- Choosing by "the row number is `k`". -/
theorem select_row (r : Fin 512) (k : ℕ) (hk : k < 512) (a b : EReal) :
    Scalar.select (IntOp.cmpi CmpIPredicate.eq (BitVec.ofNat 32 r.val) (BitVec.ofNat 32 k)) a b = if r.val = k then a else b := by
  unfold Scalar.select IntOp.cmpi
  have hr := r.isLt
  by_cases h : r.val = k
  · rw [if_pos h, h]; simp
  · have : ¬ BitVec.ofNat 32 r.val = BitVec.ofNat 32 k := by
      intro e
      have := congrArg BitVec.toNat e
      rw [BitVec.toNat_ofNat, BitVec.toNat_ofNat, Nat.mod_eq_of_lt (by omega), Nat.mod_eq_of_lt (by omega)] at this
      exact h this
    rw [if_neg h]
    have e : (BitVec.ofNat 32 r.val == BitVec.ofNat 32 k) = false := by simpa using this
    show (if BitVec.ofBool (BitVec.ofNat 32 r.val == BitVec.ofNat 32 k) = 1 then a else b) = b
    rw [e]; rfl

/-- The gated activation of one token and hidden unit: the kernel's row rotations with the two carried rows put in
    at the block's head are the reference's causal three-tap convolution over the zero-padded sequence. `q` is the
    token of block row `r`; `v4`, `v5` are the carried rows, the tokens two and one before the block. -/
theorem act (x0) (x1) (x2) (x3) (x4) (x5)
    (v4 v5 : Vec Ideal S1x2816 .f32) (g u : FVec Ideal S512x2816 .f32) (cb w0 w1 w2 : Vec Ideal S1x2816 .f32)
    (r : Fin 512) (f : Fin 2816) (b : Fin 8) (q : Fin 2048)
    (hg : ∀ (r' : Fin 512) (q' : Fin 2048), q'.val + r.val = q.val + r'.val → g (ix2 r' f) = val_main_v20 (F := Ideal) x0 x1 x3 (ix3 b q' f))
    (hq : r.val ≤ q.val)
    (hu : u (ix2 r f) = val_main_v48 (F := Ideal) x0 x1 x2 (ix3 b q f))
    (h40 : q.val = r.val → v4 (ix2 0 f) = 0) (h50 : q.val = r.val → v5 (ix2 0 f) = 0)
    (h4 : ∀ q' : Fin 2048, q'.val + r.val + 2 = q.val → v4 (ix2 0 f) = val_main_v20 (F := Ideal) x0 x1 x3 (ix3 b q' f))
    (h5 : ∀ q' : Fin 2048, q'.val + r.val + 1 = q.val → v5 (ix2 0 f) = val_main_v20 (F := Ideal) x0 x1 x3 (ix3 b q' f))
    (hm : q.val = r.val ∨ 2 ≤ q.val - r.val)
    (hcb : cb (ix2 0 f) = x5 (ix2 0 f)) (hw0 : w0 (ix2 0 f) = x4 (ix3 0 0 f)) (hw1 : w1 (ix2 0 f) = x4 (ix3 0 1 f))
    (hw2 : w2 (ix2 0 f) = x4 (ix3 0 2 f)) :
    k0_pay13 (iota .tc S512x1 32 [0] iota_S512x1_d0_w32) v4 v5 g u (dynamicRotate 0 1#32 none g rotates_S512x2816_d0)
      k0_pay11 (k0_pay12 v5) cb w0 w1 w2 (ix2 r f) = val_main_v49 (F := Ideal) x0 x1 x2 x3 x4 x5 (ix3 b q f) := by
  pointwise [k0_pay13, k0_pay11, k0_pay12,
    val_main_v49, val_main_v47, val_main_v46, val_main_call0_v5, val_main_call0_v4, val_main_call0_v3,
    val_main_call0_v2, val_main_call0_v1, val_main_call0_v0, val_main_call0_cst, val_main_call0_cst_0, val_main_v45,
    val_main_v44, val_main_v43, val_main_v42, val_main_v41, val_main_v40, val_main_v39, val_main_v38, val_main_v37,
    val_main_v36, val_main_v35, val_main_v34, val_main_v33, val_main_v32, val_main_v31, val_main_v30, val_main_v29,
    val_main_v28, val_main_cst_3, val_main_v27, val_main_v26, val_main_v25, val_main_v24, val_main_v23, val_main_v22,
    val_main_v21, val_main_v17, val_main_v18, val_main_v0, val_main_cst]
  have hr := r.isLt
  have hq' := q.isLt
  rw [hu, hcb, hw0, hw1, hw2, hg r q rfl]
  rw [select_row r 0 (by decide), select_row r 0 (by decide), select_row r 1 (by decide)]
  have e2 : (if r.val = 0 then v4 (ix2 0 f) else if r.val = 1 then v5 (ix2 0 f)
        else g (ix2 ⟨(r.val + 512 - 2) % 512, Nat.mod_lt _ (by decide)⟩ f))
      = if h : q.val < 2 then 0 else val_main_v20 (F := Ideal) x0 x1 x3 (ix3 b ⟨q.val - 2, by omega⟩ f) := by
    split_ifs with ha hb hc hc hc
    · exact h40 (by omega)
    · exact h4 _ (by show q.val - 2 + r.val + 2 = q.val; omega)
    · exact h50 (by omega)
    · exact h5 _ (by show q.val - 2 + r.val + 1 = q.val; omega)
    · omega
    · refine hg _ _ ?_
      show q.val - 2 + r.val = q.val + (r.val + 512 - 2) % 512
      omega
  have e1 : (if r.val = 0 then v5 (ix2 0 f) else g (ix2 ⟨(r.val + 512 - 1) % 512, Nat.mod_lt _ (by decide)⟩ f))
      = if h : 1 + q.val < 2 then 0 else val_main_v20 (F := Ideal) x0 x1 x3 (ix3 b ⟨1 + q.val - 2, by omega⟩ f) := by
    split_ifs with ha hb hb
    · exact h50 (by omega)
    · exact h5 _ (by show 1 + q.val - 2 + r.val + 1 = q.val; omega)
    · omega
    · refine hg _ _ ?_
      show 1 + q.val - 2 + r.val = q.val + (r.val + 512 - 1) % 512
      omega
  rw [e2, e1, zero_sub, ← Ideal.mul_one_div (one_add_exp_ne_zero _)]
  simp only [add_assoc]

end Cert.FfnIdeal.Value
-- ==== Proof.FfnValue.lean ====
module

public import proofs.«01_k».proof.Proof.FfnAct
public import Idealize.ShloMosaic.Lib.Pipeline.ValueKit
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)
namespace Cert.FfnIdeal.Value
open Cert.FfnIdeal Cert.FfnIdeal.Gen
open Cert.FfnReferenceIdeal.Read
variable (m : (ℓ : Loc nD τ sig) → Buf (Elt Ideal) ℓ)

/-- The scratch after a point: the gate rows of the last eight tokens of its block. -/
theorem carry (c : Dev nD) (t : Fin cfg0.N) (r : Fin 8) (f : Fin 2816) (b : Fin 8) (q : Fin 2048)
    (hb : b.val = t.val / 4) (hq : q.val = 512 * (t.val % 4) + 504 + r.val) :
    (outsAt0 m c t.val t.isLt).2.2 (ix2 r f) = G m c (ix3 b q f) := by
  by_cases h : t.val % 4 = 0
  · rw [outsAt0_A m c t h]; frame_out
    pointwise [k0_pay3, k0_pay2]
    exact gate m c t _ f b q hb (by show q.val = 512 * (t.val % 4) + (504 + r.val); omega)
  · rw [outsAt0_B m c t h]; frame_out
    pointwise [k0_pay3, k0_pay2]
    exact gate m c t _ f b q hb (by show q.val = 512 * (t.val % 4) + (504 + r.val); omega)

/-- The tail block of a point: the same eight rows. -/
theorem tail (c : Dev nD) (t : Fin cfg0.N) (r : Fin 8) (f : Fin 2816) (b : Fin 8) (q : Fin 2048)
    (hb : b.val = t.val / 4) (hq : q.val = 512 * (t.val % 4) + 504 + r.val) :
    (outsAt0 m c t.val t.isLt).2.1 (ix3 0 r f) = G m c (ix3 b q f) := by
  by_cases h : t.val % 4 = 0
  · rw [outsAt0_A m c t h]; frame_out
    pointwise [k0_pay4, k0_pay2]
    exact gate m c t _ f b q hb (by show q.val = 512 * (t.val % 4) + (504 + r.val); omega)
  · rw [outsAt0_B m c t h]; frame_out
    pointwise [k0_pay4, k0_pay2]
    exact gate m c t _ f b q hb (by show q.val = 512 * (t.val % 4) + (504 + r.val); omega)

/-- The output block of a point whose carried rows are right: the reference's rows. -/
theorem body (c : Dev nD) (t : Fin cfg0.N) (r : Fin 512) (k : Fin 1024) (b : Fin 8) (q : Fin 2048)
    (hb : b.val = t.val / 4) (hq : q.val = 512 * (t.val % 4) + r.val) (v4 v5 : Vec Ideal S1x2816 .f32)
    (h40 : t.val % 4 = 0 → ∀ f, v4 (ix2 0 f) = 0) (h50 : t.val % 4 = 0 → ∀ f, v5 (ix2 0 f) = 0)
    (h4 : ∀ q' : Fin 2048, q'.val + 2 = 512 * (t.val % 4) → ∀ f, v4 (ix2 0 f) = G m c (ix3 b q' f))
    (h5 : ∀ q' : Fin 2048, q'.val + 1 = 512 * (t.val % 4) → ∀ f, v5 (ix2 0 f) = G m c (ix3 b q' f)) :
    k0_pay1 (k0_pay6 (iblk m c 0 t))
      (k0_pay13 (iota Kind.tc S512x1 32 [0] iota_S512x1_d0_w32) v4 v5
        (k0_pay8 (iblk m c 0 t) (iblk m c 1 t) (iblk m c 2 t)) (k0_pay9 (iblk m c 0 t) (iblk m c 1 t) (iblk m c 3 t))
        (k0_pay10 (iblk m c 0 t) (iblk m c 1 t) (iblk m c 2 t)) k0_pay11 (k0_pay12 v5)
        (iblk m c 5 t) (View.ld (iblk m c 4 t) (Rect.unit ![0, 0] ![1, 2816] inb_S3x2816_S1x2816_0_0))
        (View.ld (iblk m c 4 t) (Rect.unit ![1, 0] ![1, 2816] inb_S3x2816_S1x2816_1_0))
        (View.ld (iblk m c 4 t) (Rect.unit ![2, 0] ![1, 2816] inb_S3x2816_S1x2816_2_0)))
      (k0_pay14 (iblk m c 6 t)) (ix3 0 r k) =
    val_main_v52 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (ix3 b q k) := by
  have hr := r.isLt
  pointwise [k0_pay1, k0_pay6, k0_pay14, val_main_v52, val_main_v50, val_main_v19]
  have ha : ∀ f : Fin 2816, k0_pay13 (iota Kind.tc S512x1 32 [0] iota_S512x1_d0_w32) v4 v5
        (k0_pay8 (iblk m c 0 t) (iblk m c 1 t) (iblk m c 2 t)) (k0_pay9 (iblk m c 0 t) (iblk m c 1 t) (iblk m c 3 t))
        (k0_pay10 (iblk m c 0 t) (iblk m c 1 t) (iblk m c 2 t)) k0_pay11 (k0_pay12 v5)
        (iblk m c 5 t) (View.ld (iblk m c 4 t) (Rect.unit ![0, 0] ![1, 2816] inb_S3x2816_S1x2816_0_0))
        (View.ld (iblk m c 4 t) (Rect.unit ![1, 0] ![1, 2816] inb_S3x2816_S1x2816_1_0))
        (View.ld (iblk m c 4 t) (Rect.unit ![2, 0] ![1, 2816] inb_S3x2816_S1x2816_2_0)) (ix2 r f) =
      val_main_v49 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix3 b q f) := by
    intro f
    refine act _ _ _ _ _ _ v4 v5 _ _ _ _ _ _ r f b q (fun r' q' h => gate m c t r' f b q' hb (by omega)) (by omega)
      (up m c t r f b q hb hq) (fun h => h40 (by omega) f) (fun h => h50 (by omega) f) (fun q' h => h4 q' (by omega) f)
      (fun q' h => h5 q' (by omega) f) (by omega) ?_ ?_ ?_ ?_
    · show V m c main_v10 ((win0_5.blk t).view.emb (ix2 0 f)) = _
      rw [V_conv_b]; blk_ext [idx t]
    · show V m c main_v8 ((win0_4.blk t).view.emb _) = _
      rw [V_conv_w]; blk_ext [idx t] <;> rw [Rect.idx_unit_val] <;> first | rfl | exact Nat.zero_add _
    · show V m c main_v8 ((win0_4.blk t).view.emb _) = _
      rw [V_conv_w]; blk_ext [idx t] <;> rw [Rect.idx_unit_val] <;> first | rfl | exact Nat.zero_add _
    · show V m c main_v8 ((win0_4.blk t).view.emb _) = _
      rw [V_conv_w]; blk_ext [idx t] <;> rw [Rect.idx_unit_val] <;> first | rfl | exact Nat.zero_add _
  refine congrArg₂ (· + ·) ?_ (Finset.sum_congr rfl fun f _ => congrArg₂ (· * ·) (ha f) ?_)
  · blk_point [iblk, idx t]
  · show V m c main_v5 ((win0_6.blk t).view.emb (ix2 f k)) = _
    rw [V_wdown]; blk_ext [idx t]

theorem out (c : Dev nD) (t : Fin cfg0.N) (r : Fin 512) (k : Fin 1024) (b : Fin 8) (q : Fin 2048)
    (hb : b.val = t.val / 4) (hq : q.val = 512 * (t.val % 4) + r.val) :
    (outsAt0 m c t.val t.isLt).1 (ix3 0 r k) =
    val_main_v52 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (ix3 b q k) := by
  have ht := (idx t).2.2.2.2.2.2.2.2.2
  by_cases h : t.val % 4 = 0
  · rw [outsAt0_A m c t h]; frame_out
    refine body m c t r k b q hb hq _ _ (fun _ f => ?_) (fun _ f => ?_) (fun q' h' => by omega) (fun q' h' => by omega)
    · rw [View.readCov_fill _ _ _ _ _ (by decide)]; pointwise [k0_pay5]
    · rw [View.readCov_fill _ _ _ _ _ (by decide)]; pointwise [k0_pay5]
  · rw [outsAt0_B m c t h]; frame_out
    refine body m c t r k b q hb hq _ _ (fun h' => absurd h' h) (fun h' => absurd h' h) (fun q' h' f => ?_) (fun q' h' f => ?_)
    · rw [read_unread_whole]
      rw [View.ld_unit_apply_of _ _ _ _ _ (ix2 6 f) (by intro a; fin_cases a <;> first | rfl | exact (Nat.zero_add _).symm)]
      exact carry m c ⟨t.val - 1, lt_of_le_of_lt (Nat.sub_le _ _) t.isLt⟩ 6 f b q' (by show b.val = (t.val - 1) / 4; omega) (by show q'.val = 512 * ((t.val - 1) % 4) + 504 + 6; omega)
    · rw [read_unread_whole]
      rw [View.ld_unit_apply_of _ _ _ _ _ (ix2 7 f) (by intro a; fin_cases a <;> first | rfl | exact (Nat.zero_add _).symm)]
      exact carry m c ⟨t.val - 1, lt_of_le_of_lt (Nat.sub_le _ _) t.isLt⟩ 7 f b q' (by show b.val = (t.val - 1) / 4; omega) (by show q'.val = 512 * ((t.val - 1) % 4) + 504 + 7; omega)

/-- The first result as the reference reads it: the residual stream after the channel mixer. -/
abbrev Y (c : Dev nD) : FVec Ideal Cert.FfnReferenceIdeal.S8x2048x1024 .f32 :=
  val_main_v52 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))

/-- The output array at the end of the grid. -/
theorem final_out (c : Dev nD) : (dats m 0 c).arrAt 7 cfg0.N = Y m c := by
  refine (dats m 0 c).arrAt_eq_of_covers 7 _ (by decide +kernel) fun t hf y => ?_
  have ht := (idx t).2.2.2.2.2.2.2.2.2
  have hy1 : (y 1).val < 512 := (y 1).isLt
  have hy : y = (ix3 0 ⟨(y 1).val, hy1⟩ ⟨(y 2).val, (y 2).isLt⟩ : S1x512x1024.Idx) := by
    funext a; fin_cases a
    · exact Fin.ext (Nat.lt_one_iff.mp (y 0).isLt)
    · rfl
    · rfl
  generalize (⟨(y 1).val, hy1⟩ : Fin 512) = r at hy
  generalize (⟨(y 2).val, (y 2).isLt⟩ : Fin 1024) = k at hy
  subst hy
  blk_simp
  rw [after0_7]
  refine (out m c t r k ⟨t.val / 4, by omega⟩ ⟨512 * (t.val % 4) + r.val, by omega⟩ rfl rfl).trans (congrArg (Y m c) ?_)
  blk_ext [idx t]

/-- The tail array at the end of the grid: the gate rows of the last eight tokens of every sequence. -/
theorem final_tail (c : Dev nD) : (dats m 0 c).arrAt 8 cfg0.N = fun i : S8x8x2816.Idx =>
    G m c (ix3 (i 0) ⟨2040 + (i 1).val, by have h : (i 1).val < 8 := (i 1).isLt; omega⟩ (i 2)) := by
  refine (dats m 0 c).arrAt_eq_of_covers 8 _ (by decide +kernel) fun t hf y => ?_
  have ht := (idx t).2.2.2.2.2.2.2.2.2
  have h3 := (flush0_8 t).mp hf
  have hy1 : (y 1).val < 8 := (y 1).isLt
  have hy : y = (ix3 0 ⟨(y 1).val, hy1⟩ ⟨(y 2).val, (y 2).isLt⟩ : S1x8x2816.Idx) := by
    funext a; fin_cases a
    · exact Fin.ext (Nat.lt_one_iff.mp (y 0).isLt)
    · rfl
    · rfl
  generalize (⟨(y 1).val, hy1⟩ : Fin 8) = r at hy
  generalize (⟨(y 2).val, (y 2).isLt⟩ : Fin 2816) = f at hy
  subst hy
  blk_simp
  rw [after0_8]
  refine (tail m c t r f ⟨t.val / 4, by omega⟩ ⟨2040 + r.val, by omega⟩ rfl (by show 2040 + r.val = _; omega)).trans (congrArg (G m c) ?_)
  blk_ext [idx t]

/-- The second result: the last two gate rows of every sequence, cut from the tail array after the grid. -/
theorem after_tail (c : Dev nD) : Pipeline.afterTail₀ cfgs (dats m) 0 (V0 m) [hostOps1] c main_v13 =
    val_main_v53 (F := Ideal) (m ((c : Thread nD τ).loc main_arg0)) (m ((c : Thread nD τ).loc main_arg1)) (m ((c : Thread nD τ).loc main_arg3)) := by
  have hw : (Pipeline.withArrays (cfgs 0).spec c (V0 m c) fun w => (dats m 0 c).arrAt w (cfgs 0).N) (Proc.devRef .tc main_v11_1) =
      fun i : S8x8x2816.Idx =>
        G m c (ix3 (i 0) ⟨2040 + (i 1).val, by have h : (i 1).val < 8 := (i 1).isLt; omega⟩ (i 2)) :=
    (Pipeline.withArrays_arr _ launch0.win.arr_inj c (V0 m c) _ 8).trans (final_tail m c)
  funext i
  show StableHlo.after hostOps1 (Pipeline.withArrays (cfgs 0).spec c (V0 m c) fun w => (dats m 0 c).arrAt w (cfgs 0).N) (Proc.devRef .tc main_v13) i = _
  generalize (Pipeline.withArrays (cfgs 0).spec c (V0 m c) fun w => (dats m 0 c).arrAt w (cfgs 0).N) = W at hw ⊢
  after_results
  rw [hw]
  pointwise [val_main_v53, val_main_v51, val_main_v21]
  rw [dif_neg (by omega)]
  exact congrArg (G m c) (congrArg (fun q => ix3 (i 1) q (i 3)) (Fin.ext (by show 2040 + (6 + (i 2).val) = 2048 + (i 2).val - 2; omega)))

/-- The kernel's run: both results are the reference's terms over the arguments, which it leaves alone. -/
theorem run (g : Dev nD → PrngReg) :
    θ_run defs (onTc (τ := τ) (main (F := Ideal))) ⟨m, fun _ => 0, g⟩ fun r => ∀ c : Dev nD,
      r.2.mem ((c.tc : Thread nD τ).loc main_v11_0) = Y m c
      ∧ r.2.mem ((c.tc : Thread nD τ).loc main_v13) = val_main_v53 (F := Ideal) (m ((c : Thread nD τ).loc main_arg0)) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(Pipeline.FramePost.out_eq h.1 c 7).trans (final_out m c),
      (Pipeline.FramePost.rest_eq h.1 c main_v13 (by decide)).trans (after_tail m c), h.2.1 c⟩)
    (θ_run_and (run_main m g) (frame m g))

end Cert.FfnIdeal.Value
-- ==== Proof.GroupMean.lean ====
module

public import proofs.«01_k».proof.Proof.FfnValue
set_option maxRecDepth 16384
@[expose] public section

noncomputable section
open Idealize.ShloMosaic
namespace Cert.GroupMean

/-- A real factor that is not negative goes into a finite sum, infinite terms included. -/
theorem sum_scale {ι : Type} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih, mul_comm _ (r : EReal), mul_comm _ (r : EReal),
      mul_comm _ (r : EReal), EReal.left_distrib_of_nonneg_of_ne_top (by exact_mod_cast hr) (EReal.coe_ne_top r)]

/-- The product with the block matrix of 1/64 is the mean over the group of 64 a lane lies in. -/
theorem mean64 (w g : Fin 128 → EReal) (u : Fin 64 → EReal) (l : ℕ)
    (hg : ∀ k : Fin 128, g k = if k.val / 64 = l / 64 then ((1 / 64 : ℝ) : EReal) else 0)
    (hl : l < 128) (hu : ∀ (d : Fin 64) (k : Fin 128), k.val = 64 * (l / 64) + d.val → w k = u d) :
    ∑ k : Fin 128, w k * g k = Ideal.div (∑ d : Fin 64, u d) ((64 : ℝ) : EReal) := by
  rw [Ideal.div_coe (by norm_num), Fin.sum_univ_tiles 2 64 rfl (fun k => w k * g k), Fin.sum_univ_two]
  rcases Nat.lt_or_ge l 64 with h | h
  · have h0 : l / 64 = 0 := Nat.div_eq_of_lt h
    have z : ∑ t : Fin 64, w ⟨(1 : Fin 2) * 64 + t, by omega⟩ * g ⟨(1 : Fin 2) * 64 + t, by omega⟩ = 0 := by
      refine Finset.sum_eq_zero fun t _ => ?_
      rw [hg, if_neg (by have := t.isLt; simp only [h0, Fin.val_one]; omega), mul_zero]
    rw [z, add_zero]
    rw [← sum_scale _ _ _ (by norm_num)]
    refine Finset.sum_congr rfl fun t _ => ?_
    rw [hg, if_pos (by have := t.isLt; simp only [h0, Fin.val_zero]; omega), hu t _ (by simp only [h0, Fin.val_zero])]
  · have h0 : l / 64 = 1 := by omega
    have z : ∑ t : Fin 64, w ⟨(0 : Fin 2) * 64 + t, by omega⟩ * g ⟨(0 : Fin 2) * 64 + t, by omega⟩ = 0 := by
      refine Finset.sum_eq_zero fun t _ => ?_
      rw [hg, if_neg (by have := t.isLt; simp only [h0, Fin.val_zero]; omega), mul_zero]
    rw [z, zero_add]
    rw [← sum_scale _ _ _ (by norm_num)]
    refine Finset.sum_congr rfl fun t _ => ?_
    rw [hg, if_pos (by have := t.isLt; simp only [h0, Fin.val_one]; omega), hu t _ (by simp only [h0, Fin.val_one])]

/-- The product with the constant matrix of 1/128 is the mean over all 128 lanes. -/
theorem mean128 (u : Fin 128 → EReal) :
    ∑ k : Fin 128, u k * ((1 / 128 : ℝ) : EReal) = Ideal.div (∑ d : Fin 128, u d) ((128 : ℝ) : EReal) := by
  rw [Ideal.div_coe (by norm_num), sum_scale _ _ _ (by norm_num)]

end Cert.GroupMean
-- ==== Proof.ProjSampleHost.lean ====
module

public import proofs.«01_k».proof.Proof.GroupMean
public import proofs.«01_k».proof.Proof.Gen.ProjSampleIdeal.Frame
public import proofs.«01_k».proof.Proof.Gen.ProjSampleReferenceIdeal.Read
public import Idealize.ShloMosaic.Lib.Pipeline.ValueKit
public import Idealize.ShloMosaic.Lib.StableHlo.ReadAt
set_option maxRecDepth 16384
set_option maxHeartbeats 1000000
@[expose] public section

noncomputable section
open Idealize.ShloMosaic Idealize.ShloMosaic.TcCoe Idealize.SL.Sem
open Idealize.ShloMosaic.Pipeline (Dat)
namespace Cert.ProjSampleIdeal.Value
open Cert.ProjSampleIdeal Cert.ProjSampleIdeal.Gen
open Cert.ProjSampleReferenceIdeal.Read
variable (m : (ℓ : Loc nD τ sig) → Buf (Elt Ideal) ℓ)

/-- Every window is one whole array. -/
theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] :=
  (by decide +kernel : ∀ t : Fin grid0.N, _)

theorem V_gain (c : Dev nD) (i : S1x1024.Idx) : V m c main_v36 i = m ((c : Thread nD τ).loc main_arg1) (ix2 0 (i 1)) := by
  show StableHlo.after (List.flatten [hostOps0, hostOps0_1, hostOps0_2, hostOps0_3, hostOps0_4, hostOps0_5, hostOps0_6]) _ (Proc.devRef .tc main_v36) i = _
  simp only [hostOps0, hostOps0_1, hostOps0_2, hostOps0_3, hostOps0_4, hostOps0_5, hostOps0_6, List.flatten_cons, List.flatten_nil, List.append_nil, List.cons_append, List.nil_append]
  after_reads_at

/-- The padded weight matrix: the reference's columns, a gap of 60 after the first 1092. -/
theorem V_w (c : Dev nD) (k : Fin 1024) (n : Fin 2688) (n' : Fin 2628)
    (h : (n.val < 1092 ∧ n'.val = n.val) ∨ (1152 ≤ n.val ∧ n'.val + 60 = n.val)) :
    V m c main_v9 (ix2 k n) = m ((c : Thread nD τ).loc main_arg2) (ix3 0 k n') := by
  show StableHlo.after (List.flatten [hostOps0, hostOps0_1, hostOps0_2, hostOps0_3, hostOps0_4, hostOps0_5, hostOps0_6]) _ (Proc.devRef .tc main_v9) (ix2 k n) = _
  simp only [hostOps0, hostOps0_1, hostOps0_2, hostOps0_3, hostOps0_4, hostOps0_5, hostOps0_6, List.flatten_cons, List.flatten_nil, List.append_nil, List.cons_append, List.nil_append]
  after_reads_at
  rcases h with ⟨h, e⟩ | ⟨h, e⟩
  · rw [dif_pos h]
    after_reads_at
    exact congrArg _ (congrArg (ix3 0 k) (Fin.ext e.symm))
  · rw [dif_neg (by omega), dif_neg (by omega)]
    after_reads_at
    exact congrArg _ (congrArg (ix3 0 k) (Fin.ext (by show 1092 + (n.val - 1092 - 60) = n'.val; omega)))

/-- The gain of the normalized query heads, tiled over their columns. -/
theorem V_hgain_qa (c : Dev nD) (n : Fin 2688) (d : Fin 64) (hd : n.val % 64 = d.val) (h0 : 0 ≤ n.val) (hn : n.val < 512) :
    V m c main_v25 (ix2 0 n) = m ((c : Thread nD τ).loc main_arg3) (ix2 0 d) := by
  show StableHlo.after (List.flatten [hostOps0, hostOps0_1, hostOps0_2, hostOps0_3, hostOps0_4, hostOps0_5, hostOps0_6]) _ (Proc.devRef .tc main_v25) (ix2 0 n) = _
  simp only [hostOps0, hostOps0_1, hostOps0_2, hostOps0_3, hostOps0_4, hostOps0_5, hostOps0_6, List.flatten_cons, List.flatten_nil, List.append_nil, List.cons_append, List.nil_append]
  after_reads_at
  rw [dif_pos (by omega)]
  after_reads_at
  exact congrArg _ (congrArg (ix2 0) (Fin.ext (by show _ % 64 = _; omega)))

/-- The gain of the normalized query heads, tiled over their columns. -/
theorem V_hgain_ka (c : Dev nD) (n : Fin 2688) (d : Fin 64) (hd : n.val % 64 = d.val) (h0 : 512 ≤ n.val) (hn : n.val < 640) :
    V m c main_v25 (ix2 0 n) = m ((c : Thread nD τ).loc main_arg4) (ix2 0 d) := by
  show StableHlo.after (List.flatten [hostOps0, hostOps0_1, hostOps0_2, hostOps0_3, hostOps0_4, hostOps0_5, hostOps0_6]) _ (Proc.devRef .tc main_v25) (ix2 0 n) = _
  simp only [hostOps0, hostOps0_1, hostOps0_2, hostOps0_3, hostOps0_4, hostOps0_5, hostOps0_6, List.flatten_cons, List.flatten_nil, List.append_nil, List.cons_append, List.nil_append]
  after_reads_at
  rw [dif_neg (by omega)]
  rw [dif_pos (by omega)]
  after_reads_at
  exact congrArg _ (congrArg (ix2 0) (Fin.ext (by show _ % 64 = _; omega)))

/-- The gain of the normalized query heads, tiled over their columns. -/
theorem V_hgain_qb (c : Dev nD) (n : Fin 2688) (d : Fin 64) (hd : n.val % 64 = d.val) (h0 : 1152 ≤ n.val) (hn : n.val < 1664) :
    V m c main_v25 (ix2 0 n) = m ((c : Thread nD τ).loc main_arg5) (ix2 0 d) := by
  show StableHlo.after (List.flatten [hostOps0, hostOps0_1, hostOps0_2, hostOps0_3, hostOps0_4, hostOps0_5, hostOps0_6]) _ (Proc.devRef .tc main_v25) (ix2 0 n) = _
  simp only [hostOps0, hostOps0_1, hostOps0_2, hostOps0_3, hostOps0_4, hostOps0_5, hostOps0_6, List.flatten_cons, List.flatten_nil, List.append_nil, List.cons_append, List.nil_append]
  after_reads_at
  rw [dif_neg (by omega)]
  rw [dif_neg (by omega)]
  rw [dif_neg (by omega)]
  rw [dif_pos (by omega)]
  after_reads_at
  exact congrArg _ (congrArg (ix2 0) (Fin.ext (by show _ % 64 = _; omega)))

/-- The gain of the normalized query heads, tiled over their columns. -/
theorem V_hgain_kb (c : Dev nD) (n : Fin 2688) (d : Fin 64) (hd : n.val % 64 = d.val) (h0 : 1664 ≤ n.val) (hn : n.val < 2176) :
    V m c main_v25 (ix2 0 n) = m ((c : Thread nD τ).loc main_arg6) (ix2 0 d) := by
  show StableHlo.after (List.flatten [hostOps0, hostOps0_1, hostOps0_2, hostOps0_3, hostOps0_4, hostOps0_5, hostOps0_6]) _ (Proc.devRef .tc main_v25) (ix2 0 n) = _
  simp only [hostOps0, hostOps0_1, hostOps0_2, hostOps0_3, hostOps0_4, hostOps0_5, hostOps0_6, List.flatten_cons, List.flatten_nil, List.append_nil, List.cons_append, List.nil_append]
  after_reads_at
  rw [dif_neg (by omega)]
  rw [dif_neg (by omega)]
  rw [dif_neg (by omega)]
  rw [dif_neg (by omega)]
  rw [dif_pos (by omega)]
  after_reads_at
  exact congrArg _ (congrArg (ix2 0) (Fin.ext (by show _ % 64 = _; omega)))

/-- Integer division by 64 as the host spells it. -/
theorem floordiv : ∀ k : Fin 512, Scalar.select
          (IntOp.andi
            (IntOp.cmpi CmpIPredicate.ne
              (if BitVec.ofNat 32 k.val = 0 then (0 : BitVec 32) else if (BitVec.ofNat 32 k.val).msb = true then (-1) else 1)
              (if (64#32 : BitVec 32) = 0 then (0 : BitVec 32) else if BitVec.msb 64#32 = true then (-1) else 1))
            (IntOp.cmpi CmpIPredicate.ne (IntOp.remsi ArithUnit.host (BitVec.ofNat 32 k.val) 64#32) 0#32))
          (IntOp.subi (IntOp.divsi ArithUnit.host (BitVec.ofNat 32 k.val) 64#32) 1#32)
          (IntOp.divsi ArithUnit.host (BitVec.ofNat 32 k.val) 64#32) = BitVec.ofNat 32 (k.val / 64) := by
  decide +kernel

/-- The bits of one sixty-fourth. -/
theorem inv64 : Ideal.ofBits FTy.f32 1015021568#32 = ((1 / 64 : ℝ) : EReal) := by
  simp [Ideal.ofBits, Ideal.ieee, -EReal.coe_mul]; norm_num

theorem V_gm (c : Dev nD) (k l : Fin 512) :
    V m c main_v34 (ix2 k l) = if k.val / 64 = l.val / 64 then ((1 / 64 : ℝ) : EReal) else 0 := by
  show StableHlo.after (List.flatten [hostOps0, hostOps0_1, hostOps0_2, hostOps0_3, hostOps0_4, hostOps0_5, hostOps0_6]) _ (Proc.devRef .tc main_v34) (ix2 k l) = _
  simp only [hostOps0, hostOps0_1, hostOps0_2, hostOps0_3, hostOps0_4, hostOps0_5, hostOps0_6, List.flatten_cons, List.flatten_nil, List.append_nil, List.cons_append, List.nil_append]
  after_reads_at
  have hk := floordiv k
  have hl := floordiv l
  refine (congrArg₂ (fun a b => Scalar.select (IntOp.cmpi CmpIPredicate.eq a b) (Ideal.ofBits FTy.f32 1015021568#32) (0 : EReal)) hk hl).trans ?_
  beta_reduce
  rw [inv64]
  by_cases h : k.val / 64 = l.val / 64
  · rw [if_pos h, h]; simp [IntOp.cmpi, Scalar.select]
  · rw [if_neg h]
    have : BitVec.ofNat 32 (k.val / 64) ≠ BitVec.ofNat 32 (l.val / 64) := by
      intro e
      have := congrArg BitVec.toNat e
      simp only [BitVec.toNat_ofNat] at this
      omega
    have h2 : (BitVec.ofNat 32 (k.val / 64) == BitVec.ofNat 32 (l.val / 64)) = false := by simpa using this
    simp [IntOp.cmpi, Scalar.select, h2]

theorem V_x (c : Dev nD) (r : Fin 256) (k : Fin 1024) (b : Fin 32) (q : Fin 4) (h : r.val = 8 * b.val + q.val) :
    V m c main_v38 (ix2 r k) = m ((c : Thread nD τ).loc main_arg0) (ix3 b q k) := by
  show StableHlo.after (List.flatten [hostOps0, hostOps0_1, hostOps0_2, hostOps0_3, hostOps0_4, hostOps0_5, hostOps0_6]) _ (Proc.devRef .tc main_v38) (ix2 r k) = _
  simp only [hostOps0, hostOps0_1, hostOps0_2, hostOps0_3, hostOps0_4, hostOps0_5, hostOps0_6, List.flatten_cons, List.flatten_nil, List.append_nil, List.cons_append, List.nil_append]
  after_reads_at
  have h1 : r.val / 8 = b.val := by omega
  have h2 : r.val % 8 = q.val := by omega
  rw [dif_pos ⟨by omega, by omega⟩]
  exact congrArg _ (congrArg₂ (fun b q => ix3 b q k) (Fin.ext h1) (Fin.ext h2))

end Cert.ProjSampleIdeal.Value
-- ==== Proof.ProjSampleValue.lean ====
module

public import proofs.«01_k».proof.Proof.ProjSampleHost
public import Idealize.ShloMosaic.Lib.Pipeline.ValueKit
public import Idealize.ShloMosaic.Lib.Pipeline.ReadBack
set_option maxRecDepth 16384
set_option maxHeartbeats 1000000
@[expose] public section

noncomputable section
open Idealize.ShloMosaic Idealize.ShloMosaic.TcCoe Idealize.SL.Sem
open Idealize.ShloMosaic.Pipeline (Dat)
namespace Cert.ProjSampleIdeal.Value
open Cert.ProjSampleIdeal Cert.ProjSampleIdeal.Gen
open Cert.ProjSampleReferenceIdeal.Read
variable (m : (ℓ : Loc nD τ sig) → Buf (Elt Ideal) ℓ)

/-- The projection of the normalized tokens, as the reference computes it. -/
abbrev Z (c : Dev nD) : FVec Ideal Cert.ProjSampleReferenceIdeal.S32x4x2628 .f32 :=
  val_main_v19 (F := Ideal) (m ((c : Thread nD τ).loc main_arg0)) (m ((c : Thread nD τ).loc main_arg1)) (m ((c : Thread nD τ).loc main_arg2))

/-- The kernel's product over the padded weights holds the reference's columns. -/
theorem proj (c : Dev nD) (t : Fin cfg0.N) (r : Fin 256) (n : Fin 2688) (b : Fin 32) (q : Fin 4) (n' : Fin 2628)
    (hr : r.val = 8 * b.val + q.val)
    (h : (n.val < 1092 ∧ n'.val = n.val) ∨ (1152 ≤ n.val ∧ n'.val + 60 = n.val)) :
    k0_pay17 (iblk m c 0 t) (iblk m c 1 t) (iblk m c 2 t) (iblk m c 3 t) (iblk m c 4 t) (ix2 r n) = Z m c (ix3 b q n') := by
  have hx : ∀ k : Fin 1024, iblk m c 0 t (ix2 r k) = m ((c : Thread nD τ).loc main_arg0) (ix3 b q k) := by
    intro k
    show V m c main_v38 ((win0_0.blk t).view.emb (ix2 r k)) = _
    rw [← V_x m c r k b q hr]; blk_ext [idx t]
  have hg : ∀ k : Fin 1024, iblk m c 1 t (ix2 0 k) = m ((c : Thread nD τ).loc main_arg1) (ix2 0 k) := by
    intro k
    show V m c main_v36 ((win0_1.blk t).view.emb (ix2 0 k)) = _
    rw [V_gain]; blk_ext [idx t]
  have hw : ∀ k : Fin 1024, iblk m c 2 t (ix2 k n) = m ((c : Thread nD τ).loc main_arg2) (ix3 0 k n') := by
    intro k
    show V m c main_v9 ((win0_2.blk t).view.emb (ix2 k n)) = _
    rw [← V_w m c k n n' h]; blk_ext [idx t]
  unfold k0_pay17
  pointwise [k0_pay2, Z, val_main_v19, val_main_v18, val_main_v17, val_main_v16, val_main_v15, val_main_v14, val_main_v13, val_main_v12, val_main_v11, val_main_v10,
    val_main_v9, val_main_v8, val_main_v7, val_main_v6, val_main_v5, val_main_v4, val_main_cst, val_main_cst_0, val_main_cst_1]
  simp only [hx, hg, hw]

theorem c64 : Ideal.ofBits FTy.f32 1115684864#32 = ((64 : ℝ) : EReal) := by
  simp [Ideal.ofBits, Ideal.ieee, -EReal.coe_mul]; norm_num

/-- The group-mean matrix in its window. -/
theorem gm (c : Dev nD) (t : Fin cfg0.N) (k l : Fin 512) :
    iblk m c 3 t (ix2 k l) = if k.val / 64 = l.val / 64 then ((1 / 64 : ℝ) : EReal) else 0 := by
  show V m c main_v34 ((win0_3.blk t).view.emb (ix2 k l)) = _
  rw [← V_gm m c k l]; blk_ext [idx t]

theorem hgain (c : Dev nD) (t : Fin cfg0.N) (n : Fin 2688) : iblk m c 4 t (ix2 0 n) = V m c main_v25 (ix2 0 n) := by
  show V m c main_v25 ((win0_4.blk t).view.emb (ix2 0 n)) = _
  blk_ext [idx t]

/-- The normalized keys of the first attention. -/
theorem ka (c : Dev nD) (t : Fin cfg0.N) (r : Fin 256) (l : Fin 128) (b : Fin 32) (q : Fin 4) (j : Fin 2) (d : Fin 64)
    (hr : r.val = 8 * b.val + q.val) (hl : l.val = 64 * j.val + d.val) :
    k0_pay6 (k0_pay17 (iblk m c 0 t) (iblk m c 1 t) (iblk m c 2 t) (iblk m c 3 t) (iblk m c 4 t)) (View.ld (iblk m c 3 t) r0_3) (View.ld (iblk m c 4 t) r0_6) (ix2 r l) =
    val_main_v56 (F := Ideal) (m ((c : Thread nD τ).loc main_arg0)) (m ((c : Thread nD τ).loc main_arg1)) (m ((c : Thread nD τ).loc main_arg2)) (m ((c : Thread nD τ).loc main_arg4)) (ix4 b q j d) := by
  have hp : ∀ (n : Fin 2688) (n' : Fin 2628), ((n.val < 1092 ∧ n'.val = n.val) ∨ (1152 ≤ n.val ∧ n'.val + 60 = n.val)) →
    k0_pay17 (iblk m c 0 t) (iblk m c 1 t) (iblk m c 2 t) (iblk m c 3 t) (iblk m c 4 t) (ix2 r n) = Z m c (ix3 b q n') :=
    fun n n' h => proj m c t r n b q n' hr h
  revert hp
  generalize k0_pay17 (iblk m c 0 t) (iblk m c 1 t) (iblk m c 2 t) (iblk m c 3 t) (iblk m c 4 t) = v
  intro hp
  pointwise [k0_pay6, val_main_v56, val_main_v55, val_main_v54, val_main_v53, val_main_v52, val_main_v51, val_main_v50, val_main_v49, val_main_v48,
    val_main_v47, val_main_v46, val_main_v45, val_main_v44, val_main_v43, val_main_v21, val_main_v1, val_main_cst_5, val_main_cst_6, val_main_cst_7]
  rw [c64]
  refine congrArg₂ (· * ·) (congrArg₂ (· * ·) (hp _ _ (Or.inl ⟨by show 512 + _ < _; omega, by show 512 + _ = 512 + _; omega⟩))
    (congrArg Ideal.rsqrt (congrArg (· + _) ?_))) ?_
  · exact GroupMean.mean64 (fun x => v (ix2 r ⟨512 + x.val, _⟩) * v (ix2 r ⟨512 + x.val, _⟩)) _ (fun x => Z m c (ix3 b q ⟨512 + (j.val * 64 + x.val), _⟩) * Z m c (ix3 b q ⟨512 + (j.val * 64 + x.val), _⟩)) l.val (fun x => gm m c t _ _) l.isLt (fun x k hk => by
      have e := hp ⟨512 + k.val, by omega⟩ ⟨512 + (j.val * 64 + x.val), by omega⟩ (Or.inl ⟨by show 512 + _ < _; omega, by show 512 + _ = 512 + _; omega⟩)
      exact congrArg₂ (· * ·) e e)
  · rw [hgain]
    exact V_hgain_ka m c _ d (by show (512 + _) % 64 = _; omega) (by show 512 ≤ 512 + _; omega) (by show 512 + _ < _; omega)

/-- The normalized keys of the second attention. -/
theorem kb (c : Dev nD) (t : Fin cfg0.N) (r : Fin 256) (l : Fin 512) (b : Fin 32) (q : Fin 4) (j : Fin 4) (p : Fin 2) (d : Fin 64)
    (hr : r.val = 8 * b.val + q.val) (hl : l.val = 128 * j.val + 64 * p.val + d.val) :
    k0_pay16 (k0_pay17 (iblk m c 0 t) (iblk m c 1 t) (iblk m c 2 t) (iblk m c 3 t) (iblk m c 4 t)) (View.ld (iblk m c 3 t) r0_3) (View.ld (iblk m c 4 t) r0_11) (ix2 r l) =
    val_main_v86 (F := Ideal) (m ((c : Thread nD τ).loc main_arg0)) (m ((c : Thread nD τ).loc main_arg1)) (m ((c : Thread nD τ).loc main_arg2)) (m ((c : Thread nD τ).loc main_arg6)) (ix5 b q j p d) := by
  have hp : ∀ (n : Fin 2688) (n' : Fin 2628), ((n.val < 1092 ∧ n'.val = n.val) ∨ (1152 ≤ n.val ∧ n'.val + 60 = n.val)) →
    k0_pay17 (iblk m c 0 t) (iblk m c 1 t) (iblk m c 2 t) (iblk m c 3 t) (iblk m c 4 t) (ix2 r n) = Z m c (ix3 b q n') :=
    fun n n' h => proj m c t r n b q n' hr h
  revert hp
  generalize k0_pay17 (iblk m c 0 t) (iblk m c 1 t) (iblk m c 2 t) (iblk m c 3 t) (iblk m c 4 t) = v
  intro hp
  pointwise [k0_pay16, val_main_v86, val_main_v85, val_main_v84, val_main_v83, val_main_v82, val_main_v81, val_main_v80, val_main_v79, val_main_v78,
    val_main_v77, val_main_v76, val_main_v75, val_main_v74, val_main_v73, val_main_v27, val_main_v3, val_main_cst_11, val_main_cst_12, val_main_cst_13]
  rw [c64]
  refine congrArg₂ (· * ·) (congrArg₂ (· * ·) (hp _ _ (Or.inr ⟨by show 1152 ≤ 1664 + _; omega, by show 1604 + _ + 60 = 1664 + _; omega⟩))
    (congrArg Ideal.rsqrt (congrArg (· + _) ?_))) ?_
  · split_ifs <;>
    · refine GroupMean.mean64 _ _ _ (l.val % 128) (fun x => ?_) (by omega) (fun x k hk => ?_)
      · rw [gm]
        exact if_congr (by dsimp only; omega) rfl rfl
      · have e : ∀ n n', n = n' → v (ix2 r n) * v (ix2 r n) = v (ix2 r n') * v (ix2 r n') := fun n n' h => by rw [h]
        have h := hp ⟨1664 + (128 * j.val + k.val), by omega⟩ ⟨1604 + (j.val * 128 + p.val * 64 + x.val), by omega⟩
          (Or.inr ⟨by show 1152 ≤ 1664 + _; omega, by show 1604 + _ + 60 = 1664 + _; omega⟩)
        refine (e _ ⟨1664 + (128 * j.val + k.val), by omega⟩ (Fin.ext (by dsimp only; omega))).trans (congrArg₂ (· * ·) h h)
  · rw [hgain]
    exact V_hgain_kb m c _ d (by show (1664 + _) % 64 = _; omega) (by show 1664 ≤ 1664 + _; omega) (by show 1664 + _ < _; omega)

/-- The values of the first attention. -/
theorem va (c : Dev nD) (t : Fin cfg0.N) (r : Fin 256) (l : Fin 128) (b : Fin 32) (q : Fin 4) (j : Fin 2) (d : Fin 64)
    (hr : r.val = 8 * b.val + q.val) (hl : l.val = 64 * j.val + d.val) :
    out0_7 (iblk m c 0 t) (iblk m c 1 t) (iblk m c 2 t) (iblk m c 3 t) (iblk m c 4 t) (ix2 r l) =
    val_main_v57 (F := Ideal) (m ((c : Thread nD τ).loc main_arg0)) (m ((c : Thread nD τ).loc main_arg1)) (m ((c : Thread nD τ).loc main_arg2)) (ix4 b q j d) := by
  unfold out0_7
  frame_out
  have hp : ∀ (n : Fin 2688) (n' : Fin 2628), ((n.val < 1092 ∧ n'.val = n.val) ∨ (1152 ≤ n.val ∧ n'.val + 60 = n.val)) →
    k0_pay17 (iblk m c 0 t) (iblk m c 1 t) (iblk m c 2 t) (iblk m c 3 t) (iblk m c 4 t) (ix2 r n) = Z m c (ix3 b q n') :=
    fun n n' h => proj m c t r n b q n' hr h
  revert hp
  generalize k0_pay17 (iblk m c 0 t) (iblk m c 1 t) (iblk m c 2 t) (iblk m c 3 t) (iblk m c 4 t) = v
  intro hp
  pointwise [k0_pay7, val_main_v57, val_main_v22]
  exact hp _ _ (Or.inl ⟨by show 640 + _ < _; omega, by show 640 + _ = 640 + _; omega⟩)

/-- The index keys. -/
theorem ki (c : Dev nD) (t : Fin cfg0.N) (r : Fin 256) (l : Fin 64) (b : Fin 32) (q : Fin 4)
    (hr : r.val = 8 * b.val + q.val) :
    out0_10 (iblk m c 0 t) (iblk m c 1 t) (iblk m c 2 t) (iblk m c 3 t) (iblk m c 4 t) (ix2 r l) =
    val_main_v24 (F := Ideal) (m ((c : Thread nD τ).loc main_arg0)) (m ((c : Thread nD τ).loc main_arg1)) (m ((c : Thread nD τ).loc main_arg2)) (ix3 b q l) := by
  unfold out0_10
  frame_out
  have hp : ∀ (n : Fin 2688) (n' : Fin 2628), ((n.val < 1092 ∧ n'.val = n.val) ∨ (1152 ≤ n.val ∧ n'.val + 60 = n.val)) →
    k0_pay17 (iblk m c 0 t) (iblk m c 1 t) (iblk m c 2 t) (iblk m c 3 t) (iblk m c 4 t) (ix2 r n) = Z m c (ix3 b q n') :=
    fun n n' h => proj m c t r n b q n' hr h
  revert hp
  generalize k0_pay17 (iblk m c 0 t) (iblk m c 1 t) (iblk m c 2 t) (iblk m c 3 t) (iblk m c 4 t) = v
  intro hp
  pointwise [k0_pay10, k0_pay9, val_main_v24]
  exact hp _ _ (Or.inl ⟨by show 1024 + _ < _; omega, rfl⟩)

/-- The values of the second attention. -/
theorem vb (c : Dev nD) (t : Fin cfg0.N) (r : Fin 256) (l : Fin 512) (b : Fin 32) (q : Fin 4) (j : Fin 4) (d : Fin 128)
    (hr : r.val = 8 * b.val + q.val) (hl : l.val = 128 * j.val + d.val) :
    out0_13 (iblk m c 0 t) (iblk m c 1 t) (iblk m c 2 t) (iblk m c 3 t) (iblk m c 4 t) (ix2 r l) =
    val_main_v87 (F := Ideal) (m ((c : Thread nD τ).loc main_arg0)) (m ((c : Thread nD τ).loc main_arg1)) (m ((c : Thread nD τ).loc main_arg2)) (ix4 b q j d) := by
  unfold out0_13
  frame_out
  have hp : ∀ (n : Fin 2688) (n' : Fin 2628), ((n.val < 1092 ∧ n'.val = n.val) ∨ (1152 ≤ n.val ∧ n'.val + 60 = n.val)) →
    k0_pay17 (iblk m c 0 t) (iblk m c 1 t) (iblk m c 2 t) (iblk m c 3 t) (iblk m c 4 t) (ix2 r n) = Z m c (ix3 b q n') :=
    fun n n' h => proj m c t r n b q n' hr h
  revert hp
  generalize k0_pay17 (iblk m c 0 t) (iblk m c 1 t) (iblk m c 2 t) (iblk m c 3 t) (iblk m c 4 t) = v
  intro hp
  pointwise [k0_pay1, val_main_v87, val_main_v28]
  exact hp _ _ (Or.inr ⟨by show 1152 ≤ 2176 + _; omega, by show 2116 + _ + 60 = 2176 + _; omega⟩)

/-- The single point of the grid. -/
abbrev t0 : Fin cfg0.N := ⟨0, by decide⟩

theorem point_eq (t : Fin cfg0.N) : t = t0 := Fin.ext (by have := t.isLt; have e : cfg0.N = 1 := by decide
                                                          omega)

theorem final_6 (c : Dev nD) : (dats m 0 c).arrAt 6 cfg0.N =
    out0_6 (iblk m c 0 t0) (iblk m c 1 t0) (iblk m c 2 t0) (iblk m c 3 t0) (iblk m c 4 t0) := by
  refine (dats m 0 c).arrAt_eq_of_covers 6 _ (by decide +kernel) fun t hf y => ?_
  obtain rfl := point_eq t
  blk_simp
  rw [after0_6]
  refine congrArg (out0_6 (iblk m c 0 t0) (iblk m c 1 t0) (iblk m c 2 t0) (iblk m c 3 t0) (iblk m c 4 t0)) ?_
  blk_ext [idx t0]

theorem final_7 (c : Dev nD) : (dats m 0 c).arrAt 7 cfg0.N =
    out0_7 (iblk m c 0 t0) (iblk m c 1 t0) (iblk m c 2 t0) (iblk m c 3 t0) (iblk m c 4 t0) := by
  refine (dats m 0 c).arrAt_eq_of_covers 7 _ (by decide +kernel) fun t hf y => ?_
  obtain rfl := point_eq t
  blk_simp
  rw [after0_7]
  refine congrArg (out0_7 (iblk m c 0 t0) (iblk m c 1 t0) (iblk m c 2 t0) (iblk m c 3 t0) (iblk m c 4 t0)) ?_
  blk_ext [idx t0]

theorem final_10 (c : Dev nD) : (dats m 0 c).arrAt 10 cfg0.N =
    out0_10 (iblk m c 0 t0) (iblk m c 1 t0) (iblk m c 2 t0) (iblk m c 3 t0) (iblk m c 4 t0) := by
  refine (dats m 0 c).arrAt_eq_of_covers 10 _ (by decide +kernel) fun t hf y => ?_
  obtain rfl := point_eq t
  blk_simp
  rw [after0_10]
  refine congrArg (out0_10 (iblk m c 0 t0) (iblk m c 1 t0) (iblk m c 2 t0) (iblk m c 3 t0) (iblk m c 4 t0)) ?_
  blk_ext [idx t0]

theorem final_12 (c : Dev nD) : (dats m 0 c).arrAt 12 cfg0.N =
    out0_12 (iblk m c 0 t0) (iblk m c 1 t0) (iblk m c 2 t0) (iblk m c 3 t0) (iblk m c 4 t0) := by
  refine (dats m 0 c).arrAt_eq_of_covers 12 _ (by decide +kernel) fun t hf y => ?_
  obtain rfl := point_eq t
  blk_simp
  rw [after0_12]
  refine congrArg (out0_12 (iblk m c 0 t0) (iblk m c 1 t0) (iblk m c 2 t0) (iblk m c 3 t0) (iblk m c 4 t0)) ?_
  blk_ext [idx t0]

theorem final_13 (c : Dev nD) : (dats m 0 c).arrAt 13 cfg0.N =
    out0_13 (iblk m c 0 t0) (iblk m c 1 t0) (iblk m c 2 t0) (iblk m c 3 t0) (iblk m c 4 t0) := by
  refine (dats m 0 c).arrAt_eq_of_covers 13 _ (by decide +kernel) fun t hf y => ?_
  obtain rfl := point_eq t
  blk_simp
  rw [after0_13]
  refine congrArg (out0_13 (iblk m c 0 t0) (iblk m c 1 t0) (iblk m c 2 t0) (iblk m c 3 t0) (iblk m c 4 t0)) ?_
  blk_ext [idx t0]

theorem after_42 (c : Dev nD) : Pipeline.afterTail₀ cfgs (dats m) 0 (V0 m) [hostOps1] c main_v42 =
    val_main_v88 (F := Ideal) (m ((c : Thread nD τ).loc main_arg0)) (m ((c : Thread nD τ).loc main_arg1)) (m ((c : Thread nD τ).loc main_arg2)) (m ((c : Thread nD τ).loc main_arg4)) := by
  have hw := (Pipeline.withArrays_arr _ launch0.win.arr_inj c (V0 m c) (fun w => (dats m 0 c).arrAt w (cfgs 0).N) 6).trans (final_6 m c)
  funext i
  show StableHlo.after hostOps1 (Pipeline.withArrays (cfgs 0).spec c (V0 m c) fun w => (dats m 0 c).arrAt w (cfgs 0).N) (Proc.devRef .tc main_v42) i = _
  revert hw
  generalize (Pipeline.withArrays (cfgs 0).spec c (V0 m c) fun w => (dats m 0 c).arrAt w (cfgs 0).N) = W
  intro hw
  replace hw : W (Proc.devRef .tc main_v39_1) = out0_6 (iblk m c 0 t0) (iblk m c 1 t0) (iblk m c 2 t0) (iblk m c 3 t0) (iblk m c 4 t0) := hw
  after_results
  rw [hw]
  pointwise [val_main_v88]
  unfold out0_6
  frame_out
  exact ka m c t0 _ _ (i 1) (i 2) (i 3) (i 4) (by show (i 1).val * 8 + (i 2).val = 8 * (i 1).val + (i 2).val; omega) (by show (i 3).val * 64 + (i 4).val = 64 * (i 3).val + (i 4).val; omega)

theorem after_45 (c : Dev nD) : Pipeline.afterTail₀ cfgs (dats m) 0 (V0 m) [hostOps1] c main_v45 =
    val_main_v89 (F := Ideal) (m ((c : Thread nD τ).loc main_arg0)) (m ((c : Thread nD τ).loc main_arg1)) (m ((c : Thread nD τ).loc main_arg2)) := by
  have hw := (Pipeline.withArrays_arr _ launch0.win.arr_inj c (V0 m c) (fun w => (dats m 0 c).arrAt w (cfgs 0).N) 7).trans (final_7 m c)
  funext i
  show StableHlo.after hostOps1 (Pipeline.withArrays (cfgs 0).spec c (V0 m c) fun w => (dats m 0 c).arrAt w (cfgs 0).N) (Proc.devRef .tc main_v45) i = _
  revert hw
  generalize (Pipeline.withArrays (cfgs 0).spec c (V0 m c) fun w => (dats m 0 c).arrAt w (cfgs 0).N) = W
  intro hw
  replace hw : W (Proc.devRef .tc main_v39_2) = out0_7 (iblk m c 0 t0) (iblk m c 1 t0) (iblk m c 2 t0) (iblk m c 3 t0) (iblk m c 4 t0) := hw
  after_results
  rw [hw]
  pointwise [val_main_v89]
  exact va m c t0 _ _ (i 1) (i 2) (i 3) (i 4) (by show (i 1).val * 8 + (i 2).val = 8 * (i 1).val + (i 2).val; omega) (by show (i 3).val * 64 + (i 4).val = 64 * (i 3).val + (i 4).val; omega)

theorem after_48 (c : Dev nD) : Pipeline.afterTail₀ cfgs (dats m) 0 (V0 m) [hostOps1] c main_v48 =
    val_main_v90 (F := Ideal) (m ((c : Thread nD τ).loc main_arg0)) (m ((c : Thread nD τ).loc main_arg1)) (m ((c : Thread nD τ).loc main_arg2)) := by
  have hw := (Pipeline.withArrays_arr _ launch0.win.arr_inj c (V0 m c) (fun w => (dats m 0 c).arrAt w (cfgs 0).N) 10).trans (final_10 m c)
  funext i
  show StableHlo.after hostOps1 (Pipeline.withArrays (cfgs 0).spec c (V0 m c) fun w => (dats m 0 c).arrAt w (cfgs 0).N) (Proc.devRef .tc main_v48) i = _
  revert hw
  generalize (Pipeline.withArrays (cfgs 0).spec c (V0 m c) fun w => (dats m 0 c).arrAt w (cfgs 0).N) = W
  intro hw
  replace hw : W (Proc.devRef .tc main_v39_5) = out0_10 (iblk m c 0 t0) (iblk m c 1 t0) (iblk m c 2 t0) (iblk m c 3 t0) (iblk m c 4 t0) := hw
  after_results
  rw [hw]
  pointwise [val_main_v90]
  exact ki m c t0 _ _ (i 1) (i 2) (by show (i 1).val * 8 + (i 2).val = 8 * (i 1).val + (i 2).val; omega)

theorem after_51 (c : Dev nD) : Pipeline.afterTail₀ cfgs (dats m) 0 (V0 m) [hostOps1] c main_v51 =
    val_main_v91 (F := Ideal) (m ((c : Thread nD τ).loc main_arg0)) (m ((c : Thread nD τ).loc main_arg1)) (m ((c : Thread nD τ).loc main_arg2)) (m ((c : Thread nD τ).loc main_arg6)) := by
  have hw := (Pipeline.withArrays_arr _ launch0.win.arr_inj c (V0 m c) (fun w => (dats m 0 c).arrAt w (cfgs 0).N) 12).trans (final_12 m c)
  funext i
  show StableHlo.after hostOps1 (Pipeline.withArrays (cfgs 0).spec c (V0 m c) fun w => (dats m 0 c).arrAt w (cfgs 0).N) (Proc.devRef .tc main_v51) i = _
  revert hw
  generalize (Pipeline.withArrays (cfgs 0).spec c (V0 m c) fun w => (dats m 0 c).arrAt w (cfgs 0).N) = W
  intro hw
  replace hw : W (Proc.devRef .tc main_v39_7) = out0_12 (iblk m c 0 t0) (iblk m c 1 t0) (iblk m c 2 t0) (iblk m c 3 t0) (iblk m c 4 t0) := hw
  after_results
  rw [hw]
  pointwise [val_main_v91]
  unfold out0_12
  frame_out
  exact kb m c t0 _ _ (i 1) (i 2) (i 3) (i 4) (i 5) (by show (i 1).val * 8 + (i 2).val = 8 * (i 1).val + (i 2).val; omega) (by show (i 3).val * 128 + (i 4).val * 64 + (i 5).val = 128 * (i 3).val + 64 * (i 4).val + (i 5).val; omega)

theorem after_54 (c : Dev nD) : Pipeline.afterTail₀ cfgs (dats m) 0 (V0 m) [hostOps1] c main_v54 =
    val_main_v92 (F := Ideal) (m ((c : Thread nD τ).loc main_arg0)) (m ((c : Thread nD τ).loc main_arg1)) (m ((c : Thread nD τ).loc main_arg2)) := by
  have hw := (Pipeline.withArrays_arr _ launch0.win.arr_inj c (V0 m c) (fun w => (dats m 0 c).arrAt w (cfgs 0).N) 13).trans (final_13 m c)
  funext i
  show StableHlo.after hostOps1 (Pipeline.withArrays (cfgs 0).spec c (V0 m c) fun w => (dats m 0 c).arrAt w (cfgs 0).N) (Proc.devRef .tc main_v54) i = _
  revert hw
  generalize (Pipeline.withArrays (cfgs 0).spec c (V0 m c) fun w => (dats m 0 c).arrAt w (cfgs 0).N) = W
  intro hw
  replace hw : W (Proc.devRef .tc main_v39_8) = out0_13 (iblk m c 0 t0) (iblk m c 1 t0) (iblk m c 2 t0) (iblk m c 3 t0) (iblk m c 4 t0) := hw
  after_results
  rw [hw]
  pointwise [val_main_v92]
  exact vb m c t0 _ _ (i 1) (i 2) (i 3) (i 4) (by show (i 1).val * 8 + (i 2).val = 8 * (i 1).val + (i 2).val; omega) (by show (i 3).val * 128 + (i 4).val = 128 * (i 3).val + (i 4).val; omega)

/-- The kernel's run: the five results are the reference's terms over the arguments, which it leaves alone. -/
theorem run (g : Dev nD → PrngReg) :
    θ_run defs (onTc (τ := τ) (main (F := Ideal))) ⟨m, fun _ => 0, g⟩ fun r => ∀ c : Dev nD,
      r.2.mem ((c.tc : Thread nD τ).loc main_v42) = val_main_v88 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_v45) = val_main_v89 (F := Ideal) (m ((c : Thread nD τ).loc main_arg0)) (m ((c : Thread nD τ).loc main_arg1)) (m ((c : Thread nD τ).loc main_arg2))
      ∧ r.2.mem ((c.tc : Thread nD τ).loc main_v48) = val_main_v90 (F := Ideal) (m ((c : Thread nD τ).loc main_arg0)) (m ((c : Thread nD τ).loc main_arg1)) (m ((c : Thread nD τ).loc main_arg2))
      ∧ r.2.mem ((c.tc : Thread nD τ).loc main_v51) = val_main_v91 (F := Ideal) (m ((c : Thread nD τ).loc main_arg0)) (m ((c : Thread nD τ).loc main_arg1)) (m ((c : Thread nD τ).loc main_arg2)) (m ((c : Thread nD τ).loc main_arg6))
      ∧ r.2.mem ((c.tc : Thread nD τ).loc main_v54) = val_main_v92 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(Pipeline.FramePost.rest_eq h.1 c main_v42 (by decide)).trans (after_42 m c),
      (Pipeline.FramePost.rest_eq h.1 c main_v45 (by decide)).trans (after_45 m c),
      (Pipeline.FramePost.rest_eq h.1 c main_v48 (by decide)).trans (after_48 m c),
      (Pipeline.FramePost.rest_eq h.1 c main_v51 (by decide)).trans (after_51 m c),
      (Pipeline.FramePost.rest_eq h.1 c main_v54 (by decide)).trans (after_54 m c), h.2.1 c⟩)
    (θ_run_and (run_main m g) (frame m g))

end Cert.ProjSampleIdeal.Value
-- ==== Proof.FfnSampleHost.lean ====
module

public import proofs.«01_k».proof.Proof.ProjSampleValue
public import proofs.«01_k».proof.Proof.Gen.FfnSampleIdeal.Frame
public import proofs.«01_k».proof.Proof.Gen.FfnSampleReferenceIdeal.Read
public import Idealize.ShloMosaic.Lib.Pipeline.ValueKit
public import Idealize.ShloMosaic.Lib.Pipeline.ReadBack
public import Idealize.ShloMosaic.Lib.StableHlo.ReadAt
set_option maxRecDepth 16384
set_option maxHeartbeats 1000000
@[expose] public section

noncomputable section
open Idealize.ShloMosaic Idealize.ShloMosaic.TcCoe Idealize.SL.Sem
open Idealize.ShloMosaic.Pipeline (Dat)
namespace Cert.FfnSampleIdeal.Value
open Cert.FfnSampleIdeal Cert.FfnSampleIdeal.Gen
open Cert.FfnSampleReferenceIdeal.Read
variable (m : (ℓ : Loc nD τ sig) → Buf (Elt Ideal) ℓ)

/-- Every window is one whole array. -/
theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] :=
  (by decide +kernel : ∀ t : Fin grid0.N, _)

theorem V_gain (c : Dev nD) (k : Fin 1024) : V m c main_v8 (ix2 0 k) = m ((c : Thread nD τ).loc main_arg2) (ix2 0 k) := by
  show StableHlo.after (List.flatten [hostOps0, hostOps0_1, hostOps0_2, hostOps0_3, hostOps0_4, hostOps0_5, hostOps0_6]) _ (Proc.devRef .tc main_v8) (ix2 0 k) = _
  simp only [hostOps0, hostOps0_1, hostOps0_2, hostOps0_3, hostOps0_4, hostOps0_5, hostOps0_6, List.flatten_cons, List.flatten_nil, List.append_nil, List.cons_append, List.nil_append]
  after_reads_at

theorem V_wgate (c : Dev nD) (k : Fin 1024) (f : Fin 2816) : V m c main_v2 (ix2 k f) = m ((c : Thread nD τ).loc main_arg4) (ix3 0 k f) := by
  show StableHlo.after (List.flatten [hostOps0, hostOps0_1, hostOps0_2, hostOps0_3, hostOps0_4, hostOps0_5, hostOps0_6]) _ (Proc.devRef .tc main_v2) (ix2 k f) = _
  simp only [hostOps0, hostOps0_1, hostOps0_2, hostOps0_3, hostOps0_4, hostOps0_5, hostOps0_6, List.flatten_cons, List.flatten_nil, List.append_nil, List.cons_append, List.nil_append]
  after_reads_at

theorem V_wup (c : Dev nD) (k : Fin 1024) (f : Fin 2816) : V m c main_v4 (ix2 k f) = m ((c : Thread nD τ).loc main_arg3) (ix3 0 k f) := by
  show StableHlo.after (List.flatten [hostOps0, hostOps0_1, hostOps0_2, hostOps0_3, hostOps0_4, hostOps0_5, hostOps0_6]) _ (Proc.devRef .tc main_v4) (ix2 k f) = _
  simp only [hostOps0, hostOps0_1, hostOps0_2, hostOps0_3, hostOps0_4, hostOps0_5, hostOps0_6, List.flatten_cons, List.flatten_nil, List.append_nil, List.cons_append, List.nil_append]
  after_reads_at

theorem V_conv_w (c : Dev nD) (k : Fin 3) (f : Fin 2816) : V m c main_v9 (ix2 k f) = m ((c : Thread nD τ).loc main_arg5) (ix3 0 k f) := by
  show StableHlo.after (List.flatten [hostOps0, hostOps0_1, hostOps0_2, hostOps0_3, hostOps0_4, hostOps0_5, hostOps0_6]) _ (Proc.devRef .tc main_v9) (ix2 k f) = _
  simp only [hostOps0, hostOps0_1, hostOps0_2, hostOps0_3, hostOps0_4, hostOps0_5, hostOps0_6, List.flatten_cons, List.flatten_nil, List.append_nil, List.cons_append, List.nil_append]
  after_reads_at

theorem V_conv_b (c : Dev nD) (f : Fin 2816) : V m c main_v11 (ix2 0 f) = m ((c : Thread nD τ).loc main_arg6) (ix2 0 f) := by
  show StableHlo.after (List.flatten [hostOps0, hostOps0_1, hostOps0_2, hostOps0_3, hostOps0_4, hostOps0_5, hostOps0_6]) _ (Proc.devRef .tc main_v11) (ix2 0 f) = _
  simp only [hostOps0, hostOps0_1, hostOps0_2, hostOps0_3, hostOps0_4, hostOps0_5, hostOps0_6, List.flatten_cons, List.flatten_nil, List.append_nil, List.cons_append, List.nil_append]
  after_reads_at

theorem V_wdown (c : Dev nD) (f : Fin 2816) (k : Fin 1024) : V m c main_v6 (ix2 f k) = m ((c : Thread nD τ).loc main_arg7) (ix3 0 f k) := by
  show StableHlo.after (List.flatten [hostOps0, hostOps0_1, hostOps0_2, hostOps0_3, hostOps0_4, hostOps0_5, hostOps0_6]) _ (Proc.devRef .tc main_v6) (ix2 f k) = _
  simp only [hostOps0, hostOps0_1, hostOps0_2, hostOps0_3, hostOps0_4, hostOps0_5, hostOps0_6, List.flatten_cons, List.flatten_nil, List.append_nil, List.cons_append, List.nil_append]
  after_reads_at

theorem V_x (c : Dev nD) (r : Fin 256) (k : Fin 1024) (b : Fin 32) (q : Fin 4) (h : r.val = 8 * b.val + q.val) :
    V m c main_v18 (ix2 r k) = m ((c : Thread nD τ).loc main_arg0) (ix3 b q k) := by
  show StableHlo.after (List.flatten [hostOps0, hostOps0_1, hostOps0_2, hostOps0_3, hostOps0_4, hostOps0_5, hostOps0_6]) _ (Proc.devRef .tc main_v18) (ix2 r k) = _
  simp only [hostOps0, hostOps0_1, hostOps0_2, hostOps0_3, hostOps0_4, hostOps0_5, hostOps0_6, List.flatten_cons, List.flatten_nil, List.append_nil, List.cons_append, List.nil_append]
  after_reads_at
  have h1 : r.val / 8 = b.val := by omega
  have h2 : r.val % 8 = q.val := by omega
  rw [dif_pos ⟨by omega, by omega⟩]
  exact congrArg _ (congrArg₂ (fun b q => ix3 b q k) (Fin.ext h1) (Fin.ext h2))

/-- The carried row one token before the sequence, laid in its first row. -/
theorem V_st1 (c : Dev nD) (r : Fin 256) (f : Fin 2816) (b : Fin 32) (h : r.val = 8 * b.val) :
    V m c main_v15 (ix2 r f) = m ((c : Thread nD τ).loc main_arg1) (ix4 0 b 1 f) := by
  show StableHlo.after (List.flatten [hostOps0, hostOps0_1, hostOps0_2, hostOps0_3, hostOps0_4, hostOps0_5, hostOps0_6]) _ (Proc.devRef .tc main_v15) (ix2 r f) = _
  simp only [hostOps0, hostOps0_1, hostOps0_2, hostOps0_3, hostOps0_4, hostOps0_5, hostOps0_6, List.flatten_cons, List.flatten_nil, List.append_nil, List.cons_append, List.nil_append]
  after_reads_at
  have h1 : r.val / 8 = b.val := by omega
  rw [dif_pos ⟨by omega, by omega⟩]
  exact congrArg _ (congrArg₂ (fun b q => ix4 0 b q f) (Fin.ext h1) (Fin.ext (by show 1 + r.val % 8 = 1; omega)))

/-- The two carried rows, laid in the first two rows of every sequence. -/
theorem V_st2 (c : Dev nD) (r : Fin 256) (f : Fin 2816) (b : Fin 32) (q : Fin 2) (h : r.val = 8 * b.val + q.val) :
    V m c main_v17 (ix2 r f) = m ((c : Thread nD τ).loc main_arg1) (ix4 0 b q f) := by
  show StableHlo.after (List.flatten [hostOps0, hostOps0_1, hostOps0_2, hostOps0_3, hostOps0_4, hostOps0_5, hostOps0_6]) _ (Proc.devRef .tc main_v17) (ix2 r f) = _
  simp only [hostOps0, hostOps0_1, hostOps0_2, hostOps0_3, hostOps0_4, hostOps0_5, hostOps0_6, List.flatten_cons, List.flatten_nil, List.append_nil, List.cons_append, List.nil_append]
  after_reads_at
  have h1 : r.val / 8 = b.val := by omega
  rw [dif_pos ⟨by omega, by omega⟩]
  exact congrArg _ (congrArg₂ (fun b q => ix4 0 b q f) (Fin.ext h1) (Fin.ext (by show r.val % 8 = q.val; omega)))

end Cert.FfnSampleIdeal.Value
-- ==== Proof.FfnSampleValue.lean ====
module

public import proofs.«01_k».proof.Proof.FfnSampleHost
public import Idealize.ShloMosaic.Lib.IdealHost
public import Idealize.ShloMosaic.Lib.Pipeline.ValueKit
public import Idealize.ShloMosaic.Lib.Pipeline.ReadBack
public import Idealize.ShloMosaic.Lib.StableHlo.ReadAt
set_option maxRecDepth 16384
set_option maxHeartbeats 1000000
@[expose] public section

noncomputable section
open Idealize.ShloMosaic Idealize.ShloMosaic.TcCoe Idealize.SL.Sem
open Idealize.ShloMosaic.Pipeline (Dat)
namespace Cert.FfnSampleIdeal.Value
open Cert.FfnSampleIdeal Cert.FfnSampleIdeal.Gen
open Cert.FfnSampleReferenceIdeal.Read
variable (m : (ℓ : Loc nD τ sig) → Buf (Elt Ideal) ℓ)

/-- The gate projection of the normalized tokens, as the reference computes it. -/
abbrev G (c : Dev nD) : FVec Ideal Cert.FfnSampleReferenceIdeal.S32x4x2816 .f32 :=
  val_main_v20 (F := Ideal) (m ((c : Thread nD τ).loc main_arg0)) (m ((c : Thread nD τ).loc main_arg2)) (m ((c : Thread nD τ).loc main_arg4))

theorem xblk (c : Dev nD) (t : Fin cfg0.N) (r : Fin 256) (k : Fin 1024) (b : Fin 32) (q : Fin 4) (hr : r.val = 8 * b.val + q.val) :
    iblk m c 0 t (ix2 r k) = m ((c : Thread nD τ).loc main_arg0) (ix3 b q k) := by
  show V m c main_v18 ((win0_0.blk t).view.emb (ix2 r k)) = _
  rw [← V_x m c r k b q hr]; blk_ext [idx t]

theorem gainblk (c : Dev nD) (t : Fin cfg0.N) (k : Fin 1024) : iblk m c 1 t (ix2 0 k) = m ((c : Thread nD τ).loc main_arg2) (ix2 0 k) := by
  show V m c main_v8 ((win0_1.blk t).view.emb (ix2 0 k)) = _
  rw [← V_gain m c k]; blk_ext [idx t]

theorem gate (c : Dev nD) (t : Fin cfg0.N) (r : Fin 256) (f : Fin 2816) (b : Fin 32) (q : Fin 4) (hr : r.val = 8 * b.val + q.val) :
    k0_pay5 (iblk m c 0 t) (iblk m c 1 t) (iblk m c 2 t) (ix2 r f) = G m c (ix3 b q f) := by
  have hw : ∀ k : Fin 1024, iblk m c 2 t (ix2 k f) = m ((c : Thread nD τ).loc main_arg4) (ix3 0 k f) := by
    intro k
    show V m c main_v2 ((win0_2.blk t).view.emb (ix2 k f)) = _
    rw [← V_wgate m c k f]; blk_ext [idx t]
  have hx := fun k => xblk m c t r k b q hr
  have hg := gainblk m c t
  pointwise [k0_pay5, k0_pay4, k0_pay3, G, val_main_v20, val_main_v16, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [hx, hg, hw]

theorem up (c : Dev nD) (t : Fin cfg0.N) (r : Fin 256) (f : Fin 2816) (b : Fin 32) (q : Fin 4) (hr : r.val = 8 * b.val + q.val) :
    k0_pay6 (iblk m c 0 t) (iblk m c 1 t) (iblk m c 3 t) (ix2 r f) =
      val_main_v48 (F := Ideal) (m ((c : Thread nD τ).loc main_arg0)) (m ((c : Thread nD τ).loc main_arg2)) (m ((c : Thread nD τ).loc main_arg3)) (ix3 b q f) := by
  have hw : ∀ k : Fin 1024, iblk m c 3 t (ix2 k f) = m ((c : Thread nD τ).loc main_arg3) (ix3 0 k f) := by
    intro k
    show V m c main_v4 ((win0_3.blk t).view.emb (ix2 k f)) = _
    rw [← V_wup m c k f]; blk_ext [idx t]
  have hx := fun k => xblk m c t r k b q hr
  have hg := gainblk m c t
  pointwise [k0_pay6, k0_pay4, k0_pay3, val_main_v48, val_main_v15, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [hx, hg, hw]

/-- The row of a sequence, read off the flat row number. -/
theorem row_zero : ∀ r : Fin 256, IntOp.cmpi CmpIPredicate.eq (IntOp.andi (BitVec.ofNat 32 r.val) 7#32) 0#32 = if r.val % 8 = 0 then 1#1 else 0#1 := by
  decide +kernel

theorem row_lt_two : ∀ r : Fin 256, IntOp.cmpi CmpIPredicate.slt (IntOp.andi (BitVec.ofNat 32 r.val) 7#32) 2#32 = if r.val % 8 < 2 then 1#1 else 0#1 := by
  decide +kernel

theorem out (c : Dev nD) (t : Fin cfg0.N) (r : Fin 256) (k : Fin 1024) (b : Fin 32) (q : Fin 4) (hr : r.val = 8 * b.val + q.val) :
    out0_9 (iblk m c 0 t) (iblk m c 1 t) (iblk m c 2 t) (iblk m c 3 t) (iblk m c 4 t) (iblk m c 5 t) (iblk m c 6 t) (iblk m c 7 t) (iblk m c 8 t) (ix2 r k) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 b q k) := by
  unfold out0_9 k0_pay10
  frame_out
  have hg : ∀ (r : Fin 256) (f : Fin 2816) (q : Fin 4), r.val = 8 * b.val + q.val → k0_pay5 (iblk m c 0 t) (iblk m c 1 t) (iblk m c 2 t) (ix2 r f) = G m c (ix3 b q f) :=
    fun r f q h => gate m c t r f b q h
  have hu := fun f => up m c t r f b q hr
  unfold k0_pay7
  revert hg hu
  generalize k0_pay5 (iblk m c 0 t) (iblk m c 1 t) (iblk m c 2 t) = g
  generalize k0_pay6 (iblk m c 0 t) (iblk m c 1 t) (iblk m c 3 t) = u
  intro hg hu
  pointwise [k0_pay1, k0_pay2, k0_pay3, k0_pay8, k0_pay9, val_main_v52, val_main_v50, val_main_v49, val_main_v47, val_main_v46, val_main_call0_v5, val_main_call0_v4, val_main_call0_v3,
    val_main_call0_v2, val_main_call0_v1, val_main_call0_v0, val_main_call0_cst, val_main_call0_cst_0, val_main_v45,
    val_main_v44, val_main_v43, val_main_v42, val_main_v41, val_main_v40, val_main_v39, val_main_v38, val_main_v37,
    val_main_v36, val_main_v35, val_main_v34, val_main_v33, val_main_v32, val_main_v31, val_main_v30, val_main_v29,
    val_main_v28, val_main_cst_2, val_main_v27, val_main_v26, val_main_v25, val_main_v24, val_main_v23, val_main_v22,
    val_main_v21, val_main_v17, val_main_v18, val_main_v19, val_main_v14]
  have hq := q.isLt
  refine congrArg₂ (· + ·) (xblk m c t r k b q hr) (Finset.sum_congr rfl fun x _ => ?_)
  have hd : iblk m c 6 t (ix2 x k) = m ((c : Thread nD τ).loc main_arg7) (ix3 0 x k) := by
    show V m c main_v6 ((win0_6.blk t).view.emb (ix2 x k)) = _
    rw [← V_wdown m c x k]; blk_ext [idx t]
  have hb : iblk m c 5 t (ix2 0 x) = m ((c : Thread nD τ).loc main_arg6) (ix2 0 x) := by
    show V m c main_v11 ((win0_5.blk t).view.emb (ix2 0 x)) = _
    rw [← V_conv_b m c x]; blk_ext [idx t]
  have hc : ∀ j : Fin 3, iblk m c 4 t (ix2 j x) = m ((c : Thread nD τ).loc main_arg5) (ix3 0 j x) := by
    intro j
    show V m c main_v9 ((win0_4.blk t).view.emb (ix2 j x)) = _
    rw [← V_conv_w m c j x]; blk_ext [idx t]
  have e2 : Scalar.select (IntOp.cmpi CmpIPredicate.slt (IntOp.andi (BitVec.ofNat 32 r.val) 7#32) 2#32)
        (iblk m c 8 t (ix2 r x)) (g (ix2 ⟨(r.val + 256 - 2) % 256, Nat.mod_lt _ (by decide)⟩ x))
      = if h : q.val < 2 then m ((c : Thread nD τ).loc main_arg1) (ix4 0 b ⟨q.val, by omega⟩ x) else G m c (ix3 b ⟨q.val - 2, by omega⟩ x) := by
    rw [row_lt_two]
    by_cases h : q.val < 2
    · rw [if_pos (by omega), dif_pos h]
      show V m c main_v17 ((win0_8.blk t).view.emb (ix2 r x)) = _
      rw [← V_st2 m c r x b ⟨q.val, by omega⟩ hr]; blk_ext [idx t]
    · rw [if_neg (by omega), dif_neg h]
      exact hg _ x ⟨q.val - 2, by omega⟩ (by show (r.val + 256 - 2) % 256 = 8 * b.val + (q.val - 2); omega)
  have e1 : Scalar.select (IntOp.cmpi CmpIPredicate.eq (IntOp.andi (BitVec.ofNat 32 r.val) 7#32) 0#32)
        (iblk m c 7 t (ix2 r x)) (g (ix2 ⟨(r.val + 256 - 1) % 256, Nat.mod_lt _ (by decide)⟩ x))
      = if h : 1 + q.val < 2 then m ((c : Thread nD τ).loc main_arg1) (ix4 0 b ⟨1 + q.val, by omega⟩ x) else G m c (ix3 b ⟨1 + q.val - 2, by omega⟩ x) := by
    rw [row_zero]
    by_cases h : 1 + q.val < 2
    · rw [if_pos (by omega), dif_pos h]
      have h1 : (⟨1 + q.val, by omega⟩ : Fin 2) = 1 := Fin.ext (by show 1 + q.val = 1; omega)
      rw [h1]
      show V m c main_v15 ((win0_7.blk t).view.emb (ix2 r x)) = _
      rw [← V_st1 m c r x b (by omega)]; blk_ext [idx t]
    · rw [if_neg (by omega), dif_neg h]
      exact hg _ x ⟨1 + q.val - 2, by omega⟩ (by show (r.val + 256 - 1) % 256 = 8 * b.val + (1 + q.val - 2); omega)
  rw [e2, e1, hd, hb, hc, hc, hc, hu, hg r x q hr, zero_sub, ← Ideal.mul_one_div (Cert.FfnIdeal.Value.one_add_exp_ne_zero _)]
  simp only [add_assoc]

theorem carry (c : Dev nD) (t : Fin cfg0.N) (r : Fin 256) (f : Fin 2816) (b : Fin 32) (q : Fin 4) (hr : r.val = 8 * b.val + q.val) :
    out0_10 (iblk m c 0 t) (iblk m c 1 t) (iblk m c 2 t) (iblk m c 3 t) (iblk m c 4 t) (iblk m c 5 t) (iblk m c 6 t) (iblk m c 7 t) (iblk m c 8 t) (ix2 r f) = G m c (ix3 b q f) := by
  unfold out0_10 k0_pay10
  frame_out
  exact gate m c t r f b q hr

/-- The single point of the grid. -/
abbrev t0 : Fin cfg0.N := ⟨0, by decide⟩

theorem point_eq (t : Fin cfg0.N) : t = t0 := Fin.ext (by have := t.isLt; have e : cfg0.N = 1 := by decide
                                                          omega)

theorem final_9 (c : Dev nD) : (dats m 0 c).arrAt 9 cfg0.N =
    out0_9 (iblk m c 0 t0) (iblk m c 1 t0) (iblk m c 2 t0) (iblk m c 3 t0) (iblk m c 4 t0) (iblk m c 5 t0) (iblk m c 6 t0) (iblk m c 7 t0) (iblk m c 8 t0) := by
  refine (dats m 0 c).arrAt_eq_of_covers 9 _ (by decide +kernel) fun t hf y => ?_
  obtain rfl := point_eq t
  blk_simp
  rw [after0_9]
  refine congrArg (out0_9 (iblk m c 0 t0) (iblk m c 1 t0) (iblk m c 2 t0) (iblk m c 3 t0) (iblk m c 4 t0) (iblk m c 5 t0) (iblk m c 6 t0) (iblk m c 7 t0) (iblk m c 8 t0)) ?_
  blk_ext [idx t0]

theorem final_10 (c : Dev nD) : (dats m 0 c).arrAt 10 cfg0.N =
    out0_10 (iblk m c 0 t0) (iblk m c 1 t0) (iblk m c 2 t0) (iblk m c 3 t0) (iblk m c 4 t0) (iblk m c 5 t0) (iblk m c 6 t0) (iblk m c 7 t0) (iblk m c 8 t0) := by
  refine (dats m 0 c).arrAt_eq_of_covers 10 _ (by decide +kernel) fun t hf y => ?_
  obtain rfl := point_eq t
  blk_simp
  rw [after0_10]
  refine congrArg (out0_10 (iblk m c 0 t0) (iblk m c 1 t0) (iblk m c 2 t0) (iblk m c 3 t0) (iblk m c 4 t0) (iblk m c 5 t0) (iblk m c 6 t0) (iblk m c 7 t0) (iblk m c 8 t0)) ?_
  blk_ext [idx t0]

theorem after_21 (c : Dev nD) : Pipeline.afterTail₀ cfgs (dats m) 0 (V0 m) [hostOps1] c main_v21 =
    val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hw := (Pipeline.withArrays_arr _ launch0.win.arr_inj c (V0 m c) (fun w => (dats m 0 c).arrAt w (cfgs 0).N) 9).trans (final_9 m c)
  funext i
  show StableHlo.after hostOps1 (Pipeline.withArrays (cfgs 0).spec c (V0 m c) fun w => (dats m 0 c).arrAt w (cfgs 0).N) (Proc.devRef .tc main_v21) i = _
  revert hw
  generalize (Pipeline.withArrays (cfgs 0).spec c (V0 m c) fun w => (dats m 0 c).arrAt w (cfgs 0).N) = W
  intro hw
  replace hw : W (Proc.devRef .tc main_v19_0) = out0_9 (iblk m c 0 t0) (iblk m c 1 t0) (iblk m c 2 t0) (iblk m c 3 t0) (iblk m c 4 t0) (iblk m c 5 t0) (iblk m c 6 t0) (iblk m c 7 t0) (iblk m c 8 t0) := hw
  after_results
  rw [hw]
  generalize hG : val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = GG
  pointwise
  subst hG
  exact (out m c t0 ⟨(i 0).val * 8 + (i 1).val, by have h0 : (i 0).val < 32 := (i 0).isLt; have h1 : (i 1).val < 4 := (i 1).isLt; omega⟩ (i 2) (i 0) (i 1) (by show (i 0).val * 8 + (i 1).val = 8 * (i 0).val + (i 1).val; omega)).trans (congrArg (val_main_v52 (F := Ideal) _ _ _ _ _ _ _ _) (by funext a; fin_cases a <;> rfl))

theorem after_24 (c : Dev nD) : Pipeline.afterTail₀ cfgs (dats m) 0 (V0 m) [hostOps1] c main_v24 =
    val_main_v53 (F := Ideal) (m ((c : Thread nD τ).loc main_arg0)) (m ((c : Thread nD τ).loc main_arg1)) (m ((c : Thread nD τ).loc main_arg2)) (m ((c : Thread nD τ).loc main_arg4)) := by
  have hw := (Pipeline.withArrays_arr _ launch0.win.arr_inj c (V0 m c) (fun w => (dats m 0 c).arrAt w (cfgs 0).N) 10).trans (final_10 m c)
  funext i
  show StableHlo.after hostOps1 (Pipeline.withArrays (cfgs 0).spec c (V0 m c) fun w => (dats m 0 c).arrAt w (cfgs 0).N) (Proc.devRef .tc main_v24) i = _
  revert hw
  generalize (Pipeline.withArrays (cfgs 0).spec c (V0 m c) fun w => (dats m 0 c).arrAt w (cfgs 0).N) = W
  intro hw
  replace hw : W (Proc.devRef .tc main_v19_1) = out0_10 (iblk m c 0 t0) (iblk m c 1 t0) (iblk m c 2 t0) (iblk m c 3 t0) (iblk m c 4 t0) (iblk m c 5 t0) (iblk m c 6 t0) (iblk m c 7 t0) (iblk m c 8 t0) := hw
  after_results
  rw [hw]
  pointwise [val_main_v53, val_main_v51, val_main_v21]
  have h0 : (i 1).val < 32 := (i 1).isLt
  have h1 : (i 2).val < 2 := (i 2).isLt
  rw [dif_neg (by omega)]
  exact (carry m c t0 ⟨(i 1).val * 8 + (2 + (i 2).val), by omega⟩ (i 3) (i 1) ⟨2 + (i 2).val, by omega⟩
    (by show (i 1).val * 8 + (2 + (i 2).val) = 8 * (i 1).val + (2 + (i 2).val); omega)).trans
    (congrArg (fun q => G m c (ix3 (i 1) q (i 3))) (Fin.ext (by show 2 + (i 2).val = 4 + (i 2).val - 2; omega)))

/-- The kernel's run: both results are the reference's terms over the arguments, which it leaves alone. -/
theorem run (g : Dev nD → PrngReg) :
    θ_run defs (onTc (τ := τ) (main (F := Ideal))) ⟨m, fun _ => 0, g⟩ fun r => ∀ c : Dev nD,
      r.2.mem ((c.tc : Thread nD τ).loc main_v21) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v24) = val_main_v53 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(Pipeline.FramePost.rest_eq h.1 c main_v21 (by decide)).trans (after_21 m c),
      (Pipeline.FramePost.rest_eq h.1 c main_v24 (by decide)).trans (after_24 m c), h.2.1 c⟩)
    (θ_run_and (run_main m g) (frame m g))

end Cert.FfnSampleIdeal.Value
-- ==== Proof.MemKvFrame.lean ====
module

public import proofs.«01_k».proof.Proof.Gen.MemKv.Launch
public import proofs.«01_k».proof.Proof.Gen.MemKv.Skeleton
public import proofs.«01_k».proof.Proof.Gen.MemKv.Points
public import proofs.«01_k».proof.Proof.Gen.MemKvIdeal.Launch
public import proofs.«01_k».proof.Proof.Gen.MemKvIdeal.Skeleton
public import proofs.«01_k».proof.Proof.Gen.MemKvIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The frames of `MemKv` and of its ideal reading. One output is stored by four stores, each into every fourth row. -/

@[expose] public section

set_option maxRecDepth 16384

noncomputable section

namespace Cert.MemKvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2, hostOps0_3, hostOps0_4]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x1024 := Rect.unit (s := S1024x1024) ![0, 0] S1024x1024.size inb_S1024x1024_S1024x1024_0_0
abbrev r0_3 : Rect S512x512 := Rect.unit (s := S512x512) ![0, 0] S128x128.size inb_S512x512_S128x128_0_0
abbrev r0_4 : Rect S1x1024 := Rect.unit (s := S1x1024) ![0, 0] S1x512.size inb_S1x1024_S1x512_0_0
abbrev r0_5 : Rect S1024x128 := ⟨(⟨![0, 0], S256x128.size, ![4, 1], inb_S1024x128_S256x128_0_0_s_4_1⟩ : LoadRect S1024x128), spos_4_1⟩
abbrev r0_6 : Rect S1024x128 := ⟨(⟨![1, 0], S256x128.size, ![4, 1], inb_S1024x128_S256x128_1_0_s_4_1⟩ : LoadRect S1024x128), spos_4_1⟩
abbrev r0_7 : Rect S1024x128 := ⟨(⟨![2, 0], S256x128.size, ![4, 1], inb_S1024x128_S256x128_2_0_s_4_1⟩ : LoadRect S1024x128), spos_4_1⟩
abbrev r0_8 : Rect S1024x128 := ⟨(⟨![3, 0], S256x128.size, ![4, 1], inb_S1024x128_S256x128_3_0_s_4_1⟩ : LoadRect S1024x128), spos_4_1⟩

def k0_pay14 (x0 : Vec F S256x1024 .f32) (x1 : Vec F S1x1024 .f32) (x2 : Vec F S1024x1024 .bf16) (x3 : Vec F S512x512 .bf16) (x4 : Vec F S1x1024 .f32) : FVec F S256x1024 .f32 :=
  k0_pay11 (View.ld x0 r0_0) (View.ld x1 r0_1) (View.ld x2 r0_2)
def k0_pay15 (x0 : Vec F S256x1024 .f32) (x1 : Vec F S1x1024 .f32) (x2 : Vec F S1024x1024 .bf16) (x3 : Vec F S512x512 .bf16) (x4 : Vec F S1x1024 .f32) : FVec F S256x512 .f32 :=
  k0_pay12 (View.ld x0 r0_0) (View.ld x1 r0_1) (View.ld x2 r0_2) (View.ld x3 r0_3)
def k0_pay16 (x0 : Vec F S256x1024 .f32) (x1 : Vec F S1x1024 .f32) (x2 : Vec F S1024x1024 .bf16) (x3 : Vec F S512x512 .bf16) (x4 : Vec F S1x1024 .f32) : FVec F S1x512 .f32 :=
  k0_pay13 (View.ld x4 r0_4)

def out0_5 (x0 : Vec F S256x1024 .f32) (x1 : Vec F S1x1024 .f32) (x2 : Vec F S1024x1024 .bf16) (x3 : Vec F S512x512 .bf16) (x4 : Vec F S1x1024 .f32) : Vec F S1024x128 .f32 :=
  View.canon [⟨r0_8, k0_pay5 (k0_pay15 x0 x1 x2 x3 x4) (k0_pay16 x0 x1 x2 x3 x4)⟩,
    ⟨r0_7, k0_pay4 (k0_pay15 x0 x1 x2 x3 x4) (k0_pay16 x0 x1 x2 x3 x4)⟩,
    ⟨r0_6, k0_pay3 (k0_pay15 x0 x1 x2 x3 x4) (k0_pay16 x0 x1 x2 x3 x4)⟩,
    ⟨r0_5, k0_pay2 (k0_pay15 x0 x1 x2 x3 x4) (k0_pay16 x0 x1 x2 x3 x4)⟩]

theorem cover0_5 (p0 : Vec F S256x128 .f32) (p1 : Vec F S256x128 .f32) (p2 : Vec F S256x128 .f32) (p3 : Vec F S256x128 .f32) (y : S1024x128.Idx) :
    ∃ pc ∈ ([⟨r0_8, p0⟩, ⟨r0_7, p1⟩, ⟨r0_6, p2⟩, ⟨r0_5, p3⟩] : List (View.Piece (Elt F) S1024x128 .f32)), y ∈ pc.1.set :=
  by
    have h0 : (y 0).val < 1024 := (y 0).isLt
    have h1 : (y 1).val < 128 := (y 1).isLt
    have hm : ∀ j : ℕ, j < 4 → (y 0).val % 4 = j → ∀ r : Rect S1024x128, r.off = ![j, 0] → r.size = ![256, 128] → r.stride = ![4, 1] → y ∈ r.set := by
      intro j hj h r ho hs ht
      rw [LoadRect.mem_set]
      intro a
      rw [ho, hs, ht]
      fin_cases a
      · exact ⟨(y 0).val / 4, by show (y 0).val / 4 < 256; omega, by show (y 0).val = j + 4 * ((y 0).val / 4); omega⟩
      · exact ⟨(y 1).val, h1, by show (y 1).val = 0 + 1 * (y 1).val; omega⟩
    have h4 : (y 0).val % 4 = 3 ∨ (y 0).val % 4 = 2 ∨ (y 0).val % 4 = 1 ∨ (y 0).val % 4 = 0 := by omega
    rcases h4 with h | h | h | h
    · exact ⟨_, List.mem_cons_self, hm 3 (by omega) h _ rfl rfl rfl⟩
    · exact ⟨_, List.mem_cons_of_mem _ List.mem_cons_self, hm 2 (by omega) h _ rfl rfl rfl⟩
    · exact ⟨_, List.mem_cons_of_mem _ (List.mem_cons_of_mem _ List.mem_cons_self), hm 1 (by omega) h _ rfl rfl rfl⟩
    · exact ⟨_, List.mem_cons_of_mem _ (List.mem_cons_of_mem _ (List.mem_cons_of_mem _ List.mem_cons_self)), hm 0 (by omega) h _ rfl rfl rfl⟩

def out0_6 (x0 : Vec F S256x1024 .f32) (x1 : Vec F S1x1024 .f32) (x2 : Vec F S1024x1024 .bf16) (x3 : Vec F S512x512 .bf16) (x4 : Vec F S1x1024 .f32) : Vec F S1024x128 .f32 :=
  View.canon [⟨r0_8, k0_pay10 (k0_pay14 x0 x1 x2 x3 x4)⟩,
    ⟨r0_7, k0_pay9 (k0_pay14 x0 x1 x2 x3 x4)⟩,
    ⟨r0_6, k0_pay8 (k0_pay14 x0 x1 x2 x3 x4)⟩,
    ⟨r0_5, k0_pay7 (k0_pay14 x0 x1 x2 x3 x4)⟩]

theorem cover0_6 (p0 : Vec F S256x128 .f32) (p1 : Vec F S256x128 .f32) (p2 : Vec F S256x128 .f32) (p3 : Vec F S256x128 .f32) (y : S1024x128.Idx) :
    ∃ pc ∈ ([⟨r0_8, p0⟩, ⟨r0_7, p1⟩, ⟨r0_6, p2⟩, ⟨r0_5, p3⟩] : List (View.Piece (Elt F) S1024x128 .f32)), y ∈ pc.1.set :=
  by
    have h0 : (y 0).val < 1024 := (y 0).isLt
    have h1 : (y 1).val < 128 := (y 1).isLt
    have hm : ∀ j : ℕ, j < 4 → (y 0).val % 4 = j → ∀ r : Rect S1024x128, r.off = ![j, 0] → r.size = ![256, 128] → r.stride = ![4, 1] → y ∈ r.set := by
      intro j hj h r ho hs ht
      rw [LoadRect.mem_set]
      intro a
      rw [ho, hs, ht]
      fin_cases a
      · exact ⟨(y 0).val / 4, by show (y 0).val / 4 < 256; omega, by show (y 0).val = j + 4 * ((y 0).val / 4); omega⟩
      · exact ⟨(y 1).val, h1, by show (y 1).val = 0 + 1 * (y 1).val; omega⟩
    have h4 : (y 0).val % 4 = 3 ∨ (y 0).val % 4 = 2 ∨ (y 0).val % 4 = 1 ∨ (y 0).val % 4 = 0 := by omega
    rcases h4 with h | h | h | h
    · exact ⟨_, List.mem_cons_self, hm 3 (by omega) h _ rfl rfl rfl⟩
    · exact ⟨_, List.mem_cons_of_mem _ List.mem_cons_self, hm 2 (by omega) h _ rfl rfl rfl⟩
    · exact ⟨_, List.mem_cons_of_mem _ (List.mem_cons_of_mem _ List.mem_cons_self), hm 1 (by omega) h _ rfl rfl rfl⟩
    · exact ⟨_, List.mem_cons_of_mem _ (List.mem_cons_of_mem _ (List.mem_cons_of_mem _ List.mem_cons_self)), hm 0 (by omega) h _ rfl rfl rfl⟩

set_option maxHeartbeats 1000000 in
/-- The body on whole staging buffers: the inputs stay, each output holds its stores over the inputs. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S512x512 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole)
    (x0 : Vec F S256x1024 .f32) (x1 : Vec F S1x1024 .f32) (x2 : Vec F S1024x1024 .bf16) (x3 : Vec F S512x512 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0_mem_kv i arg1 harg1 arg2 harg2 arg3 harg3 arg4 harg4 arg5 harg5 arg6 harg6 arg7 harg7) K := by
  simp only [cc0_mem_kv_eq_skeleton]; unfold cc0_mem_kv_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _ _ _ _)).trans ?_
    rfl
  iexists _; isplitr
  swap; · iexact H6
  ipureintro
  refine (View.read_writes_eq_canon _ _ _ (cover0_6 _ _ _ _)).trans ?_
  rfl

/-- The data of the pipeline: inputs at their blocks, outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run of the program. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the run ends quietly and leaves the arguments alone. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.MemKvIdeal.Gen

namespace Cert.MemKv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2, hostOps0_3, hostOps0_4]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x1024 := Rect.unit (s := S1024x1024) ![0, 0] S1024x1024.size inb_S1024x1024_S1024x1024_0_0
abbrev r0_3 : Rect S512x512 := Rect.unit (s := S512x512) ![0, 0] S128x128.size inb_S512x512_S128x128_0_0
abbrev r0_4 : Rect S1x1024 := Rect.unit (s := S1x1024) ![0, 0] S1x512.size inb_S1x1024_S1x512_0_0
abbrev r0_5 : Rect S1024x128 := ⟨(⟨![0, 0], S256x128.size, ![4, 1], inb_S1024x128_S256x128_0_0_s_4_1⟩ : LoadRect S1024x128), spos_4_1⟩
abbrev r0_6 : Rect S1024x128 := ⟨(⟨![1, 0], S256x128.size, ![4, 1], inb_S1024x128_S256x128_1_0_s_4_1⟩ : LoadRect S1024x128), spos_4_1⟩
abbrev r0_7 : Rect S1024x128 := ⟨(⟨![2, 0], S256x128.size, ![4, 1], inb_S1024x128_S256x128_2_0_s_4_1⟩ : LoadRect S1024x128), spos_4_1⟩
abbrev r0_8 : Rect S1024x128 := ⟨(⟨![3, 0], S256x128.size, ![4, 1], inb_S1024x128_S256x128_3_0_s_4_1⟩ : LoadRect S1024x128), spos_4_1⟩

def k0_pay14 (x0 : Vec F S256x1024 .f32) (x1 : Vec F S1x1024 .f32) (x2 : Vec F S1024x1024 .bf16) (x3 : Vec F S512x512 .bf16) (x4 : Vec F S1x1024 .f32) : FVec F S256x1024 .f32 :=
  k0_pay11 (View.ld x0 r0_0) (View.ld x1 r0_1) (View.ld x2 r0_2)
def k0_pay15 (x0 : Vec F S256x1024 .f32) (x1 : Vec F S1x1024 .f32) (x2 : Vec F S1024x1024 .bf16) (x3 : Vec F S512x512 .bf16) (x4 : Vec F S1x1024 .f32) : FVec F S256x512 .f32 :=
  k0_pay12 (View.ld x0 r0_0) (View.ld x1 r0_1) (View.ld x2 r0_2) (View.ld x3 r0_3)
def k0_pay16 (x0 : Vec F S256x1024 .f32) (x1 : Vec F S1x1024 .f32) (x2 : Vec F S1024x1024 .bf16) (x3 : Vec F S512x512 .bf16) (x4 : Vec F S1x1024 .f32) : FVec F S1x512 .f32 :=
  k0_pay13 (View.ld x4 r0_4)

def out0_5 (x0 : Vec F S256x1024 .f32) (x1 : Vec F S1x1024 .f32) (x2 : Vec F S1024x1024 .bf16) (x3 : Vec F S512x512 .bf16) (x4 : Vec F S1x1024 .f32) : Vec F S1024x128 .f32 :=
  View.canon [⟨r0_8, k0_pay5 (k0_pay15 x0 x1 x2 x3 x4) (k0_pay16 x0 x1 x2 x3 x4)⟩,
    ⟨r0_7, k0_pay4 (k0_pay15 x0 x1 x2 x3 x4) (k0_pay16 x0 x1 x2 x3 x4)⟩,
    ⟨r0_6, k0_pay3 (k0_pay15 x0 x1 x2 x3 x4) (k0_pay16 x0 x1 x2 x3 x4)⟩,
    ⟨r0_5, k0_pay2 (k0_pay15 x0 x1 x2 x3 x4) (k0_pay16 x0 x1 x2 x3 x4)⟩]

theorem cover0_5 (p0 : Vec F S256x128 .f32) (p1 : Vec F S256x128 .f32) (p2 : Vec F S256x128 .f32) (p3 : Vec F S256x128 .f32) (y : S1024x128.Idx) :
    ∃ pc ∈ ([⟨r0_8, p0⟩, ⟨r0_7, p1⟩, ⟨r0_6, p2⟩, ⟨r0_5, p3⟩] : List (View.Piece (Elt F) S1024x128 .f32)), y ∈ pc.1.set :=
  by
    have h0 : (y 0).val < 1024 := (y 0).isLt
    have h1 : (y 1).val < 128 := (y 1).isLt
    have hm : ∀ j : ℕ, j < 4 → (y 0).val % 4 = j → ∀ r : Rect S1024x128, r.off = ![j, 0] → r.size = ![256, 128] → r.stride = ![4, 1] → y ∈ r.set := by
      intro j hj h r ho hs ht
      rw [LoadRect.mem_set]
      intro a
      rw [ho, hs, ht]
      fin_cases a
      · exact ⟨(y 0).val / 4, by show (y 0).val / 4 < 256; omega, by show (y 0).val = j + 4 * ((y 0).val / 4); omega⟩
      · exact ⟨(y 1).val, h1, by show (y 1).val = 0 + 1 * (y 1).val; omega⟩
    have h4 : (y 0).val % 4 = 3 ∨ (y 0).val % 4 = 2 ∨ (y 0).val % 4 = 1 ∨ (y 0).val % 4 = 0 := by omega
    rcases h4 with h | h | h | h
    · exact ⟨_, List.mem_cons_self, hm 3 (by omega) h _ rfl rfl rfl⟩
    · exact ⟨_, List.mem_cons_of_mem _ List.mem_cons_self, hm 2 (by omega) h _ rfl rfl rfl⟩
    · exact ⟨_, List.mem_cons_of_mem _ (List.mem_cons_of_mem _ List.mem_cons_self), hm 1 (by omega) h _ rfl rfl rfl⟩
    · exact ⟨_, List.mem_cons_of_mem _ (List.mem_cons_of_mem _ (List.mem_cons_of_mem _ List.mem_cons_self)), hm 0 (by omega) h _ rfl rfl rfl⟩

def out0_6 (x0 : Vec F S256x1024 .f32) (x1 : Vec F S1x1024 .f32) (x2 : Vec F S1024x1024 .bf16) (x3 : Vec F S512x512 .bf16) (x4 : Vec F S1x1024 .f32) : Vec F S1024x128 .f32 :=
  View.canon [⟨r0_8, k0_pay10 (k0_pay14 x0 x1 x2 x3 x4)⟩,
    ⟨r0_7, k0_pay9 (k0_pay14 x0 x1 x2 x3 x4)⟩,
    ⟨r0_6, k0_pay8 (k0_pay14 x0 x1 x2 x3 x4)⟩,
    ⟨r0_5, k0_pay7 (k0_pay14 x0 x1 x2 x3 x4)⟩]

theorem cover0_6 (p0 : Vec F S256x128 .f32) (p1 : Vec F S256x128 .f32) (p2 : Vec F S256x128 .f32) (p3 : Vec F S256x128 .f32) (y : S1024x128.Idx) :
    ∃ pc ∈ ([⟨r0_8, p0⟩, ⟨r0_7, p1⟩, ⟨r0_6, p2⟩, ⟨r0_5, p3⟩] : List (View.Piece (Elt F) S1024x128 .f32)), y ∈ pc.1.set :=
  by
    have h0 : (y 0).val < 1024 := (y 0).isLt
    have h1 : (y 1).val < 128 := (y 1).isLt
    have hm : ∀ j : ℕ, j < 4 → (y 0).val % 4 = j → ∀ r : Rect S1024x128, r.off = ![j, 0] → r.size = ![256, 128] → r.stride = ![4, 1] → y ∈ r.set := by
      intro j hj h r ho hs ht
      rw [LoadRect.mem_set]
      intro a
      rw [ho, hs, ht]
      fin_cases a
      · exact ⟨(y 0).val / 4, by show (y 0).val / 4 < 256; omega, by show (y 0).val = j + 4 * ((y 0).val / 4); omega⟩
      · exact ⟨(y 1).val, h1, by show (y 1).val = 0 + 1 * (y 1).val; omega⟩
    have h4 : (y 0).val % 4 = 3 ∨ (y 0).val % 4 = 2 ∨ (y 0).val % 4 = 1 ∨ (y 0).val % 4 = 0 := by omega
    rcases h4 with h | h | h | h
    · exact ⟨_, List.mem_cons_self, hm 3 (by omega) h _ rfl rfl rfl⟩
    · exact ⟨_, List.mem_cons_of_mem _ List.mem_cons_self, hm 2 (by omega) h _ rfl rfl rfl⟩
    · exact ⟨_, List.mem_cons_of_mem _ (List.mem_cons_of_mem _ List.mem_cons_self), hm 1 (by omega) h _ rfl rfl rfl⟩
    · exact ⟨_, List.mem_cons_of_mem _ (List.mem_cons_of_mem _ (List.mem_cons_of_mem _ List.mem_cons_self)), hm 0 (by omega) h _ rfl rfl rfl⟩

set_option maxHeartbeats 1000000 in
/-- The body on whole staging buffers: the inputs stay, each output holds its stores over the inputs. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S512x512 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole)
    (x0 : Vec F S256x1024 .f32) (x1 : Vec F S1x1024 .f32) (x2 : Vec F S1024x1024 .bf16) (x3 : Vec F S512x512 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0_mem_kv i arg1 harg1 arg2 harg2 arg3 harg3 arg4 harg4 arg5 harg5 arg6 harg6 arg7 harg7) K := by
  simp only [cc0_mem_kv_eq_skeleton]; unfold cc0_mem_kv_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _ _ _ _)).trans ?_
    rfl
  iexists _; isplitr
  swap; · iexact H6
  ipureintro
  refine (View.read_writes_eq_canon _ _ _ (cover0_6 _ _ _ _)).trans ?_
  rfl

/-- The data of the pipeline: inputs at their blocks, outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run of the program. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the run ends quietly and leaves the arguments alone. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.MemKv.Gen
-- ==== Proof.MemKvValue.lean ====
module

public import proofs.«01_k».proof.Proof.FfnSampleValue
public import proofs.«01_k».proof.Proof.MemKvFrame
public import proofs.«01_k».proof.Proof.Gen.MemKvReferenceIdeal.Read
public import Idealize.ShloMosaic.Lib.Pipeline.ValueKit
public import Idealize.ShloMosaic.Lib.Pipeline.ReadBack
public import Idealize.ShloMosaic.Lib.StableHlo.ReadAt
set_option maxRecDepth 16384
set_option maxHeartbeats 1000000
@[expose] public section

noncomputable section
open Idealize.ShloMosaic Idealize.ShloMosaic.TcCoe Idealize.SL.Sem
open Idealize.ShloMosaic.Pipeline (Dat)

/-- Stores whose rectangles miss an index leave it to the earlier stores. -/
theorem Cert.canon_skip {s : Shape} {e : EltTy} (L pre : List (View.Piece (Elt Ideal) s e)) (y : s.Idx)
    (hp : ∀ p ∈ pre, y ∉ p.1.set) : View.canon (pre ++ L) y = View.canon L y := by
  induction pre with
  | nil => rfl
  | cons p pre ih =>
    rw [List.cons_append, View.canon_cons_of_not_mem p _ (hp p List.mem_cons_self)]
    exact ih fun q hq => hp q (List.mem_cons_of_mem _ hq)

/-- What a store puts at an index no later store touches. -/
theorem Cert.canon_hit {s : Shape} {e : EltTy} (L pre : List (View.Piece (Elt Ideal) s e)) (r : Rect s)
    (w : r.shape.Idx → Elt Ideal e) (x : r.shape.Idx) (y : s.Idx) (hy : r.emb x = y)
    (hp : ∀ p ∈ pre, y ∉ p.1.set) : View.canon (pre ++ ⟨r, w⟩ :: L) y = w x := by
  rw [Cert.canon_skip _ pre y hp, ← hy, View.canon_cons_emb]

namespace Cert.MemKvIdeal.Value
open Cert.MemKvIdeal Cert.MemKvIdeal.Gen
open Cert.MemKvReferenceIdeal.Read
variable (m : (ℓ : Loc nD τ sig) → Buf (Elt Ideal) ℓ)

/-- One sequence a point; the weights are whole arrays. -/
theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![t.val, 0]
    ∧ win0_6.index t = ![t.val, 0] ∧ t.val < 8 :=
  (by decide +kernel : ∀ t : Fin grid0.N, _)

theorem V_gain (c : Dev nD) (i : S1x1024.Idx) : V m c main_v20 i = m ((c : Thread nD τ).loc main_arg1) (ix2 0 (i 1)) := by
  show StableHlo.after (List.flatten [hostOps0, hostOps0_1, hostOps0_2, hostOps0_3, hostOps0_4]) _ (Proc.devRef .tc main_v20) i = _
  simp only [hostOps0, hostOps0_1, hostOps0_2, hostOps0_3, hostOps0_4, List.flatten_cons, List.flatten_nil, List.append_nil, List.cons_append, List.nil_append]
  after_reads_at

theorem V_w (c : Dev nD) (k n : Fin 1024) : V m c main_v1 (ix2 k n) = m ((c : Thread nD τ).loc main_arg2) (ix3 0 k n) := by
  show StableHlo.after (List.flatten [hostOps0, hostOps0_1, hostOps0_2, hostOps0_3, hostOps0_4]) _ (Proc.devRef .tc main_v1) (ix2 k n) = _
  simp only [hostOps0, hostOps0_1, hostOps0_2, hostOps0_3, hostOps0_4, List.flatten_cons, List.flatten_nil, List.append_nil, List.cons_append, List.nil_append]
  after_reads_at

theorem V_x (c : Dev nD) (r : Fin 2048) (k : Fin 1024) (b : Fin 8) (q : Fin 256) (h : r.val = 256 * b.val + q.val) :
    V m c main_v18 (ix2 r k) = m ((c : Thread nD τ).loc main_arg0) (ix3 b q k) := by
  show StableHlo.after (List.flatten [hostOps0, hostOps0_1, hostOps0_2, hostOps0_3, hostOps0_4]) _ (Proc.devRef .tc main_v18) (ix2 r k) = _
  simp only [hostOps0, hostOps0_1, hostOps0_2, hostOps0_3, hostOps0_4, List.flatten_cons, List.flatten_nil, List.append_nil, List.cons_append, List.nil_append]
  after_reads_at
  have h1 : r.val / 256 = b.val := by omega
  have h2 : r.val % 256 = q.val := by omega
  exact congrArg _ (congrArg₂ (fun b q => ix3 b q k) (Fin.ext h1) (Fin.ext h2))

/-- The gain tiled over the four heads of the keys. -/
theorem V_hgain (c : Dev nD) (n : Fin 1024) (d : Fin 128) (hd : n.val % 128 = d.val) (hn : n.val < 512) :
    V m c main_v17 (ix2 0 n) = m ((c : Thread nD τ).loc main_arg3) (ix2 0 d) := by
  show StableHlo.after (List.flatten [hostOps0, hostOps0_1, hostOps0_2, hostOps0_3, hostOps0_4]) _ (Proc.devRef .tc main_v17) (ix2 0 n) = _
  simp only [hostOps0, hostOps0_1, hostOps0_2, hostOps0_3, hostOps0_4, List.flatten_cons, List.flatten_nil, List.append_nil, List.cons_append, List.nil_append]
  after_reads_at
  rw [dif_pos (by omega)]
  after_reads_at
  exact congrArg _ (congrArg (ix2 0) (Fin.ext hd))

/-- Integer division by 128 as the host spells it. -/
theorem floordiv : ∀ k : Fin 512, Scalar.select
          (IntOp.andi
            (IntOp.cmpi CmpIPredicate.ne
              (if BitVec.ofNat 32 k.val = 0 then (0 : BitVec 32) else if (BitVec.ofNat 32 k.val).msb = true then (-1) else 1)
              (if (128#32 : BitVec 32) = 0 then (0 : BitVec 32) else if BitVec.msb 128#32 = true then (-1) else 1))
            (IntOp.cmpi CmpIPredicate.ne (IntOp.remsi ArithUnit.host (BitVec.ofNat 32 k.val) 128#32) 0#32))
          (IntOp.subi (IntOp.divsi ArithUnit.host (BitVec.ofNat 32 k.val) 128#32) 1#32)
          (IntOp.divsi ArithUnit.host (BitVec.ofNat 32 k.val) 128#32) = BitVec.ofNat 32 (k.val / 128) := by
  decide +kernel

/-- The bits of 1/128. -/
theorem inv128 : Ideal.ofBits FTy.f32 1006632960#32 = ((1 / 128 : ℝ) : EReal) := by
  simp [Ideal.ofBits, Ideal.ieee, -EReal.coe_mul]; norm_num

theorem c128 : Ideal.ofBits FTy.f32 1124073472#32 = ((128 : ℝ) : EReal) := by
  simp [Ideal.ofBits, Ideal.ieee, -EReal.coe_mul]; norm_num

/-- The first block of the mean matrix is constant. -/
theorem V_gm (c : Dev nD) (k l : Fin 512) (hk : k.val < 128) (hl : l.val < 128) :
    V m c main_v10 (ix2 k l) = ((1 / 128 : ℝ) : EReal) := by
  show StableHlo.after (List.flatten [hostOps0, hostOps0_1, hostOps0_2, hostOps0_3, hostOps0_4]) _ (Proc.devRef .tc main_v10) (ix2 k l) = _
  simp only [hostOps0, hostOps0_1, hostOps0_2, hostOps0_3, hostOps0_4, List.flatten_cons, List.flatten_nil, List.append_nil, List.cons_append, List.nil_append]
  after_reads_at
  have h1 := floordiv k
  have h2 := floordiv l
  refine (congrArg₂ (fun a b => Scalar.select (IntOp.cmpi CmpIPredicate.eq a b) (Ideal.ofBits FTy.f32 1006632960#32) (0 : EReal)) h1 h2).trans ?_
  beta_reduce
  rw [inv128, Nat.div_eq_of_lt hk, Nat.div_eq_of_lt hl]
  simp [IntOp.cmpi, Scalar.select]

/-- The projection of the normalized memory, as the reference computes it. -/
abbrev Z (c : Dev nD) : FVec Ideal Cert.MemKvReferenceIdeal.S8x256x1024 .f32 :=
  val_main_v16 (F := Ideal) (m ((c : Thread nD τ).loc main_arg0)) (m ((c : Thread nD τ).loc main_arg1)) (m ((c : Thread nD τ).loc main_arg2))

theorem proj (c : Dev nD) (t : Fin cfg0.N) (r : Fin 256) (n : Fin 1024) (b : Fin 8) (hb : t.val = b.val) :
    k0_pay11 (iblk m c 0 t) (iblk m c 1 t) (iblk m c 2 t) (ix2 r n) = Z m c (ix3 b r n) := by
  have hx : ∀ k : Fin 1024, iblk m c 0 t (ix2 r k) = m ((c : Thread nD τ).loc main_arg0) (ix3 b r k) := by
    intro k
    show V m c main_v18 ((win0_0.blk t).view.emb (ix2 r k)) = _
    rw [← V_x m c ⟨256 * b.val + r.val, by omega⟩ k b r rfl]; blk_ext [idx t]
  have hg : ∀ k : Fin 1024, iblk m c 1 t (ix2 0 k) = m ((c : Thread nD τ).loc main_arg1) (ix2 0 k) := by
    intro k
    show V m c main_v20 ((win0_1.blk t).view.emb (ix2 0 k)) = _
    rw [V_gain]; blk_ext [idx t]
  have hw : ∀ k : Fin 1024, iblk m c 2 t (ix2 k n) = m ((c : Thread nD τ).loc main_arg2) (ix3 0 k n) := by
    intro k
    show V m c main_v1 ((win0_2.blk t).view.emb (ix2 k n)) = _
    rw [← V_w m c k n]; blk_ext [idx t]
  unfold k0_pay11
  pointwise [Z, val_main_v16, val_main_v15, val_main_v14, val_main_v13, val_main_v12, val_main_v11, val_main_v10,
    val_main_v9, val_main_v8, val_main_v7, val_main_v6, val_main_v5, val_main_v4, val_main_v3, val_main_v1, val_main_v0, val_main_cst, val_main_cst_0, val_main_cst_1]
  simp only [hx, hg, hw]

theorem gm (c : Dev nD) (t : Fin cfg0.N) (k l : Fin 512) (hk : k.val < 128) (hl : l.val < 128) :
    iblk m c 3 t (ix2 k l) = ((1 / 128 : ℝ) : EReal) := by
  show V m c main_v10 ((win0_3.blk t).view.emb (ix2 k l)) = _
  rw [← V_gm m c k l hk hl]; blk_ext [idx t]

theorem hgain (c : Dev nD) (t : Fin cfg0.N) (n : Fin 1024) : iblk m c 4 t (ix2 0 n) = V m c main_v17 (ix2 0 n) := by
  show V m c main_v17 ((win0_4.blk t).view.emb (ix2 0 n)) = _
  blk_ext [idx t]

/-- Two entries with equal coordinates are equal. -/
theorem at4 {α : Type} {n0 n1 n2 n3 : ℕ} (f : Shape.Idx ⟨4, ![n0, n1, n2, n3]⟩ → α) {a a' : Fin n0} {b b' : Fin n1} {c c' : Fin n2} {d : Fin n3}
    (h0 : a.val = a'.val) (h1 : b.val = b'.val) (h2 : c.val = c'.val) : f (ix4 a b c d) = f (ix4 a' b' c' d) := by
  obtain rfl := Fin.ext h0
  obtain rfl := Fin.ext h1
  obtain rfl := Fin.ext h2
  rfl

/-- Four stores into every fourth row: row `4 r + j` holds row `r` of the store `j`. -/
theorem rows (p0 p1 p2 p3 : Vec Ideal S256x128 .f32) (r : Fin 256) (j : Fin 4) (d : Fin 128) (y : S1024x128.Idx)
    (h0 : (y 0).val = 4 * r.val + j.val) (h1 : (y 1).val = d.val) :
    View.canon (Val := Elt Ideal) [⟨r0_8, p3⟩, ⟨r0_7, p2⟩, ⟨r0_6, p1⟩, ⟨r0_5, p0⟩] y = (![p0, p1, p2, p3] : Fin 4 → Vec Ideal S256x128 .f32) j (ix2 r d) := by
  have hy : ∀ (R : Rect S1024x128) (i : ℕ), i < 4 → R.off = ![i, 0] → R.stride = ![4, 1] → i ≠ j.val → y ∉ R.set := by
    intro R i hi ho hs hj h
    obtain ⟨k, hk, e⟩ := (LoadRect.mem_set (r := R.toLoadRect)).1 h 0
    rw [ho, hs] at e
    have e' : (y 0).val = i + 4 * k := e
    omega
  have n3 : 3 ≠ j.val → y ∉ r0_8.set := hy r0_8 3 (by omega) rfl rfl
  have n2 : 2 ≠ j.val → y ∉ r0_7.set := hy r0_7 2 (by omega) rfl rfl
  have n1 : 1 ≠ j.val → y ∉ r0_6.set := hy r0_6 1 (by omega) rfl rfl
  have e : ∀ (R : Rect S1024x128) (f : (⟨2, ![256, 128]⟩ : Shape).Idx → S1024x128.Idx), (f (ix2 r d) 0).val = j.val + 4 * r.val ∧ (f (ix2 r d) 1).val = 0 + 1 * d.val → f (ix2 r d) = y := by
    intro R f h
    funext a
    fin_cases a
    · exact Fin.ext (by have := h.1; show (f (ix2 r d) 0).val = (y 0).val; omega)
    · exact Fin.ext (by have := h.2; show (f (ix2 r d) 1).val = (y 1).val; omega)
  fin_cases j
  · exact Cert.canon_hit [] [⟨r0_8, p3⟩, ⟨r0_7, p2⟩, ⟨r0_6, p1⟩] r0_5 p0 (ix2 r d) y (e r0_5 _ ⟨rfl, rfl⟩) (by
      intro p hp; simp only [List.mem_cons, List.not_mem_nil, or_false] at hp
      rcases hp with rfl | rfl | rfl
      · exact n3 (by decide)
      · exact n2 (by decide)
      · exact n1 (by decide))
  · exact Cert.canon_hit [⟨r0_5, p0⟩] [⟨r0_8, p3⟩, ⟨r0_7, p2⟩] r0_6 p1 (ix2 r d) y (e r0_6 _ ⟨rfl, rfl⟩) (by
      intro p hp; simp only [List.mem_cons, List.not_mem_nil, or_false] at hp
      rcases hp with rfl | rfl
      · exact n3 (by decide)
      · exact n2 (by decide))
  · exact Cert.canon_hit [⟨r0_6, p1⟩, ⟨r0_5, p0⟩] [⟨r0_8, p3⟩] r0_7 p2 (ix2 r d) y (e r0_7 _ ⟨rfl, rfl⟩) (by
      intro p hp; simp only [List.mem_cons, List.not_mem_nil, or_false] at hp
      rcases hp with rfl
      exact n3 (by decide))
  · exact Cert.canon_hit [⟨r0_7, p2⟩, ⟨r0_6, p1⟩, ⟨r0_5, p0⟩] [] r0_8 p3 (ix2 r d) y (e r0_8 _ ⟨rfl, rfl⟩) (by
      intro p hp; exact absurd hp List.not_mem_nil)

theorem keys_at (a : FVec Ideal S256x512 .f32) (g : FVec Ideal S1x512 .f32) (r : Fin 256) (j : Fin 4) (d : Fin 128) :
    (![k0_pay2 a g, k0_pay3 a g, k0_pay4 a g, k0_pay5 a g] : Fin 4 → Vec Ideal S256x128 .f32) j (ix2 r d) =
      a (ix2 r ⟨128 * j.val + d.val, by omega⟩) * g (ix2 0 ⟨128 * j.val + d.val, by omega⟩) := by
  fin_cases j
  · show k0_pay2 a g (ix2 r d) = _
    pointwise [k0_pay2, k0_pay1]
  · show k0_pay3 a g (ix2 r d) = _
    pointwise [k0_pay3, k0_pay1]
  · show k0_pay4 a g (ix2 r d) = _
    pointwise [k0_pay4, k0_pay1]
  · show k0_pay5 a g (ix2 r d) = _
    pointwise [k0_pay5, k0_pay1]

theorem values_at (a : FVec Ideal S256x1024 .f32) (r : Fin 256) (j : Fin 4) (d : Fin 128) :
    (![k0_pay7 a, k0_pay8 a, k0_pay9 a, k0_pay10 a] : Fin 4 → Vec Ideal S256x128 .f32) j (ix2 r d) =
      a (ix2 r ⟨512 + (128 * j.val + d.val), by omega⟩) := by
  fin_cases j
  · show k0_pay7 a (ix2 r d) = _
    pointwise [k0_pay7, k0_pay6]
  · show k0_pay8 a (ix2 r d) = _
    pointwise [k0_pay8, k0_pay6]
  · show k0_pay9 a (ix2 r d) = _
    pointwise [k0_pay9, k0_pay6]
  · show k0_pay10 a (ix2 r d) = _
    pointwise [k0_pay10, k0_pay6]

/-- A key before its gain. -/
theorem normed (c : Dev nD) (t : Fin cfg0.N) (r : Fin 256) (b : Fin 8) (j : Fin 4) (d : Fin 128) (n : Fin 512) (hb : t.val = b.val)
    (hn : n.val = 128 * j.val + d.val) :
    k0_pay12 (iblk m c 0 t) (iblk m c 1 t) (iblk m c 2 t) (View.ld (iblk m c 3 t) r0_3) (ix2 r n) =
    val_main_v29 (F := Ideal) (m ((c : Thread nD τ).loc main_arg0)) (m ((c : Thread nD τ).loc main_arg1)) (m ((c : Thread nD τ).loc main_arg2)) (ix4 b r j d) := by
  have hp : ∀ n : Fin 1024, k0_pay11 (iblk m c 0 t) (iblk m c 1 t) (iblk m c 2 t) (ix2 r n) = Z m c (ix3 b r n) :=
    fun n => proj m c t r n b hb
  unfold k0_pay12
  revert hp
  generalize k0_pay11 (iblk m c 0 t) (iblk m c 1 t) (iblk m c 2 t) = v
  intro hp
  pointwise [val_main_v29, val_main_v28, val_main_v27, val_main_v26, val_main_v25, val_main_v24, val_main_v23, val_main_v22, val_main_v21, val_main_v20, val_main_v19, val_main_v17, val_main_cst_2, val_main_cst_3, val_main_cst_4]
  rw [c128]
  have e : ∀ (k : Fin 128) (n : Fin 1024), n.val = 128 * j.val + k.val → v (ix2 r n) = Z m c (ix3 b r ⟨j.val * 128 + k.val, by omega⟩) :=
    fun k n h => (hp n).trans (congrArg (fun n => Z m c (ix3 b r n)) (Fin.ext (by show n.val = j.val * 128 + k.val; omega)))
  refine congrArg₂ (· * ·) (e d _ hn) (congrArg Ideal.rsqrt (congrArg (· + _) ?_))
  refine Eq.trans ?_ (GroupMean.mean128 _)
  split_ifs <;>
  exact Finset.sum_congr rfl fun k _ => congrArg₂ (· * ·)
    (congrArg₂ (· * ·) (e k _ (by dsimp only; omega)) (e k _ (by dsimp only; omega))) (gm m c t _ _ k.isLt (by first | omega | (dsimp only; omega)))

/-- A stored key. -/
theorem key (c : Dev nD) (t : Fin cfg0.N) (r : Fin 256) (b : Fin 8) (j : Fin 4) (d : Fin 128) (y : S1024x128.Idx) (hb : t.val = b.val)
    (h0 : (y 0).val = 4 * r.val + j.val) (h1 : (y 1).val = d.val) :
    out0_5 (iblk m c 0 t) (iblk m c 1 t) (iblk m c 2 t) (iblk m c 3 t) (iblk m c 4 t) y =
    val_main_v32 (F := Ideal) (m ((c : Thread nD τ).loc main_arg0)) (m ((c : Thread nD τ).loc main_arg1)) (m ((c : Thread nD τ).loc main_arg2)) (m ((c : Thread nD τ).loc main_arg3)) (ix4 b r j d) := by
  unfold out0_5
  rw [rows _ _ _ _ r j d y h0 h1, keys_at]
  have hk := normed m c t r b j d ⟨128 * j.val + d.val, by omega⟩ hb rfl
  have hg := (hgain m c t ⟨128 * j.val + d.val, by omega⟩).trans (V_hgain m c ⟨128 * j.val + d.val, by omega⟩ d (by dsimp only; omega) (by dsimp only; omega))
  unfold k0_pay15 k0_pay16 k0_pay13
  frame_out
  refine (congrArg₂ (· * ·) hk ((show shapeCast S1x512 (View.ld (iblk m c 4 t) r0_4) shapeCasts_S1x512_S1x512 (ix2 0 ⟨128 * j.val + d.val, by omega⟩) = iblk m c 4 t (ix2 0 ⟨128 * j.val + d.val, by omega⟩) by pointwise []).trans hg)).trans ?_
  pointwise [val_main_v32, val_main_v31, val_main_v30, val_main_v2]

/-- A stored value. -/
theorem value (c : Dev nD) (t : Fin cfg0.N) (r : Fin 256) (b : Fin 8) (j : Fin 4) (d : Fin 128) (y : S1024x128.Idx) (hb : t.val = b.val)
    (h0 : (y 0).val = 4 * r.val + j.val) (h1 : (y 1).val = d.val) :
    out0_6 (iblk m c 0 t) (iblk m c 1 t) (iblk m c 2 t) (iblk m c 3 t) (iblk m c 4 t) y =
    val_main_v33 (F := Ideal) (m ((c : Thread nD τ).loc main_arg0)) (m ((c : Thread nD τ).loc main_arg1)) (m ((c : Thread nD τ).loc main_arg2)) (ix4 b r j d) := by
  unfold out0_6
  rw [rows _ _ _ _ r j d y h0 h1, values_at]
  have hv := proj m c t r ⟨512 + (128 * j.val + d.val), by omega⟩ b hb
  unfold k0_pay14
  frame_out
  refine hv.trans ?_
  pointwise [val_main_v33, val_main_v18]
  exact congrArg (fun n => Z m c (ix3 b r n)) (Fin.ext (by show 512 + _ = 512 + _; omega))

/-- The keys' array after the grid. -/
def K (c : Dev nD) : FVec Ideal S8192x128 .f32 := fun i =>
  val_main_v32 (F := Ideal) (m ((c : Thread nD τ).loc main_arg0)) (m ((c : Thread nD τ).loc main_arg1)) (m ((c : Thread nD τ).loc main_arg2)) (m ((c : Thread nD τ).loc main_arg3))
    (ix4 ⟨(i 0).val / 1024, by have h : (i 0).val < 8192 := (i 0).isLt; omega⟩ ⟨(i 0).val % 1024 / 4, by omega⟩ ⟨(i 0).val % 4, by omega⟩ (i 1))

/-- The values' array after the grid. -/
def W (c : Dev nD) : FVec Ideal S8192x128 .f32 := fun i =>
  val_main_v33 (F := Ideal) (m ((c : Thread nD τ).loc main_arg0)) (m ((c : Thread nD τ).loc main_arg1)) (m ((c : Thread nD τ).loc main_arg2))
    (ix4 ⟨(i 0).val / 1024, by have h : (i 0).val < 8192 := (i 0).isLt; omega⟩ ⟨(i 0).val % 1024 / 4, by omega⟩ ⟨(i 0).val % 4, by omega⟩ (i 1))

theorem final_5 (c : Dev nD) : (dats m 0 c).arrAt 5 cfg0.N = K m c := by
  refine (dats m 0 c).arrAt_eq_of_covers 5 _ (by decide +kernel) fun t hf y => ?_
  have ht := (idx t).2.2.2.2.2.2.2
  have h0 : (y 0).val < 1024 := (y 0).isLt
  have h1 : (y 1).val < 128 := (y 1).isLt
  blk_simp
  rw [after0_5]
  refine (key m c t ⟨(y 0).val / 4, by omega⟩ ⟨t.val, ht⟩ ⟨(y 0).val % 4, by omega⟩ ⟨(y 1).val, h1⟩ _ rfl ?_ ?_).trans ?_
  · show (y 0).val = 4 * ((y 0).val / 4) + (y 0).val % 4
    omega
  · rfl
  · have e : ∀ w : Fin 8192, w.val = 1024 * t.val + (y 0).val → ∀ q : S8192x128.Idx, q = ix2 w ⟨(y 1).val, h1⟩ →
        val_main_v32 (F := Ideal) (m ((c : Thread nD τ).loc main_arg0)) (m ((c : Thread nD τ).loc main_arg1)) (m ((c : Thread nD τ).loc main_arg2)) (m ((c : Thread nD τ).loc main_arg3))
          (ix4 ⟨t.val, ht⟩ ⟨(y 0).val / 4, by omega⟩ ⟨(y 0).val % 4, by omega⟩ ⟨(y 1).val, h1⟩) = K m c q := by
      intro w hw q hq
      subst hq
      exact at4 _ (by show t.val = w.val / 1024; omega) (by show (y 0).val / 4 = w.val % 1024 / 4; omega) (by show (y 0).val % 4 = w.val % 4; omega)
    refine e ⟨1024 * t.val + (y 0).val, by omega⟩ rfl _ ?_
    blk_ext [idx t]

theorem final_6 (c : Dev nD) : (dats m 0 c).arrAt 6 cfg0.N = W m c := by
  refine (dats m 0 c).arrAt_eq_of_covers 6 _ (by decide +kernel) fun t hf y => ?_
  have ht := (idx t).2.2.2.2.2.2.2
  have h0 : (y 0).val < 1024 := (y 0).isLt
  have h1 : (y 1).val < 128 := (y 1).isLt
  blk_simp
  rw [after0_6]
  refine (value m c t ⟨(y 0).val / 4, by omega⟩ ⟨t.val, ht⟩ ⟨(y 0).val % 4, by omega⟩ ⟨(y 1).val, h1⟩ _ rfl ?_ ?_).trans ?_
  · show (y 0).val = 4 * ((y 0).val / 4) + (y 0).val % 4
    omega
  · rfl
  · have e : ∀ w : Fin 8192, w.val = 1024 * t.val + (y 0).val → ∀ q : S8192x128.Idx, q = ix2 w ⟨(y 1).val, h1⟩ →
        val_main_v33 (F := Ideal) (m ((c : Thread nD τ).loc main_arg0)) (m ((c : Thread nD τ).loc main_arg1)) (m ((c : Thread nD τ).loc main_arg2))
          (ix4 ⟨t.val, ht⟩ ⟨(y 0).val / 4, by omega⟩ ⟨(y 0).val % 4, by omega⟩ ⟨(y 1).val, h1⟩) = W m c q := by
      intro w hw q hq
      subst hq
      exact at4 _ (by show t.val = w.val / 1024; omega) (by show (y 0).val / 4 = w.val % 1024 / 4; omega) (by show (y 0).val % 4 = w.val % 4; omega)
    refine e ⟨1024 * t.val + (y 0).val, by omega⟩ rfl _ ?_
    blk_ext [idx t]

theorem after_22 (c : Dev nD) : Pipeline.afterTail₀ cfgs (dats m) 0 (V0 m) [hostOps1] c main_v22 =
    val_main_v34 (F := Ideal) (m ((c : Thread nD τ).loc main_arg0)) (m ((c : Thread nD τ).loc main_arg1)) (m ((c : Thread nD τ).loc main_arg2)) (m ((c : Thread nD τ).loc main_arg3)) := by
  have hw := (Pipeline.withArrays_arr _ launch0.win.arr_inj c (V0 m c) (fun w => (dats m 0 c).arrAt w (cfgs 0).N) 5).trans (final_5 m c)
  funext i
  show StableHlo.after hostOps1 (Pipeline.withArrays (cfgs 0).spec c (V0 m c) fun w => (dats m 0 c).arrAt w (cfgs 0).N) (Proc.devRef .tc main_v22) i = _
  revert hw
  generalize (Pipeline.withArrays (cfgs 0).spec c (V0 m c) fun w => (dats m 0 c).arrAt w (cfgs 0).N) = U
  intro hw
  replace hw : U (Proc.devRef .tc main_v21_0) = K m c := hw
  after_results
  rw [hw]
  pointwise [val_main_v34, K]
  have h2 : (i 2).val < 256 := (i 2).isLt
  have h3 : (i 3).val < 4 := (i 3).isLt
  have e0 : ((i 1).val * 1024 + (i 2).val * 4 + (i 3).val) / 1024 = (i 1).val := by omega
  have e1 : ((i 1).val * 1024 + (i 2).val * 4 + (i 3).val) % 1024 / 4 = (i 2).val := by omega
  have e2 : ((i 1).val * 1024 + (i 2).val * 4 + (i 3).val) % 4 = (i 3).val := by omega
  exact at4 _ e0 e1 e2

theorem after_23 (c : Dev nD) : Pipeline.afterTail₀ cfgs (dats m) 0 (V0 m) [hostOps1] c main_v23 =
    val_main_v35 (F := Ideal) (m ((c : Thread nD τ).loc main_arg0)) (m ((c : Thread nD τ).loc main_arg1)) (m ((c : Thread nD τ).loc main_arg2)) := by
  have hw := (Pipeline.withArrays_arr _ launch0.win.arr_inj c (V0 m c) (fun w => (dats m 0 c).arrAt w (cfgs 0).N) 6).trans (final_6 m c)
  funext i
  show StableHlo.after hostOps1 (Pipeline.withArrays (cfgs 0).spec c (V0 m c) fun w => (dats m 0 c).arrAt w (cfgs 0).N) (Proc.devRef .tc main_v23) i = _
  revert hw
  generalize (Pipeline.withArrays (cfgs 0).spec c (V0 m c) fun w => (dats m 0 c).arrAt w (cfgs 0).N) = U
  intro hw
  replace hw : U (Proc.devRef .tc main_v21_1) = W m c := hw
  after_results
  rw [hw]
  pointwise [val_main_v35, W]
  have h2 : (i 2).val < 256 := (i 2).isLt
  have h3 : (i 3).val < 4 := (i 3).isLt
  have e0 : ((i 1).val * 1024 + (i 2).val * 4 + (i 3).val) / 1024 = (i 1).val := by omega
  have e1 : ((i 1).val * 1024 + (i 2).val * 4 + (i 3).val) % 1024 / 4 = (i 2).val := by omega
  have e2 : ((i 1).val * 1024 + (i 2).val * 4 + (i 3).val) % 4 = (i 3).val := by omega
  exact at4 _ e0 e1 e2

/-- The kernel's run: the two results are the reference's terms over the arguments, which it leaves alone. -/
theorem run (g : Dev nD → PrngReg) :
    θ_run defs (onTc (τ := τ) (main (F := Ideal))) ⟨m, fun _ => 0, g⟩ fun r => ∀ c : Dev nD,
      r.2.mem ((c.tc : Thread nD τ).loc main_v22) = val_main_v34 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v23) = val_main_v35 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(Pipeline.FramePost.rest_eq h.1 c main_v22 (by decide)).trans (after_22 m c),
      (Pipeline.FramePost.rest_eq h.1 c main_v23 (by decide)).trans (after_23 m c), h.2.1 c⟩)
    (θ_run_and (run_main m g) (frame m g))

end Cert.MemKvIdeal.Value
-- ==== Proof.ProjFrame.lean ====
module

public import proofs.«01_k».proof.Proof.Gen.Proj.Launch
public import proofs.«01_k».proof.Proof.Gen.Proj.Skeleton
public import proofs.«01_k».proof.Proof.Gen.Proj.Points
public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The frames of `Proj` and of its ideal reading. One output is stored by four stores, each into every fourth row. -/

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2, hostOps0_3, hostOps0_4]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 612000 in
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1080000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1024x2688 := Rect.unit (s := S1024x2688) ![0, 0] S1024x2688.size inb_S1024x2688_S1024x2688_0_0
abbrev r0_3 : Rect S512x512 := Rect.unit (s := S512x512) ![0, 0] S128x128.size inb_S512x512_S128x128_0_0
abbrev r0_4 : Rect S1x2688 := Rect.unit (s := S1x2688) ![0, 0] S1x512.size inb_S1x2688_S1x512_0_0
abbrev r0_5 : Rect S512x512 := Rect.unit (s := S512x512) ![0, 0] S512x512.size inb_S512x512_S512x512_0_0
abbrev r0_6 : Rect S1x2688 := Rect.unit (s := S1x2688) ![0, 512] S1x128.size inb_S1x2688_S1x128_0_512
abbrev r0_7 : Rect S512x128 := Rect.unit (s := S512x128) ![0, 0] S512x128.size inb_S512x128_S512x128_0_0
abbrev r0_8 : Rect S512x256 := Rect.unit (s := S512x256) ![0, 0] S512x256.size inb_S512x256_S512x256_0_0
abbrev r0_9 : Rect S1x2688 := Rect.unit (s := S1x2688) ![0, 1152] S1x512.size inb_S1x2688_S1x512_0_1152
abbrev r0_10 : Rect S1x2688 := Rect.unit (s := S1x2688) ![0, 1664] S1x512.size inb_S1x2688_S1x512_0_1664
abbrev r0_11 : Rect S1x1x128x512 := Rect.unit (s := S1x1x128x512) ![0, 0, 0, 0] S1x1x128x512.size inb_S1x1x128x512_S1x1x128x512_0_0_0_0
abbrev r0_12 : Rect S1x1x512x512 := Rect.unit (s := S1x1x512x512) ![0, 0, 0, 0] S1x1x512x512.size inb_S1x1x512x512_S1x1x512x512_0_0_0_0
abbrev r0_13 : Rect S1x128x512 := Rect.unit (s := S1x128x512) ![0, 0, 0] S1x128x512.size inb_S1x128x512_S1x128x512_0_0_0
abbrev r0_14 : Rect S1x64x512 := Rect.unit (s := S1x64x512) ![0, 0, 0] S1x64x512.size inb_S1x64x512_S1x64x512_0_0_0
abbrev r0_15 : Rect S1x512x512 := Rect.unit (s := S1x512x512) ![0, 0, 0] S1x512x512.size inb_S1x512x512_S1x512x512_0_0_0
abbrev r0_16 : Rect S2048x128 := ⟨(⟨![0, 0], S512x128.size, ![4, 1], inb_S2048x128_S512x128_0_0_s_4_1⟩ : LoadRect S2048x128), spos_4_1⟩
abbrev r0_17 : Rect S2048x128 := ⟨(⟨![1, 0], S512x128.size, ![4, 1], inb_S2048x128_S512x128_1_0_s_4_1⟩ : LoadRect S2048x128), spos_4_1⟩
abbrev r0_18 : Rect S2048x128 := ⟨(⟨![2, 0], S512x128.size, ![4, 1], inb_S2048x128_S512x128_2_0_s_4_1⟩ : LoadRect S2048x128), spos_4_1⟩
abbrev r0_19 : Rect S2048x128 := ⟨(⟨![3, 0], S512x128.size, ![4, 1], inb_S2048x128_S512x128_3_0_s_4_1⟩ : LoadRect S2048x128), spos_4_1⟩

def k0_pay24 (x0 : Vec F S512x1024 .f32) (x1 : Vec F S1x1024 .f32) (x2 : Vec F S1024x2688 .bf16) (x3 : Vec F S512x512 .bf16) (x4 : Vec F S1x2688 .f32) : FVec F S512x2688 .f32 :=
  k0_pay1 (View.ld x0 r0_0) (View.ld x1 r0_1) (View.ld x2 r0_2)

def out0_5 (x0 : Vec F S512x1024 .f32) (x1 : Vec F S1x1024 .f32) (x2 : Vec F S1024x2688 .bf16) (x3 : Vec F S512x512 .bf16) (x4 : Vec F S1x2688 .f32) : Vec F S512x512 .f32 :=
  View.canon [⟨r0_5, k0_pay4 (k0_pay2 (View.ld x0 r0_0) (View.ld x1 r0_1) (View.ld x2 r0_2) (View.ld x3 r0_3)) (k0_pay3 (View.ld x4 r0_4))⟩]

theorem cover0_5 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_6 (x0 : Vec F S512x1024 .f32) (x1 : Vec F S1x1024 .f32) (x2 : Vec F S1024x2688 .bf16) (x3 : Vec F S512x512 .bf16) (x4 : Vec F S1x2688 .f32) : Vec F S512x128 .f32 :=
  View.canon [⟨r0_7, k0_pay5 (k0_pay24 x0 x1 x2 x3 x4) (View.ld x3 r0_3) (View.ld x4 r0_6)⟩]

theorem cover0_6 (p0 : Vec F S512x128 .f32) (y : S512x128.Idx) :
    ∃ pc ∈ ([⟨r0_7, p0⟩] : List (View.Piece (Elt F) S512x128 .f32)), y ∈ pc.1.set :=
  View.cover_of_tiled [⟨r0_7, p0⟩] S512x128.size (by rfl) y

def out0_7 (x0 : Vec F S512x1024 .f32) (x1 : Vec F S1x1024 .f32) (x2 : Vec F S1024x2688 .bf16) (x3 : Vec F S512x512 .bf16) (x4 : Vec F S1x2688 .f32) : Vec F S512x256 .f32 :=
  View.canon [⟨r0_8, k0_pay6 (k0_pay24 x0 x1 x2 x3 x4)⟩]

theorem cover0_7 (p0 : Vec F S512x256 .f32) (y : S512x256.Idx) :
    ∃ pc ∈ ([⟨r0_8, p0⟩] : List (View.Piece (Elt F) S512x256 .f32)), y ∈ pc.1.set :=
  View.cover_of_tiled [⟨r0_8, p0⟩] S512x256.size (by rfl) y

def out0_8 (x0 : Vec F S512x1024 .f32) (x1 : Vec F S1x1024 .f32) (x2 : Vec F S1024x2688 .bf16) (x3 : Vec F S512x512 .bf16) (x4 : Vec F S1x2688 .f32) : Vec F S512x128 .f32 :=
  View.canon [⟨r0_7, k0_pay7 (k0_pay24 x0 x1 x2 x3 x4)⟩]

theorem cover0_8 (p0 : Vec F S512x128 .f32) (y : S512x128.Idx) :
    ∃ pc ∈ ([⟨r0_7, p0⟩] : List (View.Piece (Elt F) S512x128 .f32)), y ∈ pc.1.set :=
  View.cover_of_tiled [⟨r0_7, p0⟩] S512x128.size (by rfl) y

def out0_9 (x0 : Vec F S512x1024 .f32) (x1 : Vec F S1x1024 .f32) (x2 : Vec F S1024x2688 .bf16) (x3 : Vec F S512x512 .bf16) (x4 : Vec F S1x2688 .f32) : Vec F S512x512 .f32 :=
  View.canon [⟨r0_5, k0_pay10 (k0_pay8 (k0_pay24 x0 x1 x2 x3 x4)) (k0_pay9 (k0_pay24 x0 x1 x2 x3 x4) (View.ld x3 r0_3)) (View.ld x4 r0_9)⟩]

theorem cover0_9 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_10 (x0 : Vec F S512x1024 .f32) (x1 : Vec F S1x1024 .f32) (x2 : Vec F S1024x2688 .bf16) (x3 : Vec F S512x512 .bf16) (x4 : Vec F S1x2688 .f32) : Vec F S512x512 .f32 :=
  View.canon [⟨r0_5, k0_pay11 (k0_pay24 x0 x1 x2 x3 x4) (View.ld x3 r0_3) (View.ld x4 r0_10)⟩]

theorem cover0_10 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_11 (x0 : Vec F S512x1024 .f32) (x1 : Vec F S1x1024 .f32) (x2 : Vec F S1024x2688 .bf16) (x3 : Vec F S512x512 .bf16) (x4 : Vec F S1x2688 .f32) : Vec F S1x1x128x512 .f32 :=
  View.canon [⟨r0_11, k0_pay13 (k0_pay24 x0 x1 x2 x3 x4)⟩]

theorem cover0_11 (p0 : Vec F S1x1x128x512 .f32) (y : S1x1x128x512.Idx) :
    ∃ pc ∈ ([⟨r0_11, p0⟩] : List (View.Piece (Elt F) S1x1x128x512 .f32)), y ∈ pc.1.set :=
  View.cover_of_tiled [⟨r0_11, p0⟩] S1x1x128x512.size (by rfl) y

def out0_12 (x0 : Vec F S512x1024 .f32) (x1 : Vec F S1x1024 .f32) (x2 : Vec F S1024x2688 .bf16) (x3 : Vec F S512x512 .bf16) (x4 : Vec F S1x2688 .f32) : Vec F S1x1x512x512 .f32 :=
  View.canon [⟨r0_12, k0_pay15 (k0_pay24 x0 x1 x2 x3 x4)⟩]

theorem cover0_12 (p0 : Vec F S1x1x512x512 .f32) (y : S1x1x512x512.Idx) :
    ∃ pc ∈ ([⟨r0_12, p0⟩] : List (View.Piece (Elt F) S1x1x512x512 .f32)), y ∈ pc.1.set :=
  View.cover_of_tiled [⟨r0_12, p0⟩] S1x1x512x512.size (by rfl) y

def out0_13 (x0 : Vec F S512x1024 .f32) (x1 : Vec F S1x1024 .f32) (x2 : Vec F S1024x2688 .bf16) (x3 : Vec F S512x512 .bf16) (x4 : Vec F S1x2688 .f32) : Vec F S1x128x512 .f32 :=
  View.canon [⟨r0_13, k0_pay16 (k0_pay5 (k0_pay24 x0 x1 x2 x3 x4) (View.ld x3 r0_3) (View.ld x4 r0_6))⟩]

theorem cover0_13 (p0 : Vec F S1x128x512 .f32) (y : S1x128x512.Idx) :
    ∃ pc ∈ ([⟨r0_13, p0⟩] : List (View.Piece (Elt F) S1x128x512 .f32)), y ∈ pc.1.set :=
  View.cover_of_tiled [⟨r0_13, p0⟩] S1x128x512.size (by rfl) y

def out0_14 (x0 : Vec F S512x1024 .f32) (x1 : Vec F S1x1024 .f32) (x2 : Vec F S1024x2688 .bf16) (x3 : Vec F S512x512 .bf16) (x4 : Vec F S1x2688 .f32) : Vec F S1x128x512 .f32 :=
  View.canon [⟨r0_13, k0_pay17 (k0_pay12 (k0_pay24 x0 x1 x2 x3 x4))⟩]

theorem cover0_14 (p0 : Vec F S1x128x512 .f32) (y : S1x128x512.Idx) :
    ∃ pc ∈ ([⟨r0_13, p0⟩] : List (View.Piece (Elt F) S1x128x512 .f32)), y ∈ pc.1.set :=
  View.cover_of_tiled [⟨r0_13, p0⟩] S1x128x512.size (by rfl) y

def out0_15 (x0 : Vec F S512x1024 .f32) (x1 : Vec F S1x1024 .f32) (x2 : Vec F S1024x2688 .bf16) (x3 : Vec F S512x512 .bf16) (x4 : Vec F S1x2688 .f32) : Vec F S1x64x512 .f32 :=
  View.canon [⟨r0_14, k0_pay18 (k0_pay7 (k0_pay24 x0 x1 x2 x3 x4))⟩]

theorem cover0_15 (p0 : Vec F S1x64x512 .f32) (y : S1x64x512.Idx) :
    ∃ pc ∈ ([⟨r0_14, p0⟩] : List (View.Piece (Elt F) S1x64x512 .f32)), y ∈ pc.1.set :=
  View.cover_of_tiled [⟨r0_14, p0⟩] S1x64x512.size (by rfl) y

def out0_16 (x0 : Vec F S512x1024 .f32) (x1 : Vec F S1x1024 .f32) (x2 : Vec F S1024x2688 .bf16) (x3 : Vec F S512x512 .bf16) (x4 : Vec F S1x2688 .f32) : Vec F S1x512x512 .f32 :=
  View.canon [⟨r0_15, k0_pay19 (k0_pay11 (k0_pay24 x0 x1 x2 x3 x4) (View.ld x3 r0_3) (View.ld x4 r0_10))⟩]

theorem cover0_16 (p0 : Vec F S1x512x512 .f32) (y : S1x512x512.Idx) :
    ∃ pc ∈ ([⟨r0_15, p0⟩] : List (View.Piece (Elt F) S1x512x512 .f32)), y ∈ pc.1.set :=
  View.cover_of_tiled [⟨r0_15, p0⟩] S1x512x512.size (by rfl) y

def out0_17 (x0 : Vec F S512x1024 .f32) (x1 : Vec F S1x1024 .f32) (x2 : Vec F S1024x2688 .bf16) (x3 : Vec F S512x512 .bf16) (x4 : Vec F S1x2688 .f32) : Vec F S2048x128 .f32 :=
  View.canon [⟨r0_19, k0_pay23 (k0_pay24 x0 x1 x2 x3 x4)⟩,
    ⟨r0_18, k0_pay22 (k0_pay24 x0 x1 x2 x3 x4)⟩,
    ⟨r0_17, k0_pay21 (k0_pay24 x0 x1 x2 x3 x4)⟩,
    ⟨r0_16, k0_pay20 (k0_pay24 x0 x1 x2 x3 x4)⟩]

theorem cover0_17 (p0 : Vec F S512x128 .f32) (p1 : Vec F S512x128 .f32) (p2 : Vec F S512x128 .f32) (p3 : Vec F S512x128 .f32) (y : S2048x128.Idx) :
    ∃ pc ∈ ([⟨r0_19, p0⟩, ⟨r0_18, p1⟩, ⟨r0_17, p2⟩, ⟨r0_16, p3⟩] : List (View.Piece (Elt F) S2048x128 .f32)), y ∈ pc.1.set :=
  by
    have h0 : (y 0).val < 2048 := (y 0).isLt
    have h1 : (y 1).val < 128 := (y 1).isLt
    have hm : ∀ j : ℕ, j < 4 → (y 0).val % 4 = j → ∀ r : Rect S2048x128, r.off = ![j, 0] → r.size = ![512, 128] → r.stride = ![4, 1] → y ∈ r.set := by
      intro j hj h r ho hs ht
      rw [LoadRect.mem_set]
      intro a
      rw [ho, hs, ht]
      fin_cases a
      · exact ⟨(y 0).val / 4, by show (y 0).val / 4 < 512; omega, by show (y 0).val = j + 4 * ((y 0).val / 4); omega⟩
      · exact ⟨(y 1).val, h1, by show (y 1).val = 0 + 1 * (y 1).val; omega⟩
    have h4 : (y 0).val % 4 = 3 ∨ (y 0).val % 4 = 2 ∨ (y 0).val % 4 = 1 ∨ (y 0).val % 4 = 0 := by omega
    rcases h4 with h | h | h | h
    · exact ⟨_, List.mem_cons_self, hm 3 (by omega) h _ rfl rfl rfl⟩
    · exact ⟨_, List.mem_cons_of_mem _ List.mem_cons_self, hm 2 (by omega) h _ rfl rfl rfl⟩
    · exact ⟨_, List.mem_cons_of_mem _ (List.mem_cons_of_mem _ List.mem_cons_self), hm 1 (by omega) h _ rfl rfl rfl⟩
    · exact ⟨_, List.mem_cons_of_mem _ (List.mem_cons_of_mem _ (List.mem_cons_of_mem _ List.mem_cons_self)), hm 0 (by omega) h _ rfl rfl rfl⟩

set_option maxHeartbeats 1000000 in
/-- The body on whole staging buffers: the inputs stay, each output holds its stores over the inputs. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x2688 .bf16) (harg3 : arg3.IsWhole) (arg4 : Memref sig .tc .vmem S512x512 .bf16) (harg4 : arg4.IsWhole) (arg5 : Memref sig .tc .vmem S1x2688 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1x1x128x512 .f32) (harg12 : arg12.IsWhole) (arg13 : Memref sig .tc .vmem S1x1x512x512 .f32) (harg13 : arg13.IsWhole) (arg14 : Memref sig .tc .vmem S1x128x512 .f32) (harg14 : arg14.IsWhole) (arg15 : Memref sig .tc .vmem S1x128x512 .f32) (harg15 : arg15.IsWhole) (arg16 : Memref sig .tc .vmem S1x64x512 .f32) (harg16 : arg16.IsWhole) (arg17 : Memref sig .tc .vmem S1x512x512 .f32) (harg17 : arg17.IsWhole) (arg18 : Memref sig .tc .vmem S2048x128 .f32) (harg18 : arg18.IsWhole)
    (x0 : Vec F S512x1024 .f32) (x1 : Vec F S1x1024 .f32) (x2 : Vec F S1024x2688 .bf16) (x3 : Vec F S512x512 .bf16) (x4 : Vec F S1x2688 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4) ∗ owns (c : Thread nD τ) arg9 fullShare (out0_8 x0 x1 x2 x3 x4) ∗ owns (c : Thread nD τ) arg10 fullShare (out0_9 x0 x1 x2 x3 x4) ∗ owns (c : Thread nD τ) arg11 fullShare (out0_10 x0 x1 x2 x3 x4) ∗ owns (c : Thread nD τ) arg12 fullShare (out0_11 x0 x1 x2 x3 x4) ∗ owns (c : Thread nD τ) arg13 fullShare (out0_12 x0 x1 x2 x3 x4) ∗ owns (c : Thread nD τ) arg14 fullShare (out0_13 x0 x1 x2 x3 x4) ∗ owns (c : Thread nD τ) arg15 fullShare (out0_14 x0 x1 x2 x3 x4) ∗ owns (c : Thread nD τ) arg16 fullShare (out0_15 x0 x1 x2 x3 x4) ∗ owns (c : Thread nD τ) arg17 fullShare (out0_16 x0 x1 x2 x3 x4) ∗ owns (c : Thread nD τ) arg18 fullShare (out0_17 x0 x1 x2 x3 x4)) -∗ K ⟨⟩))
      ⊢ wp frame (wpE (defs₀ (F := F)) Variants.none c none) E (cc0_proj_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_proj_prompt_eq_skeleton]; unfold cc0_proj_prompt_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  iexists _; isplitr
  swap; · iexact H17
  ipureintro
  refine (View.read_writes_eq_canon _ _ _ (cover0_17 _ _ _ _)).trans ?_
  rfl

/-- The data of the pipeline: inputs at their blocks, outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
    | ⟨8, _⟩ => out0_8 (iblk m c 0 t) (iblk m c 1 t) (iblk m c 2 t) (iblk m c 3 t) (iblk m c 4 t)
    | ⟨9, _⟩ => out0_9 (iblk m c 0 t) (iblk m c 1 t) (iblk m c 2 t) (iblk m c 3 t) (iblk m c 4 t)
    | ⟨10, _⟩ => out0_10 (iblk m c 0 t) (iblk m c 1 t) (iblk m c 2 t) (iblk m c 3 t) (iblk m c 4 t)
    | ⟨11, _⟩ => out0_11 (iblk m c 0 t) (iblk m c 1 t) (iblk m c 2 t) (iblk m c 3 t) (iblk m c 4 t)
    | ⟨12, _⟩ => out0_12 (iblk m c 0 t) (iblk m c 1 t) (iblk m c 2 t) (iblk m c 3 t) (iblk m c 4 t)
    | ⟨13, _⟩ => out0_13 (iblk m c 0 t) (iblk m c 1 t) (iblk m c 2 t) (iblk m c 3 t) (iblk m c 4 t)
    | ⟨14, _⟩ => out0_14 (iblk m c 0 t) (iblk m c 1 t) (iblk m c 2 t) (iblk m c 3 t) (iblk m c 4 t)
    | ⟨15, _⟩ => out0_15 (iblk m c 0 t) (iblk m c 1 t) (iblk m c 2 t) (iblk m c 3 t) (iblk m c 4 t)
    | ⟨16, _⟩ => out0_16 (iblk m c 0 t) (iblk m c 1 t) (iblk m c 2 t) (iblk m c 3 t) (iblk m c 4 t)
    | ⟨17, _⟩ => out0_17 (iblk m c 0 t) (iblk m c 1 t) (iblk m c 2 t) (iblk m c 3 t) (iblk m c 4 t)
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]
theorem after0_8 (c : Dev nD) (t : Fin cfg0.N) : (dats m 0 c).after 8 t = out0_8 (iblk m c 0 t) (iblk m c 1 t) (iblk m c 2 t) (iblk m c 3 t) (iblk m c 4 t) := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]
theorem after0_10 (c : Dev nD) (t : Fin cfg0.N) : (dats m 0 c).after 10 t = out0_10 (iblk m c 0 t) (iblk m c 1 t) (iblk m c 2 t) (iblk m c 3 t) (iblk m c 4 t) := by dsimp only [dats]
theorem after0_11 (c : Dev nD) (t : Fin cfg0.N) : (dats m 0 c).after 11 t = out0_11 (iblk m c 0 t) (iblk m c 1 t) (iblk m c 2 t) (iblk m c 3 t) (iblk m c 4 t) := by dsimp only [dats]
theorem after0_12 (c : Dev nD) (t : Fin cfg0.N) : (dats m 0 c).after 12 t = out0_12 (iblk m c 0 t) (iblk m c 1 t) (iblk m c 2 t) (iblk m c 3 t) (iblk m c 4 t) := by dsimp only [dats]
theorem after0_13 (c : Dev nD) (t : Fin cfg0.N) : (dats m 0 c).after 13 t = out0_13 (iblk m c 0 t) (iblk m c 1 t) (iblk m c 2 t) (iblk m c 3 t) (iblk m c 4 t) := by dsimp only [dats]
theorem after0_14 (c : Dev nD) (t : Fin cfg0.N) : (dats m 0 c).after 14 t = out0_14 (iblk m c 0 t) (iblk m c 1 t) (iblk m c 2 t) (iblk m c 3 t) (iblk m c 4 t) := by dsimp only [dats]
theorem after0_15 (c : Dev nD) (t : Fin cfg0.N) : (dats m 0 c).after 15 t = out0_15 (iblk m c 0 t) (iblk m c 1 t) (iblk m c 2 t) (iblk m c 3 t) (iblk m c 4 t) := by dsimp only [dats]
theorem after0_16 (c : Dev nD) (t : Fin cfg0.N) : (dats m 0 c).after 16 t = out0_16 (iblk m c 0 t) (iblk m c 1 t) (iblk m c 2 t) (iblk m c 3 t) (iblk m c 4 t) := by dsimp only [dats]
theorem after0_17 (c : Dev nD) (t : Fin cfg0.N) : (dats m 0 c).after 17 t = out0_17 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run of the program. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the run ends quietly and leaves the arguments alone. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.ProjIdeal.Gen

namespace Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2, hostOps0_3, hostOps0_4]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 612000 in
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1080000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1024x2688 := Rect.unit (s := S1024x2688) ![0, 0] S1024x2688.size inb_S1024x2688_S1024x2688_0_0
abbrev r0_3 : Rect S512x512 := Rect.unit (s := S512x512) ![0, 0] S128x128.size inb_S512x512_S128x128_0_0
abbrev r0_4 : Rect S1x2688 := Rect.unit (s := S1x2688) ![0, 0] S1x512.size inb_S1x2688_S1x512_0_0
abbrev r0_5 : Rect S512x512 := Rect.unit (s := S512x512) ![0, 0] S512x512.size inb_S512x512_S512x512_0_0
abbrev r0_6 : Rect S1x2688 := Rect.unit (s := S1x2688) ![0, 512] S1x128.size inb_S1x2688_S1x128_0_512
abbrev r0_7 : Rect S512x128 := Rect.unit (s := S512x128) ![0, 0] S512x128.size inb_S512x128_S512x128_0_0
abbrev r0_8 : Rect S512x256 := Rect.unit (s := S512x256) ![0, 0] S512x256.size inb_S512x256_S512x256_0_0
abbrev r0_9 : Rect S1x2688 := Rect.unit (s := S1x2688) ![0, 1152] S1x512.size inb_S1x2688_S1x512_0_1152
abbrev r0_10 : Rect S1x2688 := Rect.unit (s := S1x2688) ![0, 1664] S1x512.size inb_S1x2688_S1x512_0_1664
abbrev r0_11 : Rect S1x1x128x512 := Rect.unit (s := S1x1x128x512) ![0, 0, 0, 0] S1x1x128x512.size inb_S1x1x128x512_S1x1x128x512_0_0_0_0
abbrev r0_12 : Rect S1x1x512x512 := Rect.unit (s := S1x1x512x512) ![0, 0, 0, 0] S1x1x512x512.size inb_S1x1x512x512_S1x1x512x512_0_0_0_0
abbrev r0_13 : Rect S1x128x512 := Rect.unit (s := S1x128x512) ![0, 0, 0] S1x128x512.size inb_S1x128x512_S1x128x512_0_0_0
abbrev r0_14 : Rect S1x64x512 := Rect.unit (s := S1x64x512) ![0, 0, 0] S1x64x512.size inb_S1x64x512_S1x64x512_0_0_0
abbrev r0_15 : Rect S1x512x512 := Rect.unit (s := S1x512x512) ![0, 0, 0] S1x512x512.size inb_S1x512x512_S1x512x512_0_0_0
abbrev r0_16 : Rect S2048x128 := ⟨(⟨![0, 0], S512x128.size, ![4, 1], inb_S2048x128_S512x128_0_0_s_4_1⟩ : LoadRect S2048x128), spos_4_1⟩
abbrev r0_17 : Rect S2048x128 := ⟨(⟨![1, 0], S512x128.size, ![4, 1], inb_S2048x128_S512x128_1_0_s_4_1⟩ : LoadRect S2048x128), spos_4_1⟩
abbrev r0_18 : Rect S2048x128 := ⟨(⟨![2, 0], S512x128.size, ![4, 1], inb_S2048x128_S512x128_2_0_s_4_1⟩ : LoadRect S2048x128), spos_4_1⟩
abbrev r0_19 : Rect S2048x128 := ⟨(⟨![3, 0], S512x128.size, ![4, 1], inb_S2048x128_S512x128_3_0_s_4_1⟩ : LoadRect S2048x128), spos_4_1⟩

def k0_pay24 (x0 : Vec F S512x1024 .f32) (x1 : Vec F S1x1024 .f32) (x2 : Vec F S1024x2688 .bf16) (x3 : Vec F S512x512 .bf16) (x4 : Vec F S1x2688 .f32) : FVec F S512x2688 .f32 :=
  k0_pay1 (View.ld x0 r0_0) (View.ld x1 r0_1) (View.ld x2 r0_2)

def out0_5 (x0 : Vec F S512x1024 .f32) (x1 : Vec F S1x1024 .f32) (x2 : Vec F S1024x2688 .bf16) (x3 : Vec F S512x512 .bf16) (x4 : Vec F S1x2688 .f32) : Vec F S512x512 .f32 :=
  View.canon [⟨r0_5, k0_pay4 (k0_pay2 (View.ld x0 r0_0) (View.ld x1 r0_1) (View.ld x2 r0_2) (View.ld x3 r0_3)) (k0_pay3 (View.ld x4 r0_4))⟩]

theorem cover0_5 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_6 (x0 : Vec F S512x1024 .f32) (x1 : Vec F S1x1024 .f32) (x2 : Vec F S1024x2688 .bf16) (x3 : Vec F S512x512 .bf16) (x4 : Vec F S1x2688 .f32) : Vec F S512x128 .f32 :=
  View.canon [⟨r0_7, k0_pay5 (k0_pay24 x0 x1 x2 x3 x4) (View.ld x3 r0_3) (View.ld x4 r0_6)⟩]

theorem cover0_6 (p0 : Vec F S512x128 .f32) (y : S512x128.Idx) :
    ∃ pc ∈ ([⟨r0_7, p0⟩] : List (View.Piece (Elt F) S512x128 .f32)), y ∈ pc.1.set :=
  View.cover_of_tiled [⟨r0_7, p0⟩] S512x128.size (by rfl) y

def out0_7 (x0 : Vec F S512x1024 .f32) (x1 : Vec F S1x1024 .f32) (x2 : Vec F S1024x2688 .bf16) (x3 : Vec F S512x512 .bf16) (x4 : Vec F S1x2688 .f32) : Vec F S512x256 .f32 :=
  View.canon [⟨r0_8, k0_pay6 (k0_pay24 x0 x1 x2 x3 x4)⟩]

theorem cover0_7 (p0 : Vec F S512x256 .f32) (y : S512x256.Idx) :
    ∃ pc ∈ ([⟨r0_8, p0⟩] : List (View.Piece (Elt F) S512x256 .f32)), y ∈ pc.1.set :=
  View.cover_of_tiled [⟨r0_8, p0⟩] S512x256.size (by rfl) y

def out0_8 (x0 : Vec F S512x1024 .f32) (x1 : Vec F S1x1024 .f32) (x2 : Vec F S1024x2688 .bf16) (x3 : Vec F S512x512 .bf16) (x4 : Vec F S1x2688 .f32) : Vec F S512x128 .f32 :=
  View.canon [⟨r0_7, k0_pay7 (k0_pay24 x0 x1 x2 x3 x4)⟩]

theorem cover0_8 (p0 : Vec F S512x128 .f32) (y : S512x128.Idx) :
    ∃ pc ∈ ([⟨r0_7, p0⟩] : List (View.Piece (Elt F) S512x128 .f32)), y ∈ pc.1.set :=
  View.cover_of_tiled [⟨r0_7, p0⟩] S512x128.size (by rfl) y

def out0_9 (x0 : Vec F S512x1024 .f32) (x1 : Vec F S1x1024 .f32) (x2 : Vec F S1024x2688 .bf16) (x3 : Vec F S512x512 .bf16) (x4 : Vec F S1x2688 .f32) : Vec F S512x512 .f32 :=
  View.canon [⟨r0_5, k0_pay10 (k0_pay8 (k0_pay24 x0 x1 x2 x3 x4)) (k0_pay9 (k0_pay24 x0 x1 x2 x3 x4) (View.ld x3 r0_3)) (View.ld x4 r0_9)⟩]

theorem cover0_9 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_10 (x0 : Vec F S512x1024 .f32) (x1 : Vec F S1x1024 .f32) (x2 : Vec F S1024x2688 .bf16) (x3 : Vec F S512x512 .bf16) (x4 : Vec F S1x2688 .f32) : Vec F S512x512 .f32 :=
  View.canon [⟨r0_5, k0_pay11 (k0_pay24 x0 x1 x2 x3 x4) (View.ld x3 r0_3) (View.ld x4 r0_10)⟩]

theorem cover0_10 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_11 (x0 : Vec F S512x1024 .f32) (x1 : Vec F S1x1024 .f32) (x2 : Vec F S1024x2688 .bf16) (x3 : Vec F S512x512 .bf16) (x4 : Vec F S1x2688 .f32) : Vec F S1x1x128x512 .f32 :=
  View.canon [⟨r0_11, k0_pay13 (k0_pay24 x0 x1 x2 x3 x4)⟩]

theorem cover0_11 (p0 : Vec F S1x1x128x512 .f32) (y : S1x1x128x512.Idx) :
    ∃ pc ∈ ([⟨r0_11, p0⟩] : List (View.Piece (Elt F) S1x1x128x512 .f32)), y ∈ pc.1.set :=
  View.cover_of_tiled [⟨r0_11, p0⟩] S1x1x128x512.size (by rfl) y

def out0_12 (x0 : Vec F S512x1024 .f32) (x1 : Vec F S1x1024 .f32) (x2 : Vec F S1024x2688 .bf16) (x3 : Vec F S512x512 .bf16) (x4 : Vec F S1x2688 .f32) : Vec F S1x1x512x512 .f32 :=
  View.canon [⟨r0_12, k0_pay15 (k0_pay24 x0 x1 x2 x3 x4)⟩]

theorem cover0_12 (p0 : Vec F S1x1x512x512 .f32) (y : S1x1x512x512.Idx) :
    ∃ pc ∈ ([⟨r0_12, p0⟩] : List (View.Piece (Elt F) S1x1x512x512 .f32)), y ∈ pc.1.set :=
  View.cover_of_tiled [⟨r0_12, p0⟩] S1x1x512x512.size (by rfl) y

def out0_13 (x0 : Vec F S512x1024 .f32) (x1 : Vec F S1x1024 .f32) (x2 : Vec F S1024x2688 .bf16) (x3 : Vec F S512x512 .bf16) (x4 : Vec F S1x2688 .f32) : Vec F S1x128x512 .f32 :=
  View.canon [⟨r0_13, k0_pay16 (k0_pay5 (k0_pay24 x0 x1 x2 x3 x4) (View.ld x3 r0_3) (View.ld x4 r0_6))⟩]

theorem cover0_13 (p0 : Vec F S1x128x512 .f32) (y : S1x128x512.Idx) :
    ∃ pc ∈ ([⟨r0_13, p0⟩] : List (View.Piece (Elt F) S1x128x512 .f32)), y ∈ pc.1.set :=
  View.cover_of_tiled [⟨r0_13, p0⟩] S1x128x512.size (by rfl) y

def out0_14 (x0 : Vec F S512x1024 .f32) (x1 : Vec F S1x1024 .f32) (x2 : Vec F S1024x2688 .bf16) (x3 : Vec F S512x512 .bf16) (x4 : Vec F S1x2688 .f32) : Vec F S1x128x512 .f32 :=
  View.canon [⟨r0_13, k0_pay17 (k0_pay12 (k0_pay24 x0 x1 x2 x3 x4))⟩]

theorem cover0_14 (p0 : Vec F S1x128x512 .f32) (y : S1x128x512.Idx) :
    ∃ pc ∈ ([⟨r0_13, p0⟩] : List (View.Piece (Elt F) S1x128x512 .f32)), y ∈ pc.1.set :=
  View.cover_of_tiled [⟨r0_13, p0⟩] S1x128x512.size (by rfl) y

def out0_15 (x0 : Vec F S512x1024 .f32) (x1 : Vec F S1x1024 .f32) (x2 : Vec F S1024x2688 .bf16) (x3 : Vec F S512x512 .bf16) (x4 : Vec F S1x2688 .f32) : Vec F S1x64x512 .f32 :=
  View.canon [⟨r0_14, k0_pay18 (k0_pay7 (k0_pay24 x0 x1 x2 x3 x4))⟩]

theorem cover0_15 (p0 : Vec F S1x64x512 .f32) (y : S1x64x512.Idx) :
    ∃ pc ∈ ([⟨r0_14, p0⟩] : List (View.Piece (Elt F) S1x64x512 .f32)), y ∈ pc.1.set :=
  View.cover_of_tiled [⟨r0_14, p0⟩] S1x64x512.size (by rfl) y

def out0_16 (x0 : Vec F S512x1024 .f32) (x1 : Vec F S1x1024 .f32) (x2 : Vec F S1024x2688 .bf16) (x3 : Vec F S512x512 .bf16) (x4 : Vec F S1x2688 .f32) : Vec F S1x512x512 .f32 :=
  View.canon [⟨r0_15, k0_pay19 (k0_pay11 (k0_pay24 x0 x1 x2 x3 x4) (View.ld x3 r0_3) (View.ld x4 r0_10))⟩]

theorem cover0_16 (p0 : Vec F S1x512x512 .f32) (y : S1x512x512.Idx) :
    ∃ pc ∈ ([⟨r0_15, p0⟩] : List (View.Piece (Elt F) S1x512x512 .f32)), y ∈ pc.1.set :=
  View.cover_of_tiled [⟨r0_15, p0⟩] S1x512x512.size (by rfl) y

def out0_17 (x0 : Vec F S512x1024 .f32) (x1 : Vec F S1x1024 .f32) (x2 : Vec F S1024x2688 .bf16) (x3 : Vec F S512x512 .bf16) (x4 : Vec F S1x2688 .f32) : Vec F S2048x128 .f32 :=
  View.canon [⟨r0_19, k0_pay23 (k0_pay24 x0 x1 x2 x3 x4)⟩,
    ⟨r0_18, k0_pay22 (k0_pay24 x0 x1 x2 x3 x4)⟩,
    ⟨r0_17, k0_pay21 (k0_pay24 x0 x1 x2 x3 x4)⟩,
    ⟨r0_16, k0_pay20 (k0_pay24 x0 x1 x2 x3 x4)⟩]

theorem cover0_17 (p0 : Vec F S512x128 .f32) (p1 : Vec F S512x128 .f32) (p2 : Vec F S512x128 .f32) (p3 : Vec F S512x128 .f32) (y : S2048x128.Idx) :
    ∃ pc ∈ ([⟨r0_19, p0⟩, ⟨r0_18, p1⟩, ⟨r0_17, p2⟩, ⟨r0_16, p3⟩] : List (View.Piece (Elt F) S2048x128 .f32)), y ∈ pc.1.set :=
  by
    have h0 : (y 0).val < 2048 := (y 0).isLt
    have h1 : (y 1).val < 128 := (y 1).isLt
    have hm : ∀ j : ℕ, j < 4 → (y 0).val % 4 = j → ∀ r : Rect S2048x128, r.off = ![j, 0] → r.size = ![512, 128] → r.stride = ![4, 1] → y ∈ r.set := by
      intro j hj h r ho hs ht
      rw [LoadRect.mem_set]
      intro a
      rw [ho, hs, ht]
      fin_cases a
      · exact ⟨(y 0).val / 4, by show (y 0).val / 4 < 512; omega, by show (y 0).val = j + 4 * ((y 0).val / 4); omega⟩
      · exact ⟨(y 1).val, h1, by show (y 1).val = 0 + 1 * (y 1).val; omega⟩
    have h4 : (y 0).val % 4 = 3 ∨ (y 0).val % 4 = 2 ∨ (y 0).val % 4 = 1 ∨ (y 0).val % 4 = 0 := by omega
    rcases h4 with h | h | h | h
    · exact ⟨_, List.mem_cons_self, hm 3 (by omega) h _ rfl rfl rfl⟩
    · exact ⟨_, List.mem_cons_of_mem _ List.mem_cons_self, hm 2 (by omega) h _ rfl rfl rfl⟩
    · exact ⟨_, List.mem_cons_of_mem _ (List.mem_cons_of_mem _ List.mem_cons_self), hm 1 (by omega) h _ rfl rfl rfl⟩
    · exact ⟨_, List.mem_cons_of_mem _ (List.mem_cons_of_mem _ (List.mem_cons_of_mem _ List.mem_cons_self)), hm 0 (by omega) h _ rfl rfl rfl⟩

set_option maxHeartbeats 1000000 in
/-- The body on whole staging buffers: the inputs stay, each output holds its stores over the inputs. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x2688 .bf16) (harg3 : arg3.IsWhole) (arg4 : Memref sig .tc .vmem S512x512 .bf16) (harg4 : arg4.IsWhole) (arg5 : Memref sig .tc .vmem S1x2688 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1x1x128x512 .f32) (harg12 : arg12.IsWhole) (arg13 : Memref sig .tc .vmem S1x1x512x512 .f32) (harg13 : arg13.IsWhole) (arg14 : Memref sig .tc .vmem S1x128x512 .f32) (harg14 : arg14.IsWhole) (arg15 : Memref sig .tc .vmem S1x128x512 .f32) (harg15 : arg15.IsWhole) (arg16 : Memref sig .tc .vmem S1x64x512 .f32) (harg16 : arg16.IsWhole) (arg17 : Memref sig .tc .vmem S1x512x512 .f32) (harg17 : arg17.IsWhole) (arg18 : Memref sig .tc .vmem S2048x128 .f32) (harg18 : arg18.IsWhole)
    (x0 : Vec F S512x1024 .f32) (x1 : Vec F S1x1024 .f32) (x2 : Vec F S1024x2688 .bf16) (x3 : Vec F S512x512 .bf16) (x4 : Vec F S1x2688 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4) ∗ owns (c : Thread nD τ) arg9 fullShare (out0_8 x0 x1 x2 x3 x4) ∗ owns (c : Thread nD τ) arg10 fullShare (out0_9 x0 x1 x2 x3 x4) ∗ owns (c : Thread nD τ) arg11 fullShare (out0_10 x0 x1 x2 x3 x4) ∗ owns (c : Thread nD τ) arg12 fullShare (out0_11 x0 x1 x2 x3 x4) ∗ owns (c : Thread nD τ) arg13 fullShare (out0_12 x0 x1 x2 x3 x4) ∗ owns (c : Thread nD τ) arg14 fullShare (out0_13 x0 x1 x2 x3 x4) ∗ owns (c : Thread nD τ) arg15 fullShare (out0_14 x0 x1 x2 x3 x4) ∗ owns (c : Thread nD τ) arg16 fullShare (out0_15 x0 x1 x2 x3 x4) ∗ owns (c : Thread nD τ) arg17 fullShare (out0_16 x0 x1 x2 x3 x4) ∗ owns (c : Thread nD τ) arg18 fullShare (out0_17 x0 x1 x2 x3 x4)) -∗ K ⟨⟩))
      ⊢ wp frame (wpE (defs₀ (F := F)) Variants.none c none) E (cc0_proj_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_proj_prompt_eq_skeleton]; unfold cc0_proj_prompt_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  iexists _; isplitr
  swap; · iexact H17
  ipureintro
  refine (View.read_writes_eq_canon _ _ _ (cover0_17 _ _ _ _)).trans ?_
  rfl

/-- The data of the pipeline: inputs at their blocks, outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
    | ⟨8, _⟩ => out0_8 (iblk m c 0 t) (iblk m c 1 t) (iblk m c 2 t) (iblk m c 3 t) (iblk m c 4 t)
    | ⟨9, _⟩ => out0_9 (iblk m c 0 t) (iblk m c 1 t) (iblk m c 2 t) (iblk m c 3 t) (iblk m c 4 t)
    | ⟨10, _⟩ => out0_10 (iblk m c 0 t) (iblk m c 1 t) (iblk m c 2 t) (iblk m c 3 t) (iblk m c 4 t)
    | ⟨11, _⟩ => out0_11 (iblk m c 0 t) (iblk m c 1 t) (iblk m c 2 t) (iblk m c 3 t) (iblk m c 4 t)
    | ⟨12, _⟩ => out0_12 (iblk m c 0 t) (iblk m c 1 t) (iblk m c 2 t) (iblk m c 3 t) (iblk m c 4 t)
    | ⟨13, _⟩ => out0_13 (iblk m c 0 t) (iblk m c 1 t) (iblk m c 2 t) (iblk m c 3 t) (iblk m c 4 t)
    | ⟨14, _⟩ => out0_14 (iblk m c 0 t) (iblk m c 1 t) (iblk m c 2 t) (iblk m c 3 t) (iblk m c 4 t)
    | ⟨15, _⟩ => out0_15 (iblk m c 0 t) (iblk m c 1 t) (iblk m c 2 t) (iblk m c 3 t) (iblk m c 4 t)
    | ⟨16, _⟩ => out0_16 (iblk m c 0 t) (iblk m c 1 t) (iblk m c 2 t) (iblk m c 3 t) (iblk m c 4 t)
    | ⟨17, _⟩ => out0_17 (iblk m c 0 t) (iblk m c 1 t) (iblk m c 2 t) (iblk m c 3 t) (iblk m c 4 t)
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]
theorem after0_8 (c : Dev nD) (t : Fin cfg0.N) : (dats m 0 c).after 8 t = out0_8 (iblk m c 0 t) (iblk m c 1 t) (iblk m c 2 t) (iblk m c 3 t) (iblk m c 4 t) := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]
theorem after0_10 (c : Dev nD) (t : Fin cfg0.N) : (dats m 0 c).after 10 t = out0_10 (iblk m c 0 t) (iblk m c 1 t) (iblk m c 2 t) (iblk m c 3 t) (iblk m c 4 t) := by dsimp only [dats]
theorem after0_11 (c : Dev nD) (t : Fin cfg0.N) : (dats m 0 c).after 11 t = out0_11 (iblk m c 0 t) (iblk m c 1 t) (iblk m c 2 t) (iblk m c 3 t) (iblk m c 4 t) := by dsimp only [dats]
theorem after0_12 (c : Dev nD) (t : Fin cfg0.N) : (dats m 0 c).after 12 t = out0_12 (iblk m c 0 t) (iblk m c 1 t) (iblk m c 2 t) (iblk m c 3 t) (iblk m c 4 t) := by dsimp only [dats]
theorem after0_13 (c : Dev nD) (t : Fin cfg0.N) : (dats m 0 c).after 13 t = out0_13 (iblk m c 0 t) (iblk m c 1 t) (iblk m c 2 t) (iblk m c 3 t) (iblk m c 4 t) := by dsimp only [dats]
theorem after0_14 (c : Dev nD) (t : Fin cfg0.N) : (dats m 0 c).after 14 t = out0_14 (iblk m c 0 t) (iblk m c 1 t) (iblk m c 2 t) (iblk m c 3 t) (iblk m c 4 t) := by dsimp only [dats]
theorem after0_15 (c : Dev nD) (t : Fin cfg0.N) : (dats m 0 c).after 15 t = out0_15 (iblk m c 0 t) (iblk m c 1 t) (iblk m c 2 t) (iblk m c 3 t) (iblk m c 4 t) := by dsimp only [dats]
theorem after0_16 (c : Dev nD) (t : Fin cfg0.N) : (dats m 0 c).after 16 t = out0_16 (iblk m c 0 t) (iblk m c 1 t) (iblk m c 2 t) (iblk m c 3 t) (iblk m c 4 t) := by dsimp only [dats]
theorem after0_17 (c : Dev nD) (t : Fin cfg0.N) : (dats m 0 c).after 17 t = out0_17 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run of the program. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the run ends quietly and leaves the arguments alone. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proj.Gen
-- ==== Proof.ProjHost.lean ====
module

public import proofs.«01_k».proof.Proof.MemKvValue
public import proofs.«01_k».proof.Proof.ProjFrame
public import proofs.«01_k».proof.Proof.Gen.ProjReferenceIdeal.Read
public import Idealize.ShloMosaic.Lib.Pipeline.ValueKit
public import Idealize.ShloMosaic.Lib.StableHlo.ReadAt
set_option maxRecDepth 16384
set_option maxHeartbeats 1000000
@[expose] public section

noncomputable section
open Idealize.ShloMosaic Idealize.ShloMosaic.TcCoe Idealize.SL.Sem
open Idealize.ShloMosaic.Pipeline (Dat)
namespace Cert.ProjIdeal.Value
open Cert.ProjIdeal Cert.ProjIdeal.Gen
open Cert.ProjReferenceIdeal.Read
variable (m : (ℓ : Loc nD τ sig) → Buf (Elt Ideal) ℓ)

/-- Five hundred and twelve tokens a point, four points a sequence; the weights are whole arrays. -/
theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![t.val, 0]
    ∧ win0_7.index t = ![t.val, 0] ∧ win0_8.index t = ![t.val, 0] ∧ win0_9.index t = ![t.val, 0]
    ∧ win0_13.index t = ![t.val / 4, 0, t.val % 4] ∧ win0_14.index t = ![t.val / 4, 0, t.val % 4]
    ∧ win0_15.index t = ![t.val / 4, 0, t.val % 4] ∧ win0_16.index t = ![t.val / 4, 0, t.val % 4]
    ∧ win0_17.index t = ![t.val, 0] ∧ t.val < 32 :=
  (by decide +kernel : ∀ t : Fin grid0.N, _)

theorem V_gain (c : Dev nD) (i : S1x1024.Idx) : V m c main_v36 i = m ((c : Thread nD τ).loc main_arg1) (ix2 0 (i 1)) := by
  show StableHlo.after (List.flatten [hostOps0, hostOps0_1, hostOps0_2, hostOps0_3, hostOps0_4]) _ (Proc.devRef .tc main_v36) i = _
  simp only [hostOps0, hostOps0_1, hostOps0_2, hostOps0_3, hostOps0_4, List.flatten_cons, List.flatten_nil, List.append_nil, List.cons_append, List.nil_append]
  after_reads_at

/-- The padded weight matrix: the reference's columns, a gap of 60 after the first 1092. -/
theorem V_w (c : Dev nD) (k : Fin 1024) (n : Fin 2688) (n' : Fin 2628)
    (h : (n.val < 1092 ∧ n'.val = n.val) ∨ (1152 ≤ n.val ∧ n'.val + 60 = n.val)) :
    V m c main_v9 (ix2 k n) = m ((c : Thread nD τ).loc main_arg2) (ix3 0 k n') := by
  show StableHlo.after (List.flatten [hostOps0, hostOps0_1, hostOps0_2, hostOps0_3, hostOps0_4]) _ (Proc.devRef .tc main_v9) (ix2 k n) = _
  simp only [hostOps0, hostOps0_1, hostOps0_2, hostOps0_3, hostOps0_4, List.flatten_cons, List.flatten_nil, List.append_nil, List.cons_append, List.nil_append]
  after_reads_at
  rcases h with ⟨h, e⟩ | ⟨h, e⟩
  · rw [dif_pos h]
    after_reads_at
    exact congrArg _ (congrArg (ix3 0 k) (Fin.ext e.symm))
  · rw [dif_neg (by omega), dif_neg (by omega)]
    after_reads_at
    exact congrArg _ (congrArg (ix3 0 k) (Fin.ext (by show 1092 + (n.val - 1092 - 60) = n'.val; omega)))

/-- The gain of the first attention's query heads, tiled over their columns. -/
theorem V_hgain_qa (c : Dev nD) (n : Fin 2688) (d : Fin 64) (hd : n.val % 64 = d.val) (h0 : 0 ≤ n.val) (hn : n.val < 512) :
    V m c main_v25 (ix2 0 n) = m ((c : Thread nD τ).loc main_arg3) (ix2 0 d) := by
  show StableHlo.after (List.flatten [hostOps0, hostOps0_1, hostOps0_2, hostOps0_3, hostOps0_4]) _ (Proc.devRef .tc main_v25) (ix2 0 n) = _
  simp only [hostOps0, hostOps0_1, hostOps0_2, hostOps0_3, hostOps0_4, List.flatten_cons, List.flatten_nil, List.append_nil, List.cons_append, List.nil_append]
  after_reads_at
  rw [dif_pos (by omega)]
  after_reads_at
  exact congrArg _ (congrArg (ix2 0) (Fin.ext (by show _ % 64 = _; omega)))

/-- The gain of the first attention's key heads, tiled over their columns. -/
theorem V_hgain_ka (c : Dev nD) (n : Fin 2688) (d : Fin 64) (hd : n.val % 64 = d.val) (h0 : 512 ≤ n.val) (hn : n.val < 640) :
    V m c main_v25 (ix2 0 n) = m ((c : Thread nD τ).loc main_arg4) (ix2 0 d) := by
  show StableHlo.after (List.flatten [hostOps0, hostOps0_1, hostOps0_2, hostOps0_3, hostOps0_4]) _ (Proc.devRef .tc main_v25) (ix2 0 n) = _
  simp only [hostOps0, hostOps0_1, hostOps0_2, hostOps0_3, hostOps0_4, List.flatten_cons, List.flatten_nil, List.append_nil, List.cons_append, List.nil_append]
  after_reads_at
  rw [dif_neg (by omega)]
  rw [dif_pos (by omega)]
  after_reads_at
  exact congrArg _ (congrArg (ix2 0) (Fin.ext (by show _ % 64 = _; omega)))

/-- The gain of the second attention's query heads, tiled over their columns. -/
theorem V_hgain_qb (c : Dev nD) (n : Fin 2688) (d : Fin 64) (hd : n.val % 64 = d.val) (h0 : 1152 ≤ n.val) (hn : n.val < 1664) :
    V m c main_v25 (ix2 0 n) = m ((c : Thread nD τ).loc main_arg5) (ix2 0 d) := by
  show StableHlo.after (List.flatten [hostOps0, hostOps0_1, hostOps0_2, hostOps0_3, hostOps0_4]) _ (Proc.devRef .tc main_v25) (ix2 0 n) = _
  simp only [hostOps0, hostOps0_1, hostOps0_2, hostOps0_3, hostOps0_4, List.flatten_cons, List.flatten_nil, List.append_nil, List.cons_append, List.nil_append]
  after_reads_at
  rw [dif_neg (by omega)]
  rw [dif_neg (by omega)]
  rw [dif_neg (by omega)]
  rw [dif_pos (by omega)]
  after_reads_at
  exact congrArg _ (congrArg (ix2 0) (Fin.ext (by show _ % 64 = _; omega)))

/-- The gain of the second attention's key heads, tiled over their columns. -/
theorem V_hgain_kb (c : Dev nD) (n : Fin 2688) (d : Fin 64) (hd : n.val % 64 = d.val) (h0 : 1664 ≤ n.val) (hn : n.val < 2176) :
    V m c main_v25 (ix2 0 n) = m ((c : Thread nD τ).loc main_arg6) (ix2 0 d) := by
  show StableHlo.after (List.flatten [hostOps0, hostOps0_1, hostOps0_2, hostOps0_3, hostOps0_4]) _ (Proc.devRef .tc main_v25) (ix2 0 n) = _
  simp only [hostOps0, hostOps0_1, hostOps0_2, hostOps0_3, hostOps0_4, List.flatten_cons, List.flatten_nil, List.append_nil, List.cons_append, List.nil_append]
  after_reads_at
  rw [dif_neg (by omega)]
  rw [dif_neg (by omega)]
  rw [dif_neg (by omega)]
  rw [dif_neg (by omega)]
  rw [dif_pos (by omega)]
  after_reads_at
  exact congrArg _ (congrArg (ix2 0) (Fin.ext (by show _ % 64 = _; omega)))

/-- Integer division by 64 as the host spells it. -/
theorem floordiv : ∀ k : Fin 512, Scalar.select
          (IntOp.andi
            (IntOp.cmpi CmpIPredicate.ne
              (if BitVec.ofNat 32 k.val = 0 then (0 : BitVec 32) else if (BitVec.ofNat 32 k.val).msb = true then (-1) else 1)
              (if (64#32 : BitVec 32) = 0 then (0 : BitVec 32) else if BitVec.msb 64#32 = true then (-1) else 1))
            (IntOp.cmpi CmpIPredicate.ne (IntOp.remsi ArithUnit.host (BitVec.ofNat 32 k.val) 64#32) 0#32))
          (IntOp.subi (IntOp.divsi ArithUnit.host (BitVec.ofNat 32 k.val) 64#32) 1#32)
          (IntOp.divsi ArithUnit.host (BitVec.ofNat 32 k.val) 64#32) = BitVec.ofNat 32 (k.val / 64) := by
  decide +kernel

/-- The bits of one sixty-fourth. -/
theorem inv64 : Ideal.ofBits FTy.f32 1015021568#32 = ((1 / 64 : ℝ) : EReal) := by
  simp [Ideal.ofBits, Ideal.ieee, -EReal.coe_mul]; norm_num

theorem V_gm (c : Dev nD) (k l : Fin 512) :
    V m c main_v34 (ix2 k l) = if k.val / 64 = l.val / 64 then ((1 / 64 : ℝ) : EReal) else 0 := by
  show StableHlo.after (List.flatten [hostOps0, hostOps0_1, hostOps0_2, hostOps0_3, hostOps0_4]) _ (Proc.devRef .tc main_v34) (ix2 k l) = _
  simp only [hostOps0, hostOps0_1, hostOps0_2, hostOps0_3, hostOps0_4, List.flatten_cons, List.flatten_nil, List.append_nil, List.cons_append, List.nil_append]
  after_reads_at
  have hk := floordiv k
  have hl := floordiv l
  refine (congrArg₂ (fun a b => Scalar.select (IntOp.cmpi CmpIPredicate.eq a b) (Ideal.ofBits FTy.f32 1015021568#32) (0 : EReal)) hk hl).trans ?_
  beta_reduce
  rw [inv64]
  by_cases h : k.val / 64 = l.val / 64
  · rw [if_pos h, h]; simp [IntOp.cmpi, Scalar.select]
  · rw [if_neg h]
    have : BitVec.ofNat 32 (k.val / 64) ≠ BitVec.ofNat 32 (l.val / 64) := by
      intro e
      have := congrArg BitVec.toNat e
      simp only [BitVec.toNat_ofNat] at this
      omega
    have h2 : (BitVec.ofNat 32 (k.val / 64) == BitVec.ofNat 32 (l.val / 64)) = false := by simpa using this
    simp [IntOp.cmpi, Scalar.select, h2]

theorem V_x (c : Dev nD) (r : Fin 16384) (k : Fin 1024) (b : Fin 8) (q : Fin 2048) (h : r.val = 2048 * b.val + q.val) :
    V m c main_v37 (ix2 r k) = m ((c : Thread nD τ).loc main_arg0) (ix3 b q k) := by
  show StableHlo.after (List.flatten [hostOps0, hostOps0_1, hostOps0_2, hostOps0_3, hostOps0_4]) _ (Proc.devRef .tc main_v37) (ix2 r k) = _
  simp only [hostOps0, hostOps0_1, hostOps0_2, hostOps0_3, hostOps0_4, List.flatten_cons, List.flatten_nil, List.append_nil, List.cons_append, List.nil_append]
  after_reads_at
  have h1 : r.val / 2048 = b.val := by omega
  have h2 : r.val % 2048 = q.val := by omega
  exact congrArg _ (congrArg₂ (fun b q => ix3 b q k) (Fin.ext h1) (Fin.ext h2))

end Cert.ProjIdeal.Value
-- ==== Proof.ProjValue.lean ====
module

public import proofs.«01_k».proof.Proof.ProjHost
public import Idealize.ShloMosaic.Lib.Pipeline.ValueKit
public import Idealize.ShloMosaic.Lib.Pipeline.ReadBack
set_option maxRecDepth 16384
set_option maxHeartbeats 1000000
@[expose] public section

noncomputable section
open Idealize.ShloMosaic Idealize.ShloMosaic.TcCoe Idealize.SL.Sem
open Idealize.ShloMosaic.Pipeline (Dat)
namespace Cert.ProjIdeal.Value
open Cert.ProjIdeal Cert.ProjIdeal.Gen
open Cert.ProjReferenceIdeal.Read
variable (m : (ℓ : Loc nD τ sig) → Buf (Elt Ideal) ℓ)

/-- The projection of the normalized tokens, as the reference computes it. -/
abbrev Z (c : Dev nD) : FVec Ideal Cert.ProjReferenceIdeal.S8x2048x2628 .f32 :=
  val_main_v19 (F := Ideal) (m ((c : Thread nD τ).loc main_arg0)) (m ((c : Thread nD τ).loc main_arg1)) (m ((c : Thread nD τ).loc main_arg2))

/-- The kernel's product over the padded weights holds the reference's columns. -/
theorem proj (c : Dev nD) (t : Fin cfg0.N) (r : Fin 512) (n : Fin 2688) (b : Fin 8) (q : Fin 2048) (n' : Fin 2628)
    (hr : 512 * t.val + r.val = 2048 * b.val + q.val)
    (h : (n.val < 1092 ∧ n'.val = n.val) ∨ (1152 ≤ n.val ∧ n'.val + 60 = n.val)) :
    k0_pay1 (iblk m c 0 t) (iblk m c 1 t) (iblk m c 2 t) (ix2 r n) = Z m c (ix3 b q n') := by
  have hx : ∀ k : Fin 1024, iblk m c 0 t (ix2 r k) = m ((c : Thread nD τ).loc main_arg0) (ix3 b q k) := by
    intro k
    show V m c main_v37 ((win0_0.blk t).view.emb (ix2 r k)) = _
    rw [← V_x m c ⟨512 * t.val + r.val, by omega⟩ k b q hr]; blk_ext [idx t]
  have hg : ∀ k : Fin 1024, iblk m c 1 t (ix2 0 k) = m ((c : Thread nD τ).loc main_arg1) (ix2 0 k) := by
    intro k
    show V m c main_v36 ((win0_1.blk t).view.emb (ix2 0 k)) = _
    rw [V_gain]; blk_ext [idx t]
  have hw : ∀ k : Fin 1024, iblk m c 2 t (ix2 k n) = m ((c : Thread nD τ).loc main_arg2) (ix3 0 k n') := by
    intro k
    show V m c main_v9 ((win0_2.blk t).view.emb (ix2 k n)) = _
    rw [← V_w m c k n n' h]; blk_ext [idx t]
  unfold k0_pay1
  pointwise [Z, val_main_v19, val_main_v18, val_main_v17, val_main_v16, val_main_v15, val_main_v14, val_main_v13, val_main_v12, val_main_v11, val_main_v10,
    val_main_v9, val_main_v8, val_main_v7, val_main_v6, val_main_v5, val_main_v4, val_main_cst, val_main_cst_0, val_main_cst_1]
  simp only [hx, hg, hw]

theorem c64 : Ideal.ofBits FTy.f32 1115684864#32 = ((64 : ℝ) : EReal) := by
  simp [Ideal.ofBits, Ideal.ieee, -EReal.coe_mul]; norm_num

/-- The group-mean matrix in its window. -/
theorem gm (c : Dev nD) (t : Fin cfg0.N) (k l : Fin 512) :
    iblk m c 3 t (ix2 k l) = if k.val / 64 = l.val / 64 then ((1 / 64 : ℝ) : EReal) else 0 := by
  show V m c main_v34 ((win0_3.blk t).view.emb (ix2 k l)) = _
  rw [← V_gm m c k l]; blk_ext [idx t]

theorem hgain (c : Dev nD) (t : Fin cfg0.N) (n : Fin 2688) : iblk m c 4 t (ix2 0 n) = V m c main_v25 (ix2 0 n) := by
  show V m c main_v25 ((win0_4.blk t).view.emb (ix2 0 n)) = _
  blk_ext [idx t]

/-- The normalized queries of the first attention. -/
theorem qa (c : Dev nD) (t : Fin cfg0.N) (r : Fin 512) (l : Fin 512) (b : Fin 8) (q : Fin 2048) (j : Fin 8) (d : Fin 64)
    (hr : 512 * t.val + r.val = 2048 * b.val + q.val) (hl : l.val = 64 * j.val + d.val) :
    k0_pay4 (k0_pay2 (iblk m c 0 t) (iblk m c 1 t) (iblk m c 2 t) (View.ld (iblk m c 3 t) r0_3)) (k0_pay3 (View.ld (iblk m c 4 t) r0_4)) (ix2 r l) =
    val_main_v42 (F := Ideal) (m ((c : Thread nD τ).loc main_arg0)) (m ((c : Thread nD τ).loc main_arg1)) (m ((c : Thread nD τ).loc main_arg2)) (m ((c : Thread nD τ).loc main_arg3)) (ix4 b q j d) := by
  unfold k0_pay4 k0_pay2 k0_pay3
  have hp : ∀ (n : Fin 2688) (n' : Fin 2628), ((n.val < 1092 ∧ n'.val = n.val) ∨ (1152 ≤ n.val ∧ n'.val + 60 = n.val)) →
    k0_pay1 (iblk m c 0 t) (iblk m c 1 t) (iblk m c 2 t) (ix2 r n) = Z m c (ix3 b q n') :=
    fun n n' h => proj m c t r n b q n' hr h
  revert hp
  generalize k0_pay1 (iblk m c 0 t) (iblk m c 1 t) (iblk m c 2 t) = v
  intro hp
  pointwise [val_main_v42, val_main_v41, val_main_v40, val_main_v39, val_main_v38, val_main_v37, val_main_v36, val_main_v35, val_main_v34, val_main_v33, val_main_v32, val_main_v31, val_main_v30, val_main_v29, val_main_v20, val_main_v0, val_main_cst_2, val_main_cst_3, val_main_cst_4]
  rw [c64]
  refine congrArg₂ (· * ·) (congrArg₂ (· * ·) (hp _ _ (Or.inl ⟨by dsimp only; omega, by dsimp only; omega⟩))
    (congrArg Ideal.rsqrt (congrArg (· + _) ?_))) ?_
  · split_ifs <;>
    · refine GroupMean.mean64 _ _ _ (l.val % 128) (fun x => ?_) (by omega) (fun x k hk => ?_)
      · exact (gm m c t _ _).trans (if_congr (by first | exact Iff.rfl | (dsimp only; omega)) rfl rfl)
      · have e : ∀ n n', n = n' → v (ix2 r n) * v (ix2 r n) = v (ix2 r n') * v (ix2 r n') := fun n n' h => by rw [h]
        have h := hp ⟨(128 * (l.val / 128) + k.val), by omega⟩ ⟨(j.val * 64 + x.val), by omega⟩
          (Or.inl ⟨by dsimp only; omega, by dsimp only; omega⟩)
        refine (e _ ⟨(128 * (l.val / 128) + k.val), by omega⟩ (Fin.ext (by first | rfl | (dsimp only; omega)))).trans (congrArg₂ (· * ·) h h)
  · rw [hgain]
    exact V_hgain_qa m c _ d (by dsimp only; omega) (by dsimp only; omega) (by dsimp only; omega)

/-- The normalized keys of the first attention. -/
theorem ka (c : Dev nD) (t : Fin cfg0.N) (r : Fin 512) (l : Fin 128) (b : Fin 8) (q : Fin 2048) (j : Fin 2) (d : Fin 64)
    (hr : 512 * t.val + r.val = 2048 * b.val + q.val) (hl : l.val = 64 * j.val + d.val) :
    k0_pay5 (k0_pay1 (iblk m c 0 t) (iblk m c 1 t) (iblk m c 2 t)) (View.ld (iblk m c 3 t) r0_3) (View.ld (iblk m c 4 t) r0_6) (ix2 r l) =
    val_main_v56 (F := Ideal) (m ((c : Thread nD τ).loc main_arg0)) (m ((c : Thread nD τ).loc main_arg1)) (m ((c : Thread nD τ).loc main_arg2)) (m ((c : Thread nD τ).loc main_arg4)) (ix4 b q j d) := by
  unfold k0_pay5
  have hp : ∀ (n : Fin 2688) (n' : Fin 2628), ((n.val < 1092 ∧ n'.val = n.val) ∨ (1152 ≤ n.val ∧ n'.val + 60 = n.val)) →
    k0_pay1 (iblk m c 0 t) (iblk m c 1 t) (iblk m c 2 t) (ix2 r n) = Z m c (ix3 b q n') :=
    fun n n' h => proj m c t r n b q n' hr h
  revert hp
  generalize k0_pay1 (iblk m c 0 t) (iblk m c 1 t) (iblk m c 2 t) = v
  intro hp
  pointwise [val_main_v56, val_main_v55, val_main_v54, val_main_v53, val_main_v52, val_main_v51, val_main_v50, val_main_v49, val_main_v48, val_main_v47, val_main_v46, val_main_v45, val_main_v44, val_main_v43, val_main_v21, val_main_v1, val_main_cst_5, val_main_cst_6, val_main_cst_7]
  rw [c64]
  refine congrArg₂ (· * ·) (congrArg₂ (· * ·) (hp _ _ (Or.inl ⟨by show 512 + _ < _; omega, by show 512 + _ = 512 + _; omega⟩))
    (congrArg Ideal.rsqrt (congrArg (· + _) ?_))) ?_
  · · refine GroupMean.mean64 _ _ _ l.val (fun x => ?_) (by omega) (fun x k hk => ?_)
      · exact (gm m c t _ _).trans (if_congr (by first | exact Iff.rfl | (dsimp only; omega)) rfl rfl)
      · have e : ∀ n n', n = n' → v (ix2 r n) * v (ix2 r n) = v (ix2 r n') * v (ix2 r n') := fun n n' h => by rw [h]
        have h := hp ⟨512 + (k.val), by omega⟩ ⟨512 + (j.val * 64 + x.val), by omega⟩
          (Or.inl ⟨by show 512 + _ < _; omega, by show 512 + _ = 512 + _; omega⟩)
        refine (e _ ⟨512 + (k.val), by omega⟩ (Fin.ext (by first | rfl | (dsimp only; omega)))).trans (congrArg₂ (· * ·) h h)
  · rw [hgain]
    exact V_hgain_ka m c _ d (by show (512 + _) % 64 = _; omega) (by show 512 ≤ 512 + _; omega) (by show 512 + _ < _; omega)

/-- The normalized queries of the second attention. -/
theorem qb (c : Dev nD) (t : Fin cfg0.N) (r : Fin 512) (l : Fin 512) (b : Fin 8) (q : Fin 2048) (j : Fin 4) (p : Fin 2) (d : Fin 64)
    (hr : 512 * t.val + r.val = 2048 * b.val + q.val) (hl : l.val = 128 * j.val + 64 * p.val + d.val) :
    k0_pay10 (k0_pay8 (k0_pay1 (iblk m c 0 t) (iblk m c 1 t) (iblk m c 2 t))) (k0_pay9 (k0_pay1 (iblk m c 0 t) (iblk m c 1 t) (iblk m c 2 t)) (View.ld (iblk m c 3 t) r0_3)) (View.ld (iblk m c 4 t) r0_9) (ix2 r l) =
    val_main_v72 (F := Ideal) (m ((c : Thread nD τ).loc main_arg0)) (m ((c : Thread nD τ).loc main_arg1)) (m ((c : Thread nD τ).loc main_arg2)) (m ((c : Thread nD τ).loc main_arg5)) (ix5 b q j p d) := by
  unfold k0_pay10 k0_pay9 k0_pay8
  have hp : ∀ (n : Fin 2688) (n' : Fin 2628), ((n.val < 1092 ∧ n'.val = n.val) ∨ (1152 ≤ n.val ∧ n'.val + 60 = n.val)) →
    k0_pay1 (iblk m c 0 t) (iblk m c 1 t) (iblk m c 2 t) (ix2 r n) = Z m c (ix3 b q n') :=
    fun n n' h => proj m c t r n b q n' hr h
  revert hp
  generalize k0_pay1 (iblk m c 0 t) (iblk m c 1 t) (iblk m c 2 t) = v
  intro hp
  pointwise [val_main_v72, val_main_v71, val_main_v70, val_main_v69, val_main_v68, val_main_v67, val_main_v66, val_main_v65, val_main_v64, val_main_v63, val_main_v62, val_main_v61, val_main_v60, val_main_v59, val_main_v26, val_main_v2, val_main_cst_8, val_main_cst_9, val_main_cst_10]
  rw [c64]
  refine congrArg₂ (· * ·) (congrArg₂ (· * ·) (hp _ _ (Or.inr ⟨by show 1152 ≤ 1152 + _; omega, by show 1092 + _ + 60 = 1152 + _; omega⟩))
    (congrArg Ideal.rsqrt (congrArg (· + _) ?_))) ?_
  · split_ifs <;>
    · refine GroupMean.mean64 _ _ _ (l.val % 128) (fun x => ?_) (by omega) (fun x k hk => ?_)
      · exact (gm m c t _ _).trans (if_congr (by first | exact Iff.rfl | (dsimp only; omega)) rfl rfl)
      · have e : ∀ n n', n = n' → v (ix2 r n) * v (ix2 r n) = v (ix2 r n') * v (ix2 r n') := fun n n' h => by rw [h]
        have h := hp ⟨1152 + (128 * (l.val / 128) + k.val), by omega⟩ ⟨1092 + (j.val * 128 + p.val * 64 + x.val), by omega⟩
          (Or.inr ⟨by show 1152 ≤ 1152 + _; omega, by show 1092 + _ + 60 = 1152 + _; omega⟩)
        refine (e _ ⟨1152 + (128 * (l.val / 128) + k.val), by omega⟩ (Fin.ext (by first | rfl | (dsimp only; omega)))).trans (congrArg₂ (· * ·) h h)
  · rw [hgain]
    exact V_hgain_qb m c _ d (by show (1152 + _) % 64 = _; omega) (by show 1152 ≤ 1152 + _; omega) (by show 1152 + _ < _; omega)

/-- The normalized keys of the second attention. -/
theorem kb (c : Dev nD) (t : Fin cfg0.N) (r : Fin 512) (l : Fin 512) (b : Fin 8) (q : Fin 2048) (j : Fin 4) (p : Fin 2) (d : Fin 64)
    (hr : 512 * t.val + r.val = 2048 * b.val + q.val) (hl : l.val = 128 * j.val + 64 * p.val + d.val) :
    k0_pay11 (k0_pay1 (iblk m c 0 t) (iblk m c 1 t) (iblk m c 2 t)) (View.ld (iblk m c 3 t) r0_3) (View.ld (iblk m c 4 t) r0_10) (ix2 r l) =
    val_main_v86 (F := Ideal) (m ((c : Thread nD τ).loc main_arg0)) (m ((c : Thread nD τ).loc main_arg1)) (m ((c : Thread nD τ).loc main_arg2)) (m ((c : Thread nD τ).loc main_arg6)) (ix5 b q j p d) := by
  unfold k0_pay11
  have hp : ∀ (n : Fin 2688) (n' : Fin 2628), ((n.val < 1092 ∧ n'.val = n.val) ∨ (1152 ≤ n.val ∧ n'.val + 60 = n.val)) →
    k0_pay1 (iblk m c 0 t) (iblk m c 1 t) (iblk m c 2 t) (ix2 r n) = Z m c (ix3 b q n') :=
    fun n n' h => proj m c t r n b q n' hr h
  revert hp
  generalize k0_pay1 (iblk m c 0 t) (iblk m c 1 t) (iblk m c 2 t) = v
  intro hp
  pointwise [val_main_v86, val_main_v85, val_main_v84, val_main_v83, val_main_v82, val_main_v81, val_main_v80, val_main_v79, val_main_v78, val_main_v77, val_main_v76, val_main_v75, val_main_v74, val_main_v73, val_main_v27, val_main_v3, val_main_cst_11, val_main_cst_12, val_main_cst_13]
  rw [c64]
  refine congrArg₂ (· * ·) (congrArg₂ (· * ·) (hp _ _ (Or.inr ⟨by show 1152 ≤ 1664 + _; omega, by show 1604 + _ + 60 = 1664 + _; omega⟩))
    (congrArg Ideal.rsqrt (congrArg (· + _) ?_))) ?_
  · split_ifs <;>
    · refine GroupMean.mean64 _ _ _ (l.val % 128) (fun x => ?_) (by omega) (fun x k hk => ?_)
      · exact (gm m c t _ _).trans (if_congr (by first | exact Iff.rfl | (dsimp only; omega)) rfl rfl)
      · have e : ∀ n n', n = n' → v (ix2 r n) * v (ix2 r n) = v (ix2 r n') * v (ix2 r n') := fun n n' h => by rw [h]
        have h := hp ⟨1664 + (128 * (l.val / 128) + k.val), by omega⟩ ⟨1604 + (j.val * 128 + p.val * 64 + x.val), by omega⟩
          (Or.inr ⟨by show 1152 ≤ 1664 + _; omega, by show 1604 + _ + 60 = 1664 + _; omega⟩)
        refine (e _ ⟨1664 + (128 * (l.val / 128) + k.val), by omega⟩ (Fin.ext (by first | rfl | (dsimp only; omega)))).trans (congrArg₂ (· * ·) h h)
  · rw [hgain]
    exact V_hgain_kb m c _ d (by show (1664 + _) % 64 = _; omega) (by show 1664 ≤ 1664 + _; omega) (by show 1664 + _ < _; omega)

/-- The values of the first attention. -/
theorem va (c : Dev nD) (t : Fin cfg0.N) (r : Fin 512) (l : Fin 128) (b : Fin 8) (q : Fin 2048) (j : Fin 2) (d : Fin 64)
    (hr : 512 * t.val + r.val = 2048 * b.val + q.val) (hl : l.val = 64 * j.val + d.val) :
    k0_pay12 (k0_pay1 (iblk m c 0 t) (iblk m c 1 t) (iblk m c 2 t)) (ix2 r l) =
    val_main_v57 (F := Ideal) (m ((c : Thread nD τ).loc main_arg0)) (m ((c : Thread nD τ).loc main_arg1)) (m ((c : Thread nD τ).loc main_arg2)) (ix4 b q j d) := by
  have hp : ∀ (n : Fin 2688) (n' : Fin 2628), ((n.val < 1092 ∧ n'.val = n.val) ∨ (1152 ≤ n.val ∧ n'.val + 60 = n.val)) →
    k0_pay1 (iblk m c 0 t) (iblk m c 1 t) (iblk m c 2 t) (ix2 r n) = Z m c (ix3 b q n') :=
    fun n n' h => proj m c t r n b q n' hr h
  revert hp
  generalize k0_pay1 (iblk m c 0 t) (iblk m c 1 t) (iblk m c 2 t) = v
  intro hp
  pointwise [k0_pay12, val_main_v57, val_main_v22]
  exact hp _ _ (Or.inl ⟨by show 640 + _ < _; omega, by show 640 + _ = 640 + _; omega⟩)

/-- The index queries. -/
theorem qi (c : Dev nD) (t : Fin cfg0.N) (r : Fin 512) (l : Fin 256) (b : Fin 8) (q : Fin 2048) (j : Fin 4) (d : Fin 64)
    (hr : 512 * t.val + r.val = 2048 * b.val + q.val) (hl : l.val = 64 * j.val + d.val) :
    k0_pay6 (k0_pay1 (iblk m c 0 t) (iblk m c 1 t) (iblk m c 2 t)) (ix2 r l) =
    val_main_v58 (F := Ideal) (m ((c : Thread nD τ).loc main_arg0)) (m ((c : Thread nD τ).loc main_arg1)) (m ((c : Thread nD τ).loc main_arg2)) (ix4 b q j d) := by
  have hp : ∀ (n : Fin 2688) (n' : Fin 2628), ((n.val < 1092 ∧ n'.val = n.val) ∨ (1152 ≤ n.val ∧ n'.val + 60 = n.val)) →
    k0_pay1 (iblk m c 0 t) (iblk m c 1 t) (iblk m c 2 t) (ix2 r n) = Z m c (ix3 b q n') :=
    fun n n' h => proj m c t r n b q n' hr h
  revert hp
  generalize k0_pay1 (iblk m c 0 t) (iblk m c 1 t) (iblk m c 2 t) = v
  intro hp
  pointwise [k0_pay6, val_main_v58, val_main_v23]
  exact hp _ _ (Or.inl ⟨by show 768 + _ < _; omega, by show 768 + _ = 768 + _; omega⟩)

/-- The index keys. -/
theorem ki (c : Dev nD) (t : Fin cfg0.N) (r : Fin 512) (l : Fin 128) (b : Fin 8) (q : Fin 2048) (d : Fin 64)
    (hr : 512 * t.val + r.val = 2048 * b.val + q.val) (hl : l.val = d.val) :
    k0_pay7 (k0_pay1 (iblk m c 0 t) (iblk m c 1 t) (iblk m c 2 t)) (ix2 r l) =
    val_main_v24 (F := Ideal) (m ((c : Thread nD τ).loc main_arg0)) (m ((c : Thread nD τ).loc main_arg1)) (m ((c : Thread nD τ).loc main_arg2)) (ix3 b q d) := by
  have hp : ∀ (n : Fin 2688) (n' : Fin 2628), ((n.val < 1092 ∧ n'.val = n.val) ∨ (1152 ≤ n.val ∧ n'.val + 60 = n.val)) →
    k0_pay1 (iblk m c 0 t) (iblk m c 1 t) (iblk m c 2 t) (ix2 r n) = Z m c (ix3 b q n') :=
    fun n n' h => proj m c t r n b q n' hr h
  revert hp
  generalize k0_pay1 (iblk m c 0 t) (iblk m c 1 t) (iblk m c 2 t) = v
  intro hp
  pointwise [k0_pay7, val_main_v24]
  exact hp _ _ (Or.inl ⟨by show 1024 + _ < _; omega, by show 1024 + _ = 1024 + _; omega⟩)

/-- The index weights, which follow the index keys. -/
theorem wi (c : Dev nD) (t : Fin cfg0.N) (r : Fin 512) (l : Fin 128) (b : Fin 8) (q : Fin 2048) (d : Fin 4)
    (hr : 512 * t.val + r.val = 2048 * b.val + q.val) (hl : l.val = 64 + d.val) :
    k0_pay7 (k0_pay1 (iblk m c 0 t) (iblk m c 1 t) (iblk m c 2 t)) (ix2 r l) =
    val_main_v25 (F := Ideal) (m ((c : Thread nD τ).loc main_arg0)) (m ((c : Thread nD τ).loc main_arg1)) (m ((c : Thread nD τ).loc main_arg2)) (ix3 b q d) := by
  have hp : ∀ (n : Fin 2688) (n' : Fin 2628), ((n.val < 1092 ∧ n'.val = n.val) ∨ (1152 ≤ n.val ∧ n'.val + 60 = n.val)) →
    k0_pay1 (iblk m c 0 t) (iblk m c 1 t) (iblk m c 2 t) (ix2 r n) = Z m c (ix3 b q n') :=
    fun n n' h => proj m c t r n b q n' hr h
  revert hp
  generalize k0_pay1 (iblk m c 0 t) (iblk m c 1 t) (iblk m c 2 t) = v
  intro hp
  pointwise [k0_pay7, val_main_v25]
  exact hp _ _ (Or.inl ⟨by show 1024 + _ < _; omega, by show 1088 + _ = 1024 + _; omega⟩)

/-- The values of the second attention. -/
theorem vb (c : Dev nD) (t : Fin cfg0.N) (r : Fin 512) (l : Fin 512) (b : Fin 8) (q : Fin 2048) (j : Fin 4) (d : Fin 128)
    (hr : 512 * t.val + r.val = 2048 * b.val + q.val) (hl : l.val = 128 * j.val + d.val) :
    k0_pay14 (k0_pay1 (iblk m c 0 t) (iblk m c 1 t) (iblk m c 2 t)) (ix2 r l) =
    val_main_v87 (F := Ideal) (m ((c : Thread nD τ).loc main_arg0)) (m ((c : Thread nD τ).loc main_arg1)) (m ((c : Thread nD τ).loc main_arg2)) (ix4 b q j d) := by
  have hp : ∀ (n : Fin 2688) (n' : Fin 2628), ((n.val < 1092 ∧ n'.val = n.val) ∨ (1152 ≤ n.val ∧ n'.val + 60 = n.val)) →
    k0_pay1 (iblk m c 0 t) (iblk m c 1 t) (iblk m c 2 t) (ix2 r n) = Z m c (ix3 b q n') :=
    fun n n' h => proj m c t r n b q n' hr h
  revert hp
  generalize k0_pay1 (iblk m c 0 t) (iblk m c 1 t) (iblk m c 2 t) = v
  intro hp
  pointwise [k0_pay14, val_main_v87, val_main_v28]
  exact hp _ _ (Or.inr ⟨by show 1152 ≤ 2176 + _; omega, by show 2116 + _ + 60 = 2176 + _; omega⟩)

/-- Four stores into every fourth row: row `4 r + j` holds row `r` of the store `j`. -/
theorem rows (p0 p1 p2 p3 : Vec Ideal S512x128 .f32) (r : Fin 512) (j : Fin 4) (d : Fin 128) (y : S2048x128.Idx)
    (h0 : (y 0).val = 4 * r.val + j.val) (h1 : (y 1).val = d.val) :
    View.canon (Val := Elt Ideal) [⟨r0_19, p3⟩, ⟨r0_18, p2⟩, ⟨r0_17, p1⟩, ⟨r0_16, p0⟩] y = (![p0, p1, p2, p3] : Fin 4 → Vec Ideal S512x128 .f32) j (ix2 r d) := by
  have hy : ∀ (R : Rect S2048x128) (i : ℕ), i < 4 → R.off = ![i, 0] → R.stride = ![4, 1] → i ≠ j.val → y ∉ R.set := by
    intro R i hi ho hs hj h
    obtain ⟨k, hk, e⟩ := (LoadRect.mem_set (r := R.toLoadRect)).1 h 0
    rw [ho, hs] at e
    have e' : (y 0).val = i + 4 * k := e
    omega
  have n3 : 3 ≠ j.val → y ∉ r0_19.set := hy r0_19 3 (by omega) rfl rfl
  have n2 : 2 ≠ j.val → y ∉ r0_18.set := hy r0_18 2 (by omega) rfl rfl
  have n1 : 1 ≠ j.val → y ∉ r0_17.set := hy r0_17 1 (by omega) rfl rfl
  have e : ∀ (R : Rect S2048x128) (f : (⟨2, ![512, 128]⟩ : Shape).Idx → S2048x128.Idx), (f (ix2 r d) 0).val = j.val + 4 * r.val ∧ (f (ix2 r d) 1).val = 0 + 1 * d.val → f (ix2 r d) = y := by
    intro R f h
    funext a
    fin_cases a
    · exact Fin.ext (by have := h.1; show (f (ix2 r d) 0).val = (y 0).val; omega)
    · exact Fin.ext (by have := h.2; show (f (ix2 r d) 1).val = (y 1).val; omega)
  fin_cases j
  · exact Cert.canon_hit [] [⟨r0_19, p3⟩, ⟨r0_18, p2⟩, ⟨r0_17, p1⟩] r0_16 p0 (ix2 r d) y (e r0_16 _ ⟨rfl, rfl⟩) (by
      intro p hp; simp only [List.mem_cons, List.not_mem_nil, or_false] at hp
      rcases hp with rfl | rfl | rfl
      · exact n3 (by decide)
      · exact n2 (by decide)
      · exact n1 (by decide))
  · exact Cert.canon_hit [⟨r0_16, p0⟩] [⟨r0_19, p3⟩, ⟨r0_18, p2⟩] r0_17 p1 (ix2 r d) y (e r0_17 _ ⟨rfl, rfl⟩) (by
      intro p hp; simp only [List.mem_cons, List.not_mem_nil, or_false] at hp
      rcases hp with rfl | rfl
      · exact n3 (by decide)
      · exact n2 (by decide))
  · exact Cert.canon_hit [⟨r0_17, p1⟩, ⟨r0_16, p0⟩] [⟨r0_19, p3⟩] r0_18 p2 (ix2 r d) y (e r0_18 _ ⟨rfl, rfl⟩) (by
      intro p hp; simp only [List.mem_cons, List.not_mem_nil, or_false] at hp
      rcases hp with rfl
      exact n3 (by decide))
  · exact Cert.canon_hit [⟨r0_18, p2⟩, ⟨r0_17, p1⟩, ⟨r0_16, p0⟩] [] r0_19 p3 (ix2 r d) y (e r0_19 _ ⟨rfl, rfl⟩) (by
      intro p hp; exact absurd hp List.not_mem_nil)

theorem values_at (a : FVec Ideal S512x2688 .f32) (r : Fin 512) (j : Fin 4) (d : Fin 128) :
    (![k0_pay20 a, k0_pay21 a, k0_pay22 a, k0_pay23 a] : Fin 4 → Vec Ideal S512x128 .f32) j (ix2 r d) =
      k0_pay14 a (ix2 r ⟨128 * j.val + d.val, by omega⟩) := by
  fin_cases j
  · show k0_pay20 a (ix2 r d) = _
    pointwise [k0_pay20, k0_pay14]
  · show k0_pay21 a (ix2 r d) = _
    pointwise [k0_pay21, k0_pay14]
  · show k0_pay22 a (ix2 r d) = _
    pointwise [k0_pay22, k0_pay14]
  · show k0_pay23 a (ix2 r d) = _
    pointwise [k0_pay23, k0_pay14]

/-- The point that computes a token. -/
abbrev pt (w : ℕ) (h : w < 16384) : Fin cfg0.N := ⟨w / 512, lt_of_lt_of_eq (by omega : w / 512 < 32) (by decide : 32 = cfg0.N)⟩

/-- The array of window 5 after the grid. -/
def A5 (c : Dev nD) : FVec Ideal S16384x512 .f32 := fun i =>
  out0_5 (iblk m c 0 (pt (i 0).val (i 0).isLt)) (iblk m c 1 (pt (i 0).val (i 0).isLt)) (iblk m c 2 (pt (i 0).val (i 0).isLt)) (iblk m c 3 (pt (i 0).val (i 0).isLt)) (iblk m c 4 (pt (i 0).val (i 0).isLt)) (ix2 ⟨(i 0).val % 512, by omega⟩ (i 1))

theorem A5_at (c : Dev nD) (t : Fin cfg0.N) (y : S512x512.Idx) (w : Fin 16384) (hw : w.val = 512 * t.val + (y 0).val)
    (p : S16384x512.Idx) (hp : p = ix2 w (y 1)) : out0_5 (iblk m c 0 t) (iblk m c 1 t) (iblk m c 2 t) (iblk m c 3 t) (iblk m c 4 t) y = A5 m c p := by
  have h0 : (y 0).val < 512 := (y 0).isLt
  have ht : pt w.val w.isLt = t := Fin.ext (by show w.val / 512 = t.val; omega)
  subst hp
  show _ = out0_5 (iblk m c 0 (pt w.val w.isLt)) (iblk m c 1 (pt w.val w.isLt)) (iblk m c 2 (pt w.val w.isLt)) (iblk m c 3 (pt w.val w.isLt)) (iblk m c 4 (pt w.val w.isLt)) (ix2 ⟨w.val % 512, by omega⟩ (y 1))
  rw [ht]
  exact congrArg _ ((eq_ix2 y).trans (congrArg (fun a => ix2 a (y 1)) (Fin.ext (by show (y 0).val = w.val % 512; omega))))

theorem final_5 (c : Dev nD) : (dats m 0 c).arrAt 5 cfg0.N = A5 m c := by
  refine (dats m 0 c).arrAt_eq_of_covers 5 _ (by decide +kernel) fun t hf y => ?_
  have ht := (idx t).2.2.2.2.2.2.2.2.2.2.2.2.2.2
  have h0 : (y 0).val < 512 := (y 0).isLt
  blk_simp
  rw [after0_5]
  refine A5_at m c t _ ⟨512 * t.val + (y 0).val, by omega⟩ rfl _ ?_
  blk_ext [idx t]

/-- The array of window 7 after the grid. -/
def A7 (c : Dev nD) : FVec Ideal S16384x256 .f32 := fun i =>
  out0_7 (iblk m c 0 (pt (i 0).val (i 0).isLt)) (iblk m c 1 (pt (i 0).val (i 0).isLt)) (iblk m c 2 (pt (i 0).val (i 0).isLt)) (iblk m c 3 (pt (i 0).val (i 0).isLt)) (iblk m c 4 (pt (i 0).val (i 0).isLt)) (ix2 ⟨(i 0).val % 512, by omega⟩ (i 1))

theorem A7_at (c : Dev nD) (t : Fin cfg0.N) (y : S512x256.Idx) (w : Fin 16384) (hw : w.val = 512 * t.val + (y 0).val)
    (p : S16384x256.Idx) (hp : p = ix2 w (y 1)) : out0_7 (iblk m c 0 t) (iblk m c 1 t) (iblk m c 2 t) (iblk m c 3 t) (iblk m c 4 t) y = A7 m c p := by
  have h0 : (y 0).val < 512 := (y 0).isLt
  have ht : pt w.val w.isLt = t := Fin.ext (by show w.val / 512 = t.val; omega)
  subst hp
  show _ = out0_7 (iblk m c 0 (pt w.val w.isLt)) (iblk m c 1 (pt w.val w.isLt)) (iblk m c 2 (pt w.val w.isLt)) (iblk m c 3 (pt w.val w.isLt)) (iblk m c 4 (pt w.val w.isLt)) (ix2 ⟨w.val % 512, by omega⟩ (y 1))
  rw [ht]
  exact congrArg _ ((eq_ix2 y).trans (congrArg (fun a => ix2 a (y 1)) (Fin.ext (by show (y 0).val = w.val % 512; omega))))

theorem final_7 (c : Dev nD) : (dats m 0 c).arrAt 7 cfg0.N = A7 m c := by
  refine (dats m 0 c).arrAt_eq_of_covers 7 _ (by decide +kernel) fun t hf y => ?_
  have ht := (idx t).2.2.2.2.2.2.2.2.2.2.2.2.2.2
  have h0 : (y 0).val < 512 := (y 0).isLt
  blk_simp
  rw [after0_7]
  refine A7_at m c t _ ⟨512 * t.val + (y 0).val, by omega⟩ rfl _ ?_
  blk_ext [idx t]

/-- The array of window 8 after the grid. -/
def A8 (c : Dev nD) : FVec Ideal S16384x128 .f32 := fun i =>
  out0_8 (iblk m c 0 (pt (i 0).val (i 0).isLt)) (iblk m c 1 (pt (i 0).val (i 0).isLt)) (iblk m c 2 (pt (i 0).val (i 0).isLt)) (iblk m c 3 (pt (i 0).val (i 0).isLt)) (iblk m c 4 (pt (i 0).val (i 0).isLt)) (ix2 ⟨(i 0).val % 512, by omega⟩ (i 1))

theorem A8_at (c : Dev nD) (t : Fin cfg0.N) (y : S512x128.Idx) (w : Fin 16384) (hw : w.val = 512 * t.val + (y 0).val)
    (p : S16384x128.Idx) (hp : p = ix2 w (y 1)) : out0_8 (iblk m c 0 t) (iblk m c 1 t) (iblk m c 2 t) (iblk m c 3 t) (iblk m c 4 t) y = A8 m c p := by
  have h0 : (y 0).val < 512 := (y 0).isLt
  have ht : pt w.val w.isLt = t := Fin.ext (by show w.val / 512 = t.val; omega)
  subst hp
  show _ = out0_8 (iblk m c 0 (pt w.val w.isLt)) (iblk m c 1 (pt w.val w.isLt)) (iblk m c 2 (pt w.val w.isLt)) (iblk m c 3 (pt w.val w.isLt)) (iblk m c 4 (pt w.val w.isLt)) (ix2 ⟨w.val % 512, by omega⟩ (y 1))
  rw [ht]
  exact congrArg _ ((eq_ix2 y).trans (congrArg (fun a => ix2 a (y 1)) (Fin.ext (by show (y 0).val = w.val % 512; omega))))

theorem final_8 (c : Dev nD) : (dats m 0 c).arrAt 8 cfg0.N = A8 m c := by
  refine (dats m 0 c).arrAt_eq_of_covers 8 _ (by decide +kernel) fun t hf y => ?_
  have ht := (idx t).2.2.2.2.2.2.2.2.2.2.2.2.2.2
  have h0 : (y 0).val < 512 := (y 0).isLt
  blk_simp
  rw [after0_8]
  refine A8_at m c t _ ⟨512 * t.val + (y 0).val, by omega⟩ rfl _ ?_
  blk_ext [idx t]

/-- The array of window 9 after the grid. -/
def A9 (c : Dev nD) : FVec Ideal S16384x512 .f32 := fun i =>
  out0_9 (iblk m c 0 (pt (i 0).val (i 0).isLt)) (iblk m c 1 (pt (i 0).val (i 0).isLt)) (iblk m c 2 (pt (i 0).val (i 0).isLt)) (iblk m c 3 (pt (i 0).val (i 0).isLt)) (iblk m c 4 (pt (i 0).val (i 0).isLt)) (ix2 ⟨(i 0).val % 512, by omega⟩ (i 1))

theorem A9_at (c : Dev nD) (t : Fin cfg0.N) (y : S512x512.Idx) (w : Fin 16384) (hw : w.val = 512 * t.val + (y 0).val)
    (p : S16384x512.Idx) (hp : p = ix2 w (y 1)) : out0_9 (iblk m c 0 t) (iblk m c 1 t) (iblk m c 2 t) (iblk m c 3 t) (iblk m c 4 t) y = A9 m c p := by
  have h0 : (y 0).val < 512 := (y 0).isLt
  have ht : pt w.val w.isLt = t := Fin.ext (by show w.val / 512 = t.val; omega)
  subst hp
  show _ = out0_9 (iblk m c 0 (pt w.val w.isLt)) (iblk m c 1 (pt w.val w.isLt)) (iblk m c 2 (pt w.val w.isLt)) (iblk m c 3 (pt w.val w.isLt)) (iblk m c 4 (pt w.val w.isLt)) (ix2 ⟨w.val % 512, by omega⟩ (y 1))
  rw [ht]
  exact congrArg _ ((eq_ix2 y).trans (congrArg (fun a => ix2 a (y 1)) (Fin.ext (by show (y 0).val = w.val % 512; omega))))

theorem final_9 (c : Dev nD) : (dats m 0 c).arrAt 9 cfg0.N = A9 m c := by
  refine (dats m 0 c).arrAt_eq_of_covers 9 _ (by decide +kernel) fun t hf y => ?_
  have ht := (idx t).2.2.2.2.2.2.2.2.2.2.2.2.2.2
  have h0 : (y 0).val < 512 := (y 0).isLt
  blk_simp
  rw [after0_9]
  refine A9_at m c t _ ⟨512 * t.val + (y 0).val, by omega⟩ rfl _ ?_
  blk_ext [idx t]

/-- The array of window 13 after the grid. -/
def A13 (c : Dev nD) : FVec Ideal S8x128x2048 .f32 := fun i =>
  out0_13 (iblk m c 0 (pt (2048 * (i 0).val + (i 2).val) (by have h0 : (i 0).val < 8 := (i 0).isLt; have h2 : (i 2).val < 2048 := (i 2).isLt; omega))) (iblk m c 1 (pt (2048 * (i 0).val + (i 2).val) (by have h0 : (i 0).val < 8 := (i 0).isLt; have h2 : (i 2).val < 2048 := (i 2).isLt; omega))) (iblk m c 2 (pt (2048 * (i 0).val + (i 2).val) (by have h0 : (i 0).val < 8 := (i 0).isLt; have h2 : (i 2).val < 2048 := (i 2).isLt; omega))) (iblk m c 3 (pt (2048 * (i 0).val + (i 2).val) (by have h0 : (i 0).val < 8 := (i 0).isLt; have h2 : (i 2).val < 2048 := (i 2).isLt; omega))) (iblk m c 4 (pt (2048 * (i 0).val + (i 2).val) (by have h0 : (i 0).val < 8 := (i 0).isLt; have h2 : (i 2).val < 2048 := (i 2).isLt; omega))) (ix3 0 (i 1) ⟨(i 2).val % 512, by omega⟩)

theorem A13_at (c : Dev nD) (t : Fin cfg0.N) (y : S1x128x512.Idx) (b : Fin 8) (q : Fin 2048) (hb : b.val = t.val / 4) (hq : q.val = 512 * (t.val % 4) + (y 2).val)
    (p : S8x128x2048.Idx) (hp : p = ix3 b (y 1) q) : out0_13 (iblk m c 0 t) (iblk m c 1 t) (iblk m c 2 t) (iblk m c 3 t) (iblk m c 4 t) y = A13 m c p := by
  have h0 : (y 2).val < 512 := (y 2).isLt
  have hz : (y 0).val < 1 := (y 0).isLt
  have hlt : 2048 * b.val + q.val < 16384 := by omega
  have ht : pt (2048 * b.val + q.val) hlt = t := Fin.ext (by show (2048 * b.val + q.val) / 512 = t.val; omega)
  subst hp
  show _ = out0_13 (iblk m c 0 (pt (2048 * b.val + q.val) hlt)) (iblk m c 1 (pt (2048 * b.val + q.val) hlt)) (iblk m c 2 (pt (2048 * b.val + q.val) hlt)) (iblk m c 3 (pt (2048 * b.val + q.val) hlt)) (iblk m c 4 (pt (2048 * b.val + q.val) hlt)) (ix3 0 (y 1) ⟨q.val % 512, by omega⟩)
  rw [ht]
  exact congrArg _ ((eq_ix3 y).trans (congrArg₂ (fun a e => ix3 a (y 1) e) (Fin.ext (by show (y 0).val = 0; omega)) (Fin.ext (by show (y 2).val = q.val % 512; omega))))

theorem final_13 (c : Dev nD) : (dats m 0 c).arrAt 13 cfg0.N = A13 m c := by
  refine (dats m 0 c).arrAt_eq_of_covers 13 _ (by decide +kernel) fun t hf y => ?_
  have ht := (idx t).2.2.2.2.2.2.2.2.2.2.2.2.2.2
  have h0 : (y 2).val < 512 := (y 2).isLt
  blk_simp
  rw [after0_13]
  refine A13_at m c t _ ⟨t.val / 4, by omega⟩ ⟨512 * (t.val % 4) + (y 2).val, by omega⟩ rfl rfl _ ?_
  blk_ext [idx t]

/-- The array of window 14 after the grid. -/
def A14 (c : Dev nD) : FVec Ideal S8x128x2048 .f32 := fun i =>
  out0_14 (iblk m c 0 (pt (2048 * (i 0).val + (i 2).val) (by have h0 : (i 0).val < 8 := (i 0).isLt; have h2 : (i 2).val < 2048 := (i 2).isLt; omega))) (iblk m c 1 (pt (2048 * (i 0).val + (i 2).val) (by have h0 : (i 0).val < 8 := (i 0).isLt; have h2 : (i 2).val < 2048 := (i 2).isLt; omega))) (iblk m c 2 (pt (2048 * (i 0).val + (i 2).val) (by have h0 : (i 0).val < 8 := (i 0).isLt; have h2 : (i 2).val < 2048 := (i 2).isLt; omega))) (iblk m c 3 (pt (2048 * (i 0).val + (i 2).val) (by have h0 : (i 0).val < 8 := (i 0).isLt; have h2 : (i 2).val < 2048 := (i 2).isLt; omega))) (iblk m c 4 (pt (2048 * (i 0).val + (i 2).val) (by have h0 : (i 0).val < 8 := (i 0).isLt; have h2 : (i 2).val < 2048 := (i 2).isLt; omega))) (ix3 0 (i 1) ⟨(i 2).val % 512, by omega⟩)

theorem A14_at (c : Dev nD) (t : Fin cfg0.N) (y : S1x128x512.Idx) (b : Fin 8) (q : Fin 2048) (hb : b.val = t.val / 4) (hq : q.val = 512 * (t.val % 4) + (y 2).val)
    (p : S8x128x2048.Idx) (hp : p = ix3 b (y 1) q) : out0_14 (iblk m c 0 t) (iblk m c 1 t) (iblk m c 2 t) (iblk m c 3 t) (iblk m c 4 t) y = A14 m c p := by
  have h0 : (y 2).val < 512 := (y 2).isLt
  have hz : (y 0).val < 1 := (y 0).isLt
  have hlt : 2048 * b.val + q.val < 16384 := by omega
  have ht : pt (2048 * b.val + q.val) hlt = t := Fin.ext (by show (2048 * b.val + q.val) / 512 = t.val; omega)
  subst hp
  show _ = out0_14 (iblk m c 0 (pt (2048 * b.val + q.val) hlt)) (iblk m c 1 (pt (2048 * b.val + q.val) hlt)) (iblk m c 2 (pt (2048 * b.val + q.val) hlt)) (iblk m c 3 (pt (2048 * b.val + q.val) hlt)) (iblk m c 4 (pt (2048 * b.val + q.val) hlt)) (ix3 0 (y 1) ⟨q.val % 512, by omega⟩)
  rw [ht]
  exact congrArg _ ((eq_ix3 y).trans (congrArg₂ (fun a e => ix3 a (y 1) e) (Fin.ext (by show (y 0).val = 0; omega)) (Fin.ext (by show (y 2).val = q.val % 512; omega))))

theorem final_14 (c : Dev nD) : (dats m 0 c).arrAt 14 cfg0.N = A14 m c := by
  refine (dats m 0 c).arrAt_eq_of_covers 14 _ (by decide +kernel) fun t hf y => ?_
  have ht := (idx t).2.2.2.2.2.2.2.2.2.2.2.2.2.2
  have h0 : (y 2).val < 512 := (y 2).isLt
  blk_simp
  rw [after0_14]
  refine A14_at m c t _ ⟨t.val / 4, by omega⟩ ⟨512 * (t.val % 4) + (y 2).val, by omega⟩ rfl rfl _ ?_
  blk_ext [idx t]

/-- The array of window 15 after the grid. -/
def A15 (c : Dev nD) : FVec Ideal S8x64x2048 .f32 := fun i =>
  out0_15 (iblk m c 0 (pt (2048 * (i 0).val + (i 2).val) (by have h0 : (i 0).val < 8 := (i 0).isLt; have h2 : (i 2).val < 2048 := (i 2).isLt; omega))) (iblk m c 1 (pt (2048 * (i 0).val + (i 2).val) (by have h0 : (i 0).val < 8 := (i 0).isLt; have h2 : (i 2).val < 2048 := (i 2).isLt; omega))) (iblk m c 2 (pt (2048 * (i 0).val + (i 2).val) (by have h0 : (i 0).val < 8 := (i 0).isLt; have h2 : (i 2).val < 2048 := (i 2).isLt; omega))) (iblk m c 3 (pt (2048 * (i 0).val + (i 2).val) (by have h0 : (i 0).val < 8 := (i 0).isLt; have h2 : (i 2).val < 2048 := (i 2).isLt; omega))) (iblk m c 4 (pt (2048 * (i 0).val + (i 2).val) (by have h0 : (i 0).val < 8 := (i 0).isLt; have h2 : (i 2).val < 2048 := (i 2).isLt; omega))) (ix3 0 (i 1) ⟨(i 2).val % 512, by omega⟩)

theorem A15_at (c : Dev nD) (t : Fin cfg0.N) (y : S1x64x512.Idx) (b : Fin 8) (q : Fin 2048) (hb : b.val = t.val / 4) (hq : q.val = 512 * (t.val % 4) + (y 2).val)
    (p : S8x64x2048.Idx) (hp : p = ix3 b (y 1) q) : out0_15 (iblk m c 0 t) (iblk m c 1 t) (iblk m c 2 t) (iblk m c 3 t) (iblk m c 4 t) y = A15 m c p := by
  have h0 : (y 2).val < 512 := (y 2).isLt
  have hz : (y 0).val < 1 := (y 0).isLt
  have hlt : 2048 * b.val + q.val < 16384 := by omega
  have ht : pt (2048 * b.val + q.val) hlt = t := Fin.ext (by show (2048 * b.val + q.val) / 512 = t.val; omega)
  subst hp
  show _ = out0_15 (iblk m c 0 (pt (2048 * b.val + q.val) hlt)) (iblk m c 1 (pt (2048 * b.val + q.val) hlt)) (iblk m c 2 (pt (2048 * b.val + q.val) hlt)) (iblk m c 3 (pt (2048 * b.val + q.val) hlt)) (iblk m c 4 (pt (2048 * b.val + q.val) hlt)) (ix3 0 (y 1) ⟨q.val % 512, by omega⟩)
  rw [ht]
  exact congrArg _ ((eq_ix3 y).trans (congrArg₂ (fun a e => ix3 a (y 1) e) (Fin.ext (by show (y 0).val = 0; omega)) (Fin.ext (by show (y 2).val = q.val % 512; omega))))

theorem final_15 (c : Dev nD) : (dats m 0 c).arrAt 15 cfg0.N = A15 m c := by
  refine (dats m 0 c).arrAt_eq_of_covers 15 _ (by decide +kernel) fun t hf y => ?_
  have ht := (idx t).2.2.2.2.2.2.2.2.2.2.2.2.2.2
  have h0 : (y 2).val < 512 := (y 2).isLt
  blk_simp
  rw [after0_15]
  refine A15_at m c t _ ⟨t.val / 4, by omega⟩ ⟨512 * (t.val % 4) + (y 2).val, by omega⟩ rfl rfl _ ?_
  blk_ext [idx t]

/-- The array of window 16 after the grid. -/
def A16 (c : Dev nD) : FVec Ideal S8x512x2048 .f32 := fun i =>
  out0_16 (iblk m c 0 (pt (2048 * (i 0).val + (i 2).val) (by have h0 : (i 0).val < 8 := (i 0).isLt; have h2 : (i 2).val < 2048 := (i 2).isLt; omega))) (iblk m c 1 (pt (2048 * (i 0).val + (i 2).val) (by have h0 : (i 0).val < 8 := (i 0).isLt; have h2 : (i 2).val < 2048 := (i 2).isLt; omega))) (iblk m c 2 (pt (2048 * (i 0).val + (i 2).val) (by have h0 : (i 0).val < 8 := (i 0).isLt; have h2 : (i 2).val < 2048 := (i 2).isLt; omega))) (iblk m c 3 (pt (2048 * (i 0).val + (i 2).val) (by have h0 : (i 0).val < 8 := (i 0).isLt; have h2 : (i 2).val < 2048 := (i 2).isLt; omega))) (iblk m c 4 (pt (2048 * (i 0).val + (i 2).val) (by have h0 : (i 0).val < 8 := (i 0).isLt; have h2 : (i 2).val < 2048 := (i 2).isLt; omega))) (ix3 0 (i 1) ⟨(i 2).val % 512, by omega⟩)

theorem A16_at (c : Dev nD) (t : Fin cfg0.N) (y : S1x512x512.Idx) (b : Fin 8) (q : Fin 2048) (hb : b.val = t.val / 4) (hq : q.val = 512 * (t.val % 4) + (y 2).val)
    (p : S8x512x2048.Idx) (hp : p = ix3 b (y 1) q) : out0_16 (iblk m c 0 t) (iblk m c 1 t) (iblk m c 2 t) (iblk m c 3 t) (iblk m c 4 t) y = A16 m c p := by
  have h0 : (y 2).val < 512 := (y 2).isLt
  have hz : (y 0).val < 1 := (y 0).isLt
  have hlt : 2048 * b.val + q.val < 16384 := by omega
  have ht : pt (2048 * b.val + q.val) hlt = t := Fin.ext (by show (2048 * b.val + q.val) / 512 = t.val; omega)
  subst hp
  show _ = out0_16 (iblk m c 0 (pt (2048 * b.val + q.val) hlt)) (iblk m c 1 (pt (2048 * b.val + q.val) hlt)) (iblk m c 2 (pt (2048 * b.val + q.val) hlt)) (iblk m c 3 (pt (2048 * b.val + q.val) hlt)) (iblk m c 4 (pt (2048 * b.val + q.val) hlt)) (ix3 0 (y 1) ⟨q.val % 512, by omega⟩)
  rw [ht]
  exact congrArg _ ((eq_ix3 y).trans (congrArg₂ (fun a e => ix3 a (y 1) e) (Fin.ext (by show (y 0).val = 0; omega)) (Fin.ext (by show (y 2).val = q.val % 512; omega))))

theorem final_16 (c : Dev nD) : (dats m 0 c).arrAt 16 cfg0.N = A16 m c := by
  refine (dats m 0 c).arrAt_eq_of_covers 16 _ (by decide +kernel) fun t hf y => ?_
  have ht := (idx t).2.2.2.2.2.2.2.2.2.2.2.2.2.2
  have h0 : (y 2).val < 512 := (y 2).isLt
  blk_simp
  rw [after0_16]
  refine A16_at m c t _ ⟨t.val / 4, by omega⟩ ⟨512 * (t.val % 4) + (y 2).val, by omega⟩ rfl rfl _ ?_
  blk_ext [idx t]

/-- The array of window 17 after the grid. -/
def A17 (c : Dev nD) : FVec Ideal S65536x128 .f32 := fun i =>
  out0_17 (iblk m c 0 (pt ((i 0).val / 4) (by have h0 : (i 0).val < 65536 := (i 0).isLt; omega))) (iblk m c 1 (pt ((i 0).val / 4) (by have h0 : (i 0).val < 65536 := (i 0).isLt; omega))) (iblk m c 2 (pt ((i 0).val / 4) (by have h0 : (i 0).val < 65536 := (i 0).isLt; omega))) (iblk m c 3 (pt ((i 0).val / 4) (by have h0 : (i 0).val < 65536 := (i 0).isLt; omega))) (iblk m c 4 (pt ((i 0).val / 4) (by have h0 : (i 0).val < 65536 := (i 0).isLt; omega))) (ix2 ⟨(i 0).val % 2048, by omega⟩ (i 1))

theorem A17_at (c : Dev nD) (t : Fin cfg0.N) (y : S2048x128.Idx) (w : Fin 65536) (hw : w.val = 2048 * t.val + (y 0).val)
    (p : S65536x128.Idx) (hp : p = ix2 w (y 1)) : out0_17 (iblk m c 0 t) (iblk m c 1 t) (iblk m c 2 t) (iblk m c 3 t) (iblk m c 4 t) y = A17 m c p := by
  have h0 : (y 0).val < 2048 := (y 0).isLt
  have hlt : w.val / 4 < 16384 := by omega
  have ht : pt (w.val / 4) hlt = t := Fin.ext (by show w.val / 4 / 512 = t.val; omega)
  subst hp
  show _ = out0_17 (iblk m c 0 (pt (w.val / 4) hlt)) (iblk m c 1 (pt (w.val / 4) hlt)) (iblk m c 2 (pt (w.val / 4) hlt)) (iblk m c 3 (pt (w.val / 4) hlt)) (iblk m c 4 (pt (w.val / 4) hlt)) (ix2 ⟨w.val % 2048, by omega⟩ (y 1))
  rw [ht]
  exact congrArg _ ((eq_ix2 y).trans (congrArg (fun a => ix2 a (y 1)) (Fin.ext (by show (y 0).val = w.val % 2048; omega))))

theorem final_17 (c : Dev nD) : (dats m 0 c).arrAt 17 cfg0.N = A17 m c := by
  refine (dats m 0 c).arrAt_eq_of_covers 17 _ (by decide +kernel) fun t hf y => ?_
  have ht := (idx t).2.2.2.2.2.2.2.2.2.2.2.2.2.2
  have h0 : (y 0).val < 2048 := (y 0).isLt
  blk_simp
  rw [after0_17]
  refine A17_at m c t _ ⟨2048 * t.val + (y 0).val, by omega⟩ rfl _ ?_
  blk_ext [idx t]

/-- The queries of the first attention in their array. -/
theorem E5 (c : Dev nD) (w : Fin 16384) (l : Fin 512) (b : Fin 8) (q : Fin 2048) (j : Fin 8) (d : Fin 64)
    (hr : w.val = 2048 * b.val + q.val) (hl : l.val = 64 * j.val + d.val) :
    A5 m c (ix2 w l) = val_main_v42 (F := Ideal) (m ((c : Thread nD τ).loc main_arg0)) (m ((c : Thread nD τ).loc main_arg1)) (m ((c : Thread nD τ).loc main_arg2)) (m ((c : Thread nD τ).loc main_arg3)) (ix4 b q j d) := by
  show out0_5 (iblk m c 0 (pt w.val w.isLt)) (iblk m c 1 (pt w.val w.isLt)) (iblk m c 2 (pt w.val w.isLt)) (iblk m c 3 (pt w.val w.isLt)) (iblk m c 4 (pt w.val w.isLt)) (ix2 ⟨w.val % 512, by omega⟩ l) = _
  unfold out0_5
  frame_out
  exact qa m c (pt w.val w.isLt) ⟨w.val % 512, by omega⟩ l b q j d (by show 512 * (w.val / 512) + w.val % 512 = _; omega) hl

/-- The index queries in their array. -/
theorem E7 (c : Dev nD) (w : Fin 16384) (l : Fin 256) (b : Fin 8) (q : Fin 2048) (j : Fin 4) (d : Fin 64)
    (hr : w.val = 2048 * b.val + q.val) (hl : l.val = 64 * j.val + d.val) :
    A7 m c (ix2 w l) = val_main_v58 (F := Ideal) (m ((c : Thread nD τ).loc main_arg0)) (m ((c : Thread nD τ).loc main_arg1)) (m ((c : Thread nD τ).loc main_arg2)) (ix4 b q j d) := by
  show out0_7 (iblk m c 0 (pt w.val w.isLt)) (iblk m c 1 (pt w.val w.isLt)) (iblk m c 2 (pt w.val w.isLt)) (iblk m c 3 (pt w.val w.isLt)) (iblk m c 4 (pt w.val w.isLt)) (ix2 ⟨w.val % 512, by omega⟩ l) = _
  unfold out0_7 k0_pay24
  frame_out
  exact qi m c (pt w.val w.isLt) ⟨w.val % 512, by omega⟩ l b q j d (by show 512 * (w.val / 512) + w.val % 512 = _; omega) hl

/-- The index weights in their array. -/
theorem E8 (c : Dev nD) (w : Fin 16384) (l : Fin 128) (b : Fin 8) (q : Fin 2048) (d : Fin 4)
    (hr : w.val = 2048 * b.val + q.val) (hl : l.val = 64 + d.val) :
    A8 m c (ix2 w l) = val_main_v25 (F := Ideal) (m ((c : Thread nD τ).loc main_arg0)) (m ((c : Thread nD τ).loc main_arg1)) (m ((c : Thread nD τ).loc main_arg2)) (ix3 b q d) := by
  show out0_8 (iblk m c 0 (pt w.val w.isLt)) (iblk m c 1 (pt w.val w.isLt)) (iblk m c 2 (pt w.val w.isLt)) (iblk m c 3 (pt w.val w.isLt)) (iblk m c 4 (pt w.val w.isLt)) (ix2 ⟨w.val % 512, by omega⟩ l) = _
  unfold out0_8 k0_pay24
  frame_out
  exact wi m c (pt w.val w.isLt) ⟨w.val % 512, by omega⟩ l b q d (by show 512 * (w.val / 512) + w.val % 512 = _; omega) hl

/-- The queries of the second attention in their array. -/
theorem E9 (c : Dev nD) (w : Fin 16384) (l : Fin 512) (b : Fin 8) (q : Fin 2048) (j : Fin 4) (p : Fin 2) (d : Fin 64)
    (hr : w.val = 2048 * b.val + q.val) (hl : l.val = 128 * j.val + 64 * p.val + d.val) :
    A9 m c (ix2 w l) = val_main_v72 (F := Ideal) (m ((c : Thread nD τ).loc main_arg0)) (m ((c : Thread nD τ).loc main_arg1)) (m ((c : Thread nD τ).loc main_arg2)) (m ((c : Thread nD τ).loc main_arg5)) (ix5 b q j p d) := by
  show out0_9 (iblk m c 0 (pt w.val w.isLt)) (iblk m c 1 (pt w.val w.isLt)) (iblk m c 2 (pt w.val w.isLt)) (iblk m c 3 (pt w.val w.isLt)) (iblk m c 4 (pt w.val w.isLt)) (ix2 ⟨w.val % 512, by omega⟩ l) = _
  unfold out0_9 k0_pay24
  frame_out
  exact qb m c (pt w.val w.isLt) ⟨w.val % 512, by omega⟩ l b q j p d (by show 512 * (w.val / 512) + w.val % 512 = _; omega) hl

/-- The keys of the first attention in their array. -/
theorem E13 (c : Dev nD) (l : Fin 128) (b : Fin 8) (q : Fin 2048) (j : Fin 2) (d : Fin 64)
    (hl : l.val = 64 * j.val + d.val) :
    A13 m c (ix3 b l q) = val_main_v56 (F := Ideal) (m ((c : Thread nD τ).loc main_arg0)) (m ((c : Thread nD τ).loc main_arg1)) (m ((c : Thread nD τ).loc main_arg2)) (m ((c : Thread nD τ).loc main_arg4)) (ix4 b q j d) := by
  have hlt : 2048 * b.val + q.val < 16384 := by omega
  show out0_13 (iblk m c 0 (pt (2048 * b.val + q.val) hlt)) (iblk m c 1 (pt (2048 * b.val + q.val) hlt)) (iblk m c 2 (pt (2048 * b.val + q.val) hlt)) (iblk m c 3 (pt (2048 * b.val + q.val) hlt)) (iblk m c 4 (pt (2048 * b.val + q.val) hlt)) (ix3 0 l ⟨q.val % 512, by omega⟩) = _
  unfold out0_13 k0_pay24
  frame_out
  refine Eq.trans ?_ (ka m c (pt (2048 * b.val + q.val) hlt) ⟨q.val % 512, by omega⟩ l b q j d (by show 512 * ((2048 * b.val + q.val) / 512) + q.val % 512 = _; omega) hl)
  generalize k0_pay5 (k0_pay1 (iblk m c 0 (pt (2048 * b.val + q.val) hlt)) (iblk m c 1 (pt (2048 * b.val + q.val) hlt)) (iblk m c 2 (pt (2048 * b.val + q.val) hlt))) (View.ld (iblk m c 3 (pt (2048 * b.val + q.val) hlt)) r0_3) (View.ld (iblk m c 4 (pt (2048 * b.val + q.val) hlt)) r0_6) = u
  pointwise [k0_pay16]

/-- The values of the first attention in their array. -/
theorem E14 (c : Dev nD) (l : Fin 128) (b : Fin 8) (q : Fin 2048) (j : Fin 2) (d : Fin 64)
    (hl : l.val = 64 * j.val + d.val) :
    A14 m c (ix3 b l q) = val_main_v57 (F := Ideal) (m ((c : Thread nD τ).loc main_arg0)) (m ((c : Thread nD τ).loc main_arg1)) (m ((c : Thread nD τ).loc main_arg2)) (ix4 b q j d) := by
  have hlt : 2048 * b.val + q.val < 16384 := by omega
  show out0_14 (iblk m c 0 (pt (2048 * b.val + q.val) hlt)) (iblk m c 1 (pt (2048 * b.val + q.val) hlt)) (iblk m c 2 (pt (2048 * b.val + q.val) hlt)) (iblk m c 3 (pt (2048 * b.val + q.val) hlt)) (iblk m c 4 (pt (2048 * b.val + q.val) hlt)) (ix3 0 l ⟨q.val % 512, by omega⟩) = _
  unfold out0_14 k0_pay24
  frame_out
  refine Eq.trans ?_ (va m c (pt (2048 * b.val + q.val) hlt) ⟨q.val % 512, by omega⟩ l b q j d (by show 512 * ((2048 * b.val + q.val) / 512) + q.val % 512 = _; omega) hl)
  generalize k0_pay12 (k0_pay1 (iblk m c 0 (pt (2048 * b.val + q.val) hlt)) (iblk m c 1 (pt (2048 * b.val + q.val) hlt)) (iblk m c 2 (pt (2048 * b.val + q.val) hlt))) = u
  pointwise [k0_pay17]

/-- The index keys in their array. -/
theorem E15 (c : Dev nD) (l : Fin 64) (b : Fin 8) (q : Fin 2048) (d : Fin 64)
    (hl : l.val = d.val) :
    A15 m c (ix3 b l q) = val_main_v24 (F := Ideal) (m ((c : Thread nD τ).loc main_arg0)) (m ((c : Thread nD τ).loc main_arg1)) (m ((c : Thread nD τ).loc main_arg2)) (ix3 b q d) := by
  have hlt : 2048 * b.val + q.val < 16384 := by omega
  show out0_15 (iblk m c 0 (pt (2048 * b.val + q.val) hlt)) (iblk m c 1 (pt (2048 * b.val + q.val) hlt)) (iblk m c 2 (pt (2048 * b.val + q.val) hlt)) (iblk m c 3 (pt (2048 * b.val + q.val) hlt)) (iblk m c 4 (pt (2048 * b.val + q.val) hlt)) (ix3 0 l ⟨q.val % 512, by omega⟩) = _
  unfold out0_15 k0_pay24
  frame_out
  refine Eq.trans ?_ (ki m c (pt (2048 * b.val + q.val) hlt) ⟨q.val % 512, by omega⟩ ⟨l.val, by omega⟩ b q d (by show 512 * ((2048 * b.val + q.val) / 512) + q.val % 512 = _; omega) hl)
  generalize k0_pay7 (k0_pay1 (iblk m c 0 (pt (2048 * b.val + q.val) hlt)) (iblk m c 1 (pt (2048 * b.val + q.val) hlt)) (iblk m c 2 (pt (2048 * b.val + q.val) hlt))) = u
  pointwise [k0_pay18]

/-- The keys of the second attention in their array. -/
theorem E16 (c : Dev nD) (l : Fin 512) (b : Fin 8) (q : Fin 2048) (j : Fin 4) (p : Fin 2) (d : Fin 64)
    (hl : l.val = 128 * j.val + 64 * p.val + d.val) :
    A16 m c (ix3 b l q) = val_main_v86 (F := Ideal) (m ((c : Thread nD τ).loc main_arg0)) (m ((c : Thread nD τ).loc main_arg1)) (m ((c : Thread nD τ).loc main_arg2)) (m ((c : Thread nD τ).loc main_arg6)) (ix5 b q j p d) := by
  have hlt : 2048 * b.val + q.val < 16384 := by omega
  show out0_16 (iblk m c 0 (pt (2048 * b.val + q.val) hlt)) (iblk m c 1 (pt (2048 * b.val + q.val) hlt)) (iblk m c 2 (pt (2048 * b.val + q.val) hlt)) (iblk m c 3 (pt (2048 * b.val + q.val) hlt)) (iblk m c 4 (pt (2048 * b.val + q.val) hlt)) (ix3 0 l ⟨q.val % 512, by omega⟩) = _
  unfold out0_16 k0_pay24
  frame_out
  refine Eq.trans ?_ (kb m c (pt (2048 * b.val + q.val) hlt) ⟨q.val % 512, by omega⟩ l b q j p d (by show 512 * ((2048 * b.val + q.val) / 512) + q.val % 512 = _; omega) hl)
  generalize k0_pay11 (k0_pay1 (iblk m c 0 (pt (2048 * b.val + q.val) hlt)) (iblk m c 1 (pt (2048 * b.val + q.val) hlt)) (iblk m c 2 (pt (2048 * b.val + q.val) hlt))) (View.ld (iblk m c 3 (pt (2048 * b.val + q.val) hlt)) r0_3) (View.ld (iblk m c 4 (pt (2048 * b.val + q.val) hlt)) r0_10) = u
  pointwise [k0_pay19]

/-- The values of the second attention in their array. -/
theorem E17 (c : Dev nD) (w : Fin 65536) (b : Fin 8) (q : Fin 2048) (j : Fin 4) (d : Fin 128)
    (hr : w.val = 8192 * b.val + 4 * q.val + j.val) :
    A17 m c (ix2 w d) = val_main_v87 (F := Ideal) (m ((c : Thread nD τ).loc main_arg0)) (m ((c : Thread nD τ).loc main_arg1)) (m ((c : Thread nD τ).loc main_arg2)) (ix4 b q j d) := by
  have hlt : w.val / 4 < 16384 := by omega
  show out0_17 (iblk m c 0 (pt (w.val / 4) hlt)) (iblk m c 1 (pt (w.val / 4) hlt)) (iblk m c 2 (pt (w.val / 4) hlt)) (iblk m c 3 (pt (w.val / 4) hlt)) (iblk m c 4 (pt (w.val / 4) hlt)) (ix2 ⟨w.val % 2048, by omega⟩ d) = _
  unfold out0_17
  rw [rows _ _ _ _ ⟨w.val % 2048 / 4, by omega⟩ j d _ (by show w.val % 2048 = 4 * (w.val % 2048 / 4) + j.val; omega) rfl, values_at]
  unfold k0_pay24
  frame_out
  exact vb m c (pt (w.val / 4) hlt) ⟨w.val % 2048 / 4, by omega⟩ ⟨128 * j.val + d.val, by omega⟩ b q j d (by show 512 * (w.val / 4 / 512) + w.val % 2048 / 4 = _; omega) rfl

theorem after_41 (c : Dev nD) : Pipeline.afterTail₀ cfgs (dats m) 0 (V0 m) [hostOps1] c main_v41 =
    val_main_v88 (F := Ideal) (m ((c : Thread nD τ).loc main_arg0)) (m ((c : Thread nD τ).loc main_arg1)) (m ((c : Thread nD τ).loc main_arg2)) (m ((c : Thread nD τ).loc main_arg4)) := by
  have hw := (Pipeline.withArrays_arr _ launch0.win.arr_inj c (V0 m c) (fun w => (dats m 0 c).arrAt w (cfgs 0).N) 13).trans (final_13 m c)
  funext i
  show StableHlo.after hostOps1 (Pipeline.withArrays (cfgs 0).spec c (V0 m c) fun w => (dats m 0 c).arrAt w (cfgs 0).N) (Proc.devRef .tc main_v41) i = _
  revert hw
  generalize (Pipeline.withArrays (cfgs 0).spec c (V0 m c) fun w => (dats m 0 c).arrAt w (cfgs 0).N) = U
  intro hw
  replace hw : U (Proc.devRef .tc main_v38_8) = A13 m c := hw
  after_results
  rw [hw]
  pointwise [val_main_v88]
  exact E13 m c _ (i 1) (i 2) (i 3) (i 4) (by show (i 3).val * 64 + (i 4).val = 64 * (i 3).val + (i 4).val; omega)

theorem after_44 (c : Dev nD) : Pipeline.afterTail₀ cfgs (dats m) 0 (V0 m) [hostOps1] c main_v44 =
    val_main_v89 (F := Ideal) (m ((c : Thread nD τ).loc main_arg0)) (m ((c : Thread nD τ).loc main_arg1)) (m ((c : Thread nD τ).loc main_arg2)) := by
  have hw := (Pipeline.withArrays_arr _ launch0.win.arr_inj c (V0 m c) (fun w => (dats m 0 c).arrAt w (cfgs 0).N) 14).trans (final_14 m c)
  funext i
  show StableHlo.after hostOps1 (Pipeline.withArrays (cfgs 0).spec c (V0 m c) fun w => (dats m 0 c).arrAt w (cfgs 0).N) (Proc.devRef .tc main_v44) i = _
  revert hw
  generalize (Pipeline.withArrays (cfgs 0).spec c (V0 m c) fun w => (dats m 0 c).arrAt w (cfgs 0).N) = U
  intro hw
  replace hw : U (Proc.devRef .tc main_v38_9) = A14 m c := hw
  after_results
  rw [hw]
  pointwise [val_main_v89]
  exact E14 m c _ (i 1) (i 2) (i 3) (i 4) (by show (i 3).val * 64 + (i 4).val = 64 * (i 3).val + (i 4).val; omega)

theorem after_46 (c : Dev nD) : Pipeline.afterTail₀ cfgs (dats m) 0 (V0 m) [hostOps1] c main_v46 =
    val_main_v90 (F := Ideal) (m ((c : Thread nD τ).loc main_arg0)) (m ((c : Thread nD τ).loc main_arg1)) (m ((c : Thread nD τ).loc main_arg2)) := by
  have hw := (Pipeline.withArrays_arr _ launch0.win.arr_inj c (V0 m c) (fun w => (dats m 0 c).arrAt w (cfgs 0).N) 15).trans (final_15 m c)
  funext i
  show StableHlo.after hostOps1 (Pipeline.withArrays (cfgs 0).spec c (V0 m c) fun w => (dats m 0 c).arrAt w (cfgs 0).N) (Proc.devRef .tc main_v46) i = _
  revert hw
  generalize (Pipeline.withArrays (cfgs 0).spec c (V0 m c) fun w => (dats m 0 c).arrAt w (cfgs 0).N) = U
  intro hw
  replace hw : U (Proc.devRef .tc main_v38_10) = A15 m c := hw
  after_results
  rw [hw]
  pointwise [val_main_v90]
  exact E15 m c _ (i 1) (i 2) (i 3) rfl

theorem after_49 (c : Dev nD) : Pipeline.afterTail₀ cfgs (dats m) 0 (V0 m) [hostOps1] c main_v49 =
    val_main_v91 (F := Ideal) (m ((c : Thread nD τ).loc main_arg0)) (m ((c : Thread nD τ).loc main_arg1)) (m ((c : Thread nD τ).loc main_arg2)) (m ((c : Thread nD τ).loc main_arg6)) := by
  have hw := (Pipeline.withArrays_arr _ launch0.win.arr_inj c (V0 m c) (fun w => (dats m 0 c).arrAt w (cfgs 0).N) 16).trans (final_16 m c)
  funext i
  show StableHlo.after hostOps1 (Pipeline.withArrays (cfgs 0).spec c (V0 m c) fun w => (dats m 0 c).arrAt w (cfgs 0).N) (Proc.devRef .tc main_v49) i = _
  revert hw
  generalize (Pipeline.withArrays (cfgs 0).spec c (V0 m c) fun w => (dats m 0 c).arrAt w (cfgs 0).N) = U
  intro hw
  replace hw : U (Proc.devRef .tc main_v38_11) = A16 m c := hw
  after_results
  rw [hw]
  pointwise [val_main_v91]
  exact E16 m c _ (i 1) (i 2) (i 3) (i 4) (i 5) (by show (i 3).val * 128 + (i 4).val * 64 + (i 5).val = 128 * (i 3).val + 64 * (i 4).val + (i 5).val; omega)

theorem after_50 (c : Dev nD) : Pipeline.afterTail₀ cfgs (dats m) 0 (V0 m) [hostOps1] c main_v50 =
    val_main_v92 (F := Ideal) (m ((c : Thread nD τ).loc main_arg0)) (m ((c : Thread nD τ).loc main_arg1)) (m ((c : Thread nD τ).loc main_arg2)) := by
  have hw := (Pipeline.withArrays_arr _ launch0.win.arr_inj c (V0 m c) (fun w => (dats m 0 c).arrAt w (cfgs 0).N) 17).trans (final_17 m c)
  funext i
  show StableHlo.after hostOps1 (Pipeline.withArrays (cfgs 0).spec c (V0 m c) fun w => (dats m 0 c).arrAt w (cfgs 0).N) (Proc.devRef .tc main_v50) i = _
  revert hw
  generalize (Pipeline.withArrays (cfgs 0).spec c (V0 m c) fun w => (dats m 0 c).arrAt w (cfgs 0).N) = U
  intro hw
  replace hw : U (Proc.devRef .tc main_v38_12) = A17 m c := hw
  after_results
  rw [hw]
  pointwise [val_main_v92]
  exact E17 m c _ (i 1) (i 2) (i 3) (i 4) (by show (i 1).val * 8192 + (i 2).val * 4 + (i 3).val = 8192 * (i 1).val + 4 * (i 2).val + (i 3).val; omega)

theorem after_51 (c : Dev nD) : Pipeline.afterTail₀ cfgs (dats m) 0 (V0 m) [hostOps1] c main_v51 =
    val_main_v42 (F := Ideal) (m ((c : Thread nD τ).loc main_arg0)) (m ((c : Thread nD τ).loc main_arg1)) (m ((c : Thread nD τ).loc main_arg2)) (m ((c : Thread nD τ).loc main_arg3)) := by
  have hw := (Pipeline.withArrays_arr _ launch0.win.arr_inj c (V0 m c) (fun w => (dats m 0 c).arrAt w (cfgs 0).N) 5).trans (final_5 m c)
  funext i
  show StableHlo.after hostOps1 (Pipeline.withArrays (cfgs 0).spec c (V0 m c) fun w => (dats m 0 c).arrAt w (cfgs 0).N) (Proc.devRef .tc main_v51) i = _
  revert hw
  generalize (Pipeline.withArrays (cfgs 0).spec c (V0 m c) fun w => (dats m 0 c).arrAt w (cfgs 0).N) = U
  intro hw
  replace hw : U (Proc.devRef .tc main_v38_0) = A5 m c := hw
  after_results
  rw [hw]
  pointwise []
  exact (E5 m c _ _ (i 0) (i 1) (i 2) (i 3) (by show (i 0).val * 2048 + (i 1).val = 2048 * (i 0).val + (i 1).val; omega) (by show (i 2).val * 64 + (i 3).val = 64 * (i 2).val + (i 3).val; omega)).trans (congrArg _ (eq_ix4 i).symm)

theorem after_52 (c : Dev nD) : Pipeline.afterTail₀ cfgs (dats m) 0 (V0 m) [hostOps1] c main_v52 =
    val_main_v58 (F := Ideal) (m ((c : Thread nD τ).loc main_arg0)) (m ((c : Thread nD τ).loc main_arg1)) (m ((c : Thread nD τ).loc main_arg2)) := by
  have hw := (Pipeline.withArrays_arr _ launch0.win.arr_inj c (V0 m c) (fun w => (dats m 0 c).arrAt w (cfgs 0).N) 7).trans (final_7 m c)
  funext i
  show StableHlo.after hostOps1 (Pipeline.withArrays (cfgs 0).spec c (V0 m c) fun w => (dats m 0 c).arrAt w (cfgs 0).N) (Proc.devRef .tc main_v52) i = _
  revert hw
  generalize (Pipeline.withArrays (cfgs 0).spec c (V0 m c) fun w => (dats m 0 c).arrAt w (cfgs 0).N) = U
  intro hw
  replace hw : U (Proc.devRef .tc main_v38_2) = A7 m c := hw
  after_results
  rw [hw]
  pointwise []
  exact (E7 m c _ _ (i 0) (i 1) (i 2) (i 3) (by show (i 0).val * 2048 + (i 1).val = 2048 * (i 0).val + (i 1).val; omega) (by show (i 2).val * 64 + (i 3).val = 64 * (i 2).val + (i 3).val; omega)).trans (congrArg _ (eq_ix4 i).symm)

theorem after_54 (c : Dev nD) : Pipeline.afterTail₀ cfgs (dats m) 0 (V0 m) [hostOps1] c main_v54 =
    val_main_v25 (F := Ideal) (m ((c : Thread nD τ).loc main_arg0)) (m ((c : Thread nD τ).loc main_arg1)) (m ((c : Thread nD τ).loc main_arg2)) := by
  have hw := (Pipeline.withArrays_arr _ launch0.win.arr_inj c (V0 m c) (fun w => (dats m 0 c).arrAt w (cfgs 0).N) 8).trans (final_8 m c)
  funext i
  show StableHlo.after hostOps1 (Pipeline.withArrays (cfgs 0).spec c (V0 m c) fun w => (dats m 0 c).arrAt w (cfgs 0).N) (Proc.devRef .tc main_v54) i = _
  revert hw
  generalize (Pipeline.withArrays (cfgs 0).spec c (V0 m c) fun w => (dats m 0 c).arrAt w (cfgs 0).N) = U
  intro hw
  replace hw : U (Proc.devRef .tc main_v38_3) = A8 m c := hw
  after_results
  rw [hw]
  pointwise []
  exact (E8 m c _ _ (i 0) (i 1) (i 2) (by show (i 0).val * 2048 + (i 1).val = 2048 * (i 0).val + (i 1).val; omega) (by show 64 + (i 2).val = 64 + (i 2).val; rfl)).trans (congrArg _ (eq_ix3 i).symm)

theorem after_55 (c : Dev nD) : Pipeline.afterTail₀ cfgs (dats m) 0 (V0 m) [hostOps1] c main_v55 =
    val_main_v72 (F := Ideal) (m ((c : Thread nD τ).loc main_arg0)) (m ((c : Thread nD τ).loc main_arg1)) (m ((c : Thread nD τ).loc main_arg2)) (m ((c : Thread nD τ).loc main_arg5)) := by
  have hw := (Pipeline.withArrays_arr _ launch0.win.arr_inj c (V0 m c) (fun w => (dats m 0 c).arrAt w (cfgs 0).N) 9).trans (final_9 m c)
  funext i
  show StableHlo.after hostOps1 (Pipeline.withArrays (cfgs 0).spec c (V0 m c) fun w => (dats m 0 c).arrAt w (cfgs 0).N) (Proc.devRef .tc main_v55) i = _
  revert hw
  generalize (Pipeline.withArrays (cfgs 0).spec c (V0 m c) fun w => (dats m 0 c).arrAt w (cfgs 0).N) = U
  intro hw
  replace hw : U (Proc.devRef .tc main_v38_4) = A9 m c := hw
  after_results
  rw [hw]
  pointwise []
  exact (E9 m c _ _ (i 0) (i 1) (i 2) (i 3) (i 4) (by show (i 0).val * 2048 + (i 1).val = 2048 * (i 0).val + (i 1).val; omega) (by show (i 2).val * 128 + (i 3).val * 64 + (i 4).val = 128 * (i 2).val + 64 * (i 3).val + (i 4).val; omega)).trans (congrArg _ (eq_ix5 i).symm)

/-- The kernel's run: the nine results are the reference's terms over the arguments, which it leaves alone. -/
theorem run (g : Dev nD → PrngReg) :
    θ_run defs (onTc (τ := τ) (main (F := Ideal))) ⟨m, fun _ => 0, g⟩ fun r => ∀ c : Dev nD,
      r.2.mem ((c.tc : Thread nD τ).loc main_v41) = val_main_v88 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_v44) = val_main_v89 (F := Ideal) (m ((c : Thread nD τ).loc main_arg0)) (m ((c : Thread nD τ).loc main_arg1)) (m ((c : Thread nD τ).loc main_arg2))
      ∧ r.2.mem ((c.tc : Thread nD τ).loc main_v46) = val_main_v90 (F := Ideal) (m ((c : Thread nD τ).loc main_arg0)) (m ((c : Thread nD τ).loc main_arg1)) (m ((c : Thread nD τ).loc main_arg2))
      ∧ r.2.mem ((c.tc : Thread nD τ).loc main_v49) = val_main_v91 (F := Ideal) (m ((c : Thread nD τ).loc main_arg0)) (m ((c : Thread nD τ).loc main_arg1)) (m ((c : Thread nD τ).loc main_arg2)) (m ((c : Thread nD τ).loc main_arg6))
      ∧ r.2.mem ((c.tc : Thread nD τ).loc main_v50) = val_main_v92 (F := Ideal) (m ((c : Thread nD τ).loc main_arg0)) (m ((c : Thread nD τ).loc main_arg1)) (m ((c : Thread nD τ).loc main_arg2))
      ∧ r.2.mem ((c.tc : Thread nD τ).loc main_v51) = val_main_v42 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v52) = val_main_v58 (F := Ideal) (m ((c : Thread nD τ).loc main_arg0)) (m ((c : Thread nD τ).loc main_arg1)) (m ((c : Thread nD τ).loc main_arg2))
      ∧ r.2.mem ((c.tc : Thread nD τ).loc main_v54) = val_main_v25 (F := Ideal) (m ((c : Thread nD τ).loc main_arg0)) (m ((c : Thread nD τ).loc main_arg1)) (m ((c : Thread nD τ).loc main_arg2))
      ∧ r.2.mem ((c.tc : Thread nD τ).loc main_v55) = val_main_v72 (F := Ideal) (m ((c : Thread nD τ).loc main_arg0)) (m ((c : Thread nD τ).loc main_arg1)) (m ((c : Thread nD τ).loc main_arg2)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(Pipeline.FramePost.rest_eq h.1 c main_v41 (by decide)).trans (after_41 m c),
      (Pipeline.FramePost.rest_eq h.1 c main_v44 (by decide)).trans (after_44 m c),
      (Pipeline.FramePost.rest_eq h.1 c main_v46 (by decide)).trans (after_46 m c),
      (Pipeline.FramePost.rest_eq h.1 c main_v49 (by decide)).trans (after_49 m c),
      (Pipeline.FramePost.rest_eq h.1 c main_v50 (by decide)).trans (after_50 m c),
      (Pipeline.FramePost.rest_eq h.1 c main_v51 (by decide)).trans (after_51 m c),
      (Pipeline.FramePost.rest_eq h.1 c main_v52 (by decide)).trans (after_52 m c),
      (Pipeline.FramePost.rest_eq h.1 c main_v54 (by decide)).trans (after_54 m c),
      (Pipeline.FramePost.rest_eq h.1 c main_v55 (by decide)).trans (after_55 m c),
      h.2.1 c⟩)
    (θ_run_and (run_main m g) (frame m g))

end Cert.ProjIdeal.Value
-- ==== Proof.MidMath.lean ====
module

public import proofs.«01_k».proof.Proof.GroupMean
@[expose] public section

noncomputable section
open Idealize.ShloMosaic
namespace Cert.MidMath

/-- A finite extended real. -/
def Fin' (x : EReal) : Prop := ∃ r : ℝ, x = (r : EReal)

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.sum {ι : Type} (s : Finset ι) (f : ι → EReal) (h : ∀ k ∈ s, Fin' (f k)) : Fin' (∑ k ∈ s, f k) := by
  classical
  induction s using Finset.induction_on with
  | empty => exact ⟨0, by simp⟩
  | insert a s ha ih =>
    rw [Finset.sum_insert ha]
    obtain ⟨x, hx⟩ := h a (Finset.mem_insert_self a s)
    obtain ⟨y, hy⟩ := ih fun k hk => h k (Finset.mem_insert_of_mem hk)
    exact ⟨x + y, by rw [hx, hy, EReal.coe_add]⟩

/-- A square is not negative, infinite or not. -/
theorem sq_nonneg' (x : EReal) : 0 ≤ x * x := by
  induction x using EReal.rec with
  | bot => simp
  | coe r => rw [← EReal.coe_mul]; exact_mod_cast mul_self_nonneg r
  | top => simp

/-- A vector divided by its root mean square is finite, also where the vector is not. -/
theorem normed {n : ℕ} (v : Fin n → EReal) (j : Fin n) (c e : ℝ) (hc : 0 < c) (he : 0 < e) :
    Fin' (v j * Ideal.rsqrt (Ideal.div (∑ k, v k * v k) (c : EReal) + (e : EReal))) := by
  rw [Ideal.div_coe hc.ne']
  by_cases h : ∀ k, Fin' (v k)
  · have hs : Fin' (∑ k, v k * v k) := Fin'.sum _ _ fun k _ => (h k).mul (h k)
    have h0 : 0 ≤ ∑ k, v k * v k := Finset.sum_nonneg fun k _ => sq_nonneg' (v k)
    obtain ⟨s, hs⟩ := hs
    rw [hs] at h0 ⊢
    have h0' : 0 ≤ s := by exact_mod_cast h0
    refine (h j).mul ?_
    have hp : 0 < s * (1 / c) + e := by positivity
    rw [← EReal.coe_mul, ← EReal.coe_add]
    refine ⟨(Real.sqrt (s * (1 / c) + e))⁻¹, ?_⟩
    show (if s * (1 / c) + e < 0 then ⊥ else if s * (1 / c) + e = 0 then ⊤ else (((Real.sqrt (s * (1 / c) + e))⁻¹ : ℝ) : EReal)) = _
    rw [if_neg (not_lt.2 hp.le), if_neg hp.ne']
  · obtain ⟨k, hk⟩ := not_forall.1 h
    have hkk : v k * v k = ⊤ := by
      revert hk
      induction v k using EReal.rec with
      | bot => intro _; simp
      | coe r => intro hk; exact absurd ⟨r, rfl⟩ hk
      | top => intro _; simp
    have ht : ∑ k, v k * v k = ⊤ := by
      refine top_le_iff.1 ?_
      rw [← hkk]
      exact Finset.single_le_sum (f := fun k => v k * v k) (fun k _ => sq_nonneg' (v k)) (Finset.mem_univ k)
    rw [ht, EReal.top_mul_of_pos (by exact_mod_cast (by positivity : (0 : ℝ) < 1 / c)), EReal.top_add_coe]
    exact ⟨0, by show v j * 0 = _; simp⟩

/-- The weights' sum divides each weight or the weighted sum alike where the scores are finite. -/
theorem attend {n : ℕ} (hn : 0 < n) (s u : Fin n → EReal) (M : EReal) (hs : ∀ k, Fin' (s k)) (hM : Fin' M) :
    Ideal.div (∑ k, Ideal.exp (s k - M) * u k) (∑ k, Ideal.exp (s k - M)) =
      ∑ k, u k * Ideal.div (Ideal.exp (s k - M)) (∑ k, Ideal.exp (s k - M)) := by
  obtain ⟨M, rfl⟩ := hM
  choose r hr using hs
  have hp : ∀ k, Ideal.exp (s k - (M : EReal)) = ((Real.exp (r k - M) : ℝ) : EReal) := fun k => by
    rw [hr k, ← EReal.coe_sub]; rfl
  have hl : ∑ k, Ideal.exp (s k - (M : EReal)) = ((∑ k, Real.exp (r k - M) : ℝ) : EReal) := by
    rw [Finset.sum_congr rfl fun k _ => hp k]
    exact (map_sum (⟨⟨Real.toEReal, rfl⟩, EReal.coe_add⟩ : ℝ →+ EReal) _ _).symm
  have hpos : 0 < ∑ k, Real.exp (r k - M) :=
    Finset.sum_pos (fun k _ => Real.exp_pos _) ⟨⟨0, hn⟩, Finset.mem_univ _⟩
  rw [hl]
  simp only [Ideal.div_coe hpos.ne']
  rw [← GroupMean.sum_scale _ _ _ (by positivity)]
  exact Finset.sum_congr rfl fun k _ => by rw [mul_comm (Ideal.exp _) (u k), mul_assoc]

/-- The bits of the smallest extended real. -/
theorem bits_bot : Ideal.ofBits FTy.f32 4286578688#32 = ⊥ := by
  simp [Ideal.ofBits, Ideal.ieee]

/-- The largest of finitely many finite numbers is finite. -/
theorem max_fin {n : ℕ} (hn : 0 < n) (s : Fin n → EReal) (hs : ∀ k, Fin' (s k)) : Fin' (Finset.univ.fold max ⊥ s) := by
  classical
  have h : ∀ t : Finset (Fin n), t.fold max ⊥ s = ⊥ ∨ Fin' (t.fold max ⊥ s) := by
    intro t
    induction t using Finset.induction_on with
    | empty => exact Or.inl rfl
    | insert a t ha ih =>
      rw [Finset.fold_insert ha]
      rcases max_choice (s a) (t.fold max ⊥ s) with h | h
      · rw [h]; exact Or.inr (hs a)
      · rw [h]; exact ih
  rcases h Finset.univ with h | h
  · obtain ⟨r, hr⟩ := hs ⟨0, hn⟩
    have : s ⟨0, hn⟩ ≤ Finset.univ.fold max ⊥ s := Finset.le_fold_max _ |>.2 (Or.inr ⟨⟨0, hn⟩, Finset.mem_univ _, le_rfl⟩)
    rw [h, hr] at this
    exact absurd (le_bot_iff.1 this) (EReal.coe_ne_bot r)
  · exact h

/-- The weighted sum over the weights' sum, as the kernel computes an attention. -/
def attn (s u : Fin 256 → EReal) : EReal :=
  Ideal.div (∑ k, Ideal.exp (s k - Finset.univ.fold max (Ideal.ofBits FTy.f32 4286578688#32) s) * u k)
    (∑ k, Ideal.exp (s k - Finset.univ.fold max (Ideal.ofBits FTy.f32 4286578688#32) s))

/-- The same over finite scores with each weight divided first, as the reference computes it. -/
theorem attn_eq (s u : Fin 256 → EReal) (hs : ∀ k, Fin' (s k)) :
    ∑ k, u k * Ideal.div (Ideal.exp (s k - max (Ideal.ofBits FTy.f32 4286578688#32) (Finset.univ.fold max (Ideal.ofBits FTy.f32 4286578688#32) s)))
      (∑ k, Ideal.exp (s k - max (Ideal.ofBits FTy.f32 4286578688#32) (Finset.univ.fold max (Ideal.ofBits FTy.f32 4286578688#32) s))) = attn s u := by
  unfold attn
  rw [bits_bot, max_eq_right bot_le]
  exact (attend (by norm_num) s u _ hs (max_fin (by norm_num) s hs)).symm

end Cert.MidMath
-- ==== Proof.MidHost.lean ====
module

public import proofs.«01_k».proof.Proof.MidMath
public import proofs.«01_k».proof.Proof.MemKvValue
public import proofs.«01_k».proof.Proof.Gen.MidIdeal.Frame
public import proofs.«01_k».proof.Proof.Gen.MidReferenceIdeal.Read
public import Idealize.ShloMosaic.Lib.Pipeline.ValueKit
public import Idealize.ShloMosaic.Lib.Pipeline.ReadBack
public import Idealize.ShloMosaic.Lib.StableHlo.ReadAt
set_option maxRecDepth 16384
set_option maxHeartbeats 1000000
@[expose] public section

noncomputable section
open Idealize.ShloMosaic Idealize.ShloMosaic.TcCoe Idealize.SL.Sem
open Idealize.ShloMosaic.Pipeline (Dat)
namespace Cert.MidIdeal.Value
open Cert.MidIdeal Cert.MidIdeal.Gen
open Cert.MidReferenceIdeal.Read
variable (m : (ℓ : Loc nD τ sig) → Buf (Elt Ideal) ℓ)

/-- Four blocks of 512 tokens a sequence; the weights are whole arrays. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0] ∧ win0_4.index t = ![t.val / 4, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val / 4, t.val % 4, 0] ∧ t.val < 32 :=
  (by decide +kernel : ∀ t : Fin grid0.N, _)

theorem V_gain (c : Dev nD) (i : S1x1024.Idx) : V m c main_v7 i = m ((c : Thread nD τ).loc main_arg6) (ix2 0 (i 1)) := by
  show StableHlo.after (List.flatten [hostOps0, hostOps0_1, hostOps0_2, hostOps0_3, hostOps0_4]) _ (Proc.devRef .tc main_v7) i = _
  simp only [hostOps0, hostOps0_1, hostOps0_2, hostOps0_3, hostOps0_4, List.flatten_cons, List.flatten_nil, List.append_nil, List.cons_append, List.nil_append]
  after_reads_at

theorem V_wout (c : Dev nD) (k n : Fin 1024) : V m c main_v1 (ix2 k n) = m ((c : Thread nD τ).loc main_arg5) (ix3 0 k n) := by
  show StableHlo.after (List.flatten [hostOps0, hostOps0_1, hostOps0_2, hostOps0_3, hostOps0_4]) _ (Proc.devRef .tc main_v1) (ix2 k n) = _
  simp only [hostOps0, hostOps0_1, hostOps0_2, hostOps0_3, hostOps0_4, List.flatten_cons, List.flatten_nil, List.append_nil, List.cons_append, List.nil_append]
  after_reads_at

theorem V_wq (c : Dev nD) (k : Fin 1024) (n : Fin 512) : V m c main_v3 (ix2 k n) = m ((c : Thread nD τ).loc main_arg7) (ix3 0 k n) := by
  show StableHlo.after (List.flatten [hostOps0, hostOps0_1, hostOps0_2, hostOps0_3, hostOps0_4]) _ (Proc.devRef .tc main_v3) (ix2 k n) = _
  simp only [hostOps0, hostOps0_1, hostOps0_2, hostOps0_3, hostOps0_4, List.flatten_cons, List.flatten_nil, List.append_nil, List.cons_append, List.nil_append]
  after_reads_at

theorem V_wo (c : Dev nD) (k : Fin 512) (n : Fin 1024) : V m c main_v5 (ix2 k n) = m ((c : Thread nD τ).loc main_arg9) (ix3 0 k n) := by
  show StableHlo.after (List.flatten [hostOps0, hostOps0_1, hostOps0_2, hostOps0_3, hostOps0_4]) _ (Proc.devRef .tc main_v5) (ix2 k n) = _
  simp only [hostOps0, hostOps0_1, hostOps0_2, hostOps0_3, hostOps0_4, List.flatten_cons, List.flatten_nil, List.append_nil, List.cons_append, List.nil_append]
  after_reads_at

/-- Row `4 k + h` of the keys holds token `k` of head `h`. -/
theorem V_mk (c : Dev nD) (b : Fin 8) (r : Fin 1024) (d : Fin 128) (k : Fin 256) (h : Fin 4) (hr : r.val = 4 * k.val + h.val) :
    V m c main_v22 (ix3 b r d) = m ((c : Thread nD τ).loc main_arg3) (ix4 b k h d) := by
  show StableHlo.after (List.flatten [hostOps0, hostOps0_1, hostOps0_2, hostOps0_3, hostOps0_4]) _ (Proc.devRef .tc main_v22) (ix3 b r d) = _
  simp only [hostOps0, hostOps0_1, hostOps0_2, hostOps0_3, hostOps0_4, List.flatten_cons, List.flatten_nil, List.append_nil, List.cons_append, List.nil_append]
  after_reads_at
  exact Cert.MemKvIdeal.Value.at4 _ (by rfl) (by dsimp only; omega) (by dsimp only; omega)

/-- Row `4 k + h` of the values holds token `k` of head `h`. -/
theorem V_mv (c : Dev nD) (b : Fin 8) (r : Fin 1024) (d : Fin 128) (k : Fin 256) (h : Fin 4) (hr : r.val = 4 * k.val + h.val) :
    V m c main_v23 (ix3 b r d) = m ((c : Thread nD τ).loc main_arg4) (ix4 b k h d) := by
  show StableHlo.after (List.flatten [hostOps0, hostOps0_1, hostOps0_2, hostOps0_3, hostOps0_4]) _ (Proc.devRef .tc main_v23) (ix3 b r d) = _
  simp only [hostOps0, hostOps0_1, hostOps0_2, hostOps0_3, hostOps0_4, List.flatten_cons, List.flatten_nil, List.append_nil, List.cons_append, List.nil_append]
  after_reads_at
  exact Cert.MemKvIdeal.Value.at4 _ (by rfl) (by dsimp only; omega) (by dsimp only; omega)

/-- The gain tiled over the four heads of the queries. -/
theorem V_hgain (c : Dev nD) (n : Fin 512) (d : Fin 128) (hd : n.val % 128 = d.val) :
    V m c main_v21 (ix2 0 n) = m ((c : Thread nD τ).loc main_arg8) (ix2 0 d) := by
  show StableHlo.after (List.flatten [hostOps0, hostOps0_1, hostOps0_2, hostOps0_3, hostOps0_4]) _ (Proc.devRef .tc main_v21) (ix2 0 n) = _
  simp only [hostOps0, hostOps0_1, hostOps0_2, hostOps0_3, hostOps0_4, List.flatten_cons, List.flatten_nil, List.append_nil, List.cons_append, List.nil_append]
  after_reads_at
  exact congrArg _ (congrArg (ix2 0) (Fin.ext hd))

/-- The first block of the mean matrix is constant. -/
theorem V_gm (c : Dev nD) (k l : Fin 512) (hk : k.val < 128) (hl : l.val < 128) :
    V m c main_v16 (ix2 k l) = ((1 / 128 : ℝ) : EReal) := by
  show StableHlo.after (List.flatten [hostOps0, hostOps0_1, hostOps0_2, hostOps0_3, hostOps0_4]) _ (Proc.devRef .tc main_v16) (ix2 k l) = _
  simp only [hostOps0, hostOps0_1, hostOps0_2, hostOps0_3, hostOps0_4, List.flatten_cons, List.flatten_nil, List.append_nil, List.cons_append, List.nil_append]
  after_reads_at
  have h1 := Cert.MemKvIdeal.Value.floordiv k
  have h2 := Cert.MemKvIdeal.Value.floordiv l
  refine (congrArg₂ (fun a b => Scalar.select (IntOp.cmpi CmpIPredicate.eq a b) (Ideal.ofBits FTy.f32 1006632960#32) (0 : EReal)) h1 h2).trans ?_
  beta_reduce
  rw [Cert.MemKvIdeal.Value.inv128, Nat.div_eq_of_lt hk, Nat.div_eq_of_lt hl]
  simp [IntOp.cmpi, Scalar.select]

theorem b_x (c : Dev nD) (t : Fin cfg0.N) (r : Fin 512) (k : Fin 1024) (b : Fin 8) (q : Fin 2048) (hb : b.val = t.val / 4) (hq : q.val = 512 * (t.val % 4) + r.val) :
    iblk m c 0 t (ix3 0 r k) = m ((c : Thread nD τ).loc main_arg0) (ix3 b q k) := by
  blk_point [iblk, idx t]

theorem b_ma (c : Dev nD) (t : Fin cfg0.N) (r : Fin 512) (k : Fin 512) (b : Fin 8) (q : Fin 2048) (hb : b.val = t.val / 4) (hq : q.val = 512 * (t.val % 4) + r.val) :
    iblk m c 1 t (ix3 0 r k) = m ((c : Thread nD τ).loc main_arg1) (ix3 b q k) := by
  blk_point [iblk, idx t]

theorem b_mb (c : Dev nD) (t : Fin cfg0.N) (r : Fin 512) (k : Fin 512) (b : Fin 8) (q : Fin 2048) (hb : b.val = t.val / 4) (hq : q.val = 512 * (t.val % 4) + r.val) :
    iblk m c 2 t (ix3 0 r k) = m ((c : Thread nD τ).loc main_arg2) (ix3 b q k) := by
  blk_point [iblk, idx t]

theorem b_mk (c : Dev nD) (t : Fin cfg0.N) (r : Fin 1024) (d : Fin 128) (b : Fin 8) (k : Fin 256) (h : Fin 4) (hb : b.val = t.val / 4) (hr : r.val = 4 * k.val + h.val) :
    iblk m c 3 t (ix3 0 r d) = m ((c : Thread nD τ).loc main_arg3) (ix4 b k h d) := by
  show V m c main_v22 ((win0_3.blk t).view.emb (ix3 0 r d)) = _
  rw [← V_mk m c b r d k h hr]; blk_ext [idx t]

theorem b_mv (c : Dev nD) (t : Fin cfg0.N) (r : Fin 1024) (d : Fin 128) (b : Fin 8) (k : Fin 256) (h : Fin 4) (hb : b.val = t.val / 4) (hr : r.val = 4 * k.val + h.val) :
    iblk m c 4 t (ix3 0 r d) = m ((c : Thread nD τ).loc main_arg4) (ix4 b k h d) := by
  show V m c main_v23 ((win0_4.blk t).view.emb (ix3 0 r d)) = _
  rw [← V_mv m c b r d k h hr]; blk_ext [idx t]

theorem b_wout (c : Dev nD) (t : Fin cfg0.N) (k n : Fin 1024) : iblk m c 5 t (ix2 k n) = m ((c : Thread nD τ).loc main_arg5) (ix3 0 k n) := by
  show V m c main_v1 ((win0_5.blk t).view.emb (ix2 k n)) = _
  rw [← V_wout m c k n]; blk_ext [idx t]

theorem b_gain (c : Dev nD) (t : Fin cfg0.N) (k : Fin 1024) : iblk m c 6 t (ix2 0 k) = m ((c : Thread nD τ).loc main_arg6) (ix2 0 k) := by
  show V m c main_v7 ((win0_6.blk t).view.emb (ix2 0 k)) = _
  rw [V_gain]; blk_ext [idx t]

theorem b_wq (c : Dev nD) (t : Fin cfg0.N) (k : Fin 1024) (n : Fin 512) : iblk m c 7 t (ix2 k n) = m ((c : Thread nD τ).loc main_arg7) (ix3 0 k n) := by
  show V m c main_v3 ((win0_7.blk t).view.emb (ix2 k n)) = _
  rw [← V_wq m c k n]; blk_ext [idx t]

theorem b_gm (c : Dev nD) (t : Fin cfg0.N) (k l : Fin 512) (hk : k.val < 128) (hl : l.val < 128) :
    iblk m c 8 t (ix2 k l) = ((1 / 128 : ℝ) : EReal) := by
  show V m c main_v16 ((win0_8.blk t).view.emb (ix2 k l)) = _
  rw [← V_gm m c k l hk hl]; blk_ext [idx t]

theorem b_hgain (c : Dev nD) (t : Fin cfg0.N) (n : Fin 512) (d : Fin 128) (hd : n.val % 128 = d.val) :
    iblk m c 9 t (ix2 0 n) = m ((c : Thread nD τ).loc main_arg8) (ix2 0 d) := by
  show V m c main_v21 ((win0_9.blk t).view.emb (ix2 0 n)) = _
  rw [← V_hgain m c n d hd]; blk_ext [idx t]

theorem b_wo (c : Dev nD) (t : Fin cfg0.N) (k : Fin 512) (n : Fin 1024) : iblk m c 10 t (ix2 k n) = m ((c : Thread nD τ).loc main_arg9) (ix3 0 k n) := by
  show V m c main_v5 ((win0_10.blk t).view.emb (ix2 k n)) = _
  rw [← V_wo m c k n]; blk_ext [idx t]

end Cert.MidIdeal.Value
-- ==== Proof.MidRef.lean ====
module

public import proofs.«01_k».proof.Proof.MidMath
public import proofs.«01_k».proof.Proof.MemKvValue
public import proofs.«01_k».proof.Proof.Gen.MidReferenceIdeal.Read
set_option maxRecDepth 16384
set_option maxHeartbeats 400000
@[expose] public section

noncomputable section
open Idealize.ShloMosaic Idealize.ShloMosaic.TcCoe Idealize.SL.Sem
open Idealize.ShloMosaic.Pipeline (Dat)
namespace Cert.MidReferenceIdeal.Value
open Cert.MidReferenceIdeal Cert.MidReferenceIdeal.Facts₀ Cert.MidReferenceIdeal.Facts
open Cert.MidReferenceIdeal.Read
open Cert.MidMath
variable (x0 : FVec Ideal S8x2048x1024 .f32) (x1 x2 : FVec Ideal S8x2048x512 .f32) (x3 x4 : FVec Ideal S8x256x4x128 .f32)
  (x5 : FVec Ideal S1x1024x1024 .f32) (x6 : FVec Ideal S1x1024 .f32) (x7 : FVec Ideal S1x1024x512 .f32) (x8 : FVec Ideal S1x128 .f32)
  (x9 : FVec Ideal S1x512x1024 .f32)

/-- The query of a token and head: divided by its root mean square and multiplied by the gain. -/
theorem query (q : Fin 2048) (b : Fin 8) (h : Fin 4) (d : Fin 128) : val_main_v35 (F := Ideal) x0 x1 x2 x5 x6 x7 x8 (ix4 b q h d) =
    val_main_v21 (F := Ideal) x0 x1 x2 x5 x6 x7 (ix3 b q ⟨h.val * 128 + d.val, by omega⟩) *
        Ideal.rsqrt
          (Ideal.div
              (∑ x : Fin 128,
                val_main_v21 (F := Ideal) x0 x1 x2 x5 x6 x7 (ix3 b q ⟨h.val * 128 + x.val, by omega⟩) *
                  val_main_v21 (F := Ideal) x0 x1 x2 x5 x6 x7 (ix3 b q ⟨h.val * 128 + x.val, by omega⟩))
              (Ideal.ofBits FTy.f32 1124073472#32) +
            Ideal.ofBits FTy.f32 897988541#32) *
      x8 (ix2 0 d) := by
  pointwise [val_main_v35, val_main_v34, val_main_v33, val_main_v32, val_main_v31, val_main_v30, val_main_v29, val_main_v28, val_main_v27, val_main_v26, val_main_v25, val_main_v24, val_main_v23, val_main_v22, val_main_v19, val_main_cst_2, val_main_cst_3, val_main_cst_4]

/-- A scaled score. -/
theorem score (q : Fin 2048) (b : Fin 8) (h : Fin 4) (k : Fin 256) : val_main_v38 (F := Ideal) x0 x1 x2 x3 x5 x6 x7 x8 (ix4 b h q k) =
    (∑ x : Fin 128, val_main_v35 (F := Ideal) x0 x1 x2 x5 x6 x7 x8 (ix4 b q h x) * x3 (ix4 b k h x)) * Ideal.ofBits FTy.f32 1035273459#32 := by
  pointwise [val_main_v38, val_main_v37, val_main_v36, val_main_cst_6, val_main_cst_5]

theorem eps : ∃ e : ℝ, 0 < e ∧ Ideal.ofBits FTy.f32 897988541#32 = (e : EReal) := by
  refine ⟨_, ?_, by simp [Ideal.ofBits, Ideal.ieee, -EReal.coe_mul]; rfl⟩
  norm_num

theorem scale_fin : Fin' (Ideal.ofBits FTy.f32 1035273459#32) :=
  ⟨_, by simp [Ideal.ofBits, Ideal.ieee, -EReal.coe_mul]; rfl⟩

/-- Over finite keys and a finite gain every score is finite. -/
theorem score_fin (hk : ∀ i, Fin' (x3 i)) (hg : ∀ i, Fin' (x8 i)) (q : Fin 2048) (b : Fin 8) (h : Fin 4) (k : Fin 256) :
    Fin' (val_main_v38 (F := Ideal) x0 x1 x2 x3 x5 x6 x7 x8 (ix4 b h q k)) := by
  rw [score]
  refine (Fin'.sum _ _ fun x _ => Fin'.mul ?_ (hk _)).mul scale_fin
  rw [query, Cert.MemKvIdeal.Value.c128]
  obtain ⟨e, he, h'⟩ := eps
  rw [h']
  exact (normed (fun d : Fin 128 => val_main_v21 (F := Ideal) x0 x1 x2 x5 x6 x7 (ix3 b q ⟨h.val * 128 + d.val, by omega⟩)) x 128 e (by norm_num) he).mul (hg _)

/-- A maximum over the last axis. -/
theorem rowmax (y : FVec Ideal S8x4x2048x256 .f32) (b : Fin 8) (h : Fin 4) (q : Fin 2048) :
    Host.reduce FloatOps.maximumf y (val_main_cst_6 (F := Ideal)) reducesTo_S8x4x2048x256_S8x4x2048_d3 h_S_ (ix3 b h q) =
      Finset.univ.fold max (Ideal.ofBits FTy.f32 4286578688#32) fun k : Fin 256 => y (ix4 b h q k) := by
  unfold val_main_cst_6
  clean_types
  pointwise []

/-- The maximum under the exponentials. -/
theorem top (b : Fin 8) (h : Fin 4) (q : Fin 2048) (k : Fin 256) :
    val_main_v43 (F := Ideal) x0 x1 x2 x3 x5 x6 x7 x8 (ix4 b h q k) =
      max (Ideal.ofBits FTy.f32 4286578688#32) (Finset.univ.fold max (Ideal.ofBits FTy.f32 4286578688#32) fun k : Fin 256 => val_main_v38 (F := Ideal) x0 x1 x2 x3 x5 x6 x7 x8 (ix4 b h q k)) := by
  rw [val_main_v43_apply, val_main_v42_apply, val_main_v41_apply]
  refine congrArg₂ max rfl ?_
  exact (congrArg (val_main_v39 (F := Ideal) x0 x1 x2 x3 x5 x6 x7 x8) (show _ = ix3 b h q by funext a; fin_cases a <;> rfl)).trans (rowmax _ b h q)

theorem weight (b : Fin 8) (h : Fin 4) (q : Fin 2048) (k : Fin 256) :
    val_main_v45 (F := Ideal) x0 x1 x2 x3 x5 x6 x7 x8 (ix4 b h q k) = Ideal.exp (val_main_v38 (F := Ideal) x0 x1 x2 x3 x5 x6 x7 x8 (ix4 b h q k) -
      max (Ideal.ofBits FTy.f32 4286578688#32) (Finset.univ.fold max (Ideal.ofBits FTy.f32 4286578688#32) fun k : Fin 256 => val_main_v38 (F := Ideal) x0 x1 x2 x3 x5 x6 x7 x8 (ix4 b h q k))) := by
  rw [val_main_v45_apply, val_main_v44_apply, top]
  rfl

theorem total (b : Fin 8) (h : Fin 4) (q : Fin 2048) (k : Fin 256) :
    val_main_v48 (F := Ideal) x0 x1 x2 x3 x5 x6 x7 x8 (ix4 b h q k) = ∑ k : Fin 256, val_main_v45 (F := Ideal) x0 x1 x2 x3 x5 x6 x7 x8 (ix4 b h q k) := by
  rw [val_main_v48_apply, val_main_v47_apply, val_main_v46_apply]
  have h0 : val_main_cst_8 (F := Ideal) (Shape.Idx.first h_S_) = 0 := by pointwise [val_main_cst_8]
  rw [h0, zero_add]
  exact Finset.sum_congr rfl fun k _ => congrArg _ (by funext a; fin_cases a <;> rfl)

/-- The attention of a token and head. -/
theorem attention (hk : ∀ i, Fin' (x3 i)) (hg : ∀ i, Fin' (x8 i)) (q : Fin 2048) (b : Fin 8) (h : Fin 4) (d : Fin 128) :
    val_main_v50 (F := Ideal) x0 x1 x2 x3 x4 x5 x6 x7 x8 (ix4 b h d q) =
      attn (fun k => val_main_v38 (F := Ideal) x0 x1 x2 x3 x5 x6 x7 x8 (ix4 b h q k)) (fun k => x4 (ix4 b k h d)) := by
  rw [← attn_eq _ _ fun k => score_fin x0 x1 x2 x3 x5 x6 x7 x8 hk hg q b h k, val_main_v50_apply]
  refine Finset.sum_congr rfl fun k _ => congrArg₂ (· * ·) (congrArg x4 (by funext a; fin_cases a <;> rfl)) ?_
  rw [show ridx_main_v50 (ix4 b h d q) k = ix4 b h q k by funext a; fin_cases a <;> rfl, val_main_v49_apply, total, weight]
  exact congrArg (Ideal.div _) (Finset.sum_congr rfl fun k _ => weight x0 x1 x2 x3 x5 x6 x7 x8 b h q k)

/-- The result: the residual stream and the projected attention. -/
theorem result (q : Fin 2048) (b : Fin 8) (n : Fin 1024) : val_main_v54 (F := Ideal) x0 x1 x2 x3 x4 x5 x6 x7 x8 x9 (ix3 b q n) =
    val_main_v3 (F := Ideal) x0 x1 x2 x5 (ix3 b q n) + ∑ x : Fin 512, val_main_v50 (F := Ideal) x0 x1 x2 x3 x4 x5 x6 x7 x8
      (ix4 b ⟨x.val / 128, by omega⟩ ⟨x.val % 128, by omega⟩ q) * x9 (ix3 0 x n) := by
  rw [val_main_v54_apply, val_main_v53_apply]
  refine congrArg₂ (· + ·) rfl (Finset.sum_congr rfl fun x _ => congrArg₂ (· * ·) ?_ (by pointwise [val_main_v20]; rfl))
  rw [val_main_v52_apply, val_main_v51_apply]
  have hb := b.isLt
  have hq := q.isLt
  have hx := x.isLt
  refine congrArg _ (by
    funext a; fin_cases a
    · exact Fin.ext (by show ((b.val * 2048 + q.val) * 512 + x.val) / 1048576 = b.val; omega)
    · exact Fin.ext (by show ((b.val * 2048 + q.val) * 512 + x.val) / 128 % 4 = x.val / 128; omega)
    · exact Fin.ext (by show ((b.val * 2048 + q.val) * 512 + x.val) % 128 = x.val % 128; omega)
    · exact Fin.ext (by show ((b.val * 2048 + q.val) * 512 + x.val) / 512 % 2048 = q.val; omega))

end Cert.MidReferenceIdeal.Value
-- ==== Proof.MidValue.lean ====
module

public import proofs.«01_k».proof.Proof.MidHost
public import proofs.«01_k».proof.Proof.MidRef
public import proofs.«01_k».proof.Pre_finite_keys
set_option maxRecDepth 16384
set_option maxHeartbeats 1000000
@[expose] public section

noncomputable section
open Idealize.ShloMosaic Idealize.ShloMosaic.TcCoe Idealize.SL.Sem
open Idealize.ShloMosaic.Pipeline (Dat)
namespace Cert.MidIdeal.Value
open Cert.MidIdeal Cert.MidIdeal.Gen
open Cert.MidReferenceIdeal.Read
open Cert.MidMath
variable (m : (ℓ : Loc nD τ sig) → Buf (Elt Ideal) ℓ)

/-- The residual stream of a token. -/
theorem hidden (c : Dev nD) (t : Fin cfg0.N) (r : Fin 512) (k : Fin 1024) (b : Fin 8) (q : Fin 2048) (hb : b.val = t.val / 4) (hq : q.val = 512 * (t.val % 4) + r.val) (v5 v12 : Vec Ideal S512x1024 .bf16)
    (h5 : ∀ (x : Fin 512) (k : Fin 1024), v5 (ix2 x k) = m ((c : Thread nD τ).loc main_arg5) (ix3 0 ⟨x.val, by omega⟩ k))
    (h12 : ∀ (x : Fin 512) (k : Fin 1024), v12 (ix2 x k) = m ((c : Thread nD τ).loc main_arg5) (ix3 0 ⟨512 + x.val, by omega⟩ k)) :
    k0_pay2 (iblk m c 0 t) (iblk m c 1 t) v5 (iblk m c 2 t) v12 (ix2 r k) =
      val_main_v3 (F := Ideal) (m ((c : Thread nD τ).loc main_arg0)) (m ((c : Thread nD τ).loc main_arg1)) (m ((c : Thread nD τ).loc main_arg2)) (m ((c : Thread nD τ).loc main_arg5)) (ix3 b q k) := by
  unfold k0_pay2
  pointwise [val_main_v3, val_main_v2, val_main_v1, val_main_v0]
  rw [add_assoc]
  simp only [b_x m c t r _ b q hb hq, b_ma m c t r _ b q hb hq, b_mb m c t r _ b q hb hq, h5, h12]

/-- The query of a token before its norm. -/
theorem projected (c : Dev nD) (t : Fin cfg0.N) (r : Fin 512) (n : Fin 512) (b : Fin 8) (q : Fin 2048) (hb : b.val = t.val / 4) (hq : q.val = 512 * (t.val % 4) + r.val) (v5 v12 : Vec Ideal S512x1024 .bf16)
    (h5 : ∀ (x : Fin 512) (k : Fin 1024), v5 (ix2 x k) = m ((c : Thread nD τ).loc main_arg5) (ix3 0 ⟨x.val, by omega⟩ k))
    (h12 : ∀ (x : Fin 512) (k : Fin 1024), v12 (ix2 x k) = m ((c : Thread nD τ).loc main_arg5) (ix3 0 ⟨512 + x.val, by omega⟩ k)) :
    k0_pay3 (iblk m c 0 t) (iblk m c 1 t) v5 (iblk m c 2 t) v12 (iblk m c 6 t) (iblk m c 7 t) (ix2 r n) =
      val_main_v21 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (ix3 b q n) := by
  have hH := fun k => hidden m c t r k b q hb hq v5 v12 h5 h12
  unfold k0_pay3
  revert hH
  generalize k0_pay2 (iblk m c 0 t) (iblk m c 1 t) v5 (iblk m c 2 t) v12 = H
  intro hH
  pointwise [val_main_v21, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  simp only [hH, b_gain, b_wq]

/-- The query of a token and head. -/
theorem queried (P : FVec Ideal S512x512 .f32) (v36 : Vec Ideal S128x128 .bf16) (v51 : Vec Ideal S1x512 .f32) (p : Fin 512 → EReal) (g : Fin 128 → EReal)
    (r : Fin 512) (j : Fin 4) (d : Fin 128) (n : Fin 512) (hn : n.val = 128 * j.val + d.val) (hP : ∀ n, P (ix2 r n) = p n)
    (h36 : ∀ k l, v36 (ix2 k l) = ((1 / 128 : ℝ) : EReal)) (h51 : v51 (ix2 0 n) = g d) :
    k0_pay5 P (mulf P P) v36 v51 (ix2 r n) = p ⟨j.val * 128 + d.val, by omega⟩ *
        Ideal.rsqrt (Ideal.div (∑ x : Fin 128, p ⟨j.val * 128 + x.val, by omega⟩ * p ⟨j.val * 128 + x.val, by omega⟩) (Ideal.ofBits FTy.f32 1124073472#32) +
            Ideal.ofBits FTy.f32 897988541#32) * g d := by
  unfold k0_pay5
  pointwise []
  rw [h51, Cert.MemKvIdeal.Value.c128]
  have e : ∀ (k : Fin 128) (n : Fin 512), n.val = 128 * j.val + k.val → P (ix2 r n) = p ⟨j.val * 128 + k.val, by omega⟩ :=
    fun k n h => (hP n).trans (congrArg p (Fin.ext (by show n.val = j.val * 128 + k.val; omega)))
  refine congrArg (· * _) (congrArg₂ (· * ·) (e d _ hn) (congrArg Ideal.rsqrt (congrArg (· + _) ?_)))
  refine Eq.trans ?_ (GroupMean.mean128 _)
  split_ifs <;>
  exact Finset.sum_congr rfl fun k _ => congrArg₂ (· * ·)
    (congrArg₂ (· * ·) (e k _ (by dsimp only; omega)) (e k _ (by dsimp only; omega))) (h36 _ _)

/-- The first head. -/
theorem head0 (P P2 : FVec Ideal S512x512 .f32) (v36 : Vec Ideal S128x128 .bf16) (v51 : Vec Ideal S1x512 .f32) (K V : Vec Ideal S1x256x128 .f32) (r : Fin 512) (d : Fin 128) (s : Fin 256 → EReal)
    (hs : ∀ k, (∑ x : Fin 128, k0_pay5 P P2 v36 v51 (ix2 r ⟨x.val, by omega⟩) * K (ix3 0 k x)) * Ideal.ofBits FTy.f32 1035273459#32 = s k) :
    k0_pay9 (k0_pay7 P P2 v36 v51 K) (k0_pay8 P P2 v36 v51 K V) (ix2 r d) = attn s fun k => V (ix3 0 k d) := by
  unfold k0_pay9 k0_pay7 k0_pay8 k0_pay6
  revert hs
  generalize k0_pay5 P P2 v36 v51 = Q
  intro hs
  pointwise []
  simp only [hs]
  rfl

/-- The second head. -/
theorem head1 (Q : FVec Ideal S512x512 .bf16) (K V : Vec Ideal S1x256x128 .f32) (r : Fin 512) (d : Fin 128) (s : Fin 256 → EReal)
    (hs : ∀ k, (∑ x : Fin 128, Q (ix2 r ⟨128 + x.val, by omega⟩) * K (ix3 0 k x)) * Ideal.ofBits FTy.f32 1035273459#32 = s k) :
    k0_pay10 Q K V (ix2 r d) = attn s fun k => V (ix3 0 k d) := by
  unfold k0_pay10
  pointwise []
  simp only [hs]
  rfl

/-- The third head. -/
theorem head2 (Q : FVec Ideal S512x512 .bf16) (K V : Vec Ideal S1x256x128 .f32) (r : Fin 512) (d : Fin 128) (s : Fin 256 → EReal)
    (hs : ∀ k, (∑ x : Fin 128, Q (ix2 r ⟨256 + x.val, by omega⟩) * K (ix3 0 k x)) * Ideal.ofBits FTy.f32 1035273459#32 = s k) :
    Ideal.div (∑ k : Fin 256, k0_pay12 Q K (ix2 r k) * k0_pay11 V (ix2 k d)) (k0_pay13 Q K (ix1 r)) = attn s fun k => V (ix3 0 k d) := by
  unfold k0_pay13 k0_pay12 k0_pay11
  pointwise []
  simp only [hs]
  rfl

/-- The fourth head, the heads side by side, and their projection. -/
theorem output (H : FVec Ideal S512x1024 .f32) (Q : FVec Ideal S512x512 .bf16) (A B : FVec Ideal S512x128 .f32) (v103 : FVec Ideal S256x128 .bf16)
    (v112 : FVec Ideal S512x256 .f32) (v113 : FVec Ideal S512 .f32) (K V : Vec Ideal S1x256x128 .f32) (wo : Vec Ideal S512x1024 .bf16) (r : Fin 512) (n : Fin 1024)
    (s : Fin 256 → EReal) (o : Fin 512 → EReal)
    (hA : ∀ d : Fin 128, A (ix2 r d) = o ⟨d.val, by omega⟩) (hB : ∀ d : Fin 128, B (ix2 r d) = o ⟨128 + d.val, by omega⟩)
    (hC : ∀ d : Fin 128, Ideal.div (∑ k : Fin 256, v112 (ix2 r k) * v103 (ix2 k d)) (v113 (ix1 r)) = o ⟨256 + d.val, by omega⟩)
    (hs : ∀ k, (∑ x : Fin 128, Q (ix2 r ⟨384 + x.val, by omega⟩) * K (ix3 0 k x)) * Ideal.ofBits FTy.f32 1035273459#32 = s k)
    (hD : ∀ d : Fin 128, attn s (fun k => V (ix3 0 k d)) = o ⟨384 + d.val, by omega⟩) :
    k0_pay1 H Q A B v103 v112 v113 K V wo (ix3 0 r n) = H (ix2 r n) + ∑ x : Fin 512, o x * wo (ix2 x n) := by
  unfold k0_pay1
  pointwise []
  simp only [hs]
  refine congrArg (H (ix2 r n) + ·) (Finset.sum_congr rfl fun x _ => congrArg (· * wo (ix2 x n)) ?_)
  split_ifs <;> first
    | exact hA _
    | exact (hB ⟨x.val - 128, by omega⟩).trans (congrArg o (Fin.ext (by dsimp only; omega)))
    | exact (hC ⟨x.val - 128 - 128, by omega⟩).trans (congrArg o (Fin.ext (by dsimp only; omega)))
    | exact (hD ⟨x.val - 128 - 128 - 128, by omega⟩).trans (congrArg o (Fin.ext (by dsimp only; omega)))

/-- Every fourth row from row `j` on: the rows of head `j`. -/
theorem strided_k (c : Dev nD) (t : Fin cfg0.N) (j : ℕ) (inb) (k : Fin 256) (d : Fin 128) (b : Fin 8) (h : Fin 4) (hj : h.val = j) (hb : b.val = t.val / 4) :
    View.readAt (Elt Ideal) (ms0_3 t).view { off := ![0, j, 0], size := ![1, 256, 128], stride := ![1, 4, 1], inb := inb } ((hs0_3 t).unread (iblk m c 3 t)) (ix3 0 k d) =
      m ((c : Thread nD τ).loc main_arg3) (ix4 b k h d) := by
  rw [View.readAt_apply, (hs0_3 t).read_unread]
  have hk := k.isLt
  refine Eq.trans (congrArg (iblk m c 3 t) (?_ : _ = ix3 0 ⟨4 * k.val + h.val, by omega⟩ d)) (b_mk m c t _ d b k h hb rfl)
  funext a
  apply Fin.ext
  rw [LoadRect.idx_apply]
  fin_cases a
  · rfl
  · show j + 4 * k.val = 4 * k.val + h.val
    omega
  · show 0 + 1 * d.val = d.val
    omega

theorem strided_v (c : Dev nD) (t : Fin cfg0.N) (j : ℕ) (inb) (k : Fin 256) (d : Fin 128) (b : Fin 8) (h : Fin 4) (hj : h.val = j) (hb : b.val = t.val / 4) :
    View.readAt (Elt Ideal) (ms0_4 t).view { off := ![0, j, 0], size := ![1, 256, 128], stride := ![1, 4, 1], inb := inb } ((hs0_4 t).unread (iblk m c 4 t)) (ix3 0 k d) =
      m ((c : Thread nD τ).loc main_arg4) (ix4 b k h d) := by
  rw [View.readAt_apply, (hs0_4 t).read_unread]
  have hk := k.isLt
  refine Eq.trans (congrArg (iblk m c 4 t) (?_ : _ = ix3 0 ⟨4 * k.val + h.val, by omega⟩ d)) (b_mv m c t _ d b k h hb rfl)
  funext a
  apply Fin.ext
  rw [LoadRect.idx_apply]
  fin_cases a
  · rfl
  · show j + 4 * k.val = 4 * k.val + h.val
    omega
  · show 0 + 1 * d.val = d.val
    omega

/-- The queries of a block. -/
abbrev Q (c : Dev nD) (t : Fin cfg0.N) : FVec Ideal S512x512 .bf16 :=
  k0_pay5 (k0_pay3 (iblk m c 0 t) (iblk m c 1 t) (View.ld (iblk m c 5 t) (Rect.unit ![0, 0] ![512, 1024] inb_S1024x1024_S512x1024_0_0)) (iblk m c 2 t) (View.ld (iblk m c 5 t) (Rect.unit ![512, 0] ![512, 1024] inb_S1024x1024_S512x1024_512_0)) (iblk m c 6 t) (iblk m c 7 t)) (k0_pay4 (iblk m c 0 t) (iblk m c 1 t) (View.ld (iblk m c 5 t) (Rect.unit ![0, 0] ![512, 1024] inb_S1024x1024_S512x1024_0_0)) (iblk m c 2 t) (View.ld (iblk m c 5 t) (Rect.unit ![512, 0] ![512, 1024] inb_S1024x1024_S512x1024_512_0)) (iblk m c 6 t) (iblk m c 7 t))
    (View.ld (iblk m c 8 t) (Rect.unit ![0, 0] ![128, 128] inb_S512x512_S128x128_0_0)) (iblk m c 9 t)

theorem w_lo (c : Dev nD) (t : Fin cfg0.N) (x : Fin 512) (k : Fin 1024) :
    View.ld (iblk m c 5 t) (Rect.unit ![0, 0] ![512, 1024] inb_S1024x1024_S512x1024_0_0) (ix2 x k) = m ((c : Thread nD τ).loc main_arg5) (ix3 0 ⟨x.val, by omega⟩ k) :=
  (View.ld_unit_apply_of _ _ _ _ _ (ix2 ⟨x.val, by omega⟩ k) (by intro a; fin_cases a <;> exact (Nat.zero_add _).symm)).trans (b_wout m c t _ k)

theorem w_hi (c : Dev nD) (t : Fin cfg0.N) (x : Fin 512) (k : Fin 1024) :
    View.ld (iblk m c 5 t) (Rect.unit ![512, 0] ![512, 1024] inb_S1024x1024_S512x1024_512_0) (ix2 x k) = m ((c : Thread nD τ).loc main_arg5) (ix3 0 ⟨512 + x.val, by omega⟩ k) :=
  (View.ld_unit_apply_of _ _ _ _ _ (ix2 ⟨512 + x.val, by omega⟩ k) (by intro a; fin_cases a <;> first | rfl | exact (Nat.zero_add _).symm)).trans (b_wout m c t _ k)

theorem qry (c : Dev nD) (t : Fin cfg0.N) (r : Fin 512) (j : Fin 4) (d : Fin 128) (n : Fin 512) (b : Fin 8) (q : Fin 2048) (hb : b.val = t.val / 4) (hq : q.val = 512 * (t.val % 4) + r.val)
    (hn : n.val = 128 * j.val + d.val) :
    Q m c t (ix2 r n) = val_main_v35 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (ix4 b q j d) := by
  rw [Cert.MidReferenceIdeal.Value.query]
  refine queried (k0_pay3 (iblk m c 0 t) (iblk m c 1 t) (View.ld (iblk m c 5 t) (Rect.unit ![0, 0] ![512, 1024] inb_S1024x1024_S512x1024_0_0)) (iblk m c 2 t) (View.ld (iblk m c 5 t) (Rect.unit ![512, 0] ![512, 1024] inb_S1024x1024_S512x1024_512_0)) (iblk m c 6 t) (iblk m c 7 t)) _ _
    (fun n => val_main_v21 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (ix3 b q n)) (fun d => m ((c : Thread nD τ).loc main_arg8) (ix2 0 d)) r j d n hn
    (fun n => projected m c t r n b q hb hq _ _ (w_lo m c t) (w_hi m c t)) (fun k l => ?_) (b_hgain m c t n d (by omega))
  exact (View.ld_unit_apply_of _ _ _ _ _ (ix2 ⟨k.val, by omega⟩ ⟨l.val, by omega⟩) (by intro a; fin_cases a <;> exact (Nat.zero_add _).symm)).trans (b_gm m c t _ _ k.isLt l.isLt)

open Cert.MidReferenceIdeal.Value (score attention result) in
/-- The output block of a point: the reference's rows. -/
theorem out (c : Dev nD) (hk : ∀ i, Fin' (m ((c : Thread nD τ).loc main_arg3) i)) (hg : ∀ i, Fin' (m ((c : Thread nD τ).loc main_arg8) i))
    (t : Fin cfg0.N) (r : Fin 512) (n : Fin 1024) (b : Fin 8) (q : Fin 2048) (hb : b.val = t.val / 4) (hq : q.val = 512 * (t.val % 4) + r.val) :
    outsAt0 m c t (ix3 0 r n) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 b q n) := by
  have ho : ∀ (j : Fin 4) (d : Fin 128) (x : Fin 512) (f : Fin 256 → EReal), x.val = 128 * j.val + d.val → (∀ k, f k = m ((c : Thread nD τ).loc main_arg4) (ix4 b k j d)) →
      attn (fun k => val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (ix4 b j q k)) f =
      val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 b ⟨x.val / 128, by omega⟩ ⟨x.val % 128, by omega⟩ q) := by
    intro j d x f hx hf
    rw [show f = fun k => m ((c : Thread nD τ).loc main_arg4) (ix4 b k j d) from funext hf,
      ← attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) hk hg q b j d]
    have e1 : j = ⟨x.val / 128, by omega⟩ := Fin.ext (by show j.val = x.val / 128; omega)
    have e2 : d = ⟨x.val % 128, by omega⟩ := Fin.ext (by show d.val = x.val % 128; omega)
    exact congrArg₂ (fun j d => val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 b j d q)) e1 e2
  unfold outsAt0
  frame_out
  rw [result]
  refine (output _ (Q m c t) _ _ _ _ _ _ _ _ r n _ (fun x => val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 b ⟨x.val / 128, by omega⟩ ⟨x.val % 128, by omega⟩ q))
    (fun d => ?_) (fun d => ?_) (fun d => ?_) (fun k => by
      refine Eq.trans ?_ (score (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) q b 3 k).symm
      refine congrArg (· * _) (Finset.sum_congr rfl fun x _ => congrArg₂ (· * ·) (qry m c t r 3 x _ b q hb hq (by first | rfl | (dsimp only; omega) | (show _ = 128 * 3 + x.val; omega))) ?_)
      exact strided_k m c t 3 _ k x b 3 rfl hb) (fun d => ?_)).trans (congrArg₂ (· + ·) ?_ (Finset.sum_congr rfl fun x _ => congrArg (_ * ·) (b_wo m c t x n)))
  · refine (head0 _ _ _ _ _ _ r d _ (fun k => by
      refine Eq.trans ?_ (score (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) q b 0 k).symm
      refine congrArg (· * _) (Finset.sum_congr rfl fun x _ => congrArg₂ (· * ·) (qry m c t r 0 x _ b q hb hq (by first | rfl | (dsimp only; omega) | (show _ = 128 * 0 + x.val; omega))) ?_)
      exact strided_k m c t 0 _ k x b 0 rfl hb)).trans (ho 0 d _ _ (by show d.val = 128 * 0 + d.val; omega) fun k => strided_v m c t 0 _ k d b 0 rfl hb)
  · refine (head1 (Q m c t) _ _ r d _ (fun k => by
      refine Eq.trans ?_ (score (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) q b 1 k).symm
      refine congrArg (· * _) (Finset.sum_congr rfl fun x _ => congrArg₂ (· * ·) (qry m c t r 1 x _ b q hb hq (by first | rfl | (dsimp only; omega) | (show _ = 128 * 1 + x.val; omega))) ?_)
      exact strided_k m c t 1 _ k x b 1 rfl hb)).trans (ho 1 d _ _ (by show 128 + d.val = 128 * 1 + d.val; omega) fun k => strided_v m c t 1 _ k d b 1 rfl hb)
  · refine (head2 (Q m c t) _ _ r d _ (fun k => by
      refine Eq.trans ?_ (score (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) q b 2 k).symm
      refine congrArg (· * _) (Finset.sum_congr rfl fun x _ => congrArg₂ (· * ·) (qry m c t r 2 x _ b q hb hq (by first | rfl | (dsimp only; omega) | (show _ = 128 * 2 + x.val; omega))) ?_)
      exact strided_k m c t 2 _ k x b 2 rfl hb)).trans (ho 2 d _ _ (by show 256 + d.val = 128 * 2 + d.val; omega) fun k => strided_v m c t 2 _ k d b 2 rfl hb)
  · exact ho 3 d _ _ (by show 384 + d.val = 128 * 3 + d.val; omega) fun k => strided_v m c t 3 _ k d b 3 rfl hb
  · exact hidden m c t r n b q hb hq _ _ (w_lo m c t) (w_hi m c t)

/-- The result as the reference reads it: the residual stream after the memory attention. -/
abbrev Y (c : Dev nD) : FVec Ideal Cert.MidReferenceIdeal.S8x2048x1024 .f32 :=
  val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The output array at the end of the grid. -/
theorem final_out (c : Dev nD) (hk : ∀ i, Fin' (m ((c : Thread nD τ).loc main_arg3) i)) (hg : ∀ i, Fin' (m ((c : Thread nD τ).loc main_arg8) i)) :
    (dats m 0 c).arrAt 11 cfg0.N = Y m c := by
  refine (dats m 0 c).arrAt_eq_of_covers 11 _ (by decide +kernel) fun t hf y => ?_
  have ht := (idx t).2.2.2.2.2.2.2.2.2.2.2.2
  have hy1 : (y 1).val < 512 := (y 1).isLt
  have hy : y = (ix3 0 ⟨(y 1).val, hy1⟩ ⟨(y 2).val, (y 2).isLt⟩ : S1x512x1024.Idx) := by
    funext a; fin_cases a
    · exact Fin.ext (Nat.lt_one_iff.mp (y 0).isLt)
    · rfl
    · rfl
  generalize (⟨(y 1).val, hy1⟩ : Fin 512) = r at hy
  generalize (⟨(y 2).val, (y 2).isLt⟩ : Fin 1024) = k at hy
  subst hy
  blk_simp
  rw [after0_11]
  refine (out m c hk hg t r k ⟨t.val / 4, by omega⟩ ⟨512 * (t.val % 4) + r.val, by omega⟩ rfl rfl).trans (congrArg (Y m c) ?_)
  blk_ext [idx t]

/-- The precondition at an element: its absolute value is below infinity. -/
theorem fin_of_lt (x : EReal) (h : Ideal.cmp .olt (max x (-x)) (Ideal.ofBits FTy.f32 2139095040#32) = 1#1) : Fin' x := by
  have ht : Ideal.ofBits FTy.f32 2139095040#32 = (⊤ : EReal) := by simp [Ideal.ofBits, Ideal.ieee]
  rw [ht] at h
  induction x using EReal.rec with
  | coe r => exact ⟨r, rfl⟩
  | bot => simp [Ideal.cmp] at h
  | top => simp [Ideal.cmp] at h

theorem pre_facts : Cert.Pre_finite_keys.Facts := ⟨by decide, by decide⟩

theorem keys_fin [Cert.Pre_finite_keys.Facts] x0 x1 x2 x3 x4 x5 x6 x7 x8 x9
    (h : (Cert.Pre_finite_keys.fn (F := Ideal) x0 x1 x2 x3 x4 x5 x6 x7 x8 x9).1 = fun _ => 1#1) (i) : Fin' (x3 i) := by
  exact fin_of_lt _ (congrFun h i)

theorem gain_fin [Cert.Pre_finite_keys.Facts] x0 x1 x2 x3 x4 x5 x6 x7 x8 x9
    (h : (Cert.Pre_finite_keys.fn (F := Ideal) x0 x1 x2 x3 x4 x5 x6 x7 x8 x9).2 = fun _ => 1#1) (i) : Fin' (x8 i) := by
  exact fin_of_lt _ (congrFun h i)

/-- The kernel's run: the result is the reference's term over the arguments, which it leaves alone. -/
theorem run (g : Dev nD → PrngReg) (hk : ∀ c : Dev nD, ∀ i, Fin' (m ((c : Thread nD τ).loc main_arg3) i)) (hg : ∀ c : Dev nD, ∀ i, Fin' (m ((c : Thread nD τ).loc main_arg8) i)) :
    θ_run defs (onTc (τ := τ) (main (F := Ideal))) ⟨m, fun _ => 0, g⟩ fun r => ∀ c : Dev nD,
      r.2.mem ((c.tc : Thread nD τ).loc main_v24) = Y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(Pipeline.FramePost.out_eq h.1 c 11).trans (final_out m c (hk c) (hg c)), h.2.1 c⟩)
    (θ_run_and (run_main m g) (frame m g))

end Cert.MidIdeal.Value
-- ==== Proof.MidSampleHost.lean ====
module

public import proofs.«01_k».proof.Proof.MidMath
public import proofs.«01_k».proof.Proof.MemKvValue
public import proofs.«01_k».proof.Proof.Gen.MidSampleIdeal.Frame
public import proofs.«01_k».proof.Proof.Gen.MidSampleReferenceIdeal.Read
public import Idealize.ShloMosaic.Lib.Pipeline.ValueKit
public import Idealize.ShloMosaic.Lib.Pipeline.ReadBack
public import Idealize.ShloMosaic.Lib.StableHlo.ReadAt
set_option maxRecDepth 16384
set_option maxHeartbeats 1000000
@[expose] public section

noncomputable section
open Idealize.ShloMosaic Idealize.ShloMosaic.TcCoe Idealize.SL.Sem
open Idealize.ShloMosaic.Pipeline (Dat)
namespace Cert.MidSampleIdeal.Value
open Cert.MidSampleIdeal Cert.MidSampleIdeal.Gen
open Cert.MidSampleReferenceIdeal.Read
variable (m : (ℓ : Loc nD τ sig) → Buf (Elt Ideal) ℓ)

/-- Eight sequences a point; the weights are whole arrays. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0, 0] ∧ t.val < 4 :=
  (by decide +kernel : ∀ t : Fin grid0.N, _)

theorem at5 {T : Type} (x : S1x32x256x4x128.Idx → T) {a a' : Fin 1} {b b' : Fin 32} {c c' : Fin 256} {d d' : Fin 4} {e e' : Fin 128}
    (hb : b.val = b'.val) (hc : c.val = c'.val) (hd : d.val = d'.val) (he : e.val = e'.val) : x (ix5 a b c d e) = x (ix5 a' b' c' d' e') := by
  rw [Subsingleton.elim a a', Fin.ext hb, Fin.ext hc, Fin.ext hd, Fin.ext he]

theorem V_gain (c : Dev nD) (i : S1x1024.Idx) : V m c main_v8 i = m ((c : Thread nD τ).loc main_arg6) (ix2 0 (i 1)) := by
  show StableHlo.after (List.flatten [hostOps0, hostOps0_1, hostOps0_2, hostOps0_3, hostOps0_4, hostOps0_5, hostOps0_6, hostOps0_7, hostOps0_8, hostOps0_9, hostOps0_10]) _ (Proc.devRef .tc main_v8) i = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at

theorem V_wout (c : Dev nD) (k n : Fin 1024) : V m c main_v2 (ix2 k n) = m ((c : Thread nD τ).loc main_arg5) (ix3 0 k n) := by
  show StableHlo.after (List.flatten [hostOps0, hostOps0_1, hostOps0_2, hostOps0_3, hostOps0_4, hostOps0_5, hostOps0_6, hostOps0_7, hostOps0_8, hostOps0_9, hostOps0_10]) _ (Proc.devRef .tc main_v2) (ix2 k n) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at

theorem V_wq (c : Dev nD) (k : Fin 1024) (n : Fin 512) : V m c main_v4 (ix2 k n) = m ((c : Thread nD τ).loc main_arg7) (ix3 0 k n) := by
  show StableHlo.after (List.flatten [hostOps0, hostOps0_1, hostOps0_2, hostOps0_3, hostOps0_4, hostOps0_5, hostOps0_6, hostOps0_7, hostOps0_8, hostOps0_9, hostOps0_10]) _ (Proc.devRef .tc main_v4) (ix2 k n) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at

theorem V_wo (c : Dev nD) (k : Fin 512) (n : Fin 1024) : V m c main_v6 (ix2 k n) = m ((c : Thread nD τ).loc main_arg9) (ix3 0 k n) := by
  show StableHlo.after (List.flatten [hostOps0, hostOps0_1, hostOps0_2, hostOps0_3, hostOps0_4, hostOps0_5, hostOps0_6, hostOps0_7, hostOps0_8, hostOps0_9, hostOps0_10]) _ (Proc.devRef .tc main_v6) (ix2 k n) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at

/-- Row `4 k + h` of the keys holds token `k` of head `h`. -/
theorem V_mk (c : Dev nD) (b : Fin 32) (r : Fin 1024) (d : Fin 128) (k : Fin 256) (h : Fin 4) (hr : r.val = 4 * k.val + h.val) :
    V m c main_v26 (ix3 b r d) = m ((c : Thread nD τ).loc main_arg3) (ix5 0 b k h d) := by
  show StableHlo.after (List.flatten [hostOps0, hostOps0_1, hostOps0_2, hostOps0_3, hostOps0_4, hostOps0_5, hostOps0_6, hostOps0_7, hostOps0_8, hostOps0_9, hostOps0_10]) _ (Proc.devRef .tc main_v26) (ix3 b r d) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at
  exact at5 _ (by first | rfl | (dsimp only; omega)) (by dsimp only; omega) (by dsimp only; omega) (by first | rfl | (dsimp only; omega))

/-- Row `4 k + h` of the values holds token `k` of head `h`. -/
theorem V_mv (c : Dev nD) (b : Fin 32) (r : Fin 1024) (d : Fin 128) (k : Fin 256) (h : Fin 4) (hr : r.val = 4 * k.val + h.val) :
    V m c main_v28 (ix3 b r d) = m ((c : Thread nD τ).loc main_arg4) (ix5 0 b k h d) := by
  show StableHlo.after (List.flatten [hostOps0, hostOps0_1, hostOps0_2, hostOps0_3, hostOps0_4, hostOps0_5, hostOps0_6, hostOps0_7, hostOps0_8, hostOps0_9, hostOps0_10]) _ (Proc.devRef .tc main_v28) (ix3 b r d) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at
  exact at5 _ (by first | rfl | (dsimp only; omega)) (by dsimp only; omega) (by dsimp only; omega) (by first | rfl | (dsimp only; omega))

/-- The gain tiled over the four heads of the queries. -/
theorem V_hgain (c : Dev nD) (n : Fin 512) (d : Fin 128) (hd : n.val % 128 = d.val) :
    V m c main_v22 (ix2 0 n) = m ((c : Thread nD τ).loc main_arg8) (ix2 0 d) := by
  show StableHlo.after (List.flatten [hostOps0, hostOps0_1, hostOps0_2, hostOps0_3, hostOps0_4, hostOps0_5, hostOps0_6, hostOps0_7, hostOps0_8, hostOps0_9, hostOps0_10]) _ (Proc.devRef .tc main_v22) (ix2 0 n) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at
  exact congrArg _ (congrArg (ix2 0) (Fin.ext hd))

/-- The first block of the mean matrix is constant. -/
theorem V_gm (c : Dev nD) (k l : Fin 512) (hk : k.val < 128) (hl : l.val < 128) :
    V m c main_v17 (ix2 k l) = ((1 / 128 : ℝ) : EReal) := by
  show StableHlo.after (List.flatten [hostOps0, hostOps0_1, hostOps0_2, hostOps0_3, hostOps0_4, hostOps0_5, hostOps0_6, hostOps0_7, hostOps0_8, hostOps0_9, hostOps0_10]) _ (Proc.devRef .tc main_v17) (ix2 k l) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at
  have h1 := Cert.MemKvIdeal.Value.floordiv k
  have h2 := Cert.MemKvIdeal.Value.floordiv l
  refine (congrArg₂ (fun a b => Scalar.select (IntOp.cmpi CmpIPredicate.eq a b) (Ideal.ofBits FTy.f32 1006632960#32) (0 : EReal)) h1 h2).trans ?_
  beta_reduce
  rw [Cert.MemKvIdeal.Value.inv128, Nat.div_eq_of_lt hk, Nat.div_eq_of_lt hl]
  simp [IntOp.cmpi, Scalar.select]

theorem V_x (c : Dev nD) (b : Fin 32) (r : Fin 8) (k : Fin 1024) (q : Fin 4) (h : r.val = q.val) :
    V m c main_v0 (ix3 b r k) = m ((c : Thread nD τ).loc main_arg0) (ix3 b q k) := by
  show StableHlo.after (List.flatten [hostOps0, hostOps0_1, hostOps0_2, hostOps0_3, hostOps0_4, hostOps0_5, hostOps0_6, hostOps0_7, hostOps0_8, hostOps0_9, hostOps0_10]) _ (Proc.devRef .tc main_v0) (ix3 b r k) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at
  rw [dif_pos (by omega)]
  exact congrArg _ (congrArg (fun q => ix3 b q k) (Fin.ext h))

theorem V_ma (c : Dev nD) (b : Fin 32) (r : Fin 8) (k : Fin 512) (q : Fin 4) (h : r.val = q.val) :
    V m c main_v23 (ix3 b r k) = m ((c : Thread nD τ).loc main_arg1) (ix3 b q k) := by
  show StableHlo.after (List.flatten [hostOps0, hostOps0_1, hostOps0_2, hostOps0_3, hostOps0_4, hostOps0_5, hostOps0_6, hostOps0_7, hostOps0_8, hostOps0_9, hostOps0_10]) _ (Proc.devRef .tc main_v23) (ix3 b r k) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at
  rw [dif_pos (by omega)]
  exact congrArg _ (congrArg (fun q => ix3 b q k) (Fin.ext h))

theorem V_mb (c : Dev nD) (b : Fin 32) (r : Fin 8) (k : Fin 512) (q : Fin 4) (h : r.val = q.val) :
    V m c main_v24 (ix3 b r k) = m ((c : Thread nD τ).loc main_arg2) (ix3 b q k) := by
  show StableHlo.after (List.flatten [hostOps0, hostOps0_1, hostOps0_2, hostOps0_3, hostOps0_4, hostOps0_5, hostOps0_6, hostOps0_7, hostOps0_8, hostOps0_9, hostOps0_10]) _ (Proc.devRef .tc main_v24) (ix3 b r k) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at
  rw [dif_pos (by omega)]
  exact congrArg _ (congrArg (fun q => ix3 b q k) (Fin.ext h))

theorem b_x (c : Dev nD) (t : Fin cfg0.N) (g r : Fin 8) (k : Fin 1024) (b : Fin 32) (q : Fin 4) (hb : b.val = 8 * t.val + g.val) (hr : r.val = q.val) :
    iblk m c 0 t (ix3 g r k) = m ((c : Thread nD τ).loc main_arg0) (ix3 b q k) := by
  show V m c main_v0 ((win0_0.blk t).view.emb (ix3 g r k)) = _
  rw [← V_x m c b r k q hr]; blk_ext [idx t]

theorem b_ma (c : Dev nD) (t : Fin cfg0.N) (g r : Fin 8) (k : Fin 512) (b : Fin 32) (q : Fin 4) (hb : b.val = 8 * t.val + g.val) (hr : r.val = q.val) :
    iblk m c 1 t (ix3 g r k) = m ((c : Thread nD τ).loc main_arg1) (ix3 b q k) := by
  show V m c main_v23 ((win0_1.blk t).view.emb (ix3 g r k)) = _
  rw [← V_ma m c b r k q hr]; blk_ext [idx t]

theorem b_mb (c : Dev nD) (t : Fin cfg0.N) (g r : Fin 8) (k : Fin 512) (b : Fin 32) (q : Fin 4) (hb : b.val = 8 * t.val + g.val) (hr : r.val = q.val) :
    iblk m c 2 t (ix3 g r k) = m ((c : Thread nD τ).loc main_arg2) (ix3 b q k) := by
  show V m c main_v24 ((win0_2.blk t).view.emb (ix3 g r k)) = _
  rw [← V_mb m c b r k q hr]; blk_ext [idx t]

theorem b_mk (c : Dev nD) (t : Fin cfg0.N) (g : Fin 8) (r : Fin 1024) (d : Fin 128) (b : Fin 32) (k : Fin 256) (h : Fin 4) (hb : b.val = 8 * t.val + g.val) (hr : r.val = 4 * k.val + h.val) :
    iblk m c 3 t (ix3 g r d) = m ((c : Thread nD τ).loc main_arg3) (ix5 0 b k h d) := by
  show V m c main_v26 ((win0_3.blk t).view.emb (ix3 g r d)) = _
  rw [← V_mk m c b r d k h hr]; blk_ext [idx t]

theorem b_mv (c : Dev nD) (t : Fin cfg0.N) (g : Fin 8) (r : Fin 1024) (d : Fin 128) (b : Fin 32) (k : Fin 256) (h : Fin 4) (hb : b.val = 8 * t.val + g.val) (hr : r.val = 4 * k.val + h.val) :
    iblk m c 4 t (ix3 g r d) = m ((c : Thread nD τ).loc main_arg4) (ix5 0 b k h d) := by
  show V m c main_v28 ((win0_4.blk t).view.emb (ix3 g r d)) = _
  rw [← V_mv m c b r d k h hr]; blk_ext [idx t]

theorem b_wout (c : Dev nD) (t : Fin cfg0.N) (k n : Fin 1024) : iblk m c 5 t (ix2 k n) = m ((c : Thread nD τ).loc main_arg5) (ix3 0 k n) := by
  show V m c main_v2 ((win0_5.blk t).view.emb (ix2 k n)) = _
  rw [← V_wout m c k n]; blk_ext [idx t]

theorem b_gain (c : Dev nD) (t : Fin cfg0.N) (k : Fin 1024) : iblk m c 6 t (ix2 0 k) = m ((c : Thread nD τ).loc main_arg6) (ix2 0 k) := by
  show V m c main_v8 ((win0_6.blk t).view.emb (ix2 0 k)) = _
  rw [V_gain]; blk_ext [idx t]

theorem b_wq (c : Dev nD) (t : Fin cfg0.N) (k : Fin 1024) (n : Fin 512) : iblk m c 7 t (ix2 k n) = m ((c : Thread nD τ).loc main_arg7) (ix3 0 k n) := by
  show V m c main_v4 ((win0_7.blk t).view.emb (ix2 k n)) = _
  rw [← V_wq m c k n]; blk_ext [idx t]

theorem b_gm (c : Dev nD) (t : Fin cfg0.N) (k l : Fin 512) (hk : k.val < 128) (hl : l.val < 128) :
    iblk m c 8 t (ix2 k l) = ((1 / 128 : ℝ) : EReal) := by
  show V m c main_v17 ((win0_8.blk t).view.emb (ix2 k l)) = _
  rw [← V_gm m c k l hk hl]; blk_ext [idx t]

theorem b_hgain (c : Dev nD) (t : Fin cfg0.N) (n : Fin 512) (d : Fin 128) (hd : n.val % 128 = d.val) :
    iblk m c 9 t (ix2 0 n) = m ((c : Thread nD τ).loc main_arg8) (ix2 0 d) := by
  show V m c main_v22 ((win0_9.blk t).view.emb (ix2 0 n)) = _
  rw [← V_hgain m c n d hd]; blk_ext [idx t]

theorem b_wo (c : Dev nD) (t : Fin cfg0.N) (k : Fin 512) (n : Fin 1024) : iblk m c 10 t (ix2 k n) = m ((c : Thread nD τ).loc main_arg9) (ix3 0 k n) := by
  show V m c main_v6 ((win0_10.blk t).view.emb (ix2 k n)) = _
  rw [← V_wo m c k n]; blk_ext [idx t]

end Cert.MidSampleIdeal.Value
-- ==== Proof.MidSampleRef.lean ====
module

public import proofs.«01_k».proof.Proof.MidMath
public import proofs.«01_k».proof.Proof.MemKvValue
public import proofs.«01_k».proof.Proof.Gen.MidSampleReferenceIdeal.Read
set_option maxRecDepth 16384
set_option maxHeartbeats 400000
@[expose] public section

noncomputable section
open Idealize.ShloMosaic Idealize.ShloMosaic.TcCoe Idealize.SL.Sem
open Idealize.ShloMosaic.Pipeline (Dat)
namespace Cert.MidSampleReferenceIdeal.Value
open Cert.MidSampleReferenceIdeal Cert.MidSampleReferenceIdeal.Facts₀ Cert.MidSampleReferenceIdeal.Facts
open Cert.MidSampleReferenceIdeal.Read
open Cert.MidMath
variable (x0 : FVec Ideal S32x4x1024 .f32) (x1 x2 : FVec Ideal S32x4x512 .f32) (x3 x4 : FVec Ideal S1x32x256x4x128 .f32)
  (x5 : FVec Ideal S1x1024x1024 .f32) (x6 : FVec Ideal S1x1024 .f32) (x7 : FVec Ideal S1x1024x512 .f32) (x8 : FVec Ideal S1x128 .f32)
  (x9 : FVec Ideal S1x512x1024 .f32)

/-- The query of a token and head: divided by its root mean square and multiplied by the gain. -/
theorem query (q : Fin 4) (b : Fin 32) (h : Fin 4) (d : Fin 128) : val_main_v37 (F := Ideal) x0 x1 x2 x5 x6 x7 x8 (ix4 b q h d) =
    val_main_v23 (F := Ideal) x0 x1 x2 x5 x6 x7 (ix3 b q ⟨h.val * 128 + d.val, by omega⟩) *
        Ideal.rsqrt
          (Ideal.div
              (∑ x : Fin 128,
                val_main_v23 (F := Ideal) x0 x1 x2 x5 x6 x7 (ix3 b q ⟨h.val * 128 + x.val, by omega⟩) *
                  val_main_v23 (F := Ideal) x0 x1 x2 x5 x6 x7 (ix3 b q ⟨h.val * 128 + x.val, by omega⟩))
              (Ideal.ofBits FTy.f32 1124073472#32) +
            Ideal.ofBits FTy.f32 897988541#32) *
      x8 (ix2 0 d) := by
  pointwise [val_main_v37, val_main_v36, val_main_v35, val_main_v34, val_main_v33, val_main_v32, val_main_v31, val_main_v30, val_main_v29, val_main_v28, val_main_v27, val_main_v26, val_main_v25, val_main_v24, val_main_v19, val_main_cst_2, val_main_cst_3, val_main_cst_4]

/-- A scaled score. -/
theorem score (q : Fin 4) (b : Fin 32) (h : Fin 4) (k : Fin 256) : val_main_v40 (F := Ideal) x0 x1 x2 x3 x5 x6 x7 x8 (ix4 b h q k) =
    (∑ x : Fin 128, val_main_v37 (F := Ideal) x0 x1 x2 x5 x6 x7 x8 (ix4 b q h x) * x3 (ix5 0 b k h x)) * Ideal.ofBits FTy.f32 1035273459#32 := by
  pointwise [val_main_v40, val_main_v39, val_main_v38, val_main_v20, val_main_cst_6, val_main_cst_5]

theorem eps : ∃ e : ℝ, 0 < e ∧ Ideal.ofBits FTy.f32 897988541#32 = (e : EReal) := by
  refine ⟨_, ?_, by simp [Ideal.ofBits, Ideal.ieee, -EReal.coe_mul]; rfl⟩
  norm_num

theorem scale_fin : Fin' (Ideal.ofBits FTy.f32 1035273459#32) :=
  ⟨_, by simp [Ideal.ofBits, Ideal.ieee, -EReal.coe_mul]; rfl⟩

/-- Over finite keys and a finite gain every score is finite. -/
theorem score_fin (hk : ∀ i, Fin' (x3 i)) (hg : ∀ i, Fin' (x8 i)) (q : Fin 4) (b : Fin 32) (h : Fin 4) (k : Fin 256) :
    Fin' (val_main_v40 (F := Ideal) x0 x1 x2 x3 x5 x6 x7 x8 (ix4 b h q k)) := by
  rw [score]
  refine (Fin'.sum _ _ fun x _ => Fin'.mul ?_ (hk _)).mul scale_fin
  rw [query, Cert.MemKvIdeal.Value.c128]
  obtain ⟨e, he, h'⟩ := eps
  rw [h']
  exact (normed (fun d : Fin 128 => val_main_v23 (F := Ideal) x0 x1 x2 x5 x6 x7 (ix3 b q ⟨h.val * 128 + d.val, by omega⟩)) x 128 e (by norm_num) he).mul (hg _)

/-- A maximum over the last axis. -/
theorem rowmax (y : FVec Ideal S32x4x4x256 .f32) (b : Fin 32) (h : Fin 4) (q : Fin 4) :
    Host.reduce FloatOps.maximumf y (val_main_cst_6 (F := Ideal)) reducesTo_S32x4x4x256_S32x4x4_d3 h_S_ (ix3 b h q) =
      Finset.univ.fold max (Ideal.ofBits FTy.f32 4286578688#32) fun k : Fin 256 => y (ix4 b h q k) := by
  unfold val_main_cst_6
  clean_types
  pointwise []

/-- The maximum under the exponentials. -/
theorem top (b : Fin 32) (h : Fin 4) (q : Fin 4) (k : Fin 256) :
    val_main_v45 (F := Ideal) x0 x1 x2 x3 x5 x6 x7 x8 (ix4 b h q k) =
      max (Ideal.ofBits FTy.f32 4286578688#32) (Finset.univ.fold max (Ideal.ofBits FTy.f32 4286578688#32) fun k : Fin 256 => val_main_v40 (F := Ideal) x0 x1 x2 x3 x5 x6 x7 x8 (ix4 b h q k)) := by
  rw [val_main_v45_apply, val_main_v44_apply, val_main_v43_apply]
  refine congrArg₂ max rfl ?_
  exact (congrArg (val_main_v41 (F := Ideal) x0 x1 x2 x3 x5 x6 x7 x8) (show _ = ix3 b h q by funext a; fin_cases a <;> rfl)).trans (rowmax _ b h q)

theorem weight (b : Fin 32) (h : Fin 4) (q : Fin 4) (k : Fin 256) :
    val_main_v47 (F := Ideal) x0 x1 x2 x3 x5 x6 x7 x8 (ix4 b h q k) = Ideal.exp (val_main_v40 (F := Ideal) x0 x1 x2 x3 x5 x6 x7 x8 (ix4 b h q k) -
      max (Ideal.ofBits FTy.f32 4286578688#32) (Finset.univ.fold max (Ideal.ofBits FTy.f32 4286578688#32) fun k : Fin 256 => val_main_v40 (F := Ideal) x0 x1 x2 x3 x5 x6 x7 x8 (ix4 b h q k))) := by
  rw [val_main_v47_apply, val_main_v46_apply, top]
  rfl

theorem total (b : Fin 32) (h : Fin 4) (q : Fin 4) (k : Fin 256) :
    val_main_v50 (F := Ideal) x0 x1 x2 x3 x5 x6 x7 x8 (ix4 b h q k) = ∑ k : Fin 256, val_main_v47 (F := Ideal) x0 x1 x2 x3 x5 x6 x7 x8 (ix4 b h q k) := by
  rw [val_main_v50_apply, val_main_v49_apply, val_main_v48_apply]
  have h0 : val_main_cst_8 (F := Ideal) (Shape.Idx.first h_S_) = 0 := by pointwise [val_main_cst_8]
  rw [h0, zero_add]
  exact Finset.sum_congr rfl fun k _ => congrArg _ (by funext a; fin_cases a <;> rfl)

/-- The values of a head. -/
theorem vals (b : Fin 32) (k : Fin 256) (h : Fin 4) (d : Fin 128) : val_main_v21 (F := Ideal) x4 (ix4 b k h d) = x4 (ix5 0 b k h d) := by
  pointwise [val_main_v21]

/-- The attention of a token and head. -/
theorem attention (hk : ∀ i, Fin' (x3 i)) (hg : ∀ i, Fin' (x8 i)) (q : Fin 4) (b : Fin 32) (h : Fin 4) (d : Fin 128) :
    val_main_v52 (F := Ideal) x0 x1 x2 x3 x4 x5 x6 x7 x8 (ix4 b h d q) =
      attn (fun k => val_main_v40 (F := Ideal) x0 x1 x2 x3 x5 x6 x7 x8 (ix4 b h q k)) (fun k => x4 (ix5 0 b k h d)) := by
  rw [← attn_eq _ _ fun k => score_fin x0 x1 x2 x3 x5 x6 x7 x8 hk hg q b h k, val_main_v52_apply]
  refine Finset.sum_congr rfl fun k _ => congrArg₂ (· * ·) ((congrArg (val_main_v21 (F := Ideal) x4) (show _ = ix4 b k h d by funext a; fin_cases a <;> rfl)).trans (vals x4 b k h d)) ?_
  rw [show ridx_main_v52 (ix4 b h d q) k = ix4 b h q k by funext a; fin_cases a <;> rfl, val_main_v51_apply, total, weight]
  exact congrArg (Ideal.div _) (Finset.sum_congr rfl fun k _ => weight x0 x1 x2 x3 x5 x6 x7 x8 b h q k)

/-- The result: the residual stream and the projected attention. -/
theorem result (q : Fin 4) (b : Fin 32) (n : Fin 1024) : val_main_v56 (F := Ideal) x0 x1 x2 x3 x4 x5 x6 x7 x8 x9 (ix3 b q n) =
    val_main_v3 (F := Ideal) x0 x1 x2 x5 (ix3 b q n) + ∑ x : Fin 512, val_main_v52 (F := Ideal) x0 x1 x2 x3 x4 x5 x6 x7 x8
      (ix4 b ⟨x.val / 128, by omega⟩ ⟨x.val % 128, by omega⟩ q) * x9 (ix3 0 x n) := by
  rw [val_main_v56_apply, val_main_v55_apply]
  refine congrArg₂ (· + ·) rfl (Finset.sum_congr rfl fun x _ => congrArg₂ (· * ·) ?_ (by pointwise [val_main_v22]; rfl))
  rw [val_main_v54_apply, val_main_v53_apply]
  have hb := b.isLt
  have hq := q.isLt
  have hx := x.isLt
  refine congrArg _ (by
    funext a; fin_cases a
    · exact Fin.ext (by show ((b.val * 4 + q.val) * 512 + x.val) / 2048 = b.val; omega)
    · exact Fin.ext (by show ((b.val * 4 + q.val) * 512 + x.val) / 128 % 4 = x.val / 128; omega)
    · exact Fin.ext (by show ((b.val * 4 + q.val) * 512 + x.val) % 128 = x.val % 128; omega)
    · exact Fin.ext (by show ((b.val * 4 + q.val) * 512 + x.val) / 512 % 4 = q.val; omega))

end Cert.MidSampleReferenceIdeal.Value
-- ==== Proof.MidSampleValue.lean ====
module

public import proofs.«01_k».proof.Proof.MidSampleHost
public import proofs.«01_k».proof.Proof.MidValue
public import proofs.«01_k».proof.Proof.MidSampleRef
public import proofs.«01_k».proof.Pre_finite_cache_keys
set_option maxRecDepth 16384
set_option maxHeartbeats 1000000
@[expose] public section

noncomputable section
open Idealize.ShloMosaic Idealize.ShloMosaic.TcCoe Idealize.SL.Sem
open Idealize.ShloMosaic.Pipeline (Dat)
namespace Cert.MidSampleIdeal.Value
open Cert.MidSampleIdeal Cert.MidSampleIdeal.Gen
open Cert.MidSampleReferenceIdeal.Read
open Cert.MidMath
variable (m : (ℓ : Loc nD τ sig) → Buf (Elt Ideal) ℓ)

/-- The residual stream of a token. -/
theorem hidden (c : Dev nD) (t : Fin cfg0.N) (g r : Fin 8) (R : Fin 64) (k : Fin 1024) (b : Fin 32) (q : Fin 4) (hR : R.val = 8 * g.val + r.val) (hb : b.val = 8 * t.val + g.val) (hr : r.val = q.val) (v7 v15 : Vec Ideal S512x1024 .bf16)
    (h7 : ∀ (x : Fin 512) (k : Fin 1024), v7 (ix2 x k) = m ((c : Thread nD τ).loc main_arg5) (ix3 0 ⟨x.val, by omega⟩ k))
    (h15 : ∀ (x : Fin 512) (k : Fin 1024), v15 (ix2 x k) = m ((c : Thread nD τ).loc main_arg5) (ix3 0 ⟨512 + x.val, by omega⟩ k)) :
    k0_pay1 (iblk m c 0 t) (iblk m c 1 t) v7 (iblk m c 2 t) v15 (ix2 R k) =
      val_main_v3 (F := Ideal) (m ((c : Thread nD τ).loc main_arg0)) (m ((c : Thread nD τ).loc main_arg1)) (m ((c : Thread nD τ).loc main_arg2)) (m ((c : Thread nD τ).loc main_arg5)) (ix3 b q k) := by
  unfold k0_pay1
  pointwise [val_main_v3, val_main_v2, val_main_v1, val_main_v0]
  rw [add_assoc]
  have e8 : R.val / 8 = g.val := by omega
  have e8' : R.val % 8 = r.val := by omega
  rw [b_x m c t _ _ k b q (hb.trans (by dsimp only; omega)) (by dsimp only; omega)]
  refine congrArg₂ (· + ·) rfl (congrArg₂ (· + ·) (Finset.sum_congr rfl fun x _ => congrArg₂ (· * ·) ?_ (h7 x k)) (Finset.sum_congr rfl fun x _ => congrArg₂ (· * ·) ?_ (h15 x k)))
  · exact b_ma m c t _ _ x b q (hb.trans (by dsimp only; omega)) (by dsimp only; omega)
  · exact b_mb m c t _ _ x b q (hb.trans (by dsimp only; omega)) (by dsimp only; omega)

/-- The query of a token before its norm. -/
theorem projected (c : Dev nD) (t : Fin cfg0.N) (g r : Fin 8) (R : Fin 64) (n : Fin 512) (b : Fin 32) (q : Fin 4) (hR : R.val = 8 * g.val + r.val) (hb : b.val = 8 * t.val + g.val) (hr : r.val = q.val) (v7 v15 : Vec Ideal S512x1024 .bf16)
    (h7 : ∀ (x : Fin 512) (k : Fin 1024), v7 (ix2 x k) = m ((c : Thread nD τ).loc main_arg5) (ix3 0 ⟨x.val, by omega⟩ k))
    (h15 : ∀ (x : Fin 512) (k : Fin 1024), v15 (ix2 x k) = m ((c : Thread nD τ).loc main_arg5) (ix3 0 ⟨512 + x.val, by omega⟩ k)) :
    ∑ k : Fin 1024, k0_pay2 (iblk m c 0 t) (iblk m c 1 t) v7 (iblk m c 2 t) v15 (iblk m c 6 t) (ix2 R k) * k0_pay3 (F := Ideal) (iblk m c 7 t) (ix2 k n) =
      val_main_v23 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (ix3 b q n) := by
  have hH := fun k => hidden m c t g r R k b q hR hb hr v7 v15 h7 h15
  unfold k0_pay2 k0_pay3
  revert hH
  generalize k0_pay1 (iblk m c 0 t) (iblk m c 1 t) v7 (iblk m c 2 t) v15 = H
  intro hH
  pointwise [val_main_v23, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  simp only [hH, b_gain, b_wq]

/-- The query of a token and head. -/
theorem queried (v33 : FVec Ideal S64x1024 .bf16) (v35 : FVec Ideal S1024x512 .bf16) (v39 : Vec Ideal S128x128 .bf16) (v54 : Vec Ideal S1x512 .f32) (p : Fin 512 → EReal) (g : Fin 128 → EReal)
    (r : Fin 64) (j : Fin 4) (d : Fin 128) (n : Fin 512) (hn : n.val = 128 * j.val + d.val) (hP : ∀ n, ∑ k : Fin 1024, v33 (ix2 r k) * v35 (ix2 k n) = p n)
    (h39 : ∀ k l, v39 (ix2 k l) = ((1 / 128 : ℝ) : EReal)) (h54 : v54 (ix2 0 n) = g d) :
    k0_pay4 v33 v35 v39 v54 (ix2 r n) = p ⟨j.val * 128 + d.val, by omega⟩ *
        Ideal.rsqrt (Ideal.div (∑ x : Fin 128, p ⟨j.val * 128 + x.val, by omega⟩ * p ⟨j.val * 128 + x.val, by omega⟩) (Ideal.ofBits FTy.f32 1124073472#32) +
            Ideal.ofBits FTy.f32 897988541#32) * g d := by
  unfold k0_pay4
  pointwise []
  rw [h54, Cert.MemKvIdeal.Value.c128]
  have e : ∀ (k : Fin 128) (n : Fin 512), n.val = 128 * j.val + k.val → ∑ x : Fin 1024, v33 (ix2 r x) * v35 (ix2 x n) = p ⟨j.val * 128 + k.val, by omega⟩ :=
    fun k n h => (hP n).trans (congrArg p (Fin.ext (by show n.val = j.val * 128 + k.val; omega)))
  refine congrArg (· * _) (congrArg₂ (· * ·) (e d _ hn) (congrArg Ideal.rsqrt (congrArg (· + _) ?_)))
  refine Eq.trans ?_ (GroupMean.mean128 _)
  split_ifs <;>
  exact Finset.sum_congr rfl fun k _ => congrArg₂ (· * ·)
    (congrArg₂ (· * ·) (e k _ (by dsimp only; omega)) (e k _ (by dsimp only; omega))) (h39 _ _)

/-- A head's attention of eight padded rows. -/
def head (S : FVec Ideal S8x128 .bf16) (K V : Vec Ideal S1x256x128 .f32) : FVec Ideal S8x128 .f32 :=
  have v81 : FVec Ideal S256x128 .f32 := shapeCast S256x128 K shapeCasts_S1x256x128_S256x128
  have v82 : FVec Ideal S256x128 .bf16 := truncf .bf16 v81 bitsLt_bf16_f32
  have v84 : FVec Ideal S256x128 .f32 := shapeCast S256x128 V shapeCasts_S1x256x128_S256x128
  have v85 : FVec Ideal S256x128 .bf16 := truncf .bf16 v84 bitsLt_bf16_f32
  have cst_45 : FVec Ideal S8x256 .f32 := constant S8x256 .f32 0x00000000#32
  have v87 : FVec Ideal S8x256 .f32 := matmul dot_S8x128_S256x128_S8x256_1_1_0_0_n_n none S v82 cst_45
  have cst_46 : Ideal .f32 := Scalar.ofBits .f32 0x3DB504F3#32
  have v88 : FVec Ideal S8x256 .f32 := broadcast S8x256 cst_46
  have v89 : FVec Ideal S8x256 .f32 := mulf v87 v88
  have v90 : FVec Ideal S8 .f32 := multiReduction .maximumf [1] S8 v89 0xFF800000#32 reduces_S8x256_S8 (.inl rfl) rfl
  have v91 : FVec Ideal S8x1 .f32 := shapeCast S8x1 v90 shapeCasts_S8_S8x1
  have v92 : FVec Ideal S8x256 .f32 := broadcastTo S8x256 v91 broadcasts_S8x1_S8x256
  have v93 : FVec Ideal S8x256 .f32 := subf v89 v92
  have v94 : FVec Ideal S8x256 .f32 := exp v93
  have v95 : FVec Ideal S8 .f32 := multiReduction .add [1] S8 v94 0x00000000#32 reduces_S8x256_S8 (.inl rfl) rfl
  have v96 : FVec Ideal S8x1 .f32 := shapeCast S8x1 v95 shapeCasts_S8_S8x1
  have v97 : FVec Ideal S8x256 .bf16 := truncf .bf16 v94 bitsLt_bf16_f32
  have cst_49 : FVec Ideal S8x128 .f32 := constant S8x128 .f32 0x00000000#32
  have v98 : FVec Ideal S8x128 .f32 := matmul dot_S8x256_S256x128_S8x128_1_0_0_1_n_n none v97 v85 cst_49
  have v99 : FVec Ideal S8x128 .f32 := broadcastTo S8x128 v96 broadcasts_S8x1_S8x128
  have v100 : FVec Ideal S8x128 .f32 := divf v98 v99
  v100

theorem head_at (S : FVec Ideal S8x128 .bf16) (K V : Vec Ideal S1x256x128 .f32) (r : Fin 8) (d : Fin 128) (s : Fin 256 → EReal)
    (hs : ∀ k, (∑ x : Fin 128, S (ix2 r x) * K (ix3 0 k x)) * Ideal.ofBits FTy.f32 1035273459#32 = s k) :
    head S K V (ix2 r d) = attn s fun k => V (ix3 0 k d) := by
  unfold head
  pointwise []
  simp only [hs]
  rfl

/-- The four heads of a sequence side by side. -/
def rows (a b c d : FVec Ideal S8x128 .f32) : FVec Ideal S8x512 .f32 :=
  concatenate S8x512 1 [⟨S8x128, a⟩, ⟨S8x128, b⟩, ⟨S8x128, c⟩, ⟨S8x128, d⟩] concatenates_S8x128_S8x128_S8x128_S8x128_S8x512_d1

theorem rows_at (A B C D : FVec Ideal S8x128 .f32) (r : Fin 8) (x : Fin 512) (o : Fin 512 → EReal)
    (hA : ∀ d : Fin 128, A (ix2 r d) = o ⟨d.val, by omega⟩) (hB : ∀ d : Fin 128, B (ix2 r d) = o ⟨128 + d.val, by omega⟩)
    (hC : ∀ d : Fin 128, C (ix2 r d) = o ⟨256 + d.val, by omega⟩) (hD : ∀ d : Fin 128, D (ix2 r d) = o ⟨384 + d.val, by omega⟩) :
    rows A B C D (ix2 r x) = o x := by
  unfold rows
  pointwise []
  split_ifs <;> first
    | exact hA _
    | exact (hB ⟨x.val - 128, by omega⟩).trans (congrArg o (Fin.ext (by dsimp only; omega)))
    | exact (hC ⟨x.val - 128 - 128, by omega⟩).trans (congrArg o (Fin.ext (by dsimp only; omega)))
    | exact (hD ⟨x.val - 128 - 128 - 128, by omega⟩).trans (congrArg o (Fin.ext (by dsimp only; omega)))

/-- The projection of all eight sequences. -/
def block (H : FVec Ideal S64x1024 .f32) (r0 r1 r2 r3 r4 r5 r6 r7 : FVec Ideal S8x512 .f32) (wo : Vec Ideal S512x1024 .bf16) : FVec Ideal S8x8x1024 .f32 :=
  have v739 : FVec Ideal S64x512 .f32 := concatenate S64x512 0 [⟨S8x512, r0⟩, ⟨S8x512, r1⟩, ⟨S8x512, r2⟩, ⟨S8x512, r3⟩, ⟨S8x512, r4⟩, ⟨S8x512, r5⟩, ⟨S8x512, r6⟩, ⟨S8x512, r7⟩] concatenates_S8x512_S8x512_S8x512_S8x512_S8x512_S8x512_S8x512_S8x512_S64x512_d0
  have v740 : FVec Ideal S64x512 .bf16 := truncf .bf16 v739 bitsLt_bf16_f32
  have v742 : FVec Ideal S512x1024 .bf16 := shapeCast S512x1024 wo shapeCasts_S512x1024_S512x1024
  have cst_376 : FVec Ideal S64x1024 .f32 := constant S64x1024 .f32 0x00000000#32
  have v743 : FVec Ideal S64x1024 .f32 := matmul dot_S64x512_S512x1024_S64x1024_1_0_0_1_n_n none v740 v742 cst_376
  have v744 : FVec Ideal S64x1024 .f32 := addf H v743
  have v745 : FVec Ideal S8x8x1024 .f32 := shapeCast S8x8x1024 v744 shapeCasts_S64x1024_S8x8x1024
  v745

theorem block_at (H : FVec Ideal S64x1024 .f32) (r0 r1 r2 r3 r4 r5 r6 r7 : FVec Ideal S8x512 .f32) (wo : Vec Ideal S512x1024 .bf16)
    (g r : Fin 8) (R : Fin 64) (hR : R.val = 8 * g.val + r.val) (n : Fin 1024) (o : Fin 8 → Fin 512 → EReal)
    (h0 : ∀ x, r0 (ix2 r x) = o 0 x) (h1 : ∀ x, r1 (ix2 r x) = o 1 x) (h2 : ∀ x, r2 (ix2 r x) = o 2 x) (h3 : ∀ x, r3 (ix2 r x) = o 3 x)
    (h4 : ∀ x, r4 (ix2 r x) = o 4 x) (h5 : ∀ x, r5 (ix2 r x) = o 5 x) (h6 : ∀ x, r6 (ix2 r x) = o 6 x) (h7 : ∀ x, r7 (ix2 r x) = o 7 x) :
    block H r0 r1 r2 r3 r4 r5 r6 r7 wo (ix3 g r n) = H (ix2 R n) + ∑ x : Fin 512, o g x * wo (ix2 x n) := by
  have pick : ∀ (f : FVec Ideal S8x512 .f32) (i : Fin 8) (y : Fin 8) (x : Fin 512), (∀ x, f (ix2 r x) = o i x) → y.val = r.val → i.val = g.val → f (ix2 y x) = o g x := by
    intro f i y x h hy hi
    rw [Fin.ext hy, Fin.ext hi.symm]; exact h x
  unfold block
  pointwise []
  refine congrArg₂ (· + ·) (congrArg (fun y => H (ix2 y n)) (Fin.ext (by dsimp only; omega))) (Finset.sum_congr rfl fun x _ => congrArg (· * wo (ix2 x n)) ?_)
  split_ifs <;> first
    | exact pick r0 0 _ x h0 (by dsimp only; omega) (by show 0 = _; omega)
    | exact pick r1 1 _ x h1 (by dsimp only; omega) (by show 1 = _; omega)
    | exact pick r2 2 _ x h2 (by dsimp only; omega) (by show 2 = _; omega)
    | exact pick r3 3 _ x h3 (by dsimp only; omega) (by show 3 = _; omega)
    | exact pick r4 4 _ x h4 (by dsimp only; omega) (by show 4 = _; omega)
    | exact pick r5 5 _ x h5 (by dsimp only; omega) (by show 5 = _; omega)
    | exact pick r6 6 _ x h6 (by dsimp only; omega) (by show 6 = _; omega)
    | exact pick r7 7 _ x h7 (by dsimp only; omega) (by show 7 = _; omega)

/-- A row and head of the queries, cut out. -/
theorem cut_at (Q : FVec Ideal S64x512 .bf16) (a e : ℕ) (h : S64x512.Slices ![a, e] S8x128) (r : Fin 8) (d : Fin 128) (ha : a + r.val < 64) (he : e + d.val < 512) :
    extractStridedSlice S8x128 ![a, e] Q h (ix2 r d) = Q (ix2 ⟨a + r.val, ha⟩ ⟨e + d.val, he⟩) := by
  refine congrArg Q ?_
  funext i; fin_cases i <;> rfl

theorem row0 (a : FVec Ideal S64x1024 .bf16) (b : FVec Ideal S1024x512 .bf16) (c : Vec Ideal S128x128 .bf16) (d : Vec Ideal S1x512 .f32) (K0 V0 K1 V1 K2 V2 K3 V3 : Vec Ideal S1x256x128 .f32) :
    k0_pay12 (k0_pay4 a b c d) (k0_pay8 (k0_pay5 V0) (k0_pay6 a b c d K0) (k0_pay7 a b c d K0)) (k0_pay9 (k0_pay4 a b c d) K1 V1) (k0_pay10 V2) (k0_pay11 (k0_pay4 a b c d) K2) K3 V3 =
      rows (head (extractStridedSlice S8x128 ![0, 0] (k0_pay4 a b c d) slices_S64x512_o0_0_S8x128) K0 V0) (head (extractStridedSlice S8x128 ![0, 128] (k0_pay4 a b c d) slices_S64x512_o0_128_S8x128) K1 V1) (head (extractStridedSlice S8x128 ![0, 256] (k0_pay4 a b c d) slices_S64x512_o0_256_S8x128) K2 V2) (head (extractStridedSlice S8x128 ![0, 384] (k0_pay4 a b c d) slices_S64x512_o0_384_S8x128) K3 V3) := rfl

theorem row1 (Q : FVec Ideal S64x512 .bf16) (K0 V0 K1 V1 K2 V2 K3 V3 : Vec Ideal S1x256x128 .f32) :
    k0_pay20 Q (k0_pay15 (k0_pay13 V0) (k0_pay14 Q K0)) (k0_pay16 Q K1 V1) (k0_pay17 K2) (k0_pay18 V2) (k0_pay19 Q) (constant S8x256 .f32 0x00000000#32) K3 V3 =
      rows (head (extractStridedSlice S8x128 ![8, 0] Q slices_S64x512_o8_0_S8x128) K0 V0) (head (extractStridedSlice S8x128 ![8, 128] Q slices_S64x512_o8_128_S8x128) K1 V1) (head (extractStridedSlice S8x128 ![8, 256] Q slices_S64x512_o8_256_S8x128) K2 V2) (head (extractStridedSlice S8x128 ![8, 384] Q slices_S64x512_o8_384_S8x128) K3 V3) := rfl

theorem row2 (Q : FVec Ideal S64x512 .bf16) (K0 V0 K1 V1 K2 V2 K3 V3 : Vec Ideal S1x256x128 .f32) :
    k0_pay25 Q (k0_pay22 Q (k0_pay21 K0) V0) (k0_pay23 Q K1 V1) (k0_pay24 K2) V2 K3 V3 =
      rows (head (extractStridedSlice S8x128 ![16, 0] Q slices_S64x512_o16_0_S8x128) K0 V0) (head (extractStridedSlice S8x128 ![16, 128] Q slices_S64x512_o16_128_S8x128) K1 V1) (head (extractStridedSlice S8x128 ![16, 256] Q slices_S64x512_o16_256_S8x128) K2 V2) (head (extractStridedSlice S8x128 ![16, 384] Q slices_S64x512_o16_384_S8x128) K3 V3) := rfl

theorem row3 (Q : FVec Ideal S64x512 .bf16) (K0 V0 K1 V1 K2 V2 K3 V3 : Vec Ideal S1x256x128 .f32) :
    k0_pay35 (k0_pay26 Q K0 V0) (k0_pay31 (k0_pay27 V1) (k0_pay29 Q K1) (k0_pay30 Q K1)) (k0_pay32 Q K2 V2) (k0_pay33 V3) (k0_pay34 Q K3) =
      rows (head (extractStridedSlice S8x128 ![24, 0] Q slices_S64x512_o24_0_S8x128) K0 V0) (head (extractStridedSlice S8x128 ![24, 128] Q slices_S64x512_o24_128_S8x128) K1 V1) (head (extractStridedSlice S8x128 ![24, 256] Q slices_S64x512_o24_256_S8x128) K2 V2) (head (extractStridedSlice S8x128 ![24, 384] Q slices_S64x512_o24_384_S8x128) K3 V3) := rfl

theorem row4 (Q : FVec Ideal S64x512 .bf16) (K0 V0 K1 V1 K2 V2 K3 V3 : Vec Ideal S1x256x128 .f32) :
    k0_pay43 (k0_pay36 Q K0 V0) (k0_pay39 (k0_pay37 V1) (k0_pay38 Q K1)) (k0_pay40 Q K2 V2) (k0_pay41 V3) (k0_pay42 Q K3) =
      rows (head (extractStridedSlice S8x128 ![32, 0] Q slices_S64x512_o32_0_S8x128) K0 V0) (head (extractStridedSlice S8x128 ![32, 128] Q slices_S64x512_o32_128_S8x128) K1 V1) (head (extractStridedSlice S8x128 ![32, 256] Q slices_S64x512_o32_256_S8x128) K2 V2) (head (extractStridedSlice S8x128 ![32, 384] Q slices_S64x512_o32_384_S8x128) K3 V3) := rfl

theorem row5 (Q : FVec Ideal S64x512 .bf16) (K0 V0 K1 V1 K2 V2 K3 V3 : Vec Ideal S1x256x128 .f32) :
    k0_pay49 Q (k0_pay44 Q K0 V0) (k0_pay46 Q (k0_pay45 K1) V1) (k0_pay47 Q K2 V2) (k0_pay48 K3) V3 =
      rows (head (extractStridedSlice S8x128 ![40, 0] Q slices_S64x512_o40_0_S8x128) K0 V0) (head (extractStridedSlice S8x128 ![40, 128] Q slices_S64x512_o40_128_S8x128) K1 V1) (head (extractStridedSlice S8x128 ![40, 256] Q slices_S64x512_o40_256_S8x128) K2 V2) (head (extractStridedSlice S8x128 ![40, 384] Q slices_S64x512_o40_384_S8x128) K3 V3) := rfl

theorem row6 (Q : FVec Ideal S64x512 .bf16) (K0 V0 K1 V1 K2 V2 K3 V3 : Vec Ideal S1x256x128 .f32) :
    k0_pay56 Q (k0_pay50 Q K0 V0) (k0_pay51 Q K1 V1) (k0_pay52 V2) (k0_pay54 Q K2) (k0_pay55 Q K2) (constant S8x128 .f32 0x00000000#32) K3 V3 =
      rows (head (extractStridedSlice S8x128 ![48, 0] Q slices_S64x512_o48_0_S8x128) K0 V0) (head (extractStridedSlice S8x128 ![48, 128] Q slices_S64x512_o48_128_S8x128) K1 V1) (head (extractStridedSlice S8x128 ![48, 256] Q slices_S64x512_o48_256_S8x128) K2 V2) (head (extractStridedSlice S8x128 ![48, 384] Q slices_S64x512_o48_384_S8x128) K3 V3) := rfl

theorem row7 (H : FVec Ideal S64x1024 .f32) (Q : FVec Ideal S64x512 .bf16) (r0 r1 r2 r3 r4 r5 r6 : FVec Ideal S8x512 .f32) (K0 V0 K1 V1 K2 V2 K3 V3 : Vec Ideal S1x256x128 .f32) (wo : Vec Ideal S512x1024 .bf16) :
    k0_pay64 H Q r0 r1 r2 r3 r4 r5 r6 (k0_pay59 (k0_pay57 V0) (k0_pay58 Q K0)) (k0_pay60 Q K1 V1) (k0_pay61 V2) (k0_pay62 Q K2) (k0_pay63 Q K2) K3 V3 wo =
      block H r0 r1 r2 r3 r4 r5 r6 (rows (head (extractStridedSlice S8x128 ![56, 0] Q slices_S64x512_o56_0_S8x128) K0 V0) (head (extractStridedSlice S8x128 ![56, 128] Q slices_S64x512_o56_128_S8x128) K1 V1) (head (extractStridedSlice S8x128 ![56, 256] Q slices_S64x512_o56_256_S8x128) K2 V2) (head (extractStridedSlice S8x128 ![56, 384] Q slices_S64x512_o56_384_S8x128) K3 V3)) wo := rfl

/-- Every fourth row from row `j` on: the rows of head `j`. -/
theorem strided_k (c : Dev nD) (t : Fin cfg0.N) (g : Fin 8) (i j : ℕ) (inb) (k : Fin 256) (d : Fin 128) (b : Fin 32) (h : Fin 4) (hi : g.val = i) (hj : h.val = j) (hb : b.val = 8 * t.val + g.val) :
    View.readAt (Elt Ideal) (ms0_3 t).view { off := ![i, j, 0], size := ![1, 256, 128], stride := ![1, 4, 1], inb := inb } ((hs0_3 t).unread (iblk m c 3 t)) (ix3 0 k d) =
      m ((c : Thread nD τ).loc main_arg3) (ix5 0 b k h d) := by
  rw [View.readAt_apply, (hs0_3 t).read_unread]
  have hk := k.isLt
  refine Eq.trans (congrArg (iblk m c 3 t) (?_ : _ = ix3 g ⟨4 * k.val + h.val, by omega⟩ d)) (b_mk m c t g _ d b k h hb rfl)
  funext a
  apply Fin.ext
  rw [LoadRect.idx_apply]
  fin_cases a
  · show i + 1 * 0 = g.val
    omega
  · show j + 4 * k.val = 4 * k.val + h.val
    omega
  · show 0 + 1 * d.val = d.val
    omega

theorem strided_v (c : Dev nD) (t : Fin cfg0.N) (g : Fin 8) (i j : ℕ) (inb) (k : Fin 256) (d : Fin 128) (b : Fin 32) (h : Fin 4) (hi : g.val = i) (hj : h.val = j) (hb : b.val = 8 * t.val + g.val) :
    View.readAt (Elt Ideal) (ms0_4 t).view { off := ![i, j, 0], size := ![1, 256, 128], stride := ![1, 4, 1], inb := inb } ((hs0_4 t).unread (iblk m c 4 t)) (ix3 0 k d) =
      m ((c : Thread nD τ).loc main_arg4) (ix5 0 b k h d) := by
  rw [View.readAt_apply, (hs0_4 t).read_unread]
  have hk := k.isLt
  refine Eq.trans (congrArg (iblk m c 4 t) (?_ : _ = ix3 g ⟨4 * k.val + h.val, by omega⟩ d)) (b_mv m c t g _ d b k h hb rfl)
  funext a
  apply Fin.ext
  rw [LoadRect.idx_apply]
  fin_cases a
  · show i + 1 * 0 = g.val
    omega
  · show j + 4 * k.val = 4 * k.val + h.val
    omega
  · show 0 + 1 * d.val = d.val
    omega

/-- The queries of a block. -/
abbrev Q (c : Dev nD) (t : Fin cfg0.N) : FVec Ideal S64x512 .bf16 :=
  k0_pay4 (k0_pay2 (iblk m c 0 t) (iblk m c 1 t) (View.ld (iblk m c 5 t) (Rect.unit ![0, 0] ![512, 1024] inb_S1024x1024_S512x1024_0_0)) (iblk m c 2 t) (View.ld (iblk m c 5 t) (Rect.unit ![512, 0] ![512, 1024] inb_S1024x1024_S512x1024_512_0)) (iblk m c 6 t)) (k0_pay3 (iblk m c 7 t)) (View.ld (iblk m c 8 t) (Rect.unit ![0, 0] ![128, 128] inb_S512x512_S128x128_0_0)) (iblk m c 9 t)

theorem w_lo (c : Dev nD) (t : Fin cfg0.N) (x : Fin 512) (k : Fin 1024) :
    View.ld (iblk m c 5 t) (Rect.unit ![0, 0] ![512, 1024] inb_S1024x1024_S512x1024_0_0) (ix2 x k) = m ((c : Thread nD τ).loc main_arg5) (ix3 0 ⟨x.val, by omega⟩ k) :=
  (View.ld_unit_apply_of _ _ _ _ _ (ix2 ⟨x.val, by omega⟩ k) (by intro a; fin_cases a <;> exact (Nat.zero_add _).symm)).trans (b_wout m c t _ k)

theorem w_hi (c : Dev nD) (t : Fin cfg0.N) (x : Fin 512) (k : Fin 1024) :
    View.ld (iblk m c 5 t) (Rect.unit ![512, 0] ![512, 1024] inb_S1024x1024_S512x1024_512_0) (ix2 x k) = m ((c : Thread nD τ).loc main_arg5) (ix3 0 ⟨512 + x.val, by omega⟩ k) :=
  (View.ld_unit_apply_of _ _ _ _ _ (ix2 ⟨512 + x.val, by omega⟩ k) (by intro a; fin_cases a <;> first | rfl | exact (Nat.zero_add _).symm)).trans (b_wout m c t _ k)

theorem qry (c : Dev nD) (t : Fin cfg0.N) (g r : Fin 8) (R : Fin 64) (j : Fin 4) (d : Fin 128) (n : Fin 512) (b : Fin 32) (q : Fin 4) (hR : R.val = 8 * g.val + r.val) (hb : b.val = 8 * t.val + g.val) (hr : r.val = q.val)
    (hn : n.val = 128 * j.val + d.val) :
    Q m c t (ix2 R n) = val_main_v37 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (ix4 b q j d) := by
  rw [Cert.MidSampleReferenceIdeal.Value.query]
  refine queried _ _ _ _
    (fun n => val_main_v23 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (ix3 b q n)) (fun d => m ((c : Thread nD τ).loc main_arg8) (ix2 0 d)) R j d n hn
    (fun n => projected m c t g r R n b q hR hb hr _ _ (w_lo m c t) (w_hi m c t)) (fun k l => ?_) (b_hgain m c t n d (by omega))
  exact (View.ld_unit_apply_of _ _ _ _ _ (ix2 ⟨k.val, by omega⟩ ⟨l.val, by omega⟩) (by intro a; fin_cases a <;> exact (Nat.zero_add _).symm)).trans (b_gm m c t _ _ k.isLt l.isLt)

open Cert.MidSampleReferenceIdeal.Value (score attention) in
/-- A head of a sequence: the reference's attention. -/
theorem seqhead (c : Dev nD) (hk : ∀ i, Fin' (m ((c : Thread nD τ).loc main_arg3) i)) (hg : ∀ i, Fin' (m ((c : Thread nD τ).loc main_arg8) i))
    (t : Fin cfg0.N) (g : Fin 8) (j : Fin 4) (r : Fin 8) (d : Fin 128) (x : Fin 512) (b : Fin 32) (q : Fin 4) (hb : b.val = 8 * t.val + g.val) (hr : r.val = q.val) (hx : x.val = 128 * j.val + d.val)
    (a e : ℕ) (ha : a = 8 * g.val) (he : e = 128 * j.val) (h : S64x512.Slices ![a, e] S8x128) (K V : Vec Ideal S1x256x128 .f32)
    (hK : ∀ k d, K (ix3 0 k d) = m ((c : Thread nD τ).loc main_arg3) (ix5 0 b k j d)) (hV : ∀ k d, V (ix3 0 k d) = m ((c : Thread nD τ).loc main_arg4) (ix5 0 b k j d)) :
    head (extractStridedSlice S8x128 ![a, e] (Q m c t) h) K V (ix2 r d) =
      val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 b ⟨x.val / 128, by omega⟩ ⟨x.val % 128, by omega⟩ q) := by
  have e1 : j = ⟨x.val / 128, by omega⟩ := Fin.ext (by show j.val = x.val / 128; omega)
  have e2 : d = ⟨x.val % 128, by omega⟩ := Fin.ext (by show d.val = x.val % 128; omega)
  rw [← e1, ← e2]
  refine (head_at _ K V r d _ (fun k => by
    refine Eq.trans ?_ (score (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) q b j k).symm
    refine congrArg (· * _) (Finset.sum_congr rfl fun y _ => congrArg₂ (· * ·) ?_ (hK k y))
    rw [cut_at _ a e h r y (by omega) (by omega)]
    exact qry m c t g r _ j y _ b q (by dsimp only; omega) hb hr (by dsimp only; omega))).trans ?_
  rw [show (fun k => V (ix3 0 k d)) = fun k => m ((c : Thread nD τ).loc main_arg4) (ix5 0 b k j d) from funext fun k => hV k d]
  exact (attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) hk hg q b j d).symm

open Cert.MidSampleReferenceIdeal.Value (result) in
/-- The output block of a point: the reference's rows. -/
theorem out (c : Dev nD) (hk : ∀ i, Fin' (m ((c : Thread nD τ).loc main_arg3) i)) (hg : ∀ i, Fin' (m ((c : Thread nD τ).loc main_arg8) i))
    (t : Fin cfg0.N) (g r : Fin 8) (n : Fin 1024) (b : Fin 32) (q : Fin 4) (hb : b.val = 8 * t.val + g.val) (hr : r.val = q.val) :
    outsAt0 m c t (ix3 g r n) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 b q n) := by
  have ht := (idx t).2.2.2.2.2.2.2.2.2.2.2.2
  unfold outsAt0
  frame_out
  rw [row7, row0, row1, row2, row3, row4, row5, row6, result]
  refine (block_at _ _ _ _ _ _ _ _ _ _ g r ⟨8 * g.val + r.val, by omega⟩ rfl n
    (fun i x => val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 ⟨8 * t.val + i.val, by omega⟩ ⟨x.val / 128, by omega⟩ ⟨x.val % 128, by omega⟩ q))
    ?_ ?_ ?_ ?_ ?_ ?_ ?_ ?_).trans ?_
  · intro x
    refine rows_at _ _ _ _ r x (fun x => val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 ⟨8 * t.val + 0, by omega⟩ ⟨x.val / 128, by omega⟩ ⟨x.val % 128, by omega⟩ q)) (fun d => ?_) (fun d => ?_) (fun d => ?_) (fun d => ?_)
    · exact seqhead m c hk hg t 0 0 r d ⟨d.val, by omega⟩ ⟨8 * t.val + 0, by omega⟩ q rfl hr (by show d.val = 128 * 0 + d.val; omega) 0 0 rfl rfl _ _ _ (fun k d => strided_k m c t 0 0 0 _ k d _ 0 rfl rfl rfl) (fun k d => strided_v m c t 0 0 0 _ k d _ 0 rfl rfl rfl)
    · exact seqhead m c hk hg t 0 1 r d ⟨128 + d.val, by omega⟩ ⟨8 * t.val + 0, by omega⟩ q rfl hr (by show 128 + d.val = 128 * 1 + d.val; omega) 0 128 rfl rfl _ _ _ (fun k d => strided_k m c t 0 0 1 _ k d _ 1 rfl rfl rfl) (fun k d => strided_v m c t 0 0 1 _ k d _ 1 rfl rfl rfl)
    · exact seqhead m c hk hg t 0 2 r d ⟨256 + d.val, by omega⟩ ⟨8 * t.val + 0, by omega⟩ q rfl hr (by show 256 + d.val = 128 * 2 + d.val; omega) 0 256 rfl rfl _ _ _ (fun k d => strided_k m c t 0 0 2 _ k d _ 2 rfl rfl rfl) (fun k d => strided_v m c t 0 0 2 _ k d _ 2 rfl rfl rfl)
    · exact seqhead m c hk hg t 0 3 r d ⟨384 + d.val, by omega⟩ ⟨8 * t.val + 0, by omega⟩ q rfl hr (by show 384 + d.val = 128 * 3 + d.val; omega) 0 384 rfl rfl _ _ _ (fun k d => strided_k m c t 0 0 3 _ k d _ 3 rfl rfl rfl) (fun k d => strided_v m c t 0 0 3 _ k d _ 3 rfl rfl rfl)
  · intro x
    refine rows_at _ _ _ _ r x (fun x => val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 ⟨8 * t.val + 1, by omega⟩ ⟨x.val / 128, by omega⟩ ⟨x.val % 128, by omega⟩ q)) (fun d => ?_) (fun d => ?_) (fun d => ?_) (fun d => ?_)
    · exact seqhead m c hk hg t 1 0 r d ⟨d.val, by omega⟩ ⟨8 * t.val + 1, by omega⟩ q rfl hr (by show d.val = 128 * 0 + d.val; omega) 8 0 rfl rfl _ _ _ (fun k d => strided_k m c t 1 1 0 _ k d _ 0 rfl rfl rfl) (fun k d => strided_v m c t 1 1 0 _ k d _ 0 rfl rfl rfl)
    · exact seqhead m c hk hg t 1 1 r d ⟨128 + d.val, by omega⟩ ⟨8 * t.val + 1, by omega⟩ q rfl hr (by show 128 + d.val = 128 * 1 + d.val; omega) 8 128 rfl rfl _ _ _ (fun k d => strided_k m c t 1 1 1 _ k d _ 1 rfl rfl rfl) (fun k d => strided_v m c t 1 1 1 _ k d _ 1 rfl rfl rfl)
    · exact seqhead m c hk hg t 1 2 r d ⟨256 + d.val, by omega⟩ ⟨8 * t.val + 1, by omega⟩ q rfl hr (by show 256 + d.val = 128 * 2 + d.val; omega) 8 256 rfl rfl _ _ _ (fun k d => strided_k m c t 1 1 2 _ k d _ 2 rfl rfl rfl) (fun k d => strided_v m c t 1 1 2 _ k d _ 2 rfl rfl rfl)
    · exact seqhead m c hk hg t 1 3 r d ⟨384 + d.val, by omega⟩ ⟨8 * t.val + 1, by omega⟩ q rfl hr (by show 384 + d.val = 128 * 3 + d.val; omega) 8 384 rfl rfl _ _ _ (fun k d => strided_k m c t 1 1 3 _ k d _ 3 rfl rfl rfl) (fun k d => strided_v m c t 1 1 3 _ k d _ 3 rfl rfl rfl)
  · intro x
    refine rows_at _ _ _ _ r x (fun x => val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 ⟨8 * t.val + 2, by omega⟩ ⟨x.val / 128, by omega⟩ ⟨x.val % 128, by omega⟩ q)) (fun d => ?_) (fun d => ?_) (fun d => ?_) (fun d => ?_)
    · exact seqhead m c hk hg t 2 0 r d ⟨d.val, by omega⟩ ⟨8 * t.val + 2, by omega⟩ q rfl hr (by show d.val = 128 * 0 + d.val; omega) 16 0 rfl rfl _ _ _ (fun k d => strided_k m c t 2 2 0 _ k d _ 0 rfl rfl rfl) (fun k d => strided_v m c t 2 2 0 _ k d _ 0 rfl rfl rfl)
    · exact seqhead m c hk hg t 2 1 r d ⟨128 + d.val, by omega⟩ ⟨8 * t.val + 2, by omega⟩ q rfl hr (by show 128 + d.val = 128 * 1 + d.val; omega) 16 128 rfl rfl _ _ _ (fun k d => strided_k m c t 2 2 1 _ k d _ 1 rfl rfl rfl) (fun k d => strided_v m c t 2 2 1 _ k d _ 1 rfl rfl rfl)
    · exact seqhead m c hk hg t 2 2 r d ⟨256 + d.val, by omega⟩ ⟨8 * t.val + 2, by omega⟩ q rfl hr (by show 256 + d.val = 128 * 2 + d.val; omega) 16 256 rfl rfl _ _ _ (fun k d => strided_k m c t 2 2 2 _ k d _ 2 rfl rfl rfl) (fun k d => strided_v m c t 2 2 2 _ k d _ 2 rfl rfl rfl)
    · exact seqhead m c hk hg t 2 3 r d ⟨384 + d.val, by omega⟩ ⟨8 * t.val + 2, by omega⟩ q rfl hr (by show 384 + d.val = 128 * 3 + d.val; omega) 16 384 rfl rfl _ _ _ (fun k d => strided_k m c t 2 2 3 _ k d _ 3 rfl rfl rfl) (fun k d => strided_v m c t 2 2 3 _ k d _ 3 rfl rfl rfl)
  · intro x
    refine rows_at _ _ _ _ r x (fun x => val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 ⟨8 * t.val + 3, by omega⟩ ⟨x.val / 128, by omega⟩ ⟨x.val % 128, by omega⟩ q)) (fun d => ?_) (fun d => ?_) (fun d => ?_) (fun d => ?_)
    · exact seqhead m c hk hg t 3 0 r d ⟨d.val, by omega⟩ ⟨8 * t.val + 3, by omega⟩ q rfl hr (by show d.val = 128 * 0 + d.val; omega) 24 0 rfl rfl _ _ _ (fun k d => strided_k m c t 3 3 0 _ k d _ 0 rfl rfl rfl) (fun k d => strided_v m c t 3 3 0 _ k d _ 0 rfl rfl rfl)
    · exact seqhead m c hk hg t 3 1 r d ⟨128 + d.val, by omega⟩ ⟨8 * t.val + 3, by omega⟩ q rfl hr (by show 128 + d.val = 128 * 1 + d.val; omega) 24 128 rfl rfl _ _ _ (fun k d => strided_k m c t 3 3 1 _ k d _ 1 rfl rfl rfl) (fun k d => strided_v m c t 3 3 1 _ k d _ 1 rfl rfl rfl)
    · exact seqhead m c hk hg t 3 2 r d ⟨256 + d.val, by omega⟩ ⟨8 * t.val + 3, by omega⟩ q rfl hr (by show 256 + d.val = 128 * 2 + d.val; omega) 24 256 rfl rfl _ _ _ (fun k d => strided_k m c t 3 3 2 _ k d _ 2 rfl rfl rfl) (fun k d => strided_v m c t 3 3 2 _ k d _ 2 rfl rfl rfl)
    · exact seqhead m c hk hg t 3 3 r d ⟨384 + d.val, by omega⟩ ⟨8 * t.val + 3, by omega⟩ q rfl hr (by show 384 + d.val = 128 * 3 + d.val; omega) 24 384 rfl rfl _ _ _ (fun k d => strided_k m c t 3 3 3 _ k d _ 3 rfl rfl rfl) (fun k d => strided_v m c t 3 3 3 _ k d _ 3 rfl rfl rfl)
  · intro x
    refine rows_at _ _ _ _ r x (fun x => val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 ⟨8 * t.val + 4, by omega⟩ ⟨x.val / 128, by omega⟩ ⟨x.val % 128, by omega⟩ q)) (fun d => ?_) (fun d => ?_) (fun d => ?_) (fun d => ?_)
    · exact seqhead m c hk hg t 4 0 r d ⟨d.val, by omega⟩ ⟨8 * t.val + 4, by omega⟩ q rfl hr (by show d.val = 128 * 0 + d.val; omega) 32 0 rfl rfl _ _ _ (fun k d => strided_k m c t 4 4 0 _ k d _ 0 rfl rfl rfl) (fun k d => strided_v m c t 4 4 0 _ k d _ 0 rfl rfl rfl)
    · exact seqhead m c hk hg t 4 1 r d ⟨128 + d.val, by omega⟩ ⟨8 * t.val + 4, by omega⟩ q rfl hr (by show 128 + d.val = 128 * 1 + d.val; omega) 32 128 rfl rfl _ _ _ (fun k d => strided_k m c t 4 4 1 _ k d _ 1 rfl rfl rfl) (fun k d => strided_v m c t 4 4 1 _ k d _ 1 rfl rfl rfl)
    · exact seqhead m c hk hg t 4 2 r d ⟨256 + d.val, by omega⟩ ⟨8 * t.val + 4, by omega⟩ q rfl hr (by show 256 + d.val = 128 * 2 + d.val; omega) 32 256 rfl rfl _ _ _ (fun k d => strided_k m c t 4 4 2 _ k d _ 2 rfl rfl rfl) (fun k d => strided_v m c t 4 4 2 _ k d _ 2 rfl rfl rfl)
    · exact seqhead m c hk hg t 4 3 r d ⟨384 + d.val, by omega⟩ ⟨8 * t.val + 4, by omega⟩ q rfl hr (by show 384 + d.val = 128 * 3 + d.val; omega) 32 384 rfl rfl _ _ _ (fun k d => strided_k m c t 4 4 3 _ k d _ 3 rfl rfl rfl) (fun k d => strided_v m c t 4 4 3 _ k d _ 3 rfl rfl rfl)
  · intro x
    refine rows_at _ _ _ _ r x (fun x => val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 ⟨8 * t.val + 5, by omega⟩ ⟨x.val / 128, by omega⟩ ⟨x.val % 128, by omega⟩ q)) (fun d => ?_) (fun d => ?_) (fun d => ?_) (fun d => ?_)
    · exact seqhead m c hk hg t 5 0 r d ⟨d.val, by omega⟩ ⟨8 * t.val + 5, by omega⟩ q rfl hr (by show d.val = 128 * 0 + d.val; omega) 40 0 rfl rfl _ _ _ (fun k d => strided_k m c t 5 5 0 _ k d _ 0 rfl rfl rfl) (fun k d => strided_v m c t 5 5 0 _ k d _ 0 rfl rfl rfl)
    · exact seqhead m c hk hg t 5 1 r d ⟨128 + d.val, by omega⟩ ⟨8 * t.val + 5, by omega⟩ q rfl hr (by show 128 + d.val = 128 * 1 + d.val; omega) 40 128 rfl rfl _ _ _ (fun k d => strided_k m c t 5 5 1 _ k d _ 1 rfl rfl rfl) (fun k d => strided_v m c t 5 5 1 _ k d _ 1 rfl rfl rfl)
    · exact seqhead m c hk hg t 5 2 r d ⟨256 + d.val, by omega⟩ ⟨8 * t.val + 5, by omega⟩ q rfl hr (by show 256 + d.val = 128 * 2 + d.val; omega) 40 256 rfl rfl _ _ _ (fun k d => strided_k m c t 5 5 2 _ k d _ 2 rfl rfl rfl) (fun k d => strided_v m c t 5 5 2 _ k d _ 2 rfl rfl rfl)
    · exact seqhead m c hk hg t 5 3 r d ⟨384 + d.val, by omega⟩ ⟨8 * t.val + 5, by omega⟩ q rfl hr (by show 384 + d.val = 128 * 3 + d.val; omega) 40 384 rfl rfl _ _ _ (fun k d => strided_k m c t 5 5 3 _ k d _ 3 rfl rfl rfl) (fun k d => strided_v m c t 5 5 3 _ k d _ 3 rfl rfl rfl)
  · intro x
    refine rows_at _ _ _ _ r x (fun x => val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 ⟨8 * t.val + 6, by omega⟩ ⟨x.val / 128, by omega⟩ ⟨x.val % 128, by omega⟩ q)) (fun d => ?_) (fun d => ?_) (fun d => ?_) (fun d => ?_)
    · exact seqhead m c hk hg t 6 0 r d ⟨d.val, by omega⟩ ⟨8 * t.val + 6, by omega⟩ q rfl hr (by show d.val = 128 * 0 + d.val; omega) 48 0 rfl rfl _ _ _ (fun k d => strided_k m c t 6 6 0 _ k d _ 0 rfl rfl rfl) (fun k d => strided_v m c t 6 6 0 _ k d _ 0 rfl rfl rfl)
    · exact seqhead m c hk hg t 6 1 r d ⟨128 + d.val, by omega⟩ ⟨8 * t.val + 6, by omega⟩ q rfl hr (by show 128 + d.val = 128 * 1 + d.val; omega) 48 128 rfl rfl _ _ _ (fun k d => strided_k m c t 6 6 1 _ k d _ 1 rfl rfl rfl) (fun k d => strided_v m c t 6 6 1 _ k d _ 1 rfl rfl rfl)
    · exact seqhead m c hk hg t 6 2 r d ⟨256 + d.val, by omega⟩ ⟨8 * t.val + 6, by omega⟩ q rfl hr (by show 256 + d.val = 128 * 2 + d.val; omega) 48 256 rfl rfl _ _ _ (fun k d => strided_k m c t 6 6 2 _ k d _ 2 rfl rfl rfl) (fun k d => strided_v m c t 6 6 2 _ k d _ 2 rfl rfl rfl)
    · exact seqhead m c hk hg t 6 3 r d ⟨384 + d.val, by omega⟩ ⟨8 * t.val + 6, by omega⟩ q rfl hr (by show 384 + d.val = 128 * 3 + d.val; omega) 48 384 rfl rfl _ _ _ (fun k d => strided_k m c t 6 6 3 _ k d _ 3 rfl rfl rfl) (fun k d => strided_v m c t 6 6 3 _ k d _ 3 rfl rfl rfl)
  · intro x
    refine rows_at _ _ _ _ r x (fun x => val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 ⟨8 * t.val + 7, by omega⟩ ⟨x.val / 128, by omega⟩ ⟨x.val % 128, by omega⟩ q)) (fun d => ?_) (fun d => ?_) (fun d => ?_) (fun d => ?_)
    · exact seqhead m c hk hg t 7 0 r d ⟨d.val, by omega⟩ ⟨8 * t.val + 7, by omega⟩ q rfl hr (by show d.val = 128 * 0 + d.val; omega) 56 0 rfl rfl _ _ _ (fun k d => strided_k m c t 7 7 0 _ k d _ 0 rfl rfl rfl) (fun k d => strided_v m c t 7 7 0 _ k d _ 0 rfl rfl rfl)
    · exact seqhead m c hk hg t 7 1 r d ⟨128 + d.val, by omega⟩ ⟨8 * t.val + 7, by omega⟩ q rfl hr (by show 128 + d.val = 128 * 1 + d.val; omega) 56 128 rfl rfl _ _ _ (fun k d => strided_k m c t 7 7 1 _ k d _ 1 rfl rfl rfl) (fun k d => strided_v m c t 7 7 1 _ k d _ 1 rfl rfl rfl)
    · exact seqhead m c hk hg t 7 2 r d ⟨256 + d.val, by omega⟩ ⟨8 * t.val + 7, by omega⟩ q rfl hr (by show 256 + d.val = 128 * 2 + d.val; omega) 56 256 rfl rfl _ _ _ (fun k d => strided_k m c t 7 7 2 _ k d _ 2 rfl rfl rfl) (fun k d => strided_v m c t 7 7 2 _ k d _ 2 rfl rfl rfl)
    · exact seqhead m c hk hg t 7 3 r d ⟨384 + d.val, by omega⟩ ⟨8 * t.val + 7, by omega⟩ q rfl hr (by show 384 + d.val = 128 * 3 + d.val; omega) 56 384 rfl rfl _ _ _ (fun k d => strided_k m c t 7 7 3 _ k d _ 3 rfl rfl rfl) (fun k d => strided_v m c t 7 7 3 _ k d _ 3 rfl rfl rfl)
  · have eb : (⟨8 * t.val + g.val, by omega⟩ : Fin 32) = b := Fin.ext hb.symm
    refine congrArg₂ (· + ·) (hidden m c t g r _ n b q rfl hb hr _ _ (w_lo m c t) (w_hi m c t)) (Finset.sum_congr rfl fun x _ => congrArg₂ (· * ·) ?_ (b_wo m c t x n))
    show val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 ⟨8 * t.val + g.val, _⟩ _ _ q) = _
    rw [eb]

/-- The result as the reference reads it: the residual stream after the memory attention. -/
abbrev Y (c : Dev nD) : FVec Ideal Cert.MidSampleReferenceIdeal.S32x4x1024 .f32 :=
  val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The output array at the end of the grid: its first four rows of a sequence are the reference's. -/
theorem final_out (c : Dev nD) (hk : ∀ i, Fin' (m ((c : Thread nD τ).loc main_arg3) i)) (hg : ∀ i, Fin' (m ((c : Thread nD τ).loc main_arg8) i))
    (b : Fin 32) (r : Fin 8) (n : Fin 1024) (q : Fin 4) (hr : r.val = q.val) :
    (dats m 0 c).arrAt 11 cfg0.N (ix3 b r n) = Y m c (ix3 b q n) := by
  let Z : S32x8x1024.Idx → EReal := fun y => outsAt0 m c ⟨(y 0).val / 8, by have : (y 0).val < 32 := (y 0).isLt; show _ < 4; omega⟩
    (ix3 ⟨(y 0).val % 8, by omega⟩ ⟨(y 1).val, (y 1).isLt⟩ ⟨(y 2).val, (y 2).isLt⟩)
  have hZ : (dats m 0 c).arrAt 11 cfg0.N = Z := by
    refine (dats m 0 c).arrAt_eq_of_covers 11 _ (by decide +kernel) fun t hf y => ?_
    have ht := (idx t).2.2.2.2.2.2.2.2.2.2.2.2
    have hy : y = (ix3 ⟨(y 0).val, (y 0).isLt⟩ ⟨(y 1).val, (y 1).isLt⟩ ⟨(y 2).val, (y 2).isLt⟩ : S8x8x1024.Idx) := by
      funext a; fin_cases a <;> rfl
    generalize (⟨(y 0).val, (y 0).isLt⟩ : Fin 8) = g at hy
    generalize (⟨(y 1).val, (y 1).isLt⟩ : Fin 8) = r at hy
    generalize (⟨(y 2).val, (y 2).isLt⟩ : Fin 1024) = k at hy
    subst hy
    blk_simp
    rw [after0_11]
    have e : ∀ (t' : Fin cfg0.N) (y' : S8x8x1024.Idx), t' = t → y' = ix3 g r k → outsAt0 m c t (ix3 g r k) = outsAt0 m c t' y' := by
      rintro _ _ rfl rfl; rfl
    refine Eq.trans (e ⟨(8 * t.val + g.val) / 8, by show _ < 4; omega⟩ (ix3 ⟨(8 * t.val + g.val) % 8, by omega⟩ r k) (Fin.ext (by show (8 * t.val + g.val) / 8 = t.val; omega))
      (congrArg (fun g => (ix3 g r k : S8x8x1024.Idx)) (Fin.ext (by show (8 * t.val + g.val) % 8 = g.val; omega)))) ?_
    show Z (ix3 ⟨8 * t.val + g.val, by omega⟩ r k) = _
    refine congrArg Z ?_
    blk_ext [idx t]
  rw [hZ]
  exact out m c hk hg _ _ _ n b q (by show b.val = 8 * (b.val / 8) + b.val % 8; omega) hr

theorem after_30 (c : Dev nD) (hk : ∀ i, Fin' (m ((c : Thread nD τ).loc main_arg3) i)) (hg : ∀ i, Fin' (m ((c : Thread nD τ).loc main_arg8) i)) :
    Pipeline.afterTail₀ cfgs (dats m) 0 (V0 m) [hostOps1] c main_v30 = Y m c := by
  have hw := Pipeline.withArrays_arr _ launch0.win.arr_inj c (V0 m c) (fun w => (dats m 0 c).arrAt w (cfgs 0).N) 11
  funext i
  show StableHlo.after hostOps1 (Pipeline.withArrays (cfgs 0).spec c (V0 m c) fun w => (dats m 0 c).arrAt w (cfgs 0).N) (Proc.devRef .tc main_v30) i = _
  revert hw
  generalize (Pipeline.withArrays (cfgs 0).spec c (V0 m c) fun w => (dats m 0 c).arrAt w (cfgs 0).N) = W
  intro hw
  replace hw : W (Proc.devRef .tc main_v29) = (dats m 0 c).arrAt 11 cfg0.N := hw
  after_results
  rw [hw]
  have h1 : (i 1).val < 4 := (i 1).isLt
  refine Eq.trans (congrArg ((dats m 0 c).arrAt 11 cfg0.N) (?_ : _ = (ix3 (i 0) ⟨(i 1).val, by omega⟩ (i 2) : S32x8x1024.Idx))) ((final_out m c hk hg (i 0) ⟨(i 1).val, by omega⟩ (i 2) (i 1) rfl).trans (congrArg (Y m c) ?_))
  · funext a; fin_cases a <;> exact Fin.ext (Nat.zero_add _)
  · funext a; fin_cases a <;> rfl

theorem pre_facts : Cert.Pre_finite_cache_keys.Facts := ⟨by decide, by decide⟩

theorem keys_fin [Cert.Pre_finite_cache_keys.Facts] x0 x1 x2 x3 x4 x5 x6 x7 x8 x9
    (h : (Cert.Pre_finite_cache_keys.fn (F := Ideal) x0 x1 x2 x3 x4 x5 x6 x7 x8 x9).1 = fun _ => 1#1) (i) : Fin' (x3 i) := by
  exact Cert.MidIdeal.Value.fin_of_lt _ (congrFun h i)

theorem gain_fin [Cert.Pre_finite_cache_keys.Facts] x0 x1 x2 x3 x4 x5 x6 x7 x8 x9
    (h : (Cert.Pre_finite_cache_keys.fn (F := Ideal) x0 x1 x2 x3 x4 x5 x6 x7 x8 x9).2 = fun _ => 1#1) (i) : Fin' (x8 i) := by
  exact Cert.MidIdeal.Value.fin_of_lt _ (congrFun h i)

/-- The kernel's run: the result is the reference's term over the arguments, which it leaves alone. -/
theorem run (g : Dev nD → PrngReg) (hk : ∀ c : Dev nD, ∀ i, Fin' (m ((c : Thread nD τ).loc main_arg3) i)) (hg : ∀ c : Dev nD, ∀ i, Fin' (m ((c : Thread nD τ).loc main_arg8) i)) :
    θ_run defs (onTc (τ := τ) (main (F := Ideal))) ⟨m, fun _ => 0, g⟩ fun r => ∀ c : Dev nD,
      r.2.mem ((c.tc : Thread nD τ).loc main_v30) = Y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(Pipeline.FramePost.rest_eq h.1 c main_v30 (by decide)).trans (after_30 m c (hk c) (hg c)), h.2.1 c⟩)
    (θ_run_and (run_main m g) (frame m g))

end Cert.MidSampleIdeal.Value
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Read
public import proofs.«01_k».proof.Proof.Gen.FfnReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjReferenceIdeal
public import proofs.«01_k».proof.Proof.Gen.ProjReferenceIdeal.Read
public import proofs.«01_k».proof.Proof.Gen.ProjReferenceIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvReferenceIdeal
public import proofs.«01_k».proof.Proof.Gen.MemKvReferenceIdeal.Read
public import proofs.«01_k».proof.Proof.Gen.MemKvReferenceIdeal.Run
public import proofs.«01_k».proof.Proof.Gen.ProjSample
public import proofs.«01_k».proof.Proof.Gen.ProjSample.Skeleton
public import proofs.«01_k».proof.Proof.Gen.ProjSample.Launch
public import proofs.«01_k».proof.Proof.Gen.ProjSample.Points
public import proofs.«01_k».proof.Proof.Gen.ProjSample.Frame
public import proofs.«01_k».proof.Proof.Gen.ProjSampleIdeal
public import proofs.«01_k».proof.Proof.Gen.ProjSampleIdeal.Skeleton
public import proofs.«01_k».proof.Proof.Gen.ProjSampleIdeal.Launch
public import proofs.«01_k».proof.Proof.Gen.ProjSampleIdeal.Points
public import proofs.«01_k».proof.Proof.Gen.ProjSampleIdeal.Frame
public import proofs.«01_k».proof.Proof.Gen.ProjSampleReferenceIdeal
public import proofs.«01_k».proof.Proof.Gen.ProjSampleReferenceIdeal.Read
public import proofs.«01_k».proof.Proof.Gen.ProjSampleReferenceIdeal.Run
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleReferenceIdeal
public import proofs.«01_k».proof.Proof.Gen.FfnSampleReferenceIdeal.Read
public import proofs.«01_k».proof.Proof.Gen.FfnSampleReferenceIdeal.Run
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidReferenceIdeal
public import proofs.«01_k».proof.Proof.Gen.MidReferenceIdeal.Read
public import proofs.«01_k».proof.Proof.Gen.MidReferenceIdeal.Run
public import proofs.«01_k».proof.Proof.Gen.MidSample
public import proofs.«01_k».proof.Proof.Gen.MidSample.Skeleton
public import proofs.«01_k».proof.Proof.Gen.MidSample.Launch
public import proofs.«01_k».proof.Proof.Gen.MidSample.Points
public import proofs.«01_k».proof.Proof.Gen.MidSample.Frame
public import proofs.«01_k».proof.Proof.Gen.MidSampleIdeal
public import proofs.«01_k».proof.Proof.Gen.MidSampleIdeal.Skeleton
public import proofs.«01_k».proof.Proof.Gen.MidSampleIdeal.Launch
public import proofs.«01_k».proof.Proof.Gen.MidSampleIdeal.Points
public import proofs.«01_k».proof.Proof.Gen.MidSampleIdeal.Frame
public import proofs.«01_k».proof.Proof.Gen.MidSampleReferenceIdeal
public import proofs.«01_k».proof.Proof.Gen.MidSampleReferenceIdeal.Read
public import proofs.«01_k».proof.Proof.Gen.MidSampleReferenceIdeal.Run
public import proofs.«01_k».proof.Proof.FfnValue
public import proofs.«01_k».proof.Proof.ProjValue
public import proofs.«01_k».proof.Proof.MemKvValue
public import proofs.«01_k».proof.Proof.ProjSampleValue
public import proofs.«01_k».proof.Proof.FfnSampleValue
public import proofs.«01_k».proof.Proof.MidValue
public import proofs.«01_k».proof.Proof.MidSampleValue
public import proofs.«01_k».proof.Proof.ProjFrame
public import proofs.«01_k».proof.Proof.MemKvFrame
public import Idealize.ShloMosaic.Adequacy
public import Idealize.ShloMosaic.Init
public import Idealize.ShloMosaic.Lib.Pipeline.ValueKit

@[expose] public section

noncomputable section

namespace Cert.Proof

open Idealize.ShloMosaic Idealize.SL.Sem

set_option maxHeartbeats 4000000 in
theorem claim : Cert.Claim := ⟨Cert.Ffn.Gen.facts, Cert.FfnIdeal.Gen.facts, Cert.FfnReferenceIdeal.Gen.facts, Cert.Proj.Gen.facts, Cert.ProjIdeal.Gen.facts, Cert.ProjReferenceIdeal.Gen.facts, Cert.MemKv.Gen.facts, Cert.MemKvIdeal.Gen.facts, Cert.MemKvReferenceIdeal.Gen.facts, Cert.ProjSample.Gen.facts, Cert.ProjSampleIdeal.Gen.facts, Cert.ProjSampleReferenceIdeal.Gen.facts, Cert.FfnSample.Gen.facts, Cert.FfnSampleIdeal.Gen.facts, Cert.FfnSampleReferenceIdeal.Gen.facts, Cert.Mid.Gen.facts, Cert.MidIdeal.Gen.facts, Cert.MidReferenceIdeal.Gen.facts, Cert.MidSample.Gen.facts, Cert.MidSampleIdeal.Gen.facts, Cert.MidSampleReferenceIdeal.Gen.facts, Cert.MidIdeal.Value.pre_facts, Cert.MidSampleIdeal.Value.pre_facts, by
  refine ⟨fun m ρ _ => Cert.Ffn.Gen.frame m ρ,
    fun m ρ _ => Cert.FfnIdeal.Gen.frame m ρ,
    ?_,
    fun m ρ _ => Cert.Proj.Gen.frame m ρ,
    fun m ρ _ => Cert.ProjIdeal.Gen.frame m ρ,
    ?_,
    fun m ρ _ => Cert.MemKv.Gen.frame m ρ,
    fun m ρ _ => Cert.MemKvIdeal.Gen.frame m ρ,
    ?_,
    fun m ρ _ => Cert.ProjSample.Gen.frame m ρ,
    fun m ρ _ => Cert.ProjSampleIdeal.Gen.frame m ρ,
    ?_,
    fun m ρ _ => Cert.FfnSample.Gen.frame m ρ,
    fun m ρ _ => Cert.FfnSampleIdeal.Gen.frame m ρ,
    ?_,
    fun m ρ _ => Cert.Mid.Gen.frame m ρ,
    fun m ρ _ => Cert.MidIdeal.Gen.frame m ρ,
    fun m ρ _ => Cert.MidIdeal.Gen.frame m ρ,
    ?_,
    ?_,
    fun m ρ _ => Cert.MidSample.Gen.frame m ρ,
    fun m ρ _ => Cert.MidSampleIdeal.Gen.frame m ρ,
    fun m ρ _ => Cert.MidSampleIdeal.Gen.frame m ρ,
    ?_,
    ?_,
    trivial,
    ?_,
    trivial,
    ?_,
    trivial,
    ?_,
    trivial,
    ?_,
    trivial,
    ?_,
    trivial,
    ?_,
    trivial,
    ?_⟩
  · intro m g _
    exact (θ_run Cert.FfnReferenceIdeal.defs _ _).mono
      (fun r h => ⟨fun c => (h c).2.2, sem_eq_zero_of_no_sems (by decide) r.2⟩) (Cert.FfnReferenceIdeal.Value.run m g)
  · intro m g _
    exact (θ_run Cert.ProjReferenceIdeal.defs _ _).mono
      (fun r h => ⟨fun c => (h c).2.2.2.2.2.2.2.2.2, sem_eq_zero_of_no_sems (by decide) r.2⟩) (Cert.ProjReferenceIdeal.Value.run m g)
  · intro m g _
    exact (θ_run Cert.MemKvReferenceIdeal.defs _ _).mono
      (fun r h => ⟨fun c => (h c).2.2, sem_eq_zero_of_no_sems (by decide) r.2⟩) (Cert.MemKvReferenceIdeal.Value.run m g)
  · intro m g _
    exact (θ_run Cert.ProjSampleReferenceIdeal.defs _ _).mono
      (fun r h => ⟨fun c => (h c).2.2.2.2.2, sem_eq_zero_of_no_sems (by decide) r.2⟩) (Cert.ProjSampleReferenceIdeal.Value.run m g)
  · intro m g _
    exact (θ_run Cert.FfnSampleReferenceIdeal.defs _ _).mono
      (fun r h => ⟨fun c => (h c).2.2, sem_eq_zero_of_no_sems (by decide) r.2⟩) (Cert.FfnSampleReferenceIdeal.Value.run m g)
  · intro m g _
    exact (θ_run Cert.MidReferenceIdeal.defs _ _).mono
      (fun r h => ⟨fun c => (h c).2, sem_eq_zero_of_no_sems (by decide) r.2⟩) (Cert.MidReferenceIdeal.Value.run m g)
  · intro m g _
    exact (θ_run Cert.MidReferenceIdeal.defs _ _).mono
      (fun r h => ⟨fun c => (h c).2, sem_eq_zero_of_no_sems (by decide) r.2⟩) (Cert.MidReferenceIdeal.Value.run m g)
  · intro m g _
    exact (θ_run Cert.MidSampleReferenceIdeal.defs _ _).mono
      (fun r h => ⟨fun c => (h c).2, sem_eq_zero_of_no_sems (by decide) r.2⟩) (Cert.MidSampleReferenceIdeal.Value.run m g)
  · intro m g _
    exact (θ_run Cert.MidSampleReferenceIdeal.defs _ _).mono
      (fun r h => ⟨fun c => (h c).2, sem_eq_zero_of_no_sems (by decide) r.2⟩) (Cert.MidSampleReferenceIdeal.Value.run m g)
  · pair_intro
    · run_from Cert.FfnIdeal.Value.run m g
    · run_from Cert.FfnReferenceIdeal.Value.run m' g'
      · obtain ⟨h0, h1, h2, h3, h4, h5, h6⟩ := hagree c
        rw [Cert.FfnReferenceIdeal.Read.val_main_v52_eq, h0, h1, h2, h3, h4, h5, h6]
      · obtain ⟨h0, h1, h2, h3, h4, h5, h6⟩ := hagree c
        rw [h3]
        exact Cert.FfnReferenceIdeal.Read.val_main_v53_eq _ _ _
  · pair_intro
    · run_from Cert.ProjIdeal.Value.run m g
    · run_from Cert.ProjReferenceIdeal.Value.run m' g'
      · obtain ⟨h0, h1, h2, h3, h4, h5, h6⟩ := hagree c
        rw [Cert.ProjReferenceIdeal.Read.val_main_v88_eq, h0, h1, h2, h4]
      · obtain ⟨h0, h1, h2, h3, h4, h5, h6⟩ := hagree c
        refine (Cert.ProjReferenceIdeal.Read.val_main_v89_eq _ _ _).trans ?_
        (try rw [h0]); (try rw [h1]); (try rw [h2]); (try rfl)
      · obtain ⟨h0, h1, h2, h3, h4, h5, h6⟩ := hagree c
        refine (Cert.ProjReferenceIdeal.Read.val_main_v90_eq _ _ _).trans ?_
        (try rw [h0]); (try rw [h1]); (try rw [h2]); (try rfl)
      · obtain ⟨h0, h1, h2, h3, h4, h5, h6⟩ := hagree c
        rw [Cert.ProjReferenceIdeal.Read.val_main_v91_eq, h0, h1, h2, h6]
      · obtain ⟨h0, h1, h2, h3, h4, h5, h6⟩ := hagree c
        refine (Cert.ProjReferenceIdeal.Read.val_main_v92_eq _ _ _).trans ?_
        (try rw [h0]); (try rw [h1]); (try rw [h2]); (try rfl)
      · obtain ⟨h0, h1, h2, h3, h4, h5, h6⟩ := hagree c
        refine (Cert.ProjReferenceIdeal.Read.val_main_v42_eq _ _ _ _).trans ?_
        (try rw [h0]); (try rw [h1]); (try rw [h2]); (try rw [h3]); (try rfl)
      · obtain ⟨h0, h1, h2, h3, h4, h5, h6⟩ := hagree c
        refine (Cert.ProjReferenceIdeal.Read.val_main_v58_eq _ _ _).trans ?_
        (try rw [h0]); (try rw [h1]); (try rw [h2]); (try rfl)
      · obtain ⟨h0, h1, h2, h3, h4, h5, h6⟩ := hagree c
        refine (Cert.ProjReferenceIdeal.Read.val_main_v25_eq _ _ _).trans ?_
        (try rw [h0]); (try rw [h1]); (try rw [h2]); (try rfl)
      · obtain ⟨h0, h1, h2, h3, h4, h5, h6⟩ := hagree c
        refine (Cert.ProjReferenceIdeal.Read.val_main_v72_eq _ _ _ _).trans ?_
        (try rw [h0]); (try rw [h1]); (try rw [h2]); (try rw [h5]); (try rfl)
  · pair_intro
    · run_from Cert.MemKvIdeal.Value.run m g
    · run_from Cert.MemKvReferenceIdeal.Value.run m' g'
      · obtain ⟨h0, h1, h2, h3⟩ := hagree c
        refine (Cert.MemKvReferenceIdeal.Read.val_main_v34_eq _ _ _ _).trans ?_
        (try rw [h0]); (try rw [h1]); (try rw [h2]); (try rw [h3]); (try rfl)
      · obtain ⟨h0, h1, h2, h3⟩ := hagree c
        refine (Cert.MemKvReferenceIdeal.Read.val_main_v35_eq _ _ _).trans ?_
        (try rw [h0]); (try rw [h1]); (try rw [h2]); (try rfl)
  · pair_intro
    · run_from Cert.ProjSampleIdeal.Value.run m g
    · run_from Cert.ProjSampleReferenceIdeal.Value.run m' g'
      · obtain ⟨h0, h1, h2, h3, h4, h5, h6⟩ := hagree c
        refine (Cert.ProjSampleReferenceIdeal.Read.val_main_v88_eq _ _ _ _).trans ?_
        (try rw [h0]); (try rw [h1]); (try rw [h2]); (try rw [h4]); (try rfl)
      · obtain ⟨h0, h1, h2, h3, h4, h5, h6⟩ := hagree c
        refine (Cert.ProjSampleReferenceIdeal.Read.val_main_v89_eq _ _ _).trans ?_
        (try rw [h0]); (try rw [h1]); (try rw [h2]); (try rfl)
      · obtain ⟨h0, h1, h2, h3, h4, h5, h6⟩ := hagree c
        refine (Cert.ProjSampleReferenceIdeal.Read.val_main_v90_eq _ _ _).trans ?_
        (try rw [h0]); (try rw [h1]); (try rw [h2]); (try rfl)
      · obtain ⟨h0, h1, h2, h3, h4, h5, h6⟩ := hagree c
        refine (Cert.ProjSampleReferenceIdeal.Read.val_main_v91_eq _ _ _ _).trans ?_
        (try rw [h0]); (try rw [h1]); (try rw [h2]); (try rw [h6]); (try rfl)
      · obtain ⟨h0, h1, h2, h3, h4, h5, h6⟩ := hagree c
        refine (Cert.ProjSampleReferenceIdeal.Read.val_main_v92_eq _ _ _).trans ?_
        (try rw [h0]); (try rw [h1]); (try rw [h2]); (try rfl)
  · pair_intro
    · run_from Cert.FfnSampleIdeal.Value.run m g
    · run_from Cert.FfnSampleReferenceIdeal.Value.run m' g'
      · obtain ⟨h0, h1, h2, h3, h4, h5, h6, h7⟩ := hagree c
        rw [Cert.FfnSampleReferenceIdeal.Read.val_main_v52_eq, h0, h1, h2, h3, h4, h5, h6, h7]
      · obtain ⟨h0, h1, h2, h3, h4, h5, h6, h7⟩ := hagree c
        refine (Cert.FfnSampleReferenceIdeal.Read.val_main_v53_eq _ _ _ _).trans ?_
        (try rw [h0]); (try rw [h1]); (try rw [h2]); (try rw [h4]); (try rfl)
  · pair_intro
    · have := Cert.MidIdeal.Value.pre_facts
      have hk := fun c => Cert.MidIdeal.Value.keys_fin _ _ _ _ _ _ _ _ _ _ (hpre c).1
      have hg := fun c => Cert.MidIdeal.Value.gain_fin _ _ _ _ _ _ _ _ _ _ (hpre c).2
      run_from Cert.MidIdeal.Value.run m g hk hg
    · run_from Cert.MidReferenceIdeal.Value.run m' g'
      · obtain ⟨h0, h1, h2, h3, h4, h5, h6, h7, h8, h9⟩ := hagree c
        rw [Cert.MidReferenceIdeal.Read.val_main_v54_eq, h0, h1, h2, h3, h4, h5, h6, h7, h8, h9]
  · pair_intro
    · have := Cert.MidSampleIdeal.Value.pre_facts
      have hk := fun c => Cert.MidSampleIdeal.Value.keys_fin _ _ _ _ _ _ _ _ _ _ (hpre c).1
      have hg := fun c => Cert.MidSampleIdeal.Value.gain_fin _ _ _ _ _ _ _ _ _ _ (hpre c).2
      run_from Cert.MidSampleIdeal.Value.run m g hk hg
    · run_from Cert.MidSampleReferenceIdeal.Value.run m' g'
      · obtain ⟨h0, h1, h2, h3, h4, h5, h6, h7, h8, h9⟩ := hagree c
        rw [Cert.MidSampleReferenceIdeal.Read.val_main_v56_eq, h0, h1, h2, h3, h4, h5, h6, h7, h8, h9]⟩

end Cert.Proof
